-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite_forward [hPre_finite_forward : Cert.Pre_finite_forward.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite_forward.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))).1 = (fun _ => 1#1)
    ∧ (Cert.Pre_finite_forward.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1))).2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite_forward [hPre_finite_forward : Cert.Pre_finite_forward.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite_forward.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1))).1 = (fun _ => 1#1)
    ∧ (Cert.Pre_finite_forward.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1))).2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Kernel20Ideal_pre_finite_forward [hKernel20Ideal : Cert.Kernel20Ideal.Facts] [hPre_finite_forward : Cert.Pre_finite_forward.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite_forward m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Reference20Ideal_pre_finite_forward [hReference20Ideal : Cert.Reference20Ideal.Facts] [hPre_finite_forward : Cert.Pre_finite_forward.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite_forward m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "mask" .f32 0xF149F2CA#32 ⊥
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)) (v2 : (c : Dev Cert.KernelIdeal.nD) → Buf (Elt Ideal) ((c.tc : Thread Cert.KernelIdeal.nD Cert.KernelIdeal.τ).loc Cert.KernelIdeal.main_v56_2)) (v3 : (c : Dev Cert.KernelIdeal.nD) → Buf (Elt Ideal) ((c.tc : Thread Cert.KernelIdeal.nD Cert.KernelIdeal.τ).loc Cert.KernelIdeal.main_v56_3)) (v4 : (c : Dev Cert.KernelIdeal.nD) → Buf (Elt Ideal) ((c.tc : Thread Cert.KernelIdeal.nD Cert.KernelIdeal.τ).loc Cert.KernelIdeal.main_v56_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_v56_2) = v2 c
          ∧ r.2.mem ((c.tc : Thread Cert.KernelIdeal.nD Cert.KernelIdeal.τ).loc Cert.KernelIdeal.main_v56_3) = v3 c
          ∧ r.2.mem ((c.tc : Thread Cert.KernelIdeal.nD Cert.KernelIdeal.τ).loc Cert.KernelIdeal.main_v56_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v14) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8))

def preserves_Kernel20_Kernel20Ideal : Prop :=
  IdealRules.named_const.Statement Cert.Kernel20Ideal.κ "log2e" .f32 0x3FB8AA3B#32 (((Real.log 2)⁻¹ : ℝ) : EReal)
  ∧ IdealRules.named_const.Statement Cert.Kernel20Ideal.κ "mask" .f32 0xF149F2CA#32 ⊥
  ∧ IdealRules.named_const.Statement Cert.Kernel20Ideal.κ "scale_log2e" .f32 0x3E0293EE#32 (((Real.sqrt 128)⁻¹ * (Real.log 2)⁻¹ : ℝ) : EReal)
  ∧ IdealRules.named_const.Statement Cert.Kernel20Ideal.κ "ln2" .f32 0x3F317218#32 ((Real.log 2 : ℝ) : EReal)

def algebraic_Kernel20Ideal_Reference20Ideal_pre_finite_forward [hKernel20Ideal : Cert.Kernel20Ideal.Facts] [hReference20Ideal : Cert.Reference20Ideal.Facts] [hPre_finite_forward : Cert.Pre_finite_forward.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite_forward m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v70) = v0 c
          ∧ r.2.mem ((c.tc : Thread Cert.Reference20Ideal.nD Cert.Reference20Ideal.τ).loc Cert.Reference20Ideal.main_v71) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v5) = v1 c
          ∧ r.2.mem ((c.tc : Thread Cert.Reference21Ideal.nD Cert.Reference21Ideal.τ).loc Cert.Reference21Ideal.main_v11) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v5) = v1 c
          ∧ r.2.mem ((c.tc : Thread Cert.Reference22Ideal.nD Cert.Reference22Ideal.τ).loc Cert.Reference22Ideal.main_v11) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v24) = v0 c
          ∧ r.2.mem ((c.tc : Thread Cert.Reference23Ideal.nD Cert.Reference23Ideal.τ).loc Cert.Reference23Ideal.main_v5) = v1 c
          ∧ r.2.mem ((c.tc : Thread Cert.Reference23Ideal.nD Cert.Reference23Ideal.τ).loc Cert.Reference23Ideal.main_v11) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v24) = v0 c
          ∧ r.2.mem ((c.tc : Thread Cert.Reference24Ideal.nD Cert.Reference24Ideal.τ).loc Cert.Reference24Ideal.main_v5) = v1 c
          ∧ r.2.mem ((c.tc : Thread Cert.Reference24Ideal.nD Cert.Reference24Ideal.τ).loc Cert.Reference24Ideal.main_v11) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v24) = v0 c
          ∧ r.2.mem ((c.tc : Thread Cert.Reference25Ideal.nD Cert.Reference25Ideal.τ).loc Cert.Reference25Ideal.main_v5) = v1 c
          ∧ r.2.mem ((c.tc : Thread Cert.Reference25Ideal.nD Cert.Reference25Ideal.τ).loc Cert.Reference25Ideal.main_v11) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite_forward : Cert.Pre_finite_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite_forward (hKernel20Ideal := hKernel20Ideal) (hPre_finite_forward := hPre_finite_forward)
    ∧ quiescent_Reference20Ideal (hReference20Ideal := hReference20Ideal)
    ∧ quiescent_Reference20Ideal_pre_finite_forward (hReference20Ideal := hReference20Ideal) (hPre_finite_forward := hPre_finite_forward)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite_forward (hKernel20Ideal := hKernel20Ideal) (hReference20Ideal := hReference20Ideal) (hPre_finite_forward := hPre_finite_forward)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S4096x3072 : Shape := ⟨2, ![4096, 3072]⟩
abbrev S4096x128 : Shape := ⟨2, ![4096, 128]⟩
abbrev S4096x1024 : Shape := ⟨2, ![4096, 1024]⟩
abbrev S_ : Shape := ⟨0, ![]⟩
abbrev S4096x8 : Shape := ⟨2, ![4096, 8]⟩

class Facts : Prop where
  bitsLt_bf16_f32 : FTy.bits .bf16 < FTy.bits .f32
  bcast_S_S4096x3072 : S_.BroadcastsInDim S4096x3072 (![] : Fin 0 → Fin S4096x3072.rank)
  slices_S4096x128_S4096x8_0_0 : S4096x128.Slices ![0, 0] S4096x8
  bcast_S_S4096x8 : S_.BroadcastsInDim S4096x8 (![] : Fin 0 → Fin S4096x8.rank)
  bcast_S_S4096x1024 : S_.BroadcastsInDim S4096x1024 (![] : Fin 0 → Fin S4096x1024.rank)

variable [Facts]

def fn {F : FTy → Type} [FloatOps F] (main_arg0 : FVec F S4096x3072 .bf16) (main_arg1 : FVec F S4096x128 .f32) (main_arg2 : FVec F S4096x1024 .bf16) : IVec S4096x3072 1 × IVec S4096x8 1 × IVec S4096x1024 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4096x8 .f32 := (extractStridedSlice S4096x8 ![0, 0] · slices_S4096x128_S4096x8_0_0) main_arg1
  let main_v5 : FVec F S4096x8 .f32 := Host.absf main_v4
  let main_cst_0 : FVec F S_ .f32 := constant S_ .f32 0x7F800000#32
  let main_v6 : FVec F S4096x8 .f32 := broadcastInDim S4096x8 ![] bcast_S_S4096x8 main_cst_0
  let main_v7 : IVec S4096x8 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  (main_v3, main_v7, main_v11)
-- ==== Pre_finite_forward.lean ====
abbrev S4096x3072 : Shape := ⟨2, ![4096, 3072]⟩
abbrev S4096x128 : Shape := ⟨2, ![4096, 128]⟩
abbrev S4096x2048 : Shape := ⟨2, ![4096, 2048]⟩
abbrev S_ : Shape := ⟨0, ![]⟩
abbrev S4096x8 : Shape := ⟨2, ![4096, 8]⟩

class Facts : Prop where
  slices_S4096x3072_S4096x2048_0_0 : S4096x3072.Slices ![0, 0] S4096x2048
  bitsLt_bf16_f32 : FTy.bits .bf16 < FTy.bits .f32
  bcast_S_S4096x2048 : S_.BroadcastsInDim S4096x2048 (![] : Fin 0 → Fin S4096x2048.rank)
  slices_S4096x128_S4096x8_0_0 : S4096x128.Slices ![0, 0] S4096x8
  bcast_S_S4096x8 : S_.BroadcastsInDim S4096x8 (![] : Fin 0 → Fin S4096x8.rank)

variable [Facts]

def fn {F : FTy → Type} [FloatOps F] (main_arg0 : FVec F S4096x3072 .bf16) (main_arg1 : FVec F S4096x128 .f32) : IVec S4096x2048 1 × IVec S4096x8 1 :=
  let main_v0 : FVec F S4096x2048 .bf16 := (extractStridedSlice S4096x2048 ![0, 0] · slices_S4096x3072_S4096x2048_0_0) main_arg0
  let main_v1 : FVec F S4096x2048 .f32 := (extf .f32 · bitsLt_bf16_f32) main_v0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_v5 : FVec F S4096x8 .f32 := (extractStridedSlice S4096x8 ![0, 0] · slices_S4096x128_S4096x8_0_0) main_arg1
  let main_v6 : FVec F S4096x8 .f32 := Host.absf main_v5
  let main_cst_0 : FVec F S_ .f32 := constant S_ .f32 0x7F800000#32
  let main_v7 : FVec F S4096x8 .f32 := broadcastInDim S4096x8 ![] bcast_S_S4096x8 main_cst_0
  let main_v8 : IVec S4096x8 1 := cmpf .olt main_v6 main_v7
  (main_v4, main_v8)
-- ==== Kernel.lean ====
abbrev S4096x3072 : Shape := ⟨2, ![4096, 3072]⟩
abbrev S4096x128 : Shape := ⟨2, ![4096, 128]⟩
abbrev S4096x1024 : Shape := ⟨2, ![4096, 1024]⟩
abbrev S4096x8x128 : Shape := ⟨3, ![4096, 8, 128]⟩
abbrev S4096x8 : Shape := ⟨2, ![4096, 8]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4x1x1024 : Shape := ⟨4, ![8, 4, 1, 1024]⟩
abbrev S1024x128 : Shape := ⟨2, ![1024, 128]⟩
abbrev S1x4x1x1024 : Shape := ⟨4, ![1, 4, 1, 1024]⟩
abbrev S1x1x1x1024 : Shape := ⟨4, ![1, 1, 1, 1024]⟩
abbrev S4x1x1024 : Shape := ⟨3, ![4, 1, 1024]⟩
abbrev S1024x1 : Shape := ⟨2, ![1024, 1]⟩
abbrev S128x1024 : Shape := ⟨2, ![128, 1024]⟩
abbrev S1024 : Shape := ⟨1, ![1024]⟩
abbrev S1x1024 : Shape := ⟨2, ![1, 1024]⟩
abbrev S1x1x1024 : Shape := ⟨3, ![1, 1, 1024]⟩
abbrev S1024x1024 : Shape := ⟨2, ![1024, 1024]⟩

abbrev nBuf : Space → Nat
  | .hbm => 74
  | .vmem => 32
  | .smem => 0
  | _ => 0

abbrev bufTy : (tb : Table) → Fin (tcTables nBuf tb) → BufTy
  | .hbm, ⟨0, _⟩ => ⟨S4096x3072, .bf16⟩
  | .hbm, ⟨1, _⟩ => ⟨S4096x128, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .f32⟩
  | .hbm, ⟨7, _⟩ => ⟨S4096x8x128, .f32⟩
  | .hbm, ⟨8, _⟩ => ⟨S4096x1024, .f32⟩
  | .hbm, ⟨9, _⟩ => ⟨S4096x8x128, .f32⟩
  | .hbm, ⟨10, _⟩ => ⟨S4096x1024, .f32⟩
  | .hbm, ⟨11, _⟩ => ⟨S4096x8x128, .f32⟩
  | .hbm, ⟨12, _⟩ => ⟨S4096x8, .f32⟩
  | .hbm, ⟨13, _⟩ => ⟨S8x4096x4096, .f32⟩
  | .hbm, ⟨14, _⟩ => ⟨S_, .f32⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096, .f32⟩
  | .hbm, ⟨19, _⟩ => ⟨S8x4096x1, .f32⟩
  | .hbm, ⟨20, _⟩ => ⟨S8x4096x4096, .f32⟩
  | .hbm, ⟨21, _⟩ => ⟨S8x4096x4096, .f32⟩
  | .hbm, ⟨22, _⟩ => ⟨S8x4096, .f32⟩
  | .hbm, ⟨23, _⟩ => ⟨S8x1x4096, .f32⟩
  | .hbm, ⟨24, _⟩ => ⟨S8x4096x4096, .f32⟩
  | .hbm, ⟨25, _⟩ => ⟨S8x4096x4096, .f32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S8x4096x4096, .i1⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S_, .f32⟩
  | .hbm, ⟨57, _⟩ => ⟨S8x4096, .f32⟩
  | .hbm, ⟨58, _⟩ => ⟨S8x4096x1, .f32⟩
  | .hbm, ⟨59, _⟩ => ⟨S8x4096x4096, .f32⟩
  | .hbm, ⟨60, _⟩ => ⟨S8x4096x4096, .f32⟩
  | .hbm, ⟨61, _⟩ => ⟨S8x128x4096, .f32⟩
  | .hbm, ⟨62, _⟩ => ⟨S4096x8x128, .f32⟩
  | .hbm, ⟨63, _⟩ => ⟨S4096x1024, .f32⟩
  | .hbm, ⟨64, _⟩ => ⟨S4096x1024, .bf16⟩
  | .hbm, ⟨65, _⟩ => ⟨S4096x8, .f32⟩
  | .hbm, ⟨66, _⟩ => ⟨S8x4096, .f32⟩
  | .hbm, ⟨67, _⟩ => ⟨S8x4x1x1024, .f32⟩
  | .hbm, ⟨68, _⟩ => ⟨S8x4x1x1024, .f32⟩
  | .hbm, ⟨69, _⟩ => ⟨S4096x1024, .bf16⟩
  | .hbm, ⟨70, _⟩ => ⟨S4096x1024, .bf16⟩
  | .hbm, ⟨71, _⟩ => ⟨S4096x1024, .bf16⟩
  | .hbm, ⟨72, _⟩ => ⟨S8x4x1x1024, .f32⟩
  | .hbm, ⟨73, _⟩ => ⟨S8x4x1x1024, .f32⟩
  | .local _ .vmem, ⟨0, _⟩ => ⟨S4096x128, .bf16⟩
  | .local _ .vmem, ⟨1, _⟩ => ⟨S4096x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x4x1x1024, .f32⟩
  | .local _ .vmem, ⟨11, _⟩ => ⟨S1x4x1x1024, .f32⟩
  | .local _ .vmem, ⟨12, _⟩ => ⟨S1x4x1x1024, .f32⟩
  | .local _ .vmem, ⟨13, _⟩ => ⟨S1x4x1x1024, .f32⟩
  | .local _ .vmem, ⟨14, _⟩ => ⟨S1024x128, .f32⟩
  | .local _ .vmem, ⟨15, _⟩ => ⟨S1024x128, .f32⟩
  | .local _ .vmem, ⟨16, _⟩ => ⟨S4096x128, .bf16⟩
  | .local _ .vmem, ⟨17, _⟩ => ⟨S4096x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1x1x1x1024, .f32⟩
  | .local _ .vmem, ⟨23, _⟩ => ⟨S1x1x1x1024, .f32⟩
  | .local _ .vmem, ⟨24, _⟩ => ⟨S1x4x1x1024, .f32⟩
  | .local _ .vmem, ⟨25, _⟩ => ⟨S1x4x1x1024, .f32⟩
  | .local _ .vmem, ⟨26, _⟩ => ⟨S4096x128, .f32⟩
  | .local _ .vmem, ⟨27, _⟩ => ⟨S4x1x1024, .f32⟩
  | .local _ .vmem, ⟨28, _⟩ => ⟨S4x1x1024, .f32⟩
  | .local _ .vmem, ⟨29, _⟩ => ⟨S1024x128, .f32⟩
  | .local _ .vmem, ⟨30, _⟩ => ⟨S1024x128, .f32⟩
  | .local _ .vmem, ⟨31, _⟩ => ⟨S1024x1, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56_0 : Ref sig .tc := ⟨.hbm, 69, rfl⟩
abbrev main_v56_1 : Ref sig .tc := ⟨.hbm, 70, rfl⟩
abbrev main_v56_2 : Ref sig .tc := ⟨.hbm, 71, rfl⟩
abbrev main_v56_3 : Ref sig .tc := ⟨.hbm, 72, rfl⟩
abbrev main_v56_4 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_87 : BitVec 32 := 0#32
  let c4_i32_88 : BitVec 32 := 4#32
  let v140 : BitVec 32 := Scalar.addi c0_i32_87 c4_i32_88
  let c1_i32_89 : BitVec 32 := 1#32
  ⟨c0_i32_87, v140, c1_i32_89⟩
def k0_mult1 (k0_t1 : Fin k0_t1_loop.trips) : BitVec 32 :=
  let c0_i32_87 : BitVec 32 := 0#32
  let c1_i32_89 : BitVec 32 := 1#32
  let arg21 : BitVec 32 := Scf.iv c0_i32_87 c1_i32_89 k0_t1
  let c1024_i32_91 : BitVec 32 := 1024#32
  let v141 : BitVec 32 := Scalar.muli arg21 c1024_i32_91
  v141
def k0_off1 (k0_t1 : Fin k0_t1_loop.trips) : Fin 2 → Nat :=
  let c0_i32_87 : BitVec 32 := 0#32
  let c1_i32_89 : BitVec 32 := 1#32
  let arg21 : BitVec 32 := Scf.iv c0_i32_87 c1_i32_89 k0_t1
  let c1024_i32_91 : BitVec 32 := 1024#32
  let v141 : BitVec 32 := Scalar.muli arg21 c1024_i32_91
  let v142 : BitVec 32 := v141
  let v143 : Index := Scalar.indexCast v142
  let c0_92 : Index := 0#32
  ![v143.toNat, 0]
def k0_off2 (k0_t1 : Fin k0_t1_loop.trips) : Fin 3 → Nat :=
  let c0_i32_87 : BitVec 32 := 0#32
  let c1_i32_89 : BitVec 32 := 1#32
  let arg21 : BitVec 32 := Scf.iv c0_i32_87 c1_i32_89 k0_t1
  let v154 : Index := Scalar.indexCast arg21
  let c0_95 : Index := 0#32
  let c0_96 : Index := 0#32
  ![v154.toNat, 0, 0]
def k0_off3 (k0_t1 : Fin k0_t1_loop.trips) : Fin 4 → Nat :=
  let c0_97 : Index := 0#32
  let c0_i32_87 : BitVec 32 := 0#32
  let c1_i32_89 : BitVec 32 := 1#32
  let arg21 : BitVec 32 := Scf.iv c0_i32_87 c1_i32_89 k0_t1
  let v158 : Index := Scalar.indexCast arg21
  let c0_98 : Index := 0#32
  let c0_99 : Index := 0#32
  ![0, v158.toNat, 0, 0]
def k0_mult2 (i : grid0.Coords) : BitVec 32 :=
  let c1_i32 : BitVec 32 := 1#32
  let arg1 : BitVec 32 := BitVec.ofNat 32 (i 1).val
  let v27 : BitVec 32 := Scalar.muli c1_i32 arg1
  let c0_i32_17 : BitVec 32 := 0#32
  let v28 : BitVec 32 := Scalar.addi v27 c0_i32_17
  let c1024_i32 : BitVec 32 := 1024#32
  let v29 : BitVec 32 := Scalar.muli v28 c1024_i32
  v29
def k0_off4 (i : grid0.Coords) : Fin 2 → Nat :=
  let c1_i32 : BitVec 32 := 1#32
  let arg1 : BitVec 32 := BitVec.ofNat 32 (i 1).val
  let v27 : BitVec 32 := Scalar.muli c1_i32 arg1
  let c0_i32_17 : BitVec 32 := 0#32
  let v28 : BitVec 32 := Scalar.addi v27 c0_i32_17
  let c1024_i32 : BitVec 32 := 1024#32
  let v29 : BitVec 32 := Scalar.muli v28 c1024_i32
  let v30 : BitVec 32 := v29
  let v31 : Index := Scalar.indexCast v30
  let c0_18 : Index := 0#32
  ![v31.toNat, 0]
def k0_off5 (i : grid0.Coords) : Fin 3 → Nat :=
  let c1_i32 : BitVec 32 := 1#32
  let arg1 : BitVec 32 := BitVec.ofNat 32 (i 1).val
  let v27 : BitVec 32 := Scalar.muli c1_i32 arg1
  let c0_i32_17 : BitVec 32 := 0#32
  let v28 : BitVec 32 := Scalar.addi v27 c0_i32_17
  let v38 : Index := Scalar.indexCast v28
  let c0_22 : Index := 0#32
  let c0_23 : Index := 0#32
  ![v38.toNat, 0, 0]
def k0_off6 (i : grid0.Coords) : Fin 4 → Nat :=
  let c0_48 : Index := 0#32
  let c1_i32 : BitVec 32 := 1#32
  let arg1 : BitVec 32 := BitVec.ofNat 32 (i 1).val
  let v27 : BitVec 32 := Scalar.muli c1_i32 arg1
  let c0_i32_17 : BitVec 32 := 0#32
  let v28 : BitVec 32 := Scalar.addi v27 c0_i32_17
  let v93 : Index := Scalar.indexCast v28
  let c0_49 : Index := 0#32
  let c0_50 : Index := 0#32
  ![0, v93.toNat, 0, 0]
@[reducible] def k0_t2_loop (i : grid0.Coords) : Scf.Loop 32 :=
  let c1_i32_55 : BitVec 32 := 1#32
  let arg1 : BitVec 32 := BitVec.ofNat 32 (i 1).val
  let v103 : BitVec 32 := Scalar.muli c1_i32_55 arg1
  let c1_i32_56 : BitVec 32 := 1#32
  let v104 : BitVec 32 := Scalar.addi v103 c1_i32_56
  let c4_i32 : BitVec 32 := 4#32
  let v105 : BitVec 32 := Scalar.subi c4_i32 v104
  let c1_i32_58 : BitVec 32 := 1#32
  let v107 : BitVec 32 := Scalar.divsi v105 c1_i32_58
  let v108 : BitVec 32 := Scalar.muli v107 c1_i32_58
  let v109 : BitVec 32 := Scalar.addi v104 v108
  let c1_i32_59 : BitVec 32 := 1#32
  ⟨v104, v109, c1_i32_59⟩
def k0_mult3 (i : grid0.Coords) (k0_t2 : Fin (k0_t2_loop i).trips) : BitVec 32 :=
  let c1_i32_55 : BitVec 32 := 1#32
  let arg1 : BitVec 32 := BitVec.ofNat 32 (i 1).val
  let v103 : BitVec 32 := Scalar.muli c1_i32_55 arg1
  let c1_i32_56 : BitVec 32 := 1#32
  let v104 : BitVec 32 := Scalar.addi v103 c1_i32_56
  let c1_i32_59 : BitVec 32 := 1#32
  let arg21 : BitVec 32 := Scf.iv v104 c1_i32_59 k0_t2
  let c1024_i32_79 : BitVec 32 := 1024#32
  let v134 : BitVec 32 := Scalar.muli arg21 c1024_i32_79
  v134
def k0_off7 (i : grid0.Coords) (k0_t2 : Fin (k0_t2_loop i).trips) : Fin 2 → Nat :=
  let c1_i32_55 : BitVec 32 := 1#32
  let arg1 : BitVec 32 := BitVec.ofNat 32 (i 1).val
  let v103 : BitVec 32 := Scalar.muli c1_i32_55 arg1
  let c1_i32_56 : BitVec 32 := 1#32
  let v104 : BitVec 32 := Scalar.addi v103 c1_i32_56
  let c1_i32_59 : BitVec 32 := 1#32
  let arg21 : BitVec 32 := Scf.iv v104 c1_i32_59 k0_t2
  let c1024_i32_79 : BitVec 32 := 1024#32
  let v134 : BitVec 32 := Scalar.muli arg21 c1024_i32_79
  let v135 : BitVec 32 := v134
  let v136 : Index := Scalar.indexCast v135
  let c0_80 : Index := 0#32
  ![v136.toNat, 0]
def k0_off8 (i : grid0.Coords) (k0_t2 : Fin (k0_t2_loop i).trips) : Fin 3 → Nat :=
  let c1_i32_55 : BitVec 32 := 1#32
  let arg1 : BitVec 32 := BitVec.ofNat 32 (i 1).val
  let v103 : BitVec 32 := Scalar.muli c1_i32_55 arg1
  let c1_i32_56 : BitVec 32 := 1#32
  let v104 : BitVec 32 := Scalar.addi v103 c1_i32_56
  let c1_i32_59 : BitVec 32 := 1#32
  let arg21 : BitVec 32 := Scf.iv v104 c1_i32_59 k0_t2
  let v143 : Index := Scalar.indexCast arg21
  let c0_84 : Index := 0#32
  let c0_85 : Index := 0#32
  ![v143.toNat, 0, 0]
def k0_off9 (i : grid0.Coords) (k0_t2 : Fin (k0_t2_loop i).trips) : Fin 4 → Nat :=
  let c0_107 : Index := 0#32
  let c1_i32_55 : BitVec 32 := 1#32
  let arg1 : BitVec 32 := BitVec.ofNat 32 (i 1).val
  let v103 : BitVec 32 := Scalar.muli c1_i32_55 arg1
  let c1_i32_56 : BitVec 32 := 1#32
  let v104 : BitVec 32 := Scalar.addi v103 c1_i32_56
  let c1_i32_59 : BitVec 32 := 1#32
  let arg21 : BitVec 32 := Scf.iv v104 c1_i32_59 k0_t2
  let v187 : Index := Scalar.indexCast arg21
  let c0_108 : Index := 0#32
  let c0_109 : Index := 0#32
  ![0, v187.toNat, 0, 0]
@[reducible] def k0_t3_loop (i : grid0.Coords) : Scf.Loop 32 :=
  let c1_i32_55 : BitVec 32 := 1#32
  let arg1 : BitVec 32 := BitVec.ofNat 32 (i 1).val
  let v103 : BitVec 32 := Scalar.muli c1_i32_55 arg1
  let c1_i32_56 : BitVec 32 := 1#32
  let v104 : BitVec 32 := Scalar.addi v103 c1_i32_56
  let c4_i32 : BitVec 32 := 4#32
  let v105 : BitVec 32 := Scalar.subi c4_i32 v104
  let c1_i32_58 : BitVec 32 := 1#32
  let v107 : BitVec 32 := Scalar.divsi v105 c1_i32_58
  let v108 : BitVec 32 := Scalar.muli v107 c1_i32_58
  let v109 : BitVec 32 := Scalar.addi v104 v108
  let v106 : BitVec 32 := Scalar.addi v104 v105
  let c1_i32_60 : BitVec 32 := 1#32
  ⟨v109, v106, c1_i32_60⟩
def k0_mult4 (i : grid0.Coords) (k0_t3 : Fin (k0_t3_loop i).trips) : BitVec 32 :=
  let c1_i32_55 : BitVec 32 := 1#32
  let arg1 : BitVec 32 := BitVec.ofNat 32 (i 1).val
  let v103 : BitVec 32 := Scalar.muli c1_i32_55 arg1
  let c1_i32_56 : BitVec 32 := 1#32
  let v104 : BitVec 32 := Scalar.addi v103 c1_i32_56
  let c4_i32 : BitVec 32 := 4#32
  let v105 : BitVec 32 := Scalar.subi c4_i32 v104
  let c1_i32_58 : BitVec 32 := 1#32
  let v107 : BitVec 32 := Scalar.divsi v105 c1_i32_58
  let v108 : BitVec 32 := Scalar.muli v107 c1_i32_58
  let v109 : BitVec 32 := Scalar.addi v104 v108
  let c1_i32_60 : BitVec 32 := 1#32
  let arg21 : BitVec 32 := Scf.iv v109 c1_i32_60 k0_t3
  let c1024_i32_79 : BitVec 32 := 1024#32
  let v134 : BitVec 32 := Scalar.muli arg21 c1024_i32_79
  v134
def k0_off10 (i : grid0.Coords) (k0_t3 : Fin (k0_t3_loop i).trips) : Fin 2 → Nat :=
  let c1_i32_55 : BitVec 32 := 1#32
  let arg1 : BitVec 32 := BitVec.ofNat 32 (i 1).val
  let v103 : BitVec 32 := Scalar.muli c1_i32_55 arg1
  let c1_i32_56 : BitVec 32 := 1#32
  let v104 : BitVec 32 := Scalar.addi v103 c1_i32_56
  let c4_i32 : BitVec 32 := 4#32
  let v105 : BitVec 32 := Scalar.subi c4_i32 v104
  let c1_i32_58 : BitVec 32 := 1#32
  let v107 : BitVec 32 := Scalar.divsi v105 c1_i32_58
  let v108 : BitVec 32 := Scalar.muli v107 c1_i32_58
  let v109 : BitVec 32 := Scalar.addi v104 v108
  let c1_i32_60 : BitVec 32 := 1#32
  let arg21 : BitVec 32 := Scf.iv v109 c1_i32_60 k0_t3
  let c1024_i32_79 : BitVec 32 := 1024#32
  let v134 : BitVec 32 := Scalar.muli arg21 c1024_i32_79
  let v135 : BitVec 32 := v134
  let v136 : Index := Scalar.indexCast v135
  let c0_80 : Index := 0#32
  ![v136.toNat, 0]
def k0_off11 (i : grid0.Coords) (k0_t3 : Fin (k0_t3_loop i).trips) : Fin 3 → Nat :=
  let c1_i32_55 : BitVec 32 := 1#32
  let arg1 : BitVec 32 := BitVec.ofNat 32 (i 1).val
  let v103 : BitVec 32 := Scalar.muli c1_i32_55 arg1
  let c1_i32_56 : BitVec 32 := 1#32
  let v104 : BitVec 32 := Scalar.addi v103 c1_i32_56
  let c4_i32 : BitVec 32 := 4#32
  let v105 : BitVec 32 := Scalar.subi c4_i32 v104
  let c1_i32_58 : BitVec 32 := 1#32
  let v107 : BitVec 32 := Scalar.divsi v105 c1_i32_58
  let v108 : BitVec 32 := Scalar.muli v107 c1_i32_58
  let v109 : BitVec 32 := Scalar.addi v104 v108
  let c1_i32_60 : BitVec 32 := 1#32
  let arg21 : BitVec 32 := Scf.iv v109 c1_i32_60 k0_t3
  let v143 : Index := Scalar.indexCast arg21
  let c0_84 : Index := 0#32
  let c0_85 : Index := 0#32
  ![v143.toNat, 0, 0]
def k0_off12 (i : grid0.Coords) (k0_t3 : Fin (k0_t3_loop i).trips) : Fin 4 → Nat :=
  let c0_107 : Index := 0#32
  let c1_i32_55 : BitVec 32 := 1#32
  let arg1 : BitVec 32 := BitVec.ofNat 32 (i 1).val
  let v103 : BitVec 32 := Scalar.muli c1_i32_55 arg1
  let c1_i32_56 : BitVec 32 := 1#32
  let v104 : BitVec 32 := Scalar.addi v103 c1_i32_56
  let c4_i32 : BitVec 32 := 4#32
  let v105 : BitVec 32 := Scalar.subi c4_i32 v104
  let c1_i32_58 : BitVec 32 := 1#32
  let v107 : BitVec 32 := Scalar.divsi v105 c1_i32_58
  let v108 : BitVec 32 := Scalar.muli v107 c1_i32_58
  let v109 : BitVec 32 := Scalar.addi v104 v108
  let c1_i32_60 : BitVec 32 := 1#32
  let arg21 : BitVec 32 := Scf.iv v109 c1_i32_60 k0_t3
  let v187 : Index := Scalar.indexCast arg21
  let c0_108 : Index := 0#32
  let c0_109 : Index := 0#32
  ![0, v187.toNat, 0, 0]
def k0_cond2 (i : grid0.Coords) : BitVec 1 :=
  let arg1 : BitVec 32 := BitVec.ofNat 32 (i 1).val
  let c3_i32 : BitVec 32 := 3#32
  let v131 : BitVec 1 := Scalar.cmpi .eq arg1 c3_i32
  let v132 : BitVec 32 := Scalar.extui v131
  let c0_i32_78 : BitVec 32 := 0#32
  let v133 : BitVec 1 := Scalar.cmpi .ne v132 c0_i32_78
  v133

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "log2e" => some (((Real.log 2)⁻¹ : ℝ) : EReal)
  | "mask" => some ⊥
  | "scale" => some (((Real.sqrt 128)⁻¹ : ℝ) : EReal)
  | "scale_log2e" => some (((Real.sqrt 128)⁻¹ * (Real.log 2)⁻¹ : ℝ) : EReal)
  | _ => none
-- ==== ReferenceIdeal.lean ====
abbrev S4096x3072 : Shape := ⟨2, ![4096, 3072]⟩
abbrev S4096x128 : Shape := ⟨2, ![4096, 128]⟩
abbrev S4096x1024 : Shape := ⟨2, ![4096, 1024]⟩
abbrev S4096x8x128 : Shape := ⟨3, ![4096, 8, 128]⟩
abbrev S4096x8 : Shape := ⟨2, ![4096, 8]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩
abbrev S8x4x1x1024 : Shape := ⟨4, ![8, 4, 1, 1024]⟩

abbrev nBuf : Space → Nat
  | .hbm => 131
  | .vmem => 0
  | .smem => 0
  | _ => 0

abbrev hbmTy0_0 (i : Nat) : BufTy := match i % 128 with
  | 0 => ⟨S4096x3072, .bf16⟩
  | 1 => ⟨S4096x128, .f32⟩
  | 2 => ⟨S4096x1024, .bf16⟩
  | 3 => ⟨S4096x1024, .bf16⟩
  | 4 => ⟨S4096x1024, .bf16⟩
  | 5 => ⟨S4096x1024, .bf16⟩
  | 6 => ⟨S4096x1024, .f32⟩
  | 7 => ⟨S4096x8x128, .f32⟩
  | 8 => ⟨S4096x1024, .f32⟩
  | 9 => ⟨S4096x8x128, .f32⟩
  | 10 => ⟨S4096x1024, .f32⟩
  | 11 => ⟨S4096x8x128, .f32⟩
  | 12 => ⟨S4096x8, .f32⟩
  | 13 => ⟨S8x4096x4096, .f32⟩
  | 14 => ⟨S_, .f32⟩
  | 15 => ⟨S_, .f32⟩
  | 16 => ⟨S8x4096x4096, .f32⟩
  | 17 => ⟨S8x4096x4096, .f32⟩
  | 18 => ⟨S8x4096, .f32⟩
  | 19 => ⟨S8x4096x1, .f32⟩
  | 20 => ⟨S8x4096x4096, .f32⟩
  | 21 => ⟨S8x4096x4096, .f32⟩
  | 22 => ⟨S8x4096, .f32⟩
  | 23 => ⟨S8x1x4096, .f32⟩
  | 24 => ⟨S8x4096x4096, .f32⟩
  | 25 => ⟨S8x4096x4096, .f32⟩
  | 26 => ⟨S4096, .i32⟩
  | 27 => ⟨S1x4096, .i32⟩
  | 28 => ⟨S4096x1, .i32⟩
  | 29 => ⟨S4096x4096, .i32⟩
  | 30 => ⟨S4096x4096, .i32⟩
  | 31 => ⟨S4096x4096, .i1⟩
  | 32 => ⟨S_, .f32⟩
  | 33 => ⟨S_, .f32⟩
  | 34 => ⟨S8x4096x4096, .i1⟩
  | 35 => ⟨S8x4096x4096, .f32⟩
  | 36 => ⟨S8x4096x4096, .f32⟩
  | 37 => ⟨S_, .f32⟩
  | 38 => ⟨S8x4096x4096, .f32⟩
  | 39 => ⟨S_, .f32⟩
  | 40 => ⟨S8x4096, .f32⟩
  | 41 => ⟨S8x4096x1, .f32⟩
  | 42 => ⟨S8x4096x4096, .f32⟩
  | 43 => ⟨S8x4096x4096, .i1⟩
  | 44 => ⟨S8x4096x4096, .f32⟩
  | 45 => ⟨S_, .f32⟩
  | 46 => ⟨S8x4096, .f32⟩
  | 47 => ⟨S_, .f32⟩
  | 48 => ⟨S8x4096, .f32⟩
  | 49 => ⟨S8x4096, .f32⟩
  | 50 => ⟨S_, .f32⟩
  | 51 => ⟨S8x4096, .f32⟩
  | 52 => ⟨S8x4096, .i1⟩
  | 53 => ⟨S_, .f32⟩
  | 54 => ⟨S8x4096, .f32⟩
  | 55 => ⟨S8x4096, .i1⟩
  | 56 => ⟨S_, .f32⟩
  | 57 => ⟨S8x4096, .f32⟩
  | 58 => ⟨S_, .f32⟩
  | 59 => ⟨S8x4096, .f32⟩
  | 60 => ⟨S_, .f32⟩
  | 61 => ⟨S8x4096, .f32⟩
  | 62 => ⟨S8x4096, .f32⟩
  | 63 => ⟨S8x4096, .f32⟩
  | 64 => ⟨S8x4096x1, .f32⟩
  | 65 => ⟨S8x4096x4096, .f32⟩
  | 66 => ⟨S8x4096x4096, .f32⟩
  | 67 => ⟨S8x4096x4096, .f32⟩
  | 68 => ⟨S_, .f32⟩
  | 69 => ⟨S8x4096, .f32⟩
  | 70 => ⟨S8x4096x1, .f32⟩
  | 71 => ⟨S8x4096x4096, .f32⟩
  | 72 => ⟨S8x4096x4096, .f32⟩
  | 73 => ⟨S8x4096x1, .f32⟩
  | 74 => ⟨S_, .f32⟩
  | 75 => ⟨S8x4096x1, .f32⟩
  | 76 => ⟨S8x4096x1, .f32⟩
  | 77 => ⟨S8x128x4096, .f32⟩
  | 78 => ⟨S4096x8x128, .f32⟩
  | 79 => ⟨S4096x1024, .f32⟩
  | 80 => ⟨S4096x8x128, .f32⟩
  | 81 => ⟨S8x128x4096, .f32⟩
  | 82 => ⟨S8x4096x4096, .f32⟩
  | 83 => ⟨S8x128x4096, .f32⟩
  | 84 => ⟨S4096x8x128, .f32⟩
  | 85 => ⟨S8x4096x4096, .f32⟩
  | 86 => ⟨S8x4096x4096, .f32⟩
  | 87 => ⟨S8x4096x4096, .f32⟩
  | 88 => ⟨S_, .f32⟩
  | 89 => ⟨S8x4096, .f32⟩
  | 90 => ⟨S8x4096x1, .f32⟩
  | 91 => ⟨S8x4096x1, .f32⟩
  | 92 => ⟨S8x4096x4096, .f32⟩
  | 93 => ⟨S8x4096x4096, .f32⟩
  | 94 => ⟨S_, .f32⟩
  | 95 => ⟨S8x4096, .f32⟩
  | 96 => ⟨S8x4096x4096, .f32⟩
  | 97 => ⟨S8x4096x4096, .f32⟩
  | 98 => ⟨S8x4096x4096, .f32⟩
  | 99 => ⟨S_, .f32⟩
  | 100 => ⟨S8x4096x4096, .f32⟩
  | 101 => ⟨S8x4096x4096, .f32⟩
  | 102 => ⟨S8x4096x4096, .f32⟩
  | 103 => ⟨S_, .f32⟩
  | 104 => ⟨S8x4096, .f32⟩
  | 105 => ⟨S8x1x4096, .f32⟩
  | 106 => ⟨S_, .f32⟩
  | 107 => ⟨S8x4096, .f32⟩
  | 108 => ⟨S4096x8, .f32⟩
  | 109 => ⟨S_, .f32⟩
  | 110 => ⟨S8x4096, .f32⟩
  | 111 => ⟨S8x4096x1, .f32⟩
  | 112 => ⟨S_, .f32⟩
  | 113 => ⟨S8x4096, .f32⟩
  | 114 => ⟨S4096x8, .f32⟩
  | 115 => ⟨S8x4096x4096, .f32⟩
  | 116 => ⟨S8x4096x4096, .f32⟩
  | 117 => ⟨S8x4096x128, .f32⟩
  | 118 => ⟨S4096x8x128, .f32⟩
  | 119 => ⟨S8x4096x128, .f32⟩
  | 120 => ⟨S4096x8x128, .f32⟩
  | 121 => ⟨S4096x1024, .f32⟩
  | 122 => ⟨S4096x1024, .bf16⟩
  | 123 => ⟨S4096x1024, .f32⟩
  | 124 => ⟨S4096x1024, .bf16⟩
  | 125 => ⟨S4096x1024, .f32⟩
  | 126 => ⟨S4096x1024, .bf16⟩
  | 127 => ⟨S8x4096, .f32⟩
  | _ => ⟨S4096x3072, .bf16⟩

abbrev hbmTy0_1 (i : Nat) : BufTy := match i % 128 with
  | 0 => ⟨S8x4x1x1024, .f32⟩
  | 1 => ⟨S8x4096, .f32⟩
  | 2 => ⟨S8x4x1x1024, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_v28_1 : Ref sig .tc := ⟨.hbm, 34, rfl⟩
abbrev main_call0_v2 : Ref sig .tc := ⟨.hbm, 35, rfl⟩
abbrev main_v28_0 : Ref sig .tc := ⟨.hbm, 36, rfl⟩
abbrev main_call0_cst : Ref sig .tc := ⟨.hbm, 37, rfl⟩
abbrev main_v28_2 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_call1_cst : Ref sig .tc := ⟨.hbm, 99, rfl⟩
abbrev main_call1_v0 : Ref sig .tc := ⟨.hbm, 100, rfl⟩
abbrev main_v77 : Ref sig .tc := ⟨.hbm, 101, rfl⟩
abbrev main_v78 : Ref sig .tc := ⟨.hbm, 102, rfl⟩
abbrev main_cst_13 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩

abbrev nD : Nat := 1
abbrev τ : Topo := Topo.v7x

variable {F : FTy → Type} [FloatOps F]
-- ==== Kernel2.lean ====
abbrev S4096x2816 : Shape := ⟨2, ![4096, 2816]⟩
abbrev S1024x5632 : Shape := ⟨2, ![1024, 5632]⟩
abbrev S4096x1024 : Shape := ⟨2, ![4096, 1024]⟩
abbrev S1024x2816 : Shape := ⟨2, ![1024, 2816]⟩
abbrev S512x5632 : Shape := ⟨2, ![512, 5632]⟩
abbrev S1024x512 : Shape := ⟨2, ![1024, 512]⟩
abbrev S512x2816 : Shape := ⟨2, ![512, 2816]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x5632, .bf16⟩
  | .local _ .vmem, ⟨5, _⟩ => ⟨S512x5632, .bf16⟩
  | .local _ .vmem, ⟨6, _⟩ => ⟨S1024x512, .f32⟩
  | .local _ .vmem, ⟨7, _⟩ => ⟨S1024x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x2816 : Shape := ⟨2, ![4096, 2816]⟩
abbrev S1024x5632 : Shape := ⟨2, ![1024, 5632]⟩
abbrev S_ : Shape := ⟨0, ![]⟩
abbrev S4096x1024 : Shape := ⟨2, ![4096, 1024]⟩
abbrev S4096x5632 : Shape := ⟨2, ![4096, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S1024x5632, .f32⟩
  | .hbm, ⟨4, _⟩ => ⟨S_, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x5632, .f32⟩
  | .hbm, ⟨10, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S4096x1024 : Shape := ⟨2, ![4096, 1024]⟩
abbrev S8192x1024 : Shape := ⟨2, ![8192, 1024]⟩
abbrev S8x128 : Shape := ⟨2, ![8, 128]⟩
abbrev S1024x1024 : Shape := ⟨2, ![1024, 1024]⟩
abbrev S8192x512 : Shape := ⟨2, ![8192, 512]⟩
abbrev S1024x512 : Shape := ⟨2, ![1024, 512]⟩

abbrev nBuf : Space → Nat
  | .hbm => 11
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S8192x1024, .bf16⟩
  | .hbm, ⟨9, _⟩ => ⟨S8x128, .f32⟩
  | .hbm, ⟨10, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S8192x512, .bf16⟩
  | .local _ .vmem, ⟨17, _⟩ => ⟨S8192x512, .bf16⟩
  | .local _ .vmem, ⟨18, _⟩ => ⟨S1024x512, .f32⟩
  | .local _ .vmem, ⟨19, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4096x1024 : Shape := ⟨2, ![4096, 1024]⟩
abbrev S8192x1024 : Shape := ⟨2, ![8192, 1024]⟩
abbrev S8x128 : Shape := ⟨2, ![8, 128]⟩
abbrev S1024x8192 : Shape := ⟨2, ![1024, 8192]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S8192x1024, .bf16⟩
  | .hbm, ⟨9, _⟩ => ⟨S8x128, .f32⟩
  | .hbm, ⟨10, _⟩ => ⟨S8192x1024, .f32⟩
  | .hbm, ⟨11, _⟩ => ⟨S1024x8192, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x8192, .f32⟩
  | .hbm, ⟨21, _⟩ => ⟨S_, .f32⟩
  | .hbm, ⟨22, _⟩ => ⟨S4096x1024, .f32⟩
  | .hbm, ⟨23, _⟩ => ⟨S4096x8192, .f32⟩
  | .hbm, ⟨24, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Kernel4.lean ====
abbrev S4096x1024 : Shape := ⟨2, ![4096, 1024]⟩
abbrev S4096x2816 : Shape := ⟨2, ![4096, 2816]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1024x1408, .f32⟩
  | .local _ .vmem, ⟨7, _⟩ => ⟨S1024x1408, .f32⟩
  | .local _ .vmem, ⟨8, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond4 (i : grid0.Coords) : BitVec 1 :=
  let arg2 : BitVec 32 := BitVec.ofNat 32 (i 2).val
  let c1_i32_15 : BitVec 32 := 1#32
  let v32 : BitVec 1 := Scalar.cmpi .eq arg2 c1_i32_15
  let v33 : BitVec 32 := Scalar.extui v32
  let c0_i32_16 : BitVec 32 := 0#32
  let v34 : BitVec 1 := Scalar.cmpi .ne v33 c0_i32_16
  v34

def k0_cond5 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def k0_cond8 (i : grid0.Coords) : BitVec 1 :=
  let arg2 : BitVec 32 := BitVec.ofNat 32 (i 2).val
  let c1_i32_15 : BitVec 32 := 1#32
  let v32 : BitVec 1 := Scalar.cmpi .eq arg2 c1_i32_15
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg2 c0_i32_5
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c0_i32_5 : BitVec 32 := 0#32
  let v18 : BitVec 32 := Scalar.select v17 arg2 c0_i32_5
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi arg1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x1024 : Shape := ⟨2, ![4096, 1024]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x2816, .f32⟩
  | .hbm, ⟨4, _⟩ => ⟨S4096x2816, .f32⟩
  | .hbm, ⟨5, _⟩ => ⟨S4096x5632, .f32⟩
  | .hbm, ⟨6, _⟩ => ⟨S_, .f32⟩
  | .hbm, ⟨7, _⟩ => ⟨S1024x5632, .f32⟩
  | .hbm, ⟨8, _⟩ => ⟨S4096x1024, .f32⟩
  | .hbm, ⟨9, _⟩ => ⟨S4096x5632, .f32⟩
  | .hbm, ⟨10, _⟩ => ⟨S5632x1024, .f32⟩
  | .hbm, ⟨11, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S2816x1024 : Shape := ⟨2, ![2816, 1024]⟩
abbrev S4096x2816 : Shape := ⟨2, ![4096, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S1024x5632 : Shape := ⟨2, ![1024, 5632]⟩
abbrev S4096x5632 : Shape := ⟨2, ![4096, 5632]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x1024 : Shape := ⟨2, ![4096, 1024]⟩
abbrev S8192x1024 : Shape := ⟨2, ![8192, 1024]⟩
abbrev S4096x3072 : Shape := ⟨2, ![4096, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8192x1024, .bf16⟩
  | .hbm, ⟨2, _⟩ => ⟨S4096x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S8192x1024 : Shape := ⟨2, ![8192, 1024]⟩
abbrev S1024x8192 : Shape := ⟨2, ![1024, 8192]⟩
abbrev S4096x8192 : Shape := ⟨2, ![4096, 8192]⟩
abbrev S4096x3072 : Shape := ⟨2, ![4096, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8192x1024, .bf16⟩
  | .hbm, ⟨2, _⟩ => ⟨S4096x1024, .f32⟩
  | .hbm, ⟨3, _⟩ => ⟨S8192x1024, .f32⟩
  | .hbm, ⟨4, _⟩ => ⟨S1024x8192, .f32⟩
  | .hbm, ⟨5, _⟩ => ⟨S4096x8192, .f32⟩
  | .hbm, ⟨6, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S8192x1024 : Shape := ⟨2, ![8192, 1024]⟩
abbrev S4096x3072 : Shape := ⟨2, ![4096, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8192x1024, .bf16⟩
  | .hbm, ⟨2, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S8192x1024 : Shape := ⟨2, ![8192, 1024]⟩
abbrev S1024x8192 : Shape := ⟨2, ![1024, 8192]⟩
abbrev S4096x8192 : Shape := ⟨2, ![4096, 8192]⟩
abbrev S4096x3072 : Shape := ⟨2, ![4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8192x1024, .bf16⟩
  | .hbm, ⟨2, _⟩ => ⟨S4096x1024, .f32⟩
  | .hbm, ⟨3, _⟩ => ⟨S8192x1024, .f32⟩
  | .hbm, ⟨4, _⟩ => ⟨S1024x8192, .f32⟩
  | .hbm, ⟨5, _⟩ => ⟨S4096x8192, .f32⟩
  | .hbm, ⟨6, _⟩ => ⟨S4096x3072, .f32⟩
  | .hbm, ⟨7, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S4096x1024 : Shape := ⟨2, ![4096, 1024]⟩
abbrev S8192x1024 : Shape := ⟨2, ![8192, 1024]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8192x1024, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S8192x1024 : Shape := ⟨2, ![8192, 1024]⟩
abbrev S1024x8192 : Shape := ⟨2, ![1024, 8192]⟩
abbrev S4096x8192 : Shape := ⟨2, ![4096, 8192]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8192x1024, .bf16⟩
  | .hbm, ⟨2, _⟩ => ⟨S4096x1024, .f32⟩
  | .hbm, ⟨3, _⟩ => ⟨S8192x1024, .f32⟩
  | .hbm, ⟨4, _⟩ => ⟨S1024x8192, .f32⟩
  | .hbm, ⟨5, _⟩ => ⟨S4096x8192, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S4096x1024 : Shape := ⟨2, ![4096, 1024]⟩
abbrev S384x1024 : Shape := ⟨2, ![384, 1024]⟩
abbrev S4096x384 : Shape := ⟨2, ![4096, 384]⟩
abbrev S1024x1024 : Shape := ⟨2, ![1024, 1024]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S384x1024, .bf16⟩
  | .hbm, ⟨2, _⟩ => ⟨S4096x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S384x1024 : Shape := ⟨2, ![384, 1024]⟩
abbrev S1024x384 : Shape := ⟨2, ![1024, 384]⟩
abbrev S4096x384 : Shape := ⟨2, ![4096, 384]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S384x1024, .bf16⟩
  | .hbm, ⟨2, _⟩ => ⟨S4096x1024, .f32⟩
  | .hbm, ⟨3, _⟩ => ⟨S384x1024, .f32⟩
  | .hbm, ⟨4, _⟩ => ⟨S1024x384, .f32⟩
  | .hbm, ⟨5, _⟩ => ⟨S4096x384, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x384 : Shape := ⟨2, ![4096, 384]⟩
abbrev S384x1024 : Shape := ⟨2, ![384, 1024]⟩
abbrev S4096x1024 : Shape := ⟨2, ![4096, 1024]⟩
abbrev S1024x384 : Shape := ⟨2, ![1024, 384]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S4096x1024, .f32⟩
  | .local _ .vmem, ⟨0, _⟩ => ⟨S1024x384, .bf16⟩
  | .local _ .vmem, ⟨1, _⟩ => ⟨S1024x384, .bf16⟩
  | .local _ .vmem, ⟨2, _⟩ => ⟨S384x1024, .bf16⟩
  | .local _ .vmem, ⟨3, _⟩ => ⟨S1024x1024, .f32⟩
  | .local _ .vmem, ⟨4, _⟩ => ⟨S1024x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x384 : Shape := ⟨2, ![4096, 384]⟩
abbrev S384x1024 : Shape := ⟨2, ![384, 1024]⟩
abbrev S1024x384 : Shape := ⟨2, ![1024, 384]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S384x1024, .bf16⟩
  | .hbm, ⟨2, _⟩ => ⟨S384x1024, .f32⟩
  | .hbm, ⟨3, _⟩ => ⟨S1024x384, .f32⟩
  | .hbm, ⟨4, _⟩ => ⟨S4096x384, .f32⟩
  | .hbm, ⟨5, _⟩ => ⟨S_, .f32⟩
  | .hbm, ⟨6, _⟩ => ⟨S4096x1024, .f32⟩
  | .hbm, ⟨7, _⟩ => ⟨S4096x384, .f32⟩
  | .hbm, ⟨8, _⟩ => ⟨S4096x1024, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S4096x384 : Shape := ⟨2, ![4096, 384]⟩
abbrev S4096x1024 : Shape := ⟨2, ![4096, 1024]⟩
abbrev S384x1024 : Shape := ⟨2, ![384, 1024]⟩
abbrev S1024x384 : Shape := ⟨2, ![1024, 384]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S384x1024, .f32⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .f32⟩
  | .local _ .vmem, ⟨5, _⟩ => ⟨S384x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S384x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S4096x384 : Shape := ⟨2, ![4096, 384]⟩
abbrev S4096x1024 : Shape := ⟨2, ![4096, 1024]⟩
abbrev S_ : Shape := ⟨0, ![]⟩
abbrev S1024x384 : Shape := ⟨2, ![1024, 384]⟩
abbrev S384x1024 : Shape := ⟨2, ![384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S4096x1024, .f32⟩
  | .hbm, ⟨3, _⟩ => ⟨S4096x384, .f32⟩
  | .hbm, ⟨4, _⟩ => ⟨S_, .f32⟩
  | .hbm, ⟨5, _⟩ => ⟨S1024x384, .f32⟩
  | .hbm, ⟨6, _⟩ => ⟨S4096x384, .f32⟩
  | .hbm, ⟨7, _⟩ => ⟨S384x1024, .f32⟩
  | .hbm, ⟨8, _⟩ => ⟨S1024x384, .f32⟩
  | .hbm, ⟨9, _⟩ => ⟨S384x1024, .f32⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 10
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 1, 4], ![false, false, false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond4 (i : grid0.Coords) : BitVec 1 :=
  let arg2 : BitVec 32 := BitVec.ofNat 32 (i 2).val
  let c3_i32_22 : BitVec 32 := 3#32
  let v50 : BitVec 1 := Scalar.cmpi .eq arg2 c3_i32_22
  let v51 : BitVec 32 := Scalar.extui v50
  let c0_i32_23 : BitVec 32 := 0#32
  let v52 : BitVec 1 := Scalar.cmpi .ne v51 c0_i32_23
  v52

def k0_cond5 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c1_i32_7 : BitVec 32 := 1#32
  let v20 : BitVec 1 := Scalar.cmpi .eq v16 c1_i32_7
  let v21 : BitVec 32 := Scalar.extui v20
  let c0_i32_8 : BitVec 32 := 0#32
  let v22 : BitVec 1 := Scalar.cmpi .ne v21 c0_i32_8
  v22

def k0_cond8 (i : grid0.Coords) : BitVec 1 :=
  let arg2 : BitVec 32 := BitVec.ofNat 32 (i 2).val
  let c3_i32_22 : BitVec 32 := 3#32
  let v50 : BitVec 1 := Scalar.cmpi .eq arg2 c3_i32_22
  let v51 : BitVec 32 := Scalar.extui v50
  let c0_i32_23 : BitVec 32 := 0#32
  let v52 : BitVec 1 := Scalar.cmpi .ne v51 c0_i32_23
  v52

def k0_cond9 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c2_i32 : BitVec 32 := 2#32
  let v23 : BitVec 1 := Scalar.cmpi .eq v16 c2_i32
  let v24 : BitVec 32 := Scalar.extui v23
  let c0_i32_9 : BitVec 32 := 0#32
  let v25 : BitVec 1 := Scalar.cmpi .ne v24 c0_i32_9
  v25

def k0_cond12 (i : grid0.Coords) : BitVec 1 :=
  let arg2 : BitVec 32 := BitVec.ofNat 32 (i 2).val
  let c3_i32_22 : BitVec 32 := 3#32
  let v50 : BitVec 1 := Scalar.cmpi .eq arg2 c3_i32_22
  let v51 : BitVec 32 := Scalar.extui v50
  let c0_i32_23 : BitVec 32 := 0#32
  let v52 : BitVec 1 := Scalar.cmpi .ne v51 c0_i32_23
  v52

def k0_cond13 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c3_i32 : BitVec 32 := 3#32
  let v26 : BitVec 1 := Scalar.cmpi .eq v16 c3_i32
  let v27 : BitVec 32 := Scalar.extui v26
  let c0_i32_10 : BitVec 32 := 0#32
  let v28 : BitVec 1 := Scalar.cmpi .ne v27 c0_i32_10
  v28

def k0_cond16 (i : grid0.Coords) : BitVec 1 :=
  let arg2 : BitVec 32 := BitVec.ofNat 32 (i 2).val
  let c3_i32_22 : BitVec 32 := 3#32
  let v50 : BitVec 1 := Scalar.cmpi .eq arg2 c3_i32_22
  let v51 : BitVec 32 := Scalar.extui v50
  let c0_i32_23 : BitVec 32 := 0#32
  let v52 : BitVec 1 := Scalar.cmpi .ne v51 c0_i32_23
  v52

def k0_cond17 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c4_i32 : BitVec 32 := 4#32
  let v29 : BitVec 1 := Scalar.cmpi .eq v16 c4_i32
  let v30 : BitVec 32 := Scalar.extui v29
  let c0_i32_11 : BitVec 32 := 0#32
  let v31 : BitVec 1 := Scalar.cmpi .ne v30 c0_i32_11
  v31

def k0_cond20 (i : grid0.Coords) : BitVec 1 :=
  let arg2 : BitVec 32 := BitVec.ofNat 32 (i 2).val
  let c3_i32_22 : BitVec 32 := 3#32
  let v50 : BitVec 1 := Scalar.cmpi .eq arg2 c3_i32_22
  let v51 : BitVec 32 := Scalar.extui v50
  let c0_i32_23 : BitVec 32 := 0#32
  let v52 : BitVec 1 := Scalar.cmpi .ne v51 c0_i32_23
  v52

def k0_cond21 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c5_i32 : BitVec 32 := 5#32
  let v32 : BitVec 1 := Scalar.cmpi .eq v16 c5_i32
  let v33 : BitVec 32 := Scalar.extui v32
  let c0_i32_12 : BitVec 32 := 0#32
  let v34 : BitVec 1 := Scalar.cmpi .ne v33 c0_i32_12
  v34

def k0_cond24 (i : grid0.Coords) : BitVec 1 :=
  let arg2 : BitVec 32 := BitVec.ofNat 32 (i 2).val
  let c3_i32_22 : BitVec 32 := 3#32
  let v50 : BitVec 1 := Scalar.cmpi .eq arg2 c3_i32_22
  let v51 : BitVec 32 := Scalar.extui v50
  let c0_i32_23 : BitVec 32 := 0#32
  let v52 : BitVec 1 := Scalar.cmpi .ne v51 c0_i32_23
  v52

def k0_cond25 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c6_i32 : BitVec 32 := 6#32
  let v35 : BitVec 1 := Scalar.cmpi .eq v16 c6_i32
  let v36 : BitVec 32 := Scalar.extui v35
  let c0_i32_13 : BitVec 32 := 0#32
  let v37 : BitVec 1 := Scalar.cmpi .ne v36 c0_i32_13
  v37

def k0_cond28 (i : grid0.Coords) : BitVec 1 :=
  let arg2 : BitVec 32 := BitVec.ofNat 32 (i 2).val
  let c3_i32_22 : BitVec 32 := 3#32
  let v50 : BitVec 1 := Scalar.cmpi .eq arg2 c3_i32_22
  let v51 : BitVec 32 := Scalar.extui v50
  let c0_i32_23 : BitVec 32 := 0#32
  let v52 : BitVec 1 := Scalar.cmpi .ne v51 c0_i32_23
  v52

def k0_cond29 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c7_i32 : BitVec 32 := 7#32
  let v38 : BitVec 1 := Scalar.cmpi .eq v16 c7_i32
  let v39 : BitVec 32 := Scalar.extui v38
  let c0_i32_14 : BitVec 32 := 0#32
  let v40 : BitVec 1 := Scalar.cmpi .ne v39 c0_i32_14
  v40

def k0_cond32 (i : grid0.Coords) : BitVec 1 :=
  let arg2 : BitVec 32 := BitVec.ofNat 32 (i 2).val
  let c3_i32_22 : BitVec 32 := 3#32
  let v50 : BitVec 1 := Scalar.cmpi .eq arg2 c3_i32_22
  let v51 : BitVec 32 := Scalar.extui v50
  let c0_i32_23 : BitVec 32 := 0#32
  let v52 : BitVec 1 := Scalar.cmpi .ne v51 c0_i32_23
  v52

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi arg0 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 32 := Scalar.select v17 v28 c0_i32_13
  let c0_i32_14 : BitVec 32 := 0#32
  ![v18.toNat, v29.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg2 c0_i32_6
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi arg0 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 32 := Scalar.select v17 v28 c0_i32_13
  let c0_i32_14 : BitVec 32 := 0#32
  ![v18.toNat, v29.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg2 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg2 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 1 := Scalar.cmpi .eq v16 c4_i32
  let c0_i32_5 : BitVec 32 := 0#32
  let v18 : BitVec 32 := Scalar.select v17 arg2 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c5_i32 : BitVec 32 := 5#32
  let v17 : BitVec 1 := Scalar.cmpi .eq v16 c5_i32
  let c0_i32_5 : BitVec 32 := 0#32
  let v18 : BitVec 32 := Scalar.select v17 arg2 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c6_i32 : BitVec 32 := 6#32
  let v17 : BitVec 1 := Scalar.cmpi .eq v16 c6_i32
  let c0_i32_5 : BitVec 32 := 0#32
  let v18 : BitVec 32 := Scalar.select v17 arg2 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c7_i32 : BitVec 32 := 7#32
  let v17 : BitVec 1 := Scalar.cmpi .eq v16 c7_i32
  let c0_i32_5 : BitVec 32 := 0#32
  let v18 : BitVec 32 := Scalar.select v17 arg2 c0_i32_5
  let c1_i32_6 : BitVec 32 := 1#32
  let c0_i32_7 : BitVec 32 := 0#32
  let v19 : BitVec 1 := Scalar.cmpi .eq c1_i32_6 c0_i32_7
  let c1_i32_8 : BitVec 32 := 1#32
  let v20 : BitVec 32 := Scalar.select v19 c1_i32_8 c1_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference19Ideal.lean ====
abbrev S4096x1024 : Shape := ⟨2, ![4096, 1024]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x8192, .f32⟩
  | .hbm, ⟨19, _⟩ => ⟨S_, .f32⟩
  | .hbm, ⟨20, _⟩ => ⟨S1024x8192, .f32⟩
  | .hbm, ⟨21, _⟩ => ⟨S4096x8192, .f32⟩
  | .hbm, ⟨22, _⟩ => ⟨S8192x1024, .f32⟩
  | .hbm, ⟨23, _⟩ => ⟨S1024x8192, .f32⟩
  | .hbm, ⟨24, _⟩ => ⟨S8192x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel20.lean ====
abbrev S4096x3072 : Shape := ⟨2, ![4096, 3072]⟩
abbrev S4096x128 : Shape := ⟨2, ![4096, 128]⟩
abbrev S4096x8 : Shape := ⟨2, ![4096, 8]⟩
abbrev S8x4096 : Shape := ⟨2, ![8, 4096]⟩
abbrev S8x4x1x1024 : Shape := ⟨4, ![8, 4, 1, 1024]⟩
abbrev S4096x1024 : Shape := ⟨2, ![4096, 1024]⟩
abbrev S1024x128 : Shape := ⟨2, ![1024, 128]⟩
abbrev S1x4x1x1024 : Shape := ⟨4, ![1, 4, 1, 1024]⟩
abbrev S1x1x1x1024 : Shape := ⟨4, ![1, 1, 1, 1024]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x3072, .bf16⟩
  | .hbm, ⟨1, _⟩ => ⟨S4096x128, .f32⟩
  | .hbm, ⟨2, _⟩ => ⟨S4096x8, .f32⟩
  | .hbm, ⟨3, _⟩ => ⟨S8x4096, .f32⟩
  | .hbm, ⟨4, _⟩ => ⟨S8x4x1x1024, .f32⟩
  | .hbm, ⟨5, _⟩ => ⟨S4096x1024, .bf16⟩
  | .hbm, ⟨6, _⟩ => ⟨S8x4x1x1024, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1x4x1x1024, .f32⟩
  | .local _ .vmem, ⟨9, _⟩ => ⟨S1x4x1x1024, .f32⟩
  | .local _ .vmem, ⟨10, _⟩ => ⟨S1024x128, .bf16⟩
  | .local _ .vmem, ⟨11, _⟩ => ⟨S1024x128, .bf16⟩
  | .local _ .vmem, ⟨12, _⟩ => ⟨S1x1x1x1024, .f32⟩
  | .local _ .vmem, ⟨13, _⟩ => ⟨S1x1x1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_13 : BitVec 32 := 0#32
  let arg1 : BitVec 32 := BitVec.ofNat 32 (i 1).val
  let c1024_i32 : BitVec 32 := 1024#32
  let v14 : BitVec 32 := Scalar.muli arg1 c1024_i32
  let c0_i32 : BitVec 32 := 0#32
  let v16 : BitVec 1 := Scalar.cmpi .sgt v14 c0_i32
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c1024_i32_8 : BitVec 32 := 1024#32
  let c0_i32_10 : BitVec 32 := 0#32
  let v21 : BitVec 1 := Scalar.cmpi .sgt c1024_i32_8 c0_i32_10
  let v22 : BitVec 32 := Scalar.extui v21
  let c0_i32_11 : BitVec 32 := 0#32
  let v23 : BitVec 1 := Scalar.cmpi .slt c1024_i32_8 c0_i32_11
  let v24 : BitVec 32 := Scalar.extui v23
  let v25 : BitVec 32 := Scalar.subi v22 v24
  let v26 : BitVec 1 := Scalar.cmpi .ne v20 v25
  let v27 : BitVec 32 := Scalar.remsi v14 c1024_i32_8
  let c0_i32_12 : BitVec 32 := 0#32
  let v28 : BitVec 1 := Scalar.cmpi .ne v27 c0_i32_12
  let v29 : BitVec 1 := Scalar.andi v26 v28
  let v15 : BitVec 32 := Scalar.divsi v14 c1024_i32_8
  let c1_i32 : BitVec 32 := 1#32
  let v30 : BitVec 32 := Scalar.subi v15 c1_i32
  let v31 : BitVec 32 := Scalar.select v29 v30 v15
  let v32 : BitVec 32 := Scalar.subi v31 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_15 : BitVec 32 := 1#32
  ⟨c0_i32_13, v36, c1_i32_15⟩
def k0_mult1 (i : grid0.Coords) (k0_t1 : Fin (k0_t1_loop i).trips) : BitVec 32 :=
  let c0_i32_13 : BitVec 32 := 0#32
  let c1_i32_15 : BitVec 32 := 1#32
  let arg9 : BitVec 32 := Scf.iv c0_i32_13 c1_i32_15 k0_t1
  let c1024_i32_42 : BitVec 32 := 1024#32
  let v104 : BitVec 32 := Scalar.muli arg9 c1024_i32_42
  v104
def k0_off1 (i : grid0.Coords) (k0_t1 : Fin (k0_t1_loop i).trips) : Fin 2 → Nat :=
  let c0_i32_13 : BitVec 32 := 0#32
  let c1_i32_15 : BitVec 32 := 1#32
  let arg9 : BitVec 32 := Scf.iv c0_i32_13 c1_i32_15 k0_t1
  let c1024_i32_42 : BitVec 32 := 1024#32
  let v104 : BitVec 32 := Scalar.muli arg9 c1024_i32_42
  let v105 : BitVec 32 := v104
  let v106 : Index := Scalar.indexCast v105
  let c0_43 : Index := 0#32
  ![v106.toNat, 0]
def k0_off2 (i : grid0.Coords) (k0_t1 : Fin (k0_t1_loop i).trips) : Fin 4 → Nat :=
  let c0_46 : Index := 0#32
  let c0_i32_13 : BitVec 32 := 0#32
  let c1_i32_15 : BitVec 32 := 1#32
  let arg9 : BitVec 32 := Scf.iv c0_i32_13 c1_i32_15 k0_t1
  let v111 : Index := Scalar.indexCast arg9
  let c0_47 : Index := 0#32
  let c0_48 : Index := 0#32
  ![0, v111.toNat, 0, 0]
@[reducible] def k0_t2_loop (i : grid0.Coords) : Scf.Loop 32 :=
  let c0_i32_13 : BitVec 32 := 0#32
  let arg1 : BitVec 32 := BitVec.ofNat 32 (i 1).val
  let c1024_i32 : BitVec 32 := 1024#32
  let v14 : BitVec 32 := Scalar.muli arg1 c1024_i32
  let c0_i32 : BitVec 32 := 0#32
  let v16 : BitVec 1 := Scalar.cmpi .sgt v14 c0_i32
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c1024_i32_8 : BitVec 32 := 1024#32
  let c0_i32_10 : BitVec 32 := 0#32
  let v21 : BitVec 1 := Scalar.cmpi .sgt c1024_i32_8 c0_i32_10
  let v22 : BitVec 32 := Scalar.extui v21
  let c0_i32_11 : BitVec 32 := 0#32
  let v23 : BitVec 1 := Scalar.cmpi .slt c1024_i32_8 c0_i32_11
  let v24 : BitVec 32 := Scalar.extui v23
  let v25 : BitVec 32 := Scalar.subi v22 v24
  let v26 : BitVec 1 := Scalar.cmpi .ne v20 v25
  let v27 : BitVec 32 := Scalar.remsi v14 c1024_i32_8
  let c0_i32_12 : BitVec 32 := 0#32
  let v28 : BitVec 1 := Scalar.cmpi .ne v27 c0_i32_12
  let v29 : BitVec 1 := Scalar.andi v26 v28
  let v15 : BitVec 32 := Scalar.divsi v14 c1024_i32_8
  let c1_i32 : BitVec 32 := 1#32
  let v30 : BitVec 32 := Scalar.subi v15 c1_i32
  let v31 : BitVec 32 := Scalar.select v29 v30 v15
  let v32 : BitVec 32 := Scalar.subi v31 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let v33 : BitVec 32 := Scalar.addi c0_i32_13 v32
  let c1_i32_16 : BitVec 32 := 1#32
  ⟨v36, v33, c1_i32_16⟩
def k0_mult2 (i : grid0.Coords) (k0_t2 : Fin (k0_t2_loop i).trips) : BitVec 32 :=
  let c0_i32_13 : BitVec 32 := 0#32
  let arg1 : BitVec 32 := BitVec.ofNat 32 (i 1).val
  let c1024_i32 : BitVec 32 := 1024#32
  let v14 : BitVec 32 := Scalar.muli arg1 c1024_i32
  let c0_i32 : BitVec 32 := 0#32
  let v16 : BitVec 1 := Scalar.cmpi .sgt v14 c0_i32
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c1024_i32_8 : BitVec 32 := 1024#32
  let c0_i32_10 : BitVec 32 := 0#32
  let v21 : BitVec 1 := Scalar.cmpi .sgt c1024_i32_8 c0_i32_10
  let v22 : BitVec 32 := Scalar.extui v21
  let c0_i32_11 : BitVec 32 := 0#32
  let v23 : BitVec 1 := Scalar.cmpi .slt c1024_i32_8 c0_i32_11
  let v24 : BitVec 32 := Scalar.extui v23
  let v25 : BitVec 32 := Scalar.subi v22 v24
  let v26 : BitVec 1 := Scalar.cmpi .ne v20 v25
  let v27 : BitVec 32 := Scalar.remsi v14 c1024_i32_8
  let c0_i32_12 : BitVec 32 := 0#32
  let v28 : BitVec 1 := Scalar.cmpi .ne v27 c0_i32_12
  let v29 : BitVec 1 := Scalar.andi v26 v28
  let v15 : BitVec 32 := Scalar.divsi v14 c1024_i32_8
  let c1_i32 : BitVec 32 := 1#32
  let v30 : BitVec 32 := Scalar.subi v15 c1_i32
  let v31 : BitVec 32 := Scalar.select v29 v30 v15
  let v32 : BitVec 32 := Scalar.subi v31 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_16 : BitVec 32 := 1#32
  let arg9 : BitVec 32 := Scf.iv v36 c1_i32_16 k0_t2
  let c1024_i32_42 : BitVec 32 := 1024#32
  let v104 : BitVec 32 := Scalar.muli arg9 c1024_i32_42
  v104
def k0_off3 (i : grid0.Coords) (k0_t2 : Fin (k0_t2_loop i).trips) : Fin 2 → Nat :=
  let c0_i32_13 : BitVec 32 := 0#32
  let arg1 : BitVec 32 := BitVec.ofNat 32 (i 1).val
  let c1024_i32 : BitVec 32 := 1024#32
  let v14 : BitVec 32 := Scalar.muli arg1 c1024_i32
  let c0_i32 : BitVec 32 := 0#32
  let v16 : BitVec 1 := Scalar.cmpi .sgt v14 c0_i32
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c1024_i32_8 : BitVec 32 := 1024#32
  let c0_i32_10 : BitVec 32 := 0#32
  let v21 : BitVec 1 := Scalar.cmpi .sgt c1024_i32_8 c0_i32_10
  let v22 : BitVec 32 := Scalar.extui v21
  let c0_i32_11 : BitVec 32 := 0#32
  let v23 : BitVec 1 := Scalar.cmpi .slt c1024_i32_8 c0_i32_11
  let v24 : BitVec 32 := Scalar.extui v23
  let v25 : BitVec 32 := Scalar.subi v22 v24
  let v26 : BitVec 1 := Scalar.cmpi .ne v20 v25
  let v27 : BitVec 32 := Scalar.remsi v14 c1024_i32_8
  let c0_i32_12 : BitVec 32 := 0#32
  let v28 : BitVec 1 := Scalar.cmpi .ne v27 c0_i32_12
  let v29 : BitVec 1 := Scalar.andi v26 v28
  let v15 : BitVec 32 := Scalar.divsi v14 c1024_i32_8
  let c1_i32 : BitVec 32 := 1#32
  let v30 : BitVec 32 := Scalar.subi v15 c1_i32
  let v31 : BitVec 32 := Scalar.select v29 v30 v15
  let v32 : BitVec 32 := Scalar.subi v31 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_16 : BitVec 32 := 1#32
  let arg9 : BitVec 32 := Scf.iv v36 c1_i32_16 k0_t2
  let c1024_i32_42 : BitVec 32 := 1024#32
  let v104 : BitVec 32 := Scalar.muli arg9 c1024_i32_42
  let v105 : BitVec 32 := v104
  let v106 : Index := Scalar.indexCast v105
  let c0_43 : Index := 0#32
  ![v106.toNat, 0]
def k0_off4 (i : grid0.Coords) (k0_t2 : Fin (k0_t2_loop i).trips) : Fin 4 → Nat :=
  let c0_46 : Index := 0#32
  let c0_i32_13 : BitVec 32 := 0#32
  let arg1 : BitVec 32 := BitVec.ofNat 32 (i 1).val
  let c1024_i32 : BitVec 32 := 1024#32
  let v14 : BitVec 32 := Scalar.muli arg1 c1024_i32
  let c0_i32 : BitVec 32 := 0#32
  let v16 : BitVec 1 := Scalar.cmpi .sgt v14 c0_i32
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c1024_i32_8 : BitVec 32 := 1024#32
  let c0_i32_10 : BitVec 32 := 0#32
  let v21 : BitVec 1 := Scalar.cmpi .sgt c1024_i32_8 c0_i32_10
  let v22 : BitVec 32 := Scalar.extui v21
  let c0_i32_11 : BitVec 32 := 0#32
  let v23 : BitVec 1 := Scalar.cmpi .slt c1024_i32_8 c0_i32_11
  let v24 : BitVec 32 := Scalar.extui v23
  let v25 : BitVec 32 := Scalar.subi v22 v24
  let v26 : BitVec 1 := Scalar.cmpi .ne v20 v25
  let v27 : BitVec 32 := Scalar.remsi v14 c1024_i32_8
  let c0_i32_12 : BitVec 32 := 0#32
  let v28 : BitVec 1 := Scalar.cmpi .ne v27 c0_i32_12
  let v29 : BitVec 1 := Scalar.andi v26 v28
  let v15 : BitVec 32 := Scalar.divsi v14 c1024_i32_8
  let c1_i32 : BitVec 32 := 1#32
  let v30 : BitVec 32 := Scalar.subi v15 c1_i32
  let v31 : BitVec 32 := Scalar.select v29 v30 v15
  let v32 : BitVec 32 := Scalar.subi v31 c0_i32_13
  let c1_i32_14 : BitVec 32 := 1#32
  let v34 : BitVec 32 := Scalar.divsi v32 c1_i32_14
  let v35 : BitVec 32 := Scalar.muli v34 c1_i32_14
  let v36 : BitVec 32 := Scalar.addi c0_i32_13 v35
  let c1_i32_16 : BitVec 32 := 1#32
  let arg9 : BitVec 32 := Scf.iv v36 c1_i32_16 k0_t2
  let v111 : Index := Scalar.indexCast arg9
  let c0_47 : Index := 0#32
  let c0_48 : Index := 0#32
  ![0, v111.toNat, 0, 0]
def k0_mult3 (i : grid0.Coords) : BitVec 32 :=
  let arg1 : BitVec 32 := BitVec.ofNat 32 (i 1).val
  let c1024_i32 : BitVec 32 := 1024#32
  let v14 : BitVec 32 := Scalar.muli arg1 c1024_i32
  let c0_i32 : BitVec 32 := 0#32
  let v16 : BitVec 1 := Scalar.cmpi .sgt v14 c0_i32
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c1024_i32_8 : BitVec 32 := 1024#32
  let c0_i32_10 : BitVec 32 := 0#32
  let v21 : BitVec 1 := Scalar.cmpi .sgt c1024_i32_8 c0_i32_10
  let v22 : BitVec 32 := Scalar.extui v21
  let c0_i32_11 : BitVec 32 := 0#32
  let v23 : BitVec 1 := Scalar.cmpi .slt c1024_i32_8 c0_i32_11
  let v24 : BitVec 32 := Scalar.extui v23
  let v25 : BitVec 32 := Scalar.subi v22 v24
  let v26 : BitVec 1 := Scalar.cmpi .ne v20 v25
  let v27 : BitVec 32 := Scalar.remsi v14 c1024_i32_8
  let c0_i32_12 : BitVec 32 := 0#32
  let v28 : BitVec 1 := Scalar.cmpi .ne v27 c0_i32_12
  let v29 : BitVec 1 := Scalar.andi v26 v28
  let v15 : BitVec 32 := Scalar.divsi v14 c1024_i32_8
  let c1_i32 : BitVec 32 := 1#32
  let v30 : BitVec 32 := Scalar.subi v15 c1_i32
  let v31 : BitVec 32 := Scalar.select v29 v30 v15
  let c0_i32_17 : BitVec 32 := 0#32
  let v39 : BitVec 32 := Scalar.addi v31 c0_i32_17
  let c1024_i32_18 : BitVec 32 := 1024#32
  let v40 : BitVec 32 := Scalar.muli v39 c1024_i32_18
  v40
def k0_off5 (i : grid0.Coords) : Fin 2 → Nat :=
  let arg1 : BitVec 32 := BitVec.ofNat 32 (i 1).val
  let c1024_i32 : BitVec 32 := 1024#32
  let v14 : BitVec 32 := Scalar.muli arg1 c1024_i32
  let c0_i32 : BitVec 32 := 0#32
  let v16 : BitVec 1 := Scalar.cmpi .sgt v14 c0_i32
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c1024_i32_8 : BitVec 32 := 1024#32
  let c0_i32_10 : BitVec 32 := 0#32
  let v21 : BitVec 1 := Scalar.cmpi .sgt c1024_i32_8 c0_i32_10
  let v22 : BitVec 32 := Scalar.extui v21
  let c0_i32_11 : BitVec 32 := 0#32
  let v23 : BitVec 1 := Scalar.cmpi .slt c1024_i32_8 c0_i32_11
  let v24 : BitVec 32 := Scalar.extui v23
  let v25 : BitVec 32 := Scalar.subi v22 v24
  let v26 : BitVec 1 := Scalar.cmpi .ne v20 v25
  let v27 : BitVec 32 := Scalar.remsi v14 c1024_i32_8
  let c0_i32_12 : BitVec 32 := 0#32
  let v28 : BitVec 1 := Scalar.cmpi .ne v27 c0_i32_12
  let v29 : BitVec 1 := Scalar.andi v26 v28
  let v15 : BitVec 32 := Scalar.divsi v14 c1024_i32_8
  let c1_i32 : BitVec 32 := 1#32
  let v30 : BitVec 32 := Scalar.subi v15 c1_i32
  let v31 : BitVec 32 := Scalar.select v29 v30 v15
  let c0_i32_17 : BitVec 32 := 0#32
  let v39 : BitVec 32 := Scalar.addi v31 c0_i32_17
  let c1024_i32_18 : BitVec 32 := 1024#32
  let v40 : BitVec 32 := Scalar.muli v39 c1024_i32_18
  let v41 : BitVec 32 := v40
  let v42 : Index := Scalar.indexCast v41
  let c0_19 : Index := 0#32
  ![v42.toNat, 0]
def k0_off6 (i : grid0.Coords) : Fin 4 → Nat :=
  let c0_22 : Index := 0#32
  let arg1 : BitVec 32 := BitVec.ofNat 32 (i 1).val
  let c1024_i32 : BitVec 32 := 1024#32
  let v14 : BitVec 32 := Scalar.muli arg1 c1024_i32
  let c0_i32 : BitVec 32 := 0#32
  let v16 : BitVec 1 := Scalar.cmpi .sgt v14 c0_i32
  let v17 : BitVec 32 := Scalar.extui v16
  let c0_i32_9 : BitVec 32 := 0#32
  let v18 : BitVec 1 := Scalar.cmpi .slt v14 c0_i32_9
  let v19 : BitVec 32 := Scalar.extui v18
  let v20 : BitVec 32 := Scalar.subi v17 v19
  let c1024_i32_8 : BitVec 32 := 1024#32
  let c0_i32_10 : BitVec 32 := 0#32
  let v21 : BitVec 1 := Scalar.cmpi .sgt c1024_i32_8 c0_i32_10
  let v22 : BitVec 32 := Scalar.extui v21
  let c0_i32_11 : BitVec 32 := 0#32
  let v23 : BitVec 1 := Scalar.cmpi .slt c1024_i32_8 c0_i32_11
  let v24 : BitVec 32 := Scalar.extui v23
  let v25 : BitVec 32 := Scalar.subi v22 v24
  let v26 : BitVec 1 := Scalar.cmpi .ne v20 v25
  let v27 : BitVec 32 := Scalar.remsi v14 c1024_i32_8
  let c0_i32_12 : BitVec 32 := 0#32
  let v28 : BitVec 1 := Scalar.cmpi .ne v27 c0_i32_12
  let v29 : BitVec 1 := Scalar.andi v26 v28
  let v15 : BitVec 32 := Scalar.divsi v14 c1024_i32_8
  let c1_i32 : BitVec 32 := 1#32
  let v30 : BitVec 32 := Scalar.subi v15 c1_i32
  let v31 : BitVec 32 := Scalar.select v29 v30 v15
  let c0_i32_17 : BitVec 32 := 0#32
  let v39 : BitVec 32 := Scalar.addi v31 c0_i32_17
  let v47 : Index := Scalar.indexCast v39
  let c0_23 : Index := 0#32
  let c0_24 : Index := 0#32
  ![0, v47.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel20Ideal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | "scale_log2e" => some (((Real.sqrt 128)⁻¹ * (Real.log 2)⁻¹ : ℝ) : EReal)
  | _ => none
-- ==== Reference20Ideal.lean ====
abbrev S4096x3072 : Shape := ⟨2, ![4096, 3072]⟩
abbrev S4096x128 : Shape := ⟨2, ![4096, 128]⟩
abbrev S4096x1024 : Shape := ⟨2, ![4096, 1024]⟩
abbrev S4096x8x128 : Shape := ⟨3, ![4096, 8, 128]⟩
abbrev S4096x8 : Shape := ⟨2, ![4096, 8]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4x1x1024 : Shape := ⟨4, ![8, 4, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x128, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .f32⟩
  | .hbm, ⟨6, _⟩ => ⟨S4096x8x128, .f32⟩
  | .hbm, ⟨7, _⟩ => ⟨S4096x1024, .f32⟩
  | .hbm, ⟨8, _⟩ => ⟨S4096x8x128, .f32⟩
  | .hbm, ⟨9, _⟩ => ⟨S4096x1024, .f32⟩
  | .hbm, ⟨10, _⟩ => ⟨S4096x8x128, .f32⟩
  | .hbm, ⟨11, _⟩ => ⟨S4096x8, .f32⟩
  | .hbm, ⟨12, _⟩ => ⟨S8x4096x4096, .f32⟩
  | .hbm, ⟨13, _⟩ => ⟨S_, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096, .f32⟩
  | .hbm, ⟨18, _⟩ => ⟨S8x4096x1, .f32⟩
  | .hbm, ⟨19, _⟩ => ⟨S8x4096x4096, .f32⟩
  | .hbm, ⟨20, _⟩ => ⟨S8x4096x4096, .f32⟩
  | .hbm, ⟨21, _⟩ => ⟨S8x4096, .f32⟩
  | .hbm, ⟨22, _⟩ => ⟨S8x1x4096, .f32⟩
  | .hbm, ⟨23, _⟩ => ⟨S8x4096x4096, .f32⟩
  | .hbm, ⟨24, _⟩ => ⟨S8x4096x4096, .f32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096, .f32⟩
  | .hbm, ⟨45, _⟩ => ⟨S8x4096, .f32⟩
  | .hbm, ⟨46, _⟩ => ⟨S8x4096x4096, .f32⟩
  | .hbm, ⟨47, _⟩ => ⟨S_, .f32⟩
  | .hbm, ⟨48, _⟩ => ⟨S_, .f32⟩
  | .hbm, ⟨49, _⟩ => ⟨S8x4096x4096, .f32⟩
  | .hbm, ⟨50, _⟩ => ⟨S8x4096x4096, .f32⟩
  | .hbm, ⟨51, _⟩ => ⟨S8x4096, .f32⟩
  | .hbm, ⟨52, _⟩ => ⟨S8x4096x1, .f32⟩
  | .hbm, ⟨53, _⟩ => ⟨S8x4096x4096, .f32⟩
  | .hbm, ⟨54, _⟩ => ⟨S8x4096x4096, .f32⟩
  | .hbm, ⟨55, _⟩ => ⟨S8x4096, .f32⟩
  | .hbm, ⟨56, _⟩ => ⟨S8x1x4096, .f32⟩
  | .hbm, ⟨57, _⟩ => ⟨S8x4096x4096, .f32⟩
  | .hbm, ⟨58, _⟩ => ⟨S8x4096x4096, .f32⟩
  | .hbm, ⟨59, _⟩ => ⟨S4096, .i32⟩
  | .hbm, ⟨60, _⟩ => ⟨S1x4096, .i32⟩
  | .hbm, ⟨61, _⟩ => ⟨S4096x1, .i32⟩
  | .hbm, ⟨62, _⟩ => ⟨S4096x4096, .i32⟩
  | .hbm, ⟨63, _⟩ => ⟨S4096x4096, .i32⟩
  | .hbm, ⟨64, _⟩ => ⟨S4096x4096, .i1⟩
  | .hbm, ⟨65, _⟩ => ⟨S_, .f32⟩
  | .hbm, ⟨66, _⟩ => ⟨S_, .f32⟩
  | .hbm, ⟨67, _⟩ => ⟨S8x4096x4096, .i1⟩
  | .hbm, ⟨68, _⟩ => ⟨S8x4096x4096, .f32⟩
  | .hbm, ⟨69, _⟩ => ⟨S8x4096x4096, .f32⟩
  | .hbm, ⟨70, _⟩ => ⟨S_, .f32⟩
  | .hbm, ⟨71, _⟩ => ⟨S8x4096, .f32⟩
  | .hbm, ⟨72, _⟩ => ⟨S_, .f32⟩
  | .hbm, ⟨73, _⟩ => ⟨S8x4096, .f32⟩
  | .hbm, ⟨74, _⟩ => ⟨S8x4096, .f32⟩
  | .hbm, ⟨75, _⟩ => ⟨S8x4096x1, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096, .f32⟩
  | .hbm, ⟨81, _⟩ => ⟨S8x4096x1, .f32⟩
  | .hbm, ⟨82, _⟩ => ⟨S8x4096x4096, .f32⟩
  | .hbm, ⟨83, _⟩ => ⟨S8x4096x4096, .f32⟩
  | .hbm, ⟨84, _⟩ => ⟨S8x128x4096, .f32⟩
  | .hbm, ⟨85, _⟩ => ⟨S4096x8x128, .f32⟩
  | .hbm, ⟨86, _⟩ => ⟨S4096x1024, .f32⟩
  | .hbm, ⟨87, _⟩ => ⟨S4096x1024, .bf16⟩
  | .hbm, ⟨88, _⟩ => ⟨S8x4x1x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v55 : Ref sig .tc := ⟨.hbm, 69, rfl⟩
abbrev main_cst_5 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_7 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Kernel21.lean ====
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference21Ideal.lean ====
abbrev S1x256x1024 : Shape := ⟨3, ![1, 256, 1024]⟩
abbrev S256x1024 : Shape := ⟨2, ![256, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S_, .f32⟩
  | .hbm, ⟨6, _⟩ => ⟨S1x256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S_, .f32⟩
  | .hbm, ⟨17, _⟩ => ⟨S1x256x1024, .f32⟩
  | .hbm, ⟨18, _⟩ => ⟨S1x256x1024, .f32⟩
  | .hbm, ⟨19, _⟩ => ⟨S1x256x1024, .f32⟩
  | .hbm, ⟨20, _⟩ => ⟨S_, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel22.lean ====
abbrev S1x1024x1408 : Shape := ⟨3, ![1, 1024, 1408]⟩
abbrev S1024x1408 : Shape := ⟨2, ![1024, 1408]⟩
abbrev S1x256x1408 : Shape := ⟨3, ![1, 256, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S1x1024x1408, .f32⟩
  | .hbm, ⟨6, _⟩ => ⟨S1x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S256x1408, .f32⟩
  | .local _ .vmem, ⟨3, _⟩ => ⟨S256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | _, _ => ⟨S1x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference22Ideal.lean ====
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024x1408, .f32⟩
  | .hbm, ⟨1, _⟩ => ⟨S1024x1408, .f32⟩
  | .hbm, ⟨2, _⟩ => ⟨S1x1024x1408, .f32⟩
  | .hbm, ⟨3, _⟩ => ⟨S1x1024x1408, .f32⟩
  | .hbm, ⟨4, _⟩ => ⟨S1x1024x1408, .f32⟩
  | .hbm, ⟨5, _⟩ => ⟨S_, .f32⟩
  | .hbm, ⟨6, _⟩ => ⟨S1x1024x1408, .f32⟩
  | .hbm, ⟨7, _⟩ => ⟨S1x1024x1408, .f32⟩
  | .hbm, ⟨8, _⟩ => ⟨S_, .f32⟩
  | .hbm, ⟨9, _⟩ => ⟨S1x1024x1408, .f32⟩
  | .hbm, ⟨10, _⟩ => ⟨S1x1024x1408, .f32⟩
  | .hbm, ⟨11, _⟩ => ⟨S1x1024x1408, .f32⟩
  | .hbm, ⟨12, _⟩ => ⟨S_, .f32⟩
  | .hbm, ⟨13, _⟩ => ⟨S1x1024x1408, .f32⟩
  | .hbm, ⟨14, _⟩ => ⟨S1x1024x1408, .f32⟩
  | .hbm, ⟨15, _⟩ => ⟨S1x1024x1408, .f32⟩
  | .hbm, ⟨16, _⟩ => ⟨S_, .f32⟩
  | .hbm, ⟨17, _⟩ => ⟨S1x1024x1408, .f32⟩
  | .hbm, ⟨18, _⟩ => ⟨S1x1024x1408, .f32⟩
  | .hbm, ⟨19, _⟩ => ⟨S1x1024x1408, .f32⟩
  | .hbm, ⟨20, _⟩ => ⟨S_, .f32⟩
  | .hbm, ⟨21, _⟩ => ⟨S1x1024x1408, .f32⟩
  | .hbm, ⟨22, _⟩ => ⟨S1x1024x1408, .f32⟩
  | .hbm, ⟨23, _⟩ => ⟨S_, .f32⟩
  | .hbm, ⟨24, _⟩ => ⟨S1x1024x1408, .f32⟩
  | .hbm, ⟨25, _⟩ => ⟨S1x1024x1408, .f32⟩
  | .hbm, ⟨26, _⟩ => ⟨S1x1024x1408, .f32⟩
  | .hbm, ⟨27, _⟩ => ⟨S_, .f32⟩
  | .hbm, ⟨28, _⟩ => ⟨S1x1024x1408, .f32⟩
  | .hbm, ⟨29, _⟩ => ⟨S1x1024x1408, .f32⟩
  | .hbm, ⟨30, _⟩ => ⟨S1x1024x1408, .f32⟩
  | .hbm, ⟨31, _⟩ => ⟨S_, .f32⟩
  | .hbm, ⟨32, _⟩ => ⟨S1x1024x1408, .f32⟩
  | .hbm, ⟨33, _⟩ => ⟨S1x1024x1408, .f32⟩
  | .hbm, ⟨34, _⟩ => ⟨S1x1024x1408, .f32⟩
  | .hbm, ⟨35, _⟩ => ⟨S_, .f32⟩
  | .hbm, ⟨36, _⟩ => ⟨S1x1024x1408, .f32⟩
  | .hbm, ⟨37, _⟩ => ⟨S1x1024x1408, .f32⟩
  | _, _ => ⟨S1x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel23.lean ====
abbrev S1x704x1024 : Shape := ⟨3, ![1, 704, 1024]⟩
abbrev S704x1024 : Shape := ⟨2, ![704, 1024]⟩
abbrev S1x176x1024 : Shape := ⟨3, ![1, 176, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S176x1024, .f32⟩
  | .local _ .vmem, ⟨3, _⟩ => ⟨S176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference23Ideal.lean ====
abbrev S1x704x1024 : Shape := ⟨3, ![1, 704, 1024]⟩
abbrev S704x1024 : Shape := ⟨2, ![704, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S_, .f32⟩
  | .hbm, ⟨6, _⟩ => ⟨S1x704x1024, .f32⟩
  | .hbm, ⟨7, _⟩ => ⟨S1x704x1024, .f32⟩
  | .hbm, ⟨8, _⟩ => ⟨S_, .f32⟩
  | .hbm, ⟨9, _⟩ => ⟨S1x704x1024, .f32⟩
  | .hbm, ⟨10, _⟩ => ⟨S1x704x1024, .f32⟩
  | .hbm, ⟨11, _⟩ => ⟨S1x704x1024, .f32⟩
  | .hbm, ⟨12, _⟩ => ⟨S_, .f32⟩
  | .hbm, ⟨13, _⟩ => ⟨S1x704x1024, .f32⟩
  | .hbm, ⟨14, _⟩ => ⟨S1x704x1024, .f32⟩
  | .hbm, ⟨15, _⟩ => ⟨S1x704x1024, .f32⟩
  | .hbm, ⟨16, _⟩ => ⟨S_, .f32⟩
  | .hbm, ⟨17, _⟩ => ⟨S1x704x1024, .f32⟩
  | .hbm, ⟨18, _⟩ => ⟨S1x704x1024, .f32⟩
  | .hbm, ⟨19, _⟩ => ⟨S1x704x1024, .f32⟩
  | .hbm, ⟨20, _⟩ => ⟨S_, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S1x704x1024, .f32⟩
  | .hbm, ⟨27, _⟩ => ⟨S_, .f32⟩
  | .hbm, ⟨28, _⟩ => ⟨S1x704x1024, .f32⟩
  | .hbm, ⟨29, _⟩ => ⟨S1x704x1024, .f32⟩
  | .hbm, ⟨30, _⟩ => ⟨S1x704x1024, .f32⟩
  | .hbm, ⟨31, _⟩ => ⟨S_, .f32⟩
  | .hbm, ⟨32, _⟩ => ⟨S1x704x1024, .f32⟩
  | .hbm, ⟨33, _⟩ => ⟨S1x704x1024, .f32⟩
  | .hbm, ⟨34, _⟩ => ⟨S1x704x1024, .f32⟩
  | .hbm, ⟨35, _⟩ => ⟨S_, .f32⟩
  | .hbm, ⟨36, _⟩ => ⟨S1x704x1024, .f32⟩
  | .hbm, ⟨37, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel24.lean ====
abbrev S1x2052x1024 : Shape := ⟨3, ![1, 2052, 1024]⟩
abbrev S2052x1024 : Shape := ⟨2, ![2052, 1024]⟩
abbrev S1x2052x256 : Shape := ⟨3, ![1, 2052, 256]⟩
abbrev S2052x256 : Shape := ⟨2, ![2052, 256]⟩

abbrev nBuf : Space → Nat
  | .hbm => 7
  | .vmem => 14
  | .smem => 0
  | _ => 0

abbrev bufTy : (tb : Table) → Fin (tcTables nBuf tb) → BufTy
  | .hbm, ⟨0, _⟩ => ⟨S1x2052x1024, .f32⟩
  | .hbm, ⟨1, _⟩ => ⟨S2052x1024, .f32⟩
  | .hbm, ⟨2, _⟩ => ⟨S1x2052x1024, .f32⟩
  | .hbm, ⟨3, _⟩ => ⟨S1x2052x1024, .f32⟩
  | .hbm, ⟨4, _⟩ => ⟨S1x2052x1024, .f32⟩
  | .hbm, ⟨5, _⟩ => ⟨S1x2052x1024, .f32⟩
  | .hbm, ⟨6, _⟩ => ⟨S1x2052x1024, .f32⟩
  | .local _ .vmem, ⟨0, _⟩ => ⟨S1x2052x256, .f32⟩
  | .local _ .vmem, ⟨1, _⟩ => ⟨S1x2052x256, .f32⟩
  | .local _ .vmem, ⟨2, _⟩ => ⟨S2052x256, .f32⟩
  | .local _ .vmem, ⟨3, _⟩ => ⟨S2052x256, .f32⟩
  | .local _ .vmem, ⟨4, _⟩ => ⟨S1x2052x256, .f32⟩
  | .local _ .vmem, ⟨5, _⟩ => ⟨S1x2052x256, .f32⟩
  | .local _ .vmem, ⟨6, _⟩ => ⟨S1x2052x256, .f32⟩
  | .local _ .vmem, ⟨7, _⟩ => ⟨S1x2052x256, .f32⟩
  | .local _ .vmem, ⟨8, _⟩ => ⟨S1x2052x256, .f32⟩
  | .local _ .vmem, ⟨9, _⟩ => ⟨S1x2052x256, .f32⟩
  | .local _ .vmem, ⟨10, _⟩ => ⟨S1x2052x256, .f32⟩
  | .local _ .vmem, ⟨11, _⟩ => ⟨S1x2052x256, .f32⟩
  | .local _ .vmem, ⟨12, _⟩ => ⟨S1x2052x256, .f32⟩
  | .local _ .vmem, ⟨13, _⟩ => ⟨S1x2052x256, .f32⟩
  | _, _ => ⟨S1x2052x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x2052x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2052x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2052x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2052x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2052x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2052x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2052x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference24Ideal.lean ====
abbrev S1x2052x1024 : Shape := ⟨3, ![1, 2052, 1024]⟩
abbrev S2052x1024 : Shape := ⟨2, ![2052, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2052x1024, .f32⟩
  | .hbm, ⟨1, _⟩ => ⟨S2052x1024, .f32⟩
  | .hbm, ⟨2, _⟩ => ⟨S1x2052x1024, .f32⟩
  | .hbm, ⟨3, _⟩ => ⟨S1x2052x1024, .f32⟩
  | .hbm, ⟨4, _⟩ => ⟨S1x2052x1024, .f32⟩
  | .hbm, ⟨5, _⟩ => ⟨S_, .f32⟩
  | .hbm, ⟨6, _⟩ => ⟨S1x2052x1024, .f32⟩
  | .hbm, ⟨7, _⟩ => ⟨S1x2052x1024, .f32⟩
  | .hbm, ⟨8, _⟩ => ⟨S_, .f32⟩
  | .hbm, ⟨9, _⟩ => ⟨S1x2052x1024, .f32⟩
  | .hbm, ⟨10, _⟩ => ⟨S1x2052x1024, .f32⟩
  | .hbm, ⟨11, _⟩ => ⟨S1x2052x1024, .f32⟩
  | .hbm, ⟨12, _⟩ => ⟨S_, .f32⟩
  | .hbm, ⟨13, _⟩ => ⟨S1x2052x1024, .f32⟩
  | .hbm, ⟨14, _⟩ => ⟨S1x2052x1024, .f32⟩
  | .hbm, ⟨15, _⟩ => ⟨S1x2052x1024, .f32⟩
  | .hbm, ⟨16, _⟩ => ⟨S_, .f32⟩
  | .hbm, ⟨17, _⟩ => ⟨S1x2052x1024, .f32⟩
  | .hbm, ⟨18, _⟩ => ⟨S1x2052x1024, .f32⟩
  | .hbm, ⟨19, _⟩ => ⟨S1x2052x1024, .f32⟩
  | .hbm, ⟨20, _⟩ => ⟨S_, .f32⟩
  | .hbm, ⟨21, _⟩ => ⟨S1x2052x1024, .f32⟩
  | .hbm, ⟨22, _⟩ => ⟨S1x2052x1024, .f32⟩
  | .hbm, ⟨23, _⟩ => ⟨S_, .f32⟩
  | .hbm, ⟨24, _⟩ => ⟨S1x2052x1024, .f32⟩
  | .hbm, ⟨25, _⟩ => ⟨S1x2052x1024, .f32⟩
  | .hbm, ⟨26, _⟩ => ⟨S1x2052x1024, .f32⟩
  | .hbm, ⟨27, _⟩ => ⟨S_, .f32⟩
  | .hbm, ⟨28, _⟩ => ⟨S1x2052x1024, .f32⟩
  | .hbm, ⟨29, _⟩ => ⟨S1x2052x1024, .f32⟩
  | .hbm, ⟨30, _⟩ => ⟨S1x2052x1024, .f32⟩
  | .hbm, ⟨31, _⟩ => ⟨S_, .f32⟩
  | .hbm, ⟨32, _⟩ => ⟨S1x2052x1024, .f32⟩
  | .hbm, ⟨33, _⟩ => ⟨S1x2052x1024, .f32⟩
  | .hbm, ⟨34, _⟩ => ⟨S1x2052x1024, .f32⟩
  | .hbm, ⟨35, _⟩ => ⟨S_, .f32⟩
  | .hbm, ⟨36, _⟩ => ⟨S1x2052x1024, .f32⟩
  | .hbm, ⟨37, _⟩ => ⟨S1x2052x1024, .f32⟩
  | _, _ => ⟨S1x2052x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Kernel25.lean ====
abbrev S1x168x128 : Shape := ⟨3, ![1, 168, 128]⟩
abbrev S168x128 : Shape := ⟨2, ![168, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x168x128, .f32⟩
  | .hbm, ⟨1, _⟩ => ⟨S168x128, .f32⟩
  | .hbm, ⟨2, _⟩ => ⟨S1x168x128, .f32⟩
  | .hbm, ⟨3, _⟩ => ⟨S1x168x128, .f32⟩
  | .hbm, ⟨4, _⟩ => ⟨S1x168x128, .f32⟩
  | .hbm, ⟨5, _⟩ => ⟨S1x168x128, .f32⟩
  | .hbm, ⟨6, _⟩ => ⟨S1x168x128, .f32⟩
  | .local _ .vmem, ⟨0, _⟩ => ⟨S1x168x128, .f32⟩
  | .local _ .vmem, ⟨1, _⟩ => ⟨S168x128, .f32⟩
  | .local _ .vmem, ⟨2, _⟩ => ⟨S1x168x128, .f32⟩
  | .local _ .vmem, ⟨3, _⟩ => ⟨S1x168x128, .f32⟩
  | .local _ .vmem, ⟨4, _⟩ => ⟨S1x168x128, .f32⟩
  | .local _ .vmem, ⟨5, _⟩ => ⟨S1x168x128, .f32⟩
  | .local _ .vmem, ⟨6, _⟩ => ⟨S1x168x128, .f32⟩
  | _, _ => ⟨S1x168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S1x168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x168x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x168x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x168x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference25Ideal.lean ====
abbrev S1x168x128 : Shape := ⟨3, ![1, 168, 128]⟩
abbrev S168x128 : Shape := ⟨2, ![168, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x168x128, .f32⟩
  | .hbm, ⟨1, _⟩ => ⟨S168x128, .f32⟩
  | .hbm, ⟨2, _⟩ => ⟨S1x168x128, .f32⟩
  | .hbm, ⟨3, _⟩ => ⟨S1x168x128, .f32⟩
  | .hbm, ⟨4, _⟩ => ⟨S1x168x128, .f32⟩
  | .hbm, ⟨5, _⟩ => ⟨S_, .f32⟩
  | .hbm, ⟨6, _⟩ => ⟨S1x168x128, .f32⟩
  | .hbm, ⟨7, _⟩ => ⟨S1x168x128, .f32⟩
  | .hbm, ⟨8, _⟩ => ⟨S_, .f32⟩
  | .hbm, ⟨9, _⟩ => ⟨S1x168x128, .f32⟩
  | .hbm, ⟨10, _⟩ => ⟨S1x168x128, .f32⟩
  | .hbm, ⟨11, _⟩ => ⟨S1x168x128, .f32⟩
  | .hbm, ⟨12, _⟩ => ⟨S_, .f32⟩
  | .hbm, ⟨13, _⟩ => ⟨S1x168x128, .f32⟩
  | .hbm, ⟨14, _⟩ => ⟨S1x168x128, .f32⟩
  | .hbm, ⟨15, _⟩ => ⟨S1x168x128, .f32⟩
  | .hbm, ⟨16, _⟩ => ⟨S_, .f32⟩
  | .hbm, ⟨17, _⟩ => ⟨S1x168x128, .f32⟩
  | .hbm, ⟨18, _⟩ => ⟨S1x168x128, .f32⟩
  | .hbm, ⟨19, _⟩ => ⟨S1x168x128, .f32⟩
  | .hbm, ⟨20, _⟩ => ⟨S_, .f32⟩
  | .hbm, ⟨21, _⟩ => ⟨S1x168x128, .f32⟩
  | .hbm, ⟨22, _⟩ => ⟨S1x168x128, .f32⟩
  | .hbm, ⟨23, _⟩ => ⟨S_, .f32⟩
  | .hbm, ⟨24, _⟩ => ⟨S1x168x128, .f32⟩
  | .hbm, ⟨25, _⟩ => ⟨S1x168x128, .f32⟩
  | .hbm, ⟨26, _⟩ => ⟨S1x168x128, .f32⟩
  | .hbm, ⟨27, _⟩ => ⟨S_, .f32⟩
  | .hbm, ⟨28, _⟩ => ⟨S1x168x128, .f32⟩
  | .hbm, ⟨29, _⟩ => ⟨S1x168x128, .f32⟩
  | .hbm, ⟨30, _⟩ => ⟨S1x168x128, .f32⟩
  | .hbm, ⟨31, _⟩ => ⟨S_, .f32⟩
  | .hbm, ⟨32, _⟩ => ⟨S1x168x128, .f32⟩
  | .hbm, ⟨33, _⟩ => ⟨S1x168x128, .f32⟩
  | .hbm, ⟨34, _⟩ => ⟨S1x168x128, .f32⟩
  | .hbm, ⟨35, _⟩ => ⟨S_, .f32⟩
  | .hbm, ⟨36, _⟩ => ⟨S1x168x128, .f32⟩
  | .hbm, ⟨37, _⟩ => ⟨S1x168x128, .f32⟩
  | _, _ => ⟨S1x168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.Adam.Step.lean ====
/- The optimiser's step on one element of a weight, and on a whole weight. -/
module

public import Idealize.ShloMosaic.Lib.Pointwise
public import Idealize.ShloMosaic.Lib.Pipeline.ValueKit
public import Idealize.ShloMosaic.PureOps.Ideal

@[expose] public section

noncomputable section

namespace Cert.Adam

open Idealize.ShloMosaic Idealize.ShloMosaic.TcCoe

abbrev E := Ideal .f32

/-- The new first moment `0.9 m + 0.1 g`, the new second moment `0.999 v + 0.001 g²`, and the change of the weight. -/
def m₁ (g m : E) : E := Ideal.ofBits .f32 0x3F666666#32 * m + Ideal.ofBits .f32 0x3DCCCCCD#32 * g
def v₁ (g v : E) : E := Ideal.ofBits .f32 0x3F7FBE77#32 * v + Ideal.ofBits .f32 0x3A83126F#32 * (g * g)
def d₁ (w g m v : E) : E := Ideal.ofBits .f32 0xBA83126F#32 *
  (Ideal.div (Ideal.div (m₁ g m) (Ideal.ofBits .f32 0x3F26BD02#32))
    (Ideal.sqrt (Ideal.div (v₁ g v) (Ideal.ofBits .f32 0x3C231ACC#32)) + Ideal.ofBits .f32 0x322BCC77#32)
    + Ideal.ofBits .f32 0x3C23D70A#32 * w)

/-- The same on a weight of `M` rows and `K` columns. -/
abbrev W (M K : ℕ) := FVec Ideal ⟨3, ![1, M, K]⟩ .f32
abbrev W₂ (M K : ℕ) := FVec Ideal ⟨2, ![M, K]⟩ .f32
def newM {M K : ℕ} (g : W₂ M K) (m : W M K) : W M K := fun x => m₁ (g (ix2 (x 1) (x 2))) (m x)
def newV {M K : ℕ} (g : W₂ M K) (v : W M K) : W M K := fun x => v₁ (g (ix2 (x 1) (x 2))) (v x)
def delta {M K : ℕ} (w : W M K) (g : W₂ M K) (m v : W M K) : W M K := fun x => d₁ (w x) (g (ix2 (x 1) (x 2))) (m x) (v x)

theorem ext {M K : ℕ} {a b : W M K} (h : ∀ i j, a (ix3 0 i j) = b (ix3 0 i j)) : a = b := funext fun x => by
  obtain ⟨p, i, j, rfl⟩ : ∃ (p : Fin 1) (i : Fin M) (j : Fin K), x = ix3 p i j := ⟨_, _, _, eq_ix3 x⟩
  rw [Subsingleton.elim p 0]; exact h i j

/-! The reference's terms are these. -/

section
variable {M K : ℕ} (w : W M K) (g : W₂ M K) (m v : W M K)
  (h₀ : Shape.BroadcastsInDim ⟨0, ![]⟩ ⟨3, ![1, M, K]⟩ ![]) (h₂ : Shape.BroadcastsInDim ⟨2, ![M, K]⟩ ⟨3, ![1, M, K]⟩ ![1, 2])

/-- A constant and the gradient, spread over the weight's shape. -/
abbrev cst (b : BitVec 32) : W M K := broadcastInDim ⟨3, ![1, M, K]⟩ ![] h₀ (constant ⟨0, ![]⟩ .f32 b)
abbrev grad : W M K := broadcastInDim ⟨3, ![1, M, K]⟩ ![1, 2] h₂ g

theorem grad_eq : grad g h₂ = fun x => g (ix2 (x 1) (x 2)) := funext fun x => congrArg g (funext fun a => Fin.ext (by
  match a with
  | ⟨0, _⟩ => dsimp only; split <;> rename_i e
              · have : (x 1).val < M := (x 1).isLt
                have e : M = 1 := e
                show 0 = (x 1).val; omega
              · rfl
  | ⟨1, _⟩ => dsimp only; split <;> rename_i e
              · have : (x 2).val < K := (x 2).isLt
                have e : K = 1 := e
                show 0 = (x 2).val; omega
              · rfl))

theorem ref_newM : addf (mulf (cst h₀ 0x3F666666#32) m) (mulf (cst h₀ 0x3DCCCCCD#32) (grad g h₂)) = newM g m := by
  rw [grad_eq]; rfl
theorem ref_newV : addf (mulf (cst h₀ 0x3F7FBE77#32) v) (mulf (cst h₀ 0x3A83126F#32) (mulf (grad g h₂) (grad g h₂))) = newV g v := by
  rw [grad_eq]; rfl
theorem ref_delta : mulf (cst h₀ 0xBA83126F#32) (addf (Host.divf
      (Host.divf (addf (mulf (cst h₀ 0x3F666666#32) m) (mulf (cst h₀ 0x3DCCCCCD#32) (grad g h₂))) (cst h₀ 0x3F26BD02#32))
      (addf (Host.sqrt (Host.divf (addf (mulf (cst h₀ 0x3F7FBE77#32) v) (mulf (cst h₀ 0x3A83126F#32) (mulf (grad g h₂) (grad g h₂))))
        (cst h₀ 0x3C231ACC#32))) (cst h₀ 0x322BCC77#32))) (mulf (cst h₀ 0x3C23D70A#32) w)) = delta w g m v := by
  rw [grad_eq]; rfl
end

end Cert.Adam

end
-- ==== Proof.Adam.K21.lean ====
/- The optimiser's kernel on a square projection: what it leaves is the step of its arguments. -/
module

public import proofs.«01_k».proof.Proof.Gen.Kernel21Ideal.Value
public import proofs.«01_k».proof.Proof.Adam.Step

@[expose] public section

set_option maxRecDepth 16384

noncomputable section

namespace Cert.Kernel21Ideal.Adam

open Idealize.ShloMosaic Idealize.ShloMosaic.TcCoe Cert.Adam
open Cert.Kernel21Ideal Cert.Kernel21Ideal.Gen

section
variable (w : Vec Ideal S1x256x1024 .f32) (g : Vec Ideal S256x1024 .f32) (m v : Vec Ideal S1x256x1024 .f32)

theorem ld0 : View.ld g r0_0 = g := View.ld_unit_lit _ _ (by decide)
theorem ld1 : View.ld w r0_1 = w := View.ld_unit_lit _ _ (by decide)
theorem out4 : out0_4 w g m v = delta w g m v :=
  (View.canon_cons_unit_lit _ _ _ (by decide)).trans (by
    rw [ld0, ld1, ld1, ld1]; exact ext fun i j => by pointwise [k0_pay5, k0_pay3, k0_pay4]; rfl)
theorem out5 : out0_5 w g m v = newM g m :=
  (View.canon_cons_unit_lit _ _ _ (by decide)).trans (by
    rw [ld0, ld1]; exact ext fun i j => by pointwise [k0_pay1, k0_pay3]; rfl)
theorem out6 : out0_6 w g m v = newV g v :=
  (View.canon_cons_unit_lit _ _ _ (by decide)).trans (by
    rw [ld0, ld1]; exact ext fun i j => by pointwise [k0_pay2, k0_pay4]; rfl)
end

theorem idx : ∀ t : Fin grid0.N, win0_1.index t 0 = win0_4.index t 1 ∧ win0_1.index t 1 = win0_4.index t 2 := by decide +kernel

variable (m : (ℓ : Loc nD τ sig) → Buf (Elt Ideal) ℓ) (c : Dev nD)

def A0 : FVec Ideal S1x256x1024 .f32 := m ((c.tc : Thread nD τ).loc main_arg0)
def A1 : FVec Ideal S256x1024 .f32 := m ((c.tc : Thread nD τ).loc main_arg1)
def A2 : FVec Ideal S1x256x1024 .f32 := m ((c.tc : Thread nD τ).loc main_arg2)
def A3 : FVec Ideal S1x256x1024 .f32 := m ((c.tc : Thread nD τ).loc main_arg3)

/-- Where point `t`'s block lies in the arrays. -/
abbrev at4 (t : Fin cfg0.N) (y : S1x256x1024.Idx) : S1x256x1024.Idx := ((cfg0.win 4).blk t).view.emb y

/-- What it reads of the gradient. -/
theorem blk1 (t : Fin cfg0.N) (y : S1x256x1024.Idx) : iblk m c 1 t (ix2 (y 1) (y 2)) = A1 m c (ix2 (at4 t y 1) (at4 t y 2)) := by
  unfold iblk
  rw [View.read_apply]
  refine congrArg (A1 m c) (funext fun e => Fin.ext ?_)
  match e with
  | ⟨0, _⟩ => show win0_1.index t 0 * _ + 1 * _ = win0_4.index t 1 * _ + 1 * _; rw [(idx t).1]; rfl
  | ⟨1, _⟩ => show win0_1.index t 1 * _ + 1 * _ = win0_4.index t 2 * _ + 1 * _; rw [(idx t).2]; rfl

theorem final4 : (dats m 0 c).arrAt 4 cfg0.N = delta (A0 m c) (A1 m c) (A2 m c) (A3 m c) :=
  (dats m 0 c).arrAt_eq_of_covers 4 _ (by decide +kernel) fun t hf y =>
    ((congrFun (after0_4 m c t) y).trans (congrFun (out4 _ _ _ _) y)).trans
      (by unfold delta; rw [blk1]; rfl)
theorem final5 : (dats m 0 c).arrAt 5 cfg0.N = newM (A1 m c) (A2 m c) :=
  (dats m 0 c).arrAt_eq_of_covers 5 _ (by decide +kernel) fun t hf y =>
    ((congrFun (after0_5 m c t) y).trans (congrFun (out5 _ _ _ _) y)).trans
      (by unfold newM; rw [blk1]; rfl)
theorem final6 : (dats m 0 c).arrAt 6 cfg0.N = newV (A1 m c) (A3 m c) :=
  (dats m 0 c).arrAt_eq_of_covers 6 _ (by decide +kernel) fun t hf y =>
    ((congrFun (after0_6 m c t) y).trans (congrFun (out6 _ _ _ _) y)).trans
      (by unfold newV; rw [blk1]; rfl)

end Cert.Kernel21Ideal.Adam

end
-- ==== Proof.Adam.K22.lean ====
/- The optimiser's kernel on the up projection: what it leaves is the step of its arguments. -/
module

public import proofs.«01_k».proof.Proof.Gen.Kernel22Ideal.Value
public import proofs.«01_k».proof.Proof.Adam.Step

@[expose] public section

set_option maxRecDepth 16384

noncomputable section

namespace Cert.Kernel22Ideal.Adam

open Idealize.ShloMosaic Idealize.ShloMosaic.TcCoe Cert.Adam
open Cert.Kernel22Ideal Cert.Kernel22Ideal.Gen

section
variable (w : Vec Ideal S1x256x1408 .f32) (g : Vec Ideal S256x1408 .f32) (m v : Vec Ideal S1x256x1408 .f32)

theorem ld0 : View.ld g r0_0 = g := View.ld_unit_lit _ _ (by decide)
theorem ld1 : View.ld w r0_1 = w := View.ld_unit_lit _ _ (by decide)
theorem out4 : out0_4 w g m v = delta w g m v :=
  (View.canon_cons_unit_lit _ _ _ (by decide)).trans (by
    rw [ld0, ld1, ld1, ld1]; exact ext fun i j => by pointwise [k0_pay5, k0_pay3, k0_pay4]; rfl)
theorem out5 : out0_5 w g m v = newM g m :=
  (View.canon_cons_unit_lit _ _ _ (by decide)).trans (by
    rw [ld0, ld1]; exact ext fun i j => by pointwise [k0_pay1, k0_pay3]; rfl)
theorem out6 : out0_6 w g m v = newV g v :=
  (View.canon_cons_unit_lit _ _ _ (by decide)).trans (by
    rw [ld0, ld1]; exact ext fun i j => by pointwise [k0_pay2, k0_pay4]; rfl)
end

theorem idx : ∀ t : Fin grid0.N, win0_1.index t 0 = win0_4.index t 1 ∧ win0_1.index t 1 = win0_4.index t 2 := by decide +kernel

variable (m : (ℓ : Loc nD τ sig) → Buf (Elt Ideal) ℓ) (c : Dev nD)

def A0 : FVec Ideal S1x1024x1408 .f32 := m ((c.tc : Thread nD τ).loc main_arg0)
def A1 : FVec Ideal S1024x1408 .f32 := m ((c.tc : Thread nD τ).loc main_arg1)
def A2 : FVec Ideal S1x1024x1408 .f32 := m ((c.tc : Thread nD τ).loc main_arg2)
def A3 : FVec Ideal S1x1024x1408 .f32 := m ((c.tc : Thread nD τ).loc main_arg3)

/-- Where point `t`'s block lies in the arrays. -/
abbrev at4 (t : Fin cfg0.N) (y : S1x256x1408.Idx) : S1x1024x1408.Idx := ((cfg0.win 4).blk t).view.emb y

/-- What it reads of the gradient. -/
theorem blk1 (t : Fin cfg0.N) (y : S1x256x1408.Idx) : iblk m c 1 t (ix2 (y 1) (y 2)) = A1 m c (ix2 (at4 t y 1) (at4 t y 2)) := by
  unfold iblk
  rw [View.read_apply]
  refine congrArg (A1 m c) (funext fun e => Fin.ext ?_)
  match e with
  | ⟨0, _⟩ => show win0_1.index t 0 * _ + 1 * _ = win0_4.index t 1 * _ + 1 * _; rw [(idx t).1]; rfl
  | ⟨1, _⟩ => show win0_1.index t 1 * _ + 1 * _ = win0_4.index t 2 * _ + 1 * _; rw [(idx t).2]; rfl

theorem final4 : (dats m 0 c).arrAt 4 cfg0.N = delta (A0 m c) (A1 m c) (A2 m c) (A3 m c) :=
  (dats m 0 c).arrAt_eq_of_covers 4 _ (by decide +kernel) fun t hf y =>
    ((congrFun (after0_4 m c t) y).trans (congrFun (out4 _ _ _ _) y)).trans
      (by unfold delta; rw [blk1]; rfl)
theorem final5 : (dats m 0 c).arrAt 5 cfg0.N = newM (A1 m c) (A2 m c) :=
  (dats m 0 c).arrAt_eq_of_covers 5 _ (by decide +kernel) fun t hf y =>
    ((congrFun (after0_5 m c t) y).trans (congrFun (out5 _ _ _ _) y)).trans
      (by unfold newM; rw [blk1]; rfl)
theorem final6 : (dats m 0 c).arrAt 6 cfg0.N = newV (A1 m c) (A3 m c) :=
  (dats m 0 c).arrAt_eq_of_covers 6 _ (by decide +kernel) fun t hf y =>
    ((congrFun (after0_6 m c t) y).trans (congrFun (out6 _ _ _ _) y)).trans
      (by unfold newV; rw [blk1]; rfl)

end Cert.Kernel22Ideal.Adam

end
-- ==== Proof.Adam.K23.lean ====
/- The optimiser's kernel on the down projection: what it leaves is the step of its arguments. -/
module

public import proofs.«01_k».proof.Proof.Gen.Kernel23Ideal.Value
public import proofs.«01_k».proof.Proof.Adam.Step

@[expose] public section

set_option maxRecDepth 16384

noncomputable section

namespace Cert.Kernel23Ideal.Adam

open Idealize.ShloMosaic Idealize.ShloMosaic.TcCoe Cert.Adam
open Cert.Kernel23Ideal Cert.Kernel23Ideal.Gen

section
variable (w : Vec Ideal S1x176x1024 .f32) (g : Vec Ideal S176x1024 .f32) (m v : Vec Ideal S1x176x1024 .f32)

theorem ld0 : View.ld g r0_0 = g := View.ld_unit_lit _ _ (by decide)
theorem ld1 : View.ld w r0_1 = w := View.ld_unit_lit _ _ (by decide)
theorem out4 : out0_4 w g m v = delta w g m v :=
  (View.canon_cons_unit_lit _ _ _ (by decide)).trans (by
    rw [ld0, ld1, ld1, ld1]; exact ext fun i j => by pointwise [k0_pay5, k0_pay3, k0_pay4]; rfl)
theorem out5 : out0_5 w g m v = newM g m :=
  (View.canon_cons_unit_lit _ _ _ (by decide)).trans (by
    rw [ld0, ld1]; exact ext fun i j => by pointwise [k0_pay1, k0_pay3]; rfl)
theorem out6 : out0_6 w g m v = newV g v :=
  (View.canon_cons_unit_lit _ _ _ (by decide)).trans (by
    rw [ld0, ld1]; exact ext fun i j => by pointwise [k0_pay2, k0_pay4]; rfl)
end

theorem idx : ∀ t : Fin grid0.N, win0_1.index t 0 = win0_4.index t 1 ∧ win0_1.index t 1 = win0_4.index t 2 := by decide +kernel

variable (m : (ℓ : Loc nD τ sig) → Buf (Elt Ideal) ℓ) (c : Dev nD)

def A0 : FVec Ideal S1x704x1024 .f32 := m ((c.tc : Thread nD τ).loc main_arg0)
def A1 : FVec Ideal S704x1024 .f32 := m ((c.tc : Thread nD τ).loc main_arg1)
def A2 : FVec Ideal S1x704x1024 .f32 := m ((c.tc : Thread nD τ).loc main_arg2)
def A3 : FVec Ideal S1x704x1024 .f32 := m ((c.tc : Thread nD τ).loc main_arg3)

/-- Where point `t`'s block lies in the arrays. -/
abbrev at4 (t : Fin cfg0.N) (y : S1x176x1024.Idx) : S1x704x1024.Idx := ((cfg0.win 4).blk t).view.emb y

/-- What it reads of the gradient. -/
theorem blk1 (t : Fin cfg0.N) (y : S1x176x1024.Idx) : iblk m c 1 t (ix2 (y 1) (y 2)) = A1 m c (ix2 (at4 t y 1) (at4 t y 2)) := by
  unfold iblk
  rw [View.read_apply]
  refine congrArg (A1 m c) (funext fun e => Fin.ext ?_)
  match e with
  | ⟨0, _⟩ => show win0_1.index t 0 * _ + 1 * _ = win0_4.index t 1 * _ + 1 * _; rw [(idx t).1]; rfl
  | ⟨1, _⟩ => show win0_1.index t 1 * _ + 1 * _ = win0_4.index t 2 * _ + 1 * _; rw [(idx t).2]; rfl

theorem final4 : (dats m 0 c).arrAt 4 cfg0.N = delta (A0 m c) (A1 m c) (A2 m c) (A3 m c) :=
  (dats m 0 c).arrAt_eq_of_covers 4 _ (by decide +kernel) fun t hf y =>
    ((congrFun (after0_4 m c t) y).trans (congrFun (out4 _ _ _ _) y)).trans
      (by unfold delta; rw [blk1]; rfl)
theorem final5 : (dats m 0 c).arrAt 5 cfg0.N = newM (A1 m c) (A2 m c) :=
  (dats m 0 c).arrAt_eq_of_covers 5 _ (by decide +kernel) fun t hf y =>
    ((congrFun (after0_5 m c t) y).trans (congrFun (out5 _ _ _ _) y)).trans
      (by unfold newM; rw [blk1]; rfl)
theorem final6 : (dats m 0 c).arrAt 6 cfg0.N = newV (A1 m c) (A3 m c) :=
  (dats m 0 c).arrAt_eq_of_covers 6 _ (by decide +kernel) fun t hf y =>
    ((congrFun (after0_6 m c t) y).trans (congrFun (out6 _ _ _ _) y)).trans
      (by unfold newV; rw [blk1]; rfl)

end Cert.Kernel23Ideal.Adam

end
-- ==== Proof.Adam.K24.lean ====
/- The optimiser's kernel on the big projection, transposed: what it leaves is the step of its arguments. -/
module

public import proofs.«01_k».proof.Proof.Gen.Kernel24Ideal.Value
public import proofs.«01_k».proof.Proof.Adam.Step

@[expose] public section

set_option maxRecDepth 16384

noncomputable section

namespace Cert.Kernel24Ideal.Adam

open Idealize.ShloMosaic Idealize.ShloMosaic.TcCoe Cert.Adam
open Cert.Kernel24Ideal Cert.Kernel24Ideal.Gen

section
variable (w : Vec Ideal S1x2052x256 .f32) (g : Vec Ideal S2052x256 .f32) (m v : Vec Ideal S1x2052x256 .f32)

theorem ld0 : View.ld g r0_0 = g := View.ld_unit_lit _ _ (by decide)
theorem ld1 : View.ld w r0_1 = w := View.ld_unit_lit _ _ (by decide)
theorem out4 : out0_4 w g m v = delta w g m v :=
  (View.canon_cons_unit_lit _ _ _ (by decide)).trans (by
    rw [ld0, ld1, ld1, ld1]; exact ext fun i j => by pointwise [k0_pay5, k0_pay3, k0_pay4]; rfl)
theorem out5 : out0_5 w g m v = newM g m :=
  (View.canon_cons_unit_lit _ _ _ (by decide)).trans (by
    rw [ld0, ld1]; exact ext fun i j => by pointwise [k0_pay1, k0_pay3]; rfl)
theorem out6 : out0_6 w g m v = newV g v :=
  (View.canon_cons_unit_lit _ _ _ (by decide)).trans (by
    rw [ld0, ld1]; exact ext fun i j => by pointwise [k0_pay2, k0_pay4]; rfl)
end

theorem idx : ∀ t : Fin grid0.N, win0_1.index t 0 = win0_4.index t 1 ∧ win0_1.index t 1 = win0_4.index t 2 := by decide +kernel

variable (m : (ℓ : Loc nD τ sig) → Buf (Elt Ideal) ℓ) (c : Dev nD)

def A0 : FVec Ideal S1x2052x1024 .f32 := m ((c.tc : Thread nD τ).loc main_arg0)
def A1 : FVec Ideal S2052x1024 .f32 := m ((c.tc : Thread nD τ).loc main_arg1)
def A2 : FVec Ideal S1x2052x1024 .f32 := m ((c.tc : Thread nD τ).loc main_arg2)
def A3 : FVec Ideal S1x2052x1024 .f32 := m ((c.tc : Thread nD τ).loc main_arg3)

/-- Where point `t`'s block lies in the arrays. -/
abbrev at4 (t : Fin cfg0.N) (y : S1x2052x256.Idx) : S1x2052x1024.Idx := ((cfg0.win 4).blk t).view.emb y

/-- What it reads of the gradient. -/
theorem blk1 (t : Fin cfg0.N) (y : S1x2052x256.Idx) : iblk m c 1 t (ix2 (y 1) (y 2)) = A1 m c (ix2 (at4 t y 1) (at4 t y 2)) := by
  unfold iblk
  rw [View.read_apply]
  refine congrArg (A1 m c) (funext fun e => Fin.ext ?_)
  match e with
  | ⟨0, _⟩ => show win0_1.index t 0 * _ + 1 * _ = win0_4.index t 1 * _ + 1 * _; rw [(idx t).1]; rfl
  | ⟨1, _⟩ => show win0_1.index t 1 * _ + 1 * _ = win0_4.index t 2 * _ + 1 * _; rw [(idx t).2]; rfl

theorem final4 : (dats m 0 c).arrAt 4 cfg0.N = delta (A0 m c) (A1 m c) (A2 m c) (A3 m c) :=
  (dats m 0 c).arrAt_eq_of_covers 4 _ (by decide +kernel) fun t hf y =>
    ((congrFun (after0_4 m c t) y).trans (congrFun (out4 _ _ _ _) y)).trans
      (by unfold delta; rw [blk1]; rfl)
theorem final5 : (dats m 0 c).arrAt 5 cfg0.N = newM (A1 m c) (A2 m c) :=
  (dats m 0 c).arrAt_eq_of_covers 5 _ (by decide +kernel) fun t hf y =>
    ((congrFun (after0_5 m c t) y).trans (congrFun (out5 _ _ _ _) y)).trans
      (by unfold newM; rw [blk1]; rfl)
theorem final6 : (dats m 0 c).arrAt 6 cfg0.N = newV (A1 m c) (A3 m c) :=
  (dats m 0 c).arrAt_eq_of_covers 6 _ (by decide +kernel) fun t hf y =>
    ((congrFun (after0_6 m c t) y).trans (congrFun (out6 _ _ _ _) y)).trans
      (by unfold newV; rw [blk1]; rfl)

end Cert.Kernel24Ideal.Adam

end
-- ==== Proof.Adam.K25.lean ====
/- The optimiser's kernel on the small weights packed together: what it leaves is the step of its arguments. -/
module

public import proofs.«01_k».proof.Proof.Gen.Kernel25Ideal.Value
public import proofs.«01_k».proof.Proof.Adam.Step

@[expose] public section

set_option maxRecDepth 16384

noncomputable section

namespace Cert.Kernel25Ideal.Adam

open Idealize.ShloMosaic Idealize.ShloMosaic.TcCoe Cert.Adam
open Cert.Kernel25Ideal Cert.Kernel25Ideal.Gen

section
variable (w : Vec Ideal S1x168x128 .f32) (g : Vec Ideal S168x128 .f32) (m v : Vec Ideal S1x168x128 .f32)

theorem ld0 : View.ld g r0_0 = g := View.ld_unit_lit _ _ (by decide)
theorem ld1 : View.ld w r0_1 = w := View.ld_unit_lit _ _ (by decide)
theorem out4 : out0_4 w g m v = delta w g m v :=
  (View.canon_cons_unit_lit _ _ _ (by decide)).trans (by
    rw [ld0, ld1, ld1, ld1]; exact ext fun i j => by pointwise [k0_pay5, k0_pay3, k0_pay4]; rfl)
theorem out5 : out0_5 w g m v = newM g m :=
  (View.canon_cons_unit_lit _ _ _ (by decide)).trans (by
    rw [ld0, ld1]; exact ext fun i j => by pointwise [k0_pay1, k0_pay3]; rfl)
theorem out6 : out0_6 w g m v = newV g v :=
  (View.canon_cons_unit_lit _ _ _ (by decide)).trans (by
    rw [ld0, ld1]; exact ext fun i j => by pointwise [k0_pay2, k0_pay4]; rfl)
end

theorem idx : ∀ t : Fin grid0.N, win0_1.index t 0 = win0_4.index t 1 ∧ win0_1.index t 1 = win0_4.index t 2 := by decide +kernel

variable (m : (ℓ : Loc nD τ sig) → Buf (Elt Ideal) ℓ) (c : Dev nD)

def A0 : FVec Ideal S1x168x128 .f32 := m ((c.tc : Thread nD τ).loc main_arg0)
def A1 : FVec Ideal S168x128 .f32 := m ((c.tc : Thread nD τ).loc main_arg1)
def A2 : FVec Ideal S1x168x128 .f32 := m ((c.tc : Thread nD τ).loc main_arg2)
def A3 : FVec Ideal S1x168x128 .f32 := m ((c.tc : Thread nD τ).loc main_arg3)

/-- Where point `t`'s block lies in the arrays. -/
abbrev at4 (t : Fin cfg0.N) (y : S1x168x128.Idx) : S1x168x128.Idx := ((cfg0.win 4).blk t).view.emb y

/-- What it reads of the gradient. -/
theorem blk1 (t : Fin cfg0.N) (y : S1x168x128.Idx) : iblk m c 1 t (ix2 (y 1) (y 2)) = A1 m c (ix2 (at4 t y 1) (at4 t y 2)) := by
  unfold iblk
  rw [View.read_apply]
  refine congrArg (A1 m c) (funext fun e => Fin.ext ?_)
  match e with
  | ⟨0, _⟩ => show win0_1.index t 0 * _ + 1 * _ = win0_4.index t 1 * _ + 1 * _; rw [(idx t).1]; rfl
  | ⟨1, _⟩ => show win0_1.index t 1 * _ + 1 * _ = win0_4.index t 2 * _ + 1 * _; rw [(idx t).2]; rfl

theorem final4 : (dats m 0 c).arrAt 4 cfg0.N = delta (A0 m c) (A1 m c) (A2 m c) (A3 m c) :=
  (dats m 0 c).arrAt_eq_of_covers 4 _ (by decide +kernel) fun t hf y =>
    ((congrFun (after0_4 m c t) y).trans (congrFun (out4 _ _ _ _) y)).trans
      (by unfold delta; rw [blk1]; rfl)
theorem final5 : (dats m 0 c).arrAt 5 cfg0.N = newM (A1 m c) (A2 m c) :=
  (dats m 0 c).arrAt_eq_of_covers 5 _ (by decide +kernel) fun t hf y =>
    ((congrFun (after0_5 m c t) y).trans (congrFun (out5 _ _ _ _) y)).trans
      (by unfold newM; rw [blk1]; rfl)
theorem final6 : (dats m 0 c).arrAt 6 cfg0.N = newV (A1 m c) (A3 m c) :=
  (dats m 0 c).arrAt_eq_of_covers 6 _ (by decide +kernel) fun t hf y =>
    ((congrFun (after0_6 m c t) y).trans (congrFun (out6 _ _ _ _) y)).trans
      (by unfold newV; rw [blk1]; rfl)

end Cert.Kernel25Ideal.Adam

end
-- ==== Proof.Prod.Sums.lean ====
/- Sums over the columns of a row of blocks, block after block. -/
module

public import Mathlib.Algebra.BigOperators.Fin
public import Mathlib.Data.EReal.Basic

@[expose] public section

namespace Cert.Prod

/-- A sum over two halves of 2816. -/
theorem sum_two (f : Fin 5632 → EReal) :
    ∑ k, f k = (∑ k : Fin 2816, f ⟨k.val, by omega⟩) + ∑ k : Fin 2816, f ⟨2816 + k.val, by omega⟩ :=
  Fin.sum_univ_add (a := 2816) (b := 2816) f

/-- A sum over `n` blocks of `l`. -/
theorem sum_blocks {n l N : ℕ} (h : n * l = N) (f : Fin N → EReal) :
    ∑ k, f k = ∑ a : Fin n, ∑ b : Fin l, f ⟨a.val * l + b.val, by
      have := a.isLt; have := b.isLt; subst h
      calc a.val * l + b.val < a.val * l + l := by omega
        _ = (a.val + 1) * l := by ring
        _ ≤ n * l := Nat.mul_le_mul_right _ (by omega)⟩ := by
  subst h
  rw [← Fintype.sum_prod_type']
  refine (Fintype.sum_equiv finProdFinEquiv _ _ fun p => congrArg f (Fin.ext ?_)).symm
  show p.1.val * l + p.2.val = p.2.val + l * p.1.val
  rw [Nat.mul_comm, Nat.add_comm]

end Cert.Prod
-- ==== Proof.Prod.Dh2Ref.lean ====
/- The reference of the gradient at the up projection's input, read at one element. -/
module

public import proofs.«01_k».proof.Proof.Gen.Reference2Ideal.Run
public import proofs.«01_k».proof.Proof.Prod.Sums
public import Idealize.ShloMosaic.Lib.Pointwise
public import Idealize.ShloMosaic.PureOps.Ideal

@[expose] public section

set_option maxRecDepth 16384

noncomputable section

namespace Cert.Reference2Ideal.Prod

open Idealize.ShloMosaic Idealize.ShloMosaic.TcCoe
open Cert.Reference2Ideal Cert.Reference2Ideal.Facts₀ Cert.Reference2Ideal.Facts

/-- The reference's result as a term of its arguments. -/
def G (a b : FVec Ideal S4096x2816 .bf16) (w : FVec Ideal S1024x5632 .bf16) : FVec Ideal S4096x1024 .f32 :=
  Host.dotGeneral dot_S4096x5632_S1024x5632_S4096x1024_1_1_0_0_n_n none (concatenate S4096x5632 1 [⟨S4096x2816, (extf .f32 a bitsLt_bf16_f32)⟩, ⟨S4096x2816, (extf .f32 b bitsLt_bf16_f32)⟩] concatenates_S4096x2816_S4096x2816_S4096x5632_d1) (extf .f32 w bitsLt_bf16_f32)

theorem G_at (a b : FVec Ideal S4096x2816 .bf16) (w : FVec Ideal S1024x5632 .bf16) (i : Fin 4096) (j : Fin 1024) :
    G a b w (ix2 i j) = (∑ k : Fin 2816, a (ix2 i k) * w (ix2 j ⟨k.val, by omega⟩)) + ∑ k : Fin 2816, b (ix2 i k) * w (ix2 j ⟨2816 + k.val, by omega⟩) := by
  have e : G a b w (ix2 i j) = ∑ k : Fin 5632, (if h : k.val < 2816 then a (ix2 i ⟨k.val, h⟩) else b (ix2 i ⟨k.val - 2816, by omega⟩)) * w (ix2 j k) := by
    pointwise! [G]
  rw [e, Cert.Prod.sum_two]
  refine congrArg₂ (· + ·) (Finset.sum_congr rfl fun k _ => ?_) (Finset.sum_congr rfl fun k _ => ?_)
  · rw [dif_pos k.isLt]
  · rw [dif_neg (by show ¬2816 + k.val < 2816; omega)]
    exact congrArg (fun z => b (ix2 i z) * _) (Fin.ext (by show 2816 + k.val - 2816 = k.val; omega))

end Cert.Reference2Ideal.Prod

end
-- ==== Proof.Prod.Dh2.lean ====
/- The gradient at the up projection's input after the launch: the reference's product, element by element. -/
module

public import proofs.«01_k».proof.Proof.Gen.Kernel2Ideal.Value
public import proofs.«01_k».proof.Proof.Prod.Dh2Ref
public import Idealize.ShloMosaic.Lib.Pointwise
public import Idealize.ShloMosaic.Lib.Pipeline.ValueKit
public import Idealize.ShloMosaic.PureOps.Ideal

@[expose] public section

set_option maxRecDepth 16384

noncomputable section

namespace Cert.Kernel2Ideal.Prod

open Idealize.ShloMosaic Idealize.ShloMosaic.TcCoe
open Idealize.SL.Sem
open Cert.Kernel2Ideal Cert.Kernel2Ideal.Gen

theorem pay_at (p : Vec Ideal S1024x2816 .bf16) (w : Vec Ideal S512x2816 .bf16) (q : Vec Ideal S1024x2816 .bf16) (u : Vec Ideal S512x2816 .bf16)
    (i : Fin 1024) (j : Fin 512) :
    k0_pay1 p w q u (ix2 i j) = (∑ k : Fin 2816, p (ix2 i k) * w (ix2 j k)) + ∑ k : Fin 2816, q (ix2 i k) * u (ix2 j k) := by
  pointwise! [k0_pay1]

/-- What a point leaves, element by element. -/
theorem out_at (p q : Vec Ideal S1024x2816 .bf16) (w : Vec Ideal S512x5632 .bf16) (i : Fin 1024) (j : Fin 512) :
    out0_3 p q w (ix2 i j) = (∑ k : Fin 2816, p (ix2 i k) * w (ix2 j ⟨k.val, by omega⟩)) + ∑ k : Fin 2816, q (ix2 i k) * w (ix2 j ⟨2816 + k.val, by omega⟩) := by
  have e : out0_3 p q w = k0_pay1 (View.ld p r0_0) (View.ld w r0_1) (View.ld q r0_0) (View.ld w r0_2) :=
    View.canon_cons_unit_lit _ _ _ (by decide)
  have e1 : View.ld p r0_0 = p := View.ld_unit_lit _ _ (by decide)
  have e2 : View.ld q r0_0 = q := View.ld_unit_lit _ _ (by decide)
  have e3 : ∀ k : Fin 2816, View.ld w r0_1 (ix2 j k) = w (ix2 j ⟨k.val, by omega⟩) := fun k =>
    View.ld_unit_apply_of w _ _ _ _ _ fun a => by match a with
      | ⟨0, _⟩ => show j.val = 0 + j.val; omega
      | ⟨1, _⟩ => show k.val = 0 + k.val; omega
  have e4 : ∀ k : Fin 2816, View.ld w r0_2 (ix2 j k) = w (ix2 j ⟨2816 + k.val, by omega⟩) := fun k =>
    View.ld_unit_apply_of w _ _ _ _ _ fun a => by match a with
      | ⟨0, _⟩ => show j.val = 0 + j.val; omega
      | ⟨1, _⟩ => rfl
  rw [e, pay_at, e1, e2]
  exact congrArg₂ (· + ·) (Finset.sum_congr rfl fun k _ => congrArg _ (e3 k)) (Finset.sum_congr rfl fun k _ => congrArg _ (e4 k))

theorem idx0 : ∀ t : Fin grid0.N, win0_0.index t 0 = t.val / 2 ∧ win0_0.index t 1 = 0 := by decide +kernel
theorem idx1 : ∀ t : Fin grid0.N, win0_1.index t 0 = t.val / 2 ∧ win0_1.index t 1 = 0 := by decide +kernel
theorem idx2 : ∀ t : Fin grid0.N, win0_2.index t 0 = t.val % 2 ∧ win0_2.index t 1 = 0 := by decide +kernel
theorem idx3 : ∀ t : Fin grid0.N, win0_3.index t 0 = t.val / 2 ∧ win0_3.index t 1 = t.val % 2 := by decide +kernel

/-- Row `i` of the point's row block, column `j` of its column block. -/
def ro (t : Fin cfg0.N) (i : Fin 1024) : Fin 4096 := ⟨t.val / 2 * 1024 + i.val, by have : t.val < 8 := lt_of_lt_of_eq t.isLt N_0; omega⟩
def co (t : Fin cfg0.N) (j : Fin 512) : Fin 1024 := ⟨t.val % 2 * 512 + j.val, by omega⟩

variable (m : (ℓ : Loc nD τ sig) → Buf (Elt Ideal) ℓ) (c : Dev nD)

def A0 : FVec Ideal S4096x2816 .bf16 := m ((c.tc : Thread nD τ).loc main_arg0)
def A1 : FVec Ideal S4096x2816 .bf16 := m ((c.tc : Thread nD τ).loc main_arg1)
def A2 : FVec Ideal S1024x5632 .bf16 := m ((c.tc : Thread nD τ).loc main_arg2)

theorem blk0 (t : Fin cfg0.N) (i : Fin 1024) (k : Fin 2816) : iblk m c 0 t (ix2 i k) = A0 m c (ix2 (ro t i) k) := by
  unfold iblk
  rw [View.read_apply]
  show V m c main_arg0 _ = _
  rw [V_main_arg0]
  refine congrArg (A0 m c) (funext fun a => Fin.ext ?_)
  match a with
  | ⟨0, _⟩ => show win0_0.index t 0 * 1024 + 1 * i.val = t.val / 2 * 1024 + i.val; rw [(idx0 t).1]; omega
  | ⟨1, _⟩ => show win0_0.index t 1 * 2816 + 1 * k.val = k.val; rw [(idx0 t).2]; omega
theorem blk1 (t : Fin cfg0.N) (i : Fin 1024) (k : Fin 2816) : iblk m c 1 t (ix2 i k) = A1 m c (ix2 (ro t i) k) := by
  unfold iblk
  rw [View.read_apply]
  show V m c main_arg1 _ = _
  rw [V_main_arg1]
  refine congrArg (A1 m c) (funext fun a => Fin.ext ?_)
  match a with
  | ⟨0, _⟩ => show win0_1.index t 0 * 1024 + 1 * i.val = t.val / 2 * 1024 + i.val; rw [(idx1 t).1]; omega
  | ⟨1, _⟩ => show win0_1.index t 1 * 2816 + 1 * k.val = k.val; rw [(idx1 t).2]; omega
theorem blk2 (t : Fin cfg0.N) (j : Fin 512) (k : Fin 5632) : iblk m c 2 t (ix2 j k) = A2 m c (ix2 (co t j) k) := by
  unfold iblk
  rw [View.read_apply]
  show V m c main_arg2 _ = _
  rw [V_main_arg2]
  refine congrArg (A2 m c) (funext fun a => Fin.ext ?_)
  match a with
  | ⟨0, _⟩ => show win0_2.index t 0 * 512 + 1 * j.val = t.val % 2 * 512 + j.val; rw [(idx2 t).1]; omega
  | ⟨1, _⟩ => show win0_2.index t 1 * 5632 + 1 * k.val = k.val; rw [(idx2 t).2]; omega
theorem at3 (t : Fin cfg0.N) (i : Fin 1024) (j : Fin 512) :
    (((cfg0.win 3).blk t).view.emb (ix2 i j) : S4096x1024.Idx) = ix2 (ro t i) (co t j) := funext fun a => Fin.ext (by
  match a with
  | ⟨0, _⟩ => show win0_3.index t 0 * 1024 + 1 * i.val = t.val / 2 * 1024 + i.val; rw [(idx3 t).1]; omega
  | ⟨1, _⟩ => show win0_3.index t 1 * 512 + 1 * j.val = t.val % 2 * 512 + j.val; rw [(idx3 t).2]; omega)

/-- What point `t` leaves, of the arguments. -/
theorem left_at (t : Fin cfg0.N) (i : Fin 1024) (j : Fin 512) : out0_3 (iblk m c 0 t) (iblk m c 1 t) (iblk m c 2 t) (ix2 i j)
    = (∑ k : Fin 2816, A0 m c (ix2 (ro t i) k) * A2 m c (ix2 (co t j) ⟨k.val, by omega⟩))
      + ∑ k : Fin 2816, A1 m c (ix2 (ro t i) k) * A2 m c (ix2 (co t j) ⟨2816 + k.val, by omega⟩) := by
  have h0 := fun i k => blk0 m c t i k
  have h1 := fun i k => blk1 m c t i k
  have h2 := fun j k => blk2 m c t j k
  generalize iblk m c 0 t = p at *
  generalize iblk m c 1 t = q at *
  generalize iblk m c 2 t = w at *
  refine (out_at p q w i j).trans ?_
  simp only [h0, h1, h2]

/-- An array with these elements is the one after the launch. -/
theorem final (G : FVec Ideal S4096x1024 .f32)
    (hG : ∀ (i : Fin 4096) (j : Fin 1024), G (ix2 i j) = (∑ k : Fin 2816, A0 m c (ix2 i k) * A2 m c (ix2 j ⟨k.val, by omega⟩))
      + ∑ k : Fin 2816, A1 m c (ix2 i k) * A2 m c (ix2 j ⟨2816 + k.val, by omega⟩)) : (dats m 0 c).arrAt 3 cfg0.N = G := by
  refine (dats m 0 c).arrAt_eq_of_covers 3 G (by decide +kernel) fun t hf y => ?_
  obtain ⟨i, j, rfl⟩ : ∃ (i : Fin 1024) (j : Fin 512), y = ix2 i j := ⟨_, _, eq_ix2 y⟩
  refine (congrFun (after0_3 m c t) (ix2 i j)).trans ?_
  refine Eq.trans ?_ (congrArg G (at3 t i j)).symm
  rw [hG, left_at]

end Cert.Kernel2Ideal.Prod

end
-- ==== Proof.Prod.Dh0.lean ====
/- The gradient at the mixed input after the launch: the reference's product, element by element. -/
module

public import proofs.«01_k».proof.Proof.Gen.Kernel3Ideal.Value
public import Idealize.ShloMosaic.Lib.Pointwise
public import Idealize.ShloMosaic.Lib.Pipeline.ValueKit
public import Idealize.ShloMosaic.PureOps.Ideal
public import Mathlib.Algebra.BigOperators.Fin

@[expose] public section

set_option maxRecDepth 16384

noncomputable section

namespace Cert.Kernel3Ideal.Prod

open Idealize.ShloMosaic Idealize.ShloMosaic.TcCoe
open Idealize.SL.Sem
open Cert.Kernel3Ideal Cert.Kernel3Ideal.Gen

/-- What a load through `r` reads of a buffer holding `x`. -/
theorem load_whole {S : Shape} {e : EltTy} (M : Memref sig .tc .vmem S e) (h : M.IsWhole) (x : Vec Ideal S e) (r : Rect S) :
    M.view.readAt (Elt Ideal) r.toLoadRect (h.unread x) = View.ld x r := by
  rw [View.readAt_eq_ld, h.read_unread]
theorem load_all {S : Shape} {e : EltTy} (M : Memref sig .tc .vmem S e) (h : M.IsWhole) (x : Vec Ideal S e) {off : Fin S.rank → Nat}
    (inb : ∀ a, off a + S.size a ≤ S.size a) (h0 : ∀ a, off a = 0) :
    M.view.readAt (Elt Ideal) (Rect.unit off S.size inb).toLoadRect (h.unread x) = x :=
  (load_whole M h x _).trans (View.ld_unit_lit inb x h0)

/-- Row block `a` of the weights. -/
def rows (w : Vec Ideal S8192x512 .bf16) (a : Fin 8) : Vec Ideal S1024x512 .bf16 := fun y => w (ix2 ⟨a.val * 1024 + (y 0).val, by have : (y 0).val < 1024 := (y 0).isLt; omega⟩ (y 1))
theorem load_rows (M : Memref sig .tc .vmem S8192x512 .bf16) (h : M.IsWhole) (w : Vec Ideal S8192x512 .bf16) (a : Fin 8) {off : Fin 2 → Nat}
    (inb : ∀ e, off e + S1024x512.size e ≤ S8192x512.size e) (h0 : off 0 = a.val * 1024) (h1 : off 1 = 0) :
    M.view.readAt (Elt Ideal) (Rect.unit (s := S8192x512) off S1024x512.size inb).toLoadRect (h.unread w) = rows w a :=
  (load_whole M h w _).trans (funext fun y => View.ld_unit_apply_of w _ _ _ _ _ fun e => by match e with
    | ⟨0, _⟩ => show a.val * 1024 + (y 0).val = off 0 + (y 0).val; rw [h0]
    | ⟨1, _⟩ => show (y 1).val = off 1 + (y 1).val; rw [h1]; omega)

theorem pay1_at (u : FVec Ideal S1024x512 .f32) (p : Vec Ideal S1024x1024 .bf16) (v : Vec Ideal S1024x512 .bf16) (q : Vec Ideal S1024x1024 .bf16) (z : Vec Ideal S1024x512 .bf16)
    (i : Fin 1024) (j : Fin 512) :
    k0_pay1 u p v q z (ix2 i j) = u (ix2 i j) + (∑ k : Fin 1024, p (ix2 i k) * v (ix2 k j)) + ∑ k : Fin 1024, q (ix2 i k) * z (ix2 k j) := by
  pointwise! [k0_pay1]
theorem pay2_at (x0 x1 x2 x3 x4 x5 : Vec Ideal S1024x1024 .bf16) (w0 w1 w2 w3 w4 w5 : Vec Ideal S1024x512 .bf16) (i : Fin 1024) (j : Fin 512) :
    k0_pay2 x0 w0 x1 w1 x2 w2 x3 w3 x4 w4 x5 w5 (ix2 i j) = (∑ k : Fin 1024, x0 (ix2 i k) * w0 (ix2 k j)) + (∑ k : Fin 1024, x1 (ix2 i k) * w1 (ix2 k j)) + (∑ k : Fin 1024, x2 (ix2 i k) * w2 (ix2 k j)) + (∑ k : Fin 1024, x3 (ix2 i k) * w3 (ix2 k j)) + (∑ k : Fin 1024, x4 (ix2 i k) * w4 (ix2 k j)) + (∑ k : Fin 1024, x5 (ix2 i k) * w5 (ix2 k j)) := by
  pointwise! [k0_pay2]

/-- What a point leaves, element by element. -/
theorem out_eq (c : Dev nD) (i : grid0.Coords) (a0 : Memref sig .tc .vmem S1024x1024 .bf16) (h0 : a0.IsWhole) (a1 : Memref sig .tc .vmem S1024x1024 .bf16) (h1 : a1.IsWhole)
    (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .bf16) (h6 : a6.IsWhole) (a7 : Memref sig .tc .vmem S1024x1024 .bf16) (h7 : a7.IsWhole)
    (a8 : Memref sig .tc .vmem S8192x512 .bf16) (h8 : a8.IsWhole)
    (a9 : Memref sig .tc .vmem S1024x512 .f32) (h9 : a9.IsWhole) (x0 x1 x2 x3 x4 x5 x6 x7 : Vec Ideal S1024x1024 .bf16) (w : Vec Ideal S8192x512 .bf16) :
    out0_A_9 c i a0 h0 a1 h1 a2 h2 a3 h3 a4 h4 a5 h5 a6 h6 a7 h7 a8 h8 a9 h9 x0 x1 x2 x3 x4 x5 x6 x7 w
      = k0_pay1 (k0_pay2 x0 (rows w 0) x1 (rows w 1) x2 (rows w 2) x3 (rows w 3) x4 (rows w 4) x5 (rows w 5)) x6 (rows w 6) x7 (rows w 7) := by
  refine (View.read_writes_eq_canon VO0_9 _ _ (cover0_A_9 c i a0 h0 a1 h1 a2 h2 a3 h3 a4 h4 a5 h5 a6 h6 a7 h7 a8 h8 a9 h9 x0 x1 x2 x3 x4 x5 x6 x7 w)).trans ?_
  unfold kernelRun0_A
  dsimp only
  refine (View.canon_cons_unit_lit _ _ _ (by decide)).trans ?_
  unfold kernelRun0_A.sl.r kernelRun0_A.sl.r_1
  simp only [
    load_all a0 h0 x0 inb_S1024x1024_S1024x1024_0_0 (by decide), load_all a1 h1 x1 inb_S1024x1024_S1024x1024_0_0 (by decide),
    load_all a2 h2 x2 inb_S1024x1024_S1024x1024_0_0 (by decide), load_all a3 h3 x3 inb_S1024x1024_S1024x1024_0_0 (by decide),
    load_all a4 h4 x4 inb_S1024x1024_S1024x1024_0_0 (by decide), load_all a5 h5 x5 inb_S1024x1024_S1024x1024_0_0 (by decide),
    load_all a6 h6 x6 inb_S1024x1024_S1024x1024_0_0 (by decide), load_all a7 h7 x7 inb_S1024x1024_S1024x1024_0_0 (by decide),
    load_rows a8 h8 w 0 inb_S8192x512_S1024x512_0_0 rfl rfl, load_rows a8 h8 w 1 inb_S8192x512_S1024x512_1024_0 rfl rfl,
    load_rows a8 h8 w 2 inb_S8192x512_S1024x512_2048_0 rfl rfl, load_rows a8 h8 w 3 inb_S8192x512_S1024x512_3072_0 rfl rfl,
    load_rows a8 h8 w 4 inb_S8192x512_S1024x512_4096_0 rfl rfl, load_rows a8 h8 w 5 inb_S8192x512_S1024x512_5120_0 rfl rfl,
    load_rows a8 h8 w 6 inb_S8192x512_S1024x512_6144_0 rfl rfl, load_rows a8 h8 w 7 inb_S8192x512_S1024x512_7168_0 rfl rfl]

theorem sum_at (x : Fin 8 → Vec Ideal S1024x1024 .bf16) (w : Vec Ideal S8192x512 .bf16) (i : Fin 1024) (j : Fin 512) :
    k0_pay1 (k0_pay2 (x 0) (rows w 0) (x 1) (rows w 1) (x 2) (rows w 2) (x 3) (rows w 3) (x 4) (rows w 4) (x 5) (rows w 5)) (x 6) (rows w 6) (x 7) (rows w 7) (ix2 i j)
      = ∑ a : Fin 8, ∑ k : Fin 1024, x a (ix2 i k) * w (ix2 ⟨a.val * 1024 + k.val, by omega⟩ j) := by
  rw [pay1_at, pay2_at, Fin.sum_univ_eight]
  rfl

theorem idx0 : ∀ t : Fin grid0.N, win0_0.index t 0 = t.val / 2 ∧ win0_0.index t 1 = 0 := by decide +kernel
theorem idx1 : ∀ t : Fin grid0.N, win0_1.index t 0 = t.val / 2 ∧ win0_1.index t 1 = 0 := by decide +kernel
theorem idx2 : ∀ t : Fin grid0.N, win0_2.index t 0 = t.val / 2 ∧ win0_2.index t 1 = 0 := by decide +kernel
theorem idx3 : ∀ t : Fin grid0.N, win0_3.index t 0 = t.val / 2 ∧ win0_3.index t 1 = 0 := by decide +kernel
theorem idx4 : ∀ t : Fin grid0.N, win0_4.index t 0 = t.val / 2 ∧ win0_4.index t 1 = 0 := by decide +kernel
theorem idx5 : ∀ t : Fin grid0.N, win0_5.index t 0 = t.val / 2 ∧ win0_5.index t 1 = 0 := by decide +kernel
theorem idx6 : ∀ t : Fin grid0.N, win0_6.index t 0 = t.val / 2 ∧ win0_6.index t 1 = 0 := by decide +kernel
theorem idx7 : ∀ t : Fin grid0.N, win0_7.index t 0 = t.val / 2 ∧ win0_7.index t 1 = 0 := by decide +kernel
theorem idx8 : ∀ t : Fin grid0.N, win0_8.index t 0 = 0 ∧ win0_8.index t 1 = t.val % 2 := by decide +kernel
theorem idx9 : ∀ t : Fin grid0.N, win0_9.index t 0 = t.val / 2 ∧ win0_9.index t 1 = t.val % 2 := by decide +kernel

/-- Row `i` of the point's row block, column `j` of its column block. -/
def ro (t : Fin cfg0.N) (i : Fin 1024) : Fin 4096 := ⟨t.val / 2 * 1024 + i.val, by have : t.val < 8 := lt_of_lt_of_eq t.isLt N_0; omega⟩
def co (t : Fin cfg0.N) (j : Fin 512) : Fin 1024 := ⟨t.val % 2 * 512 + j.val, by omega⟩

variable (m : (ℓ : Loc nD τ sig) → Buf (Elt Ideal) ℓ) (c : Dev nD)

def part (a : Fin 8) : FVec Ideal S4096x1024 .bf16 := match a with
  | ⟨0, _⟩ => m ((c.tc : Thread nD τ).loc main_arg0)
  | ⟨1, _⟩ => m ((c.tc : Thread nD τ).loc main_arg1)
  | ⟨2, _⟩ => m ((c.tc : Thread nD τ).loc main_arg2)
  | ⟨3, _⟩ => m ((c.tc : Thread nD τ).loc main_arg3)
  | ⟨4, _⟩ => m ((c.tc : Thread nD τ).loc main_arg4)
  | ⟨5, _⟩ => m ((c.tc : Thread nD τ).loc main_arg5)
  | ⟨6, _⟩ => m ((c.tc : Thread nD τ).loc main_arg6)
  | ⟨7, _⟩ => m ((c.tc : Thread nD τ).loc main_arg7)
def weight : FVec Ideal S8192x1024 .bf16 := m ((c.tc : Thread nD τ).loc main_arg8)

theorem blk0 (t : Fin cfg0.N) (i k : Fin 1024) : iblk m c 0 t (ix2 i k) = part m c 0 (ix2 (ro t i) k) := by
  unfold iblk
  rw [View.read_apply]
  show V m c main_arg0 _ = _
  rw [V_main_arg0]
  refine congrArg (part m c 0) (funext fun a => Fin.ext ?_)
  match a with
  | ⟨0, _⟩ => show win0_0.index t 0 * 1024 + 1 * i.val = t.val / 2 * 1024 + i.val; rw [(idx0 t).1]; omega
  | ⟨1, _⟩ => show win0_0.index t 1 * 1024 + 1 * k.val = k.val; rw [(idx0 t).2]; omega
theorem blk1 (t : Fin cfg0.N) (i k : Fin 1024) : iblk m c 1 t (ix2 i k) = part m c 1 (ix2 (ro t i) k) := by
  unfold iblk
  rw [View.read_apply]
  show V m c main_arg1 _ = _
  rw [V_main_arg1]
  refine congrArg (part m c 1) (funext fun a => Fin.ext ?_)
  match a with
  | ⟨0, _⟩ => show win0_1.index t 0 * 1024 + 1 * i.val = t.val / 2 * 1024 + i.val; rw [(idx1 t).1]; omega
  | ⟨1, _⟩ => show win0_1.index t 1 * 1024 + 1 * k.val = k.val; rw [(idx1 t).2]; omega
theorem blk2 (t : Fin cfg0.N) (i k : Fin 1024) : iblk m c 2 t (ix2 i k) = part m c 2 (ix2 (ro t i) k) := by
  unfold iblk
  rw [View.read_apply]
  show V m c main_arg2 _ = _
  rw [V_main_arg2]
  refine congrArg (part m c 2) (funext fun a => Fin.ext ?_)
  match a with
  | ⟨0, _⟩ => show win0_2.index t 0 * 1024 + 1 * i.val = t.val / 2 * 1024 + i.val; rw [(idx2 t).1]; omega
  | ⟨1, _⟩ => show win0_2.index t 1 * 1024 + 1 * k.val = k.val; rw [(idx2 t).2]; omega
theorem blk3 (t : Fin cfg0.N) (i k : Fin 1024) : iblk m c 3 t (ix2 i k) = part m c 3 (ix2 (ro t i) k) := by
  unfold iblk
  rw [View.read_apply]
  show V m c main_arg3 _ = _
  rw [V_main_arg3]
  refine congrArg (part m c 3) (funext fun a => Fin.ext ?_)
  match a with
  | ⟨0, _⟩ => show win0_3.index t 0 * 1024 + 1 * i.val = t.val / 2 * 1024 + i.val; rw [(idx3 t).1]; omega
  | ⟨1, _⟩ => show win0_3.index t 1 * 1024 + 1 * k.val = k.val; rw [(idx3 t).2]; omega
theorem blk4 (t : Fin cfg0.N) (i k : Fin 1024) : iblk m c 4 t (ix2 i k) = part m c 4 (ix2 (ro t i) k) := by
  unfold iblk
  rw [View.read_apply]
  show V m c main_arg4 _ = _
  rw [V_main_arg4]
  refine congrArg (part m c 4) (funext fun a => Fin.ext ?_)
  match a with
  | ⟨0, _⟩ => show win0_4.index t 0 * 1024 + 1 * i.val = t.val / 2 * 1024 + i.val; rw [(idx4 t).1]; omega
  | ⟨1, _⟩ => show win0_4.index t 1 * 1024 + 1 * k.val = k.val; rw [(idx4 t).2]; omega
theorem blk5 (t : Fin cfg0.N) (i k : Fin 1024) : iblk m c 5 t (ix2 i k) = part m c 5 (ix2 (ro t i) k) := by
  unfold iblk
  rw [View.read_apply]
  show V m c main_arg5 _ = _
  rw [V_main_arg5]
  refine congrArg (part m c 5) (funext fun a => Fin.ext ?_)
  match a with
  | ⟨0, _⟩ => show win0_5.index t 0 * 1024 + 1 * i.val = t.val / 2 * 1024 + i.val; rw [(idx5 t).1]; omega
  | ⟨1, _⟩ => show win0_5.index t 1 * 1024 + 1 * k.val = k.val; rw [(idx5 t).2]; omega
theorem blk6 (t : Fin cfg0.N) (i k : Fin 1024) : iblk m c 6 t (ix2 i k) = part m c 6 (ix2 (ro t i) k) := by
  unfold iblk
  rw [View.read_apply]
  show V m c main_arg6 _ = _
  rw [V_main_arg6]
  refine congrArg (part m c 6) (funext fun a => Fin.ext ?_)
  match a with
  | ⟨0, _⟩ => show win0_6.index t 0 * 1024 + 1 * i.val = t.val / 2 * 1024 + i.val; rw [(idx6 t).1]; omega
  | ⟨1, _⟩ => show win0_6.index t 1 * 1024 + 1 * k.val = k.val; rw [(idx6 t).2]; omega
theorem blk7 (t : Fin cfg0.N) (i k : Fin 1024) : iblk m c 7 t (ix2 i k) = part m c 7 (ix2 (ro t i) k) := by
  unfold iblk
  rw [View.read_apply]
  show V m c main_arg7 _ = _
  rw [V_main_arg7]
  refine congrArg (part m c 7) (funext fun a => Fin.ext ?_)
  match a with
  | ⟨0, _⟩ => show win0_7.index t 0 * 1024 + 1 * i.val = t.val / 2 * 1024 + i.val; rw [(idx7 t).1]; omega
  | ⟨1, _⟩ => show win0_7.index t 1 * 1024 + 1 * k.val = k.val; rw [(idx7 t).2]; omega
theorem blk8 (t : Fin cfg0.N) (k : Fin 8192) (j : Fin 512) : iblk m c 8 t (ix2 k j) = weight m c (ix2 k (co t j)) := by
  unfold iblk
  rw [View.read_apply]
  show V m c main_arg8 _ = _
  rw [V_main_arg8]
  refine congrArg (weight m c) (funext fun a => Fin.ext ?_)
  match a with
  | ⟨0, _⟩ => show win0_8.index t 0 * 8192 + 1 * k.val = k.val; rw [(idx8 t).1]; omega
  | ⟨1, _⟩ => show win0_8.index t 1 * 512 + 1 * j.val = t.val % 2 * 512 + j.val; rw [(idx8 t).2]; omega
theorem at9 (t : Fin cfg0.N) (i : Fin 1024) (j : Fin 512) :
    (((cfg0.win 9).blk t).view.emb (ix2 i j) : S4096x1024.Idx) = ix2 (ro t i) (co t j) := funext fun a => Fin.ext (by
  match a with
  | ⟨0, _⟩ => show win0_9.index t 0 * 1024 + 1 * i.val = t.val / 2 * 1024 + i.val; rw [(idx9 t).1]; omega
  | ⟨1, _⟩ => show win0_9.index t 1 * 512 + 1 * j.val = t.val % 2 * 512 + j.val; rw [(idx9 t).2]; omega)

/-- The point's blocks. -/
def blks (t : Fin cfg0.N) (a : Fin 8) : Vec Ideal S1024x1024 .bf16 := match a with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
theorem blks_at (t : Fin cfg0.N) (a : Fin 8) (i k : Fin 1024) : blks m c t a (ix2 i k) = part m c a (ix2 (ro t i) k) := by
  match a with
  | ⟨0, _⟩ => exact blk0 m c t i k
  | ⟨1, _⟩ => exact blk1 m c t i k
  | ⟨2, _⟩ => exact blk2 m c t i k
  | ⟨3, _⟩ => exact blk3 m c t i k
  | ⟨4, _⟩ => exact blk4 m c t i k
  | ⟨5, _⟩ => exact blk5 m c t i k
  | ⟨6, _⟩ => exact blk6 m c t i k
  | ⟨7, _⟩ => exact blk7 m c t i k

/-- What point `t` leaves, of the arguments. -/
theorem left_at (t : Fin cfg0.N) (i : Fin 1024) (j : Fin 512) : outsAt0 m c t (ix2 i j)
    = ∑ a : Fin 8, ∑ k : Fin 1024, part m c a (ix2 (ro t i) k) * weight m c (ix2 ⟨a.val * 1024 + k.val, by omega⟩ (co t j)) := by
  unfold outsAt0
  rw [out_eq]
  refine (sum_at (blks m c t) (iblk m c 8 t) i j).trans (Finset.sum_congr rfl fun a _ => Finset.sum_congr rfl fun k _ => ?_)
  rw [blks_at, blk8]

/-- An array with these elements is the one after the launch. -/
theorem final (G : FVec Ideal S4096x1024 .f32)
    (hG : ∀ (i : Fin 4096) (j : Fin 1024), G (ix2 i j) = ∑ a : Fin 8, ∑ k : Fin 1024, part m c a (ix2 i k) * weight m c (ix2 ⟨a.val * 1024 + k.val, by omega⟩ j)) :
    (dats m 0 c).arrAt 9 cfg0.N = G := by
  refine (dats m 0 c).arrAt_eq_of_covers 9 G (by decide +kernel) fun t hf y => ?_
  obtain ⟨i, j, rfl⟩ : ∃ (i : Fin 1024) (j : Fin 512), y = ix2 i j := ⟨_, _, eq_ix2 y⟩
  refine (congrFun (after0_9 m c t) (ix2 i j)).trans ?_
  refine Eq.trans ?_ (congrArg G (at9 t i j)).symm
  rw [hG, left_at]

end Cert.Kernel3Ideal.Prod

end
-- ==== Proof.Prod.Dh0Ref.lean ====
/- The reference of the gradient at the mixed input, read at one element. -/
module

public import proofs.«01_k».proof.Proof.Gen.Reference3Ideal.Run
public import proofs.«01_k».proof.Proof.Prod.Sums
public import Idealize.ShloMosaic.Lib.Pointwise
public import Idealize.ShloMosaic.Lib.Pipeline.Value
public import Idealize.ShloMosaic.PureOps.Ideal

@[expose] public section

set_option maxRecDepth 16384

noncomputable section

namespace Cert.Reference3Ideal.Prod

open Idealize.ShloMosaic Idealize.ShloMosaic.TcCoe
open Cert.Reference3Ideal Cert.Reference3Ideal.Facts₀ Cert.Reference3Ideal.Facts

/-- Eight blocks side by side. -/
def cat (p : Fin 8 → FVec Ideal S4096x1024 .f32) : FVec Ideal S4096x8192 .f32 :=
  concatenate S4096x8192 1 [⟨S4096x1024, p 0⟩, ⟨S4096x1024, p 1⟩, ⟨S4096x1024, p 2⟩, ⟨S4096x1024, p 3⟩, ⟨S4096x1024, p 4⟩, ⟨S4096x1024, p 5⟩, ⟨S4096x1024, p 6⟩, ⟨S4096x1024, p 7⟩]
    concatenates_S4096x1024_S4096x1024_S4096x1024_S4096x1024_S4096x1024_S4096x1024_S4096x1024_S4096x1024_S4096x8192_d1

theorem cat_at (p : Fin 8 → FVec Ideal S4096x1024 .f32) (i : Fin 4096) (a : Fin 8) (b : Fin 1024) :
    cat p (ix2 i ⟨a.val * 1024 + b.val, by omega⟩) = p a (ix2 i b) :=
  concatenate_ofFn_apply (t := S4096x8192) (s₁ := S4096x1024) 1 (N := 8) p
    concatenates_S4096x1024_S4096x1024_S4096x1024_S4096x1024_S4096x1024_S4096x1024_S4096x1024_S4096x1024_S4096x8192_d1
    rfl 1024 rfl _ a (by show (a.val * 1024 + b.val) / 1024 = a.val; omega) (ix2 i b)
    (by show b.val = (a.val * 1024 + b.val) % 1024; omega) fun e he => by match e with
      | ⟨0, _⟩ => rfl
      | ⟨1, _⟩ => exact absurd rfl he

theorem mul_at (u : FVec Ideal S4096x8192 .f32) (w : FVec Ideal S8192x1024 .bf16) (i : Fin 4096) (j : Fin 1024) :
    Host.dotGeneral dot_S4096x8192_S1024x8192_S4096x1024_1_1_0_0_n_n none u (transpose S1024x8192 [1, 0] (extf .f32 w bitsLt_bf16_f32) transposes_S8192x1024_S1024x8192_1_0) (ix2 i j)
      = ∑ k : Fin 8192, u (ix2 i k) * w (ix2 k j) := by
  pointwise!

/-- The reference's result as a term of its arguments. -/
def G (p : Fin 8 → FVec Ideal S4096x1024 .bf16) (w : FVec Ideal S8192x1024 .bf16) : FVec Ideal S4096x1024 .f32 :=
  Host.dotGeneral dot_S4096x8192_S1024x8192_S4096x1024_1_1_0_0_n_n none (cat fun a => extf .f32 (p a) bitsLt_bf16_f32) (transpose S1024x8192 [1, 0] (extf .f32 w bitsLt_bf16_f32) transposes_S8192x1024_S1024x8192_1_0)

/-- The eight parts among the arguments. -/
def args (m : (ℓ : Loc nD τ sig) → Buf (Elt Ideal) ℓ) (c : Dev nD) (a : Fin 8) : FVec Ideal S4096x1024 .bf16 := match a with
  | ⟨0, _⟩ => m ((c.tc : Thread nD τ).loc main_arg0)
  | ⟨1, _⟩ => m ((c.tc : Thread nD τ).loc main_arg1)
  | ⟨2, _⟩ => m ((c.tc : Thread nD τ).loc main_arg2)
  | ⟨3, _⟩ => m ((c.tc : Thread nD τ).loc main_arg3)
  | ⟨4, _⟩ => m ((c.tc : Thread nD τ).loc main_arg4)
  | ⟨5, _⟩ => m ((c.tc : Thread nD τ).loc main_arg5)
  | ⟨6, _⟩ => m ((c.tc : Thread nD τ).loc main_arg6)
  | ⟨7, _⟩ => m ((c.tc : Thread nD τ).loc main_arg7)

theorem G_at (p : Fin 8 → FVec Ideal S4096x1024 .bf16) (w : FVec Ideal S8192x1024 .bf16) (i : Fin 4096) (j : Fin 1024) :
    G p w (ix2 i j) = ∑ a : Fin 8, ∑ b : Fin 1024, p a (ix2 i b) * w (ix2 ⟨a.val * 1024 + b.val, by omega⟩ j) := by
  unfold G
  rw [mul_at, Cert.Prod.sum_blocks (n := 8) (l := 1024) (by norm_num)]
  refine Finset.sum_congr rfl fun a _ => Finset.sum_congr rfl fun b _ => ?_
  rw [cat_at]
  rfl

end Cert.Reference3Ideal.Prod

end
-- ==== Proof.Prod.DwUp.lean ====
/- The weight gradient of the up projection after the launch: the reference's product, element by element. -/
module

public import proofs.«01_k».proof.Proof.Gen.Kernel4Ideal.Value
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Kernel4Ideal.Prod

open Idealize.ShloMosaic Idealize.ShloMosaic.TcCoe
open Idealize.SL.Sem
open Cert.Kernel4Ideal Cert.Kernel4Ideal.Gen

/-- What a load through `r` reads of a buffer holding `x`. -/
theorem load_whole {S : Shape} {e : EltTy} (M : Memref sig .tc .vmem S e) (h : M.IsWhole) (x : Vec Ideal S e) (r : Rect S) :
    M.view.readAt (Elt Ideal) r.toLoadRect (h.unread x) = View.ld x r := by
  rw [View.readAt_eq_ld, h.read_unread]
theorem load_all {S : Shape} {e : EltTy} (M : Memref sig .tc .vmem S e) (h : M.IsWhole) (x : Vec Ideal S e) {off : Fin S.rank → Nat}
    (inb : ∀ a, off a + S.size a ≤ S.size a) (h0 : ∀ a, off a = 0) :
    M.view.readAt (Elt Ideal) (Rect.unit off S.size inb).toLoadRect (h.unread x) = x :=
  (load_whole M h x _).trans (View.ld_unit_lit inb x h0)

/-- What each kind of point leaves: the first of a block's two points its product, the second that product added to it. -/
theorem left_A (c : Dev nD) (i : grid0.Coords) (a0 : Memref sig .tc .vmem S2048x1024 .bf16) (h0 : a0.IsWhole) (a1 : Memref sig .tc .vmem S2048x1408 .bf16) (h1 : a1.IsWhole)
    (a2 : Memref sig .tc .vmem S2048x1408 .bf16) (h2 : a2.IsWhole) (a3 : Memref sig .tc .vmem S1024x1408 .f32) (h3 : a3.IsWhole) (a4 : Memref sig .tc .vmem S1024x1408 .f32) (h4 : a4.IsWhole)
    (c0 : cond0_0 i) (c1 : cond0_1 i) (c2 : ¬cond0_2 i) (c3 : ¬cond0_3 i) (c4 : ¬cond0_4 i)
    (x0 : Vec Ideal S2048x1024 .bf16) (x1 x2 : Vec Ideal S2048x1408 .bf16) : sout0_A_0 c i a0 h0 a1 h1 a2 h2 a3 h3 a4 h4 c0 c1 c2 c3 c4 x0 x1 x2 = k0_pay2 x0 x1 := by
  refine (View.read_writes_eq_canon VS0_0 _ _ (scover0_A_0 c i a0 h0 a1 h1 a2 h2 a3 h3 a4 h4 c0 c1 c2 c3 c4 x0 x1 x2)).trans ?_
  unfold kernelRun0_A
  dsimp only
  refine (View.canon_cons_unit_lit _ _ _ (by decide)).trans ?_
  simp only [load_all a0 h0 x0 inb_S2048x1024_S2048x1024_0_0 (by decide), load_all a1 h1 x1 inb_S2048x1408_S2048x1408_0_0 (by decide)]
theorem left_B (c : Dev nD) (i : grid0.Coords) (a0 : Memref sig .tc .vmem S2048x1024 .bf16) (h0 : a0.IsWhole) (a1 : Memref sig .tc .vmem S2048x1408 .bf16) (h1 : a1.IsWhole)
    (a2 : Memref sig .tc .vmem S2048x1408 .bf16) (h2 : a2.IsWhole) (a3 : Memref sig .tc .vmem S1024x1408 .f32) (h3 : a3.IsWhole) (a4 : Memref sig .tc .vmem S1024x1408 .f32) (h4 : a4.IsWhole)
    (c0 : cond0_0 i) (c1 : ¬cond0_1 i) (c2 : cond0_2 i) (c3 : cond0_3 i) (c4 : ¬cond0_4 i)
    (x0 : Vec Ideal S2048x1024 .bf16) (x1 x2 : Vec Ideal S2048x1408 .bf16) (s : Vec Ideal S1024x1408 .f32) : out0_B_3 c i a0 h0 a1 h1 a2 h2 a3 h3 a4 h4 c0 c1 c2 c3 c4 x0 x1 x2 s = k0_pay3 x0 x1 s := by
  refine (View.read_writes_eq_canon VO0_3 _ _ (cover0_B_3 c i a0 h0 a1 h1 a2 h2 a3 h3 a4 h4 c0 c1 c2 c3 c4 x0 x1 x2 s)).trans ?_
  unfold kernelRun0_B
  dsimp only
  refine (View.canon_cons_unit_lit _ _ _ (by decide)).trans ?_
  unfold kernelRun0_B.sl.v35
  refine (View.readCov_eq_canon' _ _ _).trans ?_
  refine (View.ld_unit_lit inb_S1024x1408_S1024x1408_0_0 _ (by decide)).trans ?_
  unfold kernelRun0_B.sl.HS0_1
  refine (View.canon_cons_unit_lit _ _ _ (by decide)).trans ?_
  simp only [load_all a0 h0 x0 inb_S2048x1024_S2048x1024_0_0 (by decide), load_all a1 h1 x1 inb_S2048x1408_S2048x1408_0_0 (by decide), load_all a4 h4 s inb_S1024x1408_S1024x1408_0_0 (by decide)]
theorem left_C (c : Dev nD) (i : grid0.Coords) (a0 : Memref sig .tc .vmem S2048x1024 .bf16) (h0 : a0.IsWhole) (a1 : Memref sig .tc .vmem S2048x1408 .bf16) (h1 : a1.IsWhole)
    (a2 : Memref sig .tc .vmem S2048x1408 .bf16) (h2 : a2.IsWhole) (a3 : Memref sig .tc .vmem S1024x1408 .f32) (h3 : a3.IsWhole) (a4 : Memref sig .tc .vmem S1024x1408 .f32) (h4 : a4.IsWhole)
    (c0 : ¬cond0_0 i) (c1 : cond0_4 i) (c2 : cond0_5 i) (c3 : ¬cond0_6 i) (c4 : ¬cond0_7 i)
    (x0 : Vec Ideal S2048x1024 .bf16) (x1 x2 : Vec Ideal S2048x1408 .bf16) : sout0_C_0 c i a0 h0 a1 h1 a2 h2 a3 h3 a4 h4 c0 c1 c2 c3 c4 x0 x1 x2 = k0_pay5 x0 x2 := by
  refine (View.read_writes_eq_canon VS0_0 _ _ (scover0_C_0 c i a0 h0 a1 h1 a2 h2 a3 h3 a4 h4 c0 c1 c2 c3 c4 x0 x1 x2)).trans ?_
  unfold kernelRun0_C
  dsimp only
  refine (View.canon_cons_unit_lit _ _ _ (by decide)).trans ?_
  simp only [load_all a0 h0 x0 inb_S2048x1024_S2048x1024_0_0 (by decide), load_all a2 h2 x2 inb_S2048x1408_S2048x1408_0_0 (by decide)]
theorem left_D (c : Dev nD) (i : grid0.Coords) (a0 : Memref sig .tc .vmem S2048x1024 .bf16) (h0 : a0.IsWhole) (a1 : Memref sig .tc .vmem S2048x1408 .bf16) (h1 : a1.IsWhole)
    (a2 : Memref sig .tc .vmem S2048x1408 .bf16) (h2 : a2.IsWhole) (a3 : Memref sig .tc .vmem S1024x1408 .f32) (h3 : a3.IsWhole) (a4 : Memref sig .tc .vmem S1024x1408 .f32) (h4 : a4.IsWhole)
    (c0 : ¬cond0_0 i) (c1 : cond0_4 i) (c2 : ¬cond0_5 i) (c3 : cond0_6 i) (c4 : cond0_7 i)
    (x0 : Vec Ideal S2048x1024 .bf16) (x1 x2 : Vec Ideal S2048x1408 .bf16) (s : Vec Ideal S1024x1408 .f32) : out0_D_3 c i a0 h0 a1 h1 a2 h2 a3 h3 a4 h4 c0 c1 c2 c3 c4 x0 x1 x2 s = k0_pay6 x0 x2 s := by
  refine (View.read_writes_eq_canon VO0_3 _ _ (cover0_D_3 c i a0 h0 a1 h1 a2 h2 a3 h3 a4 h4 c0 c1 c2 c3 c4 x0 x1 x2 s)).trans ?_
  unfold kernelRun0_D
  dsimp only
  refine (View.canon_cons_unit_lit _ _ _ (by decide)).trans ?_
  unfold kernelRun0_D.sl.v35
  refine (View.readCov_eq_canon' _ _ _).trans ?_
  refine (View.ld_unit_lit inb_S1024x1408_S1024x1408_0_0 _ (by decide)).trans ?_
  unfold kernelRun0_D.sl.HS0_1
  refine (View.canon_cons_unit_lit _ _ _ (by decide)).trans ?_
  simp only [load_all a0 h0 x0 inb_S2048x1024_S2048x1024_0_0 (by decide), load_all a2 h2 x2 inb_S2048x1408_S2048x1408_0_0 (by decide), load_all a4 h4 s inb_S1024x1408_S1024x1408_0_0 (by decide)]

theorem pay2_at (x : Vec Ideal S2048x1024 .bf16) (y : Vec Ideal S2048x1408 .bf16) (i : Fin 1024) (j : Fin 1408) :
    k0_pay2 x y (ix2 i j) = ∑ k : Fin 2048, x (ix2 k i) * y (ix2 k j) := by
  pointwise! [k0_pay2, k0_pay1]
theorem pay3_at (x : Vec Ideal S2048x1024 .bf16) (y : Vec Ideal S2048x1408 .bf16) (s : Vec Ideal S1024x1408 .f32) (i : Fin 1024) (j : Fin 1408) :
    k0_pay3 x y s (ix2 i j) = s (ix2 i j) + ∑ k : Fin 2048, x (ix2 k i) * y (ix2 k j) := by
  pointwise! [k0_pay3, k0_pay1]

theorem pay5_at (x : Vec Ideal S2048x1024 .bf16) (y : Vec Ideal S2048x1408 .bf16) (i : Fin 1024) (j : Fin 1408) :
    k0_pay5 x y (ix2 i j) = ∑ k : Fin 2048, x (ix2 k i) * y (ix2 k j) := by
  pointwise! [k0_pay5, k0_pay4]
theorem pay6_at (x : Vec Ideal S2048x1024 .bf16) (y : Vec Ideal S2048x1408 .bf16) (s : Vec Ideal S1024x1408 .f32) (i : Fin 1024) (j : Fin 1408) :
    k0_pay6 x y s (ix2 i j) = s (ix2 i j) + ∑ k : Fin 2048, x (ix2 k i) * y (ix2 k j) := by
  pointwise! [k0_pay6, k0_pay4]

theorem idx0 : ∀ t : Fin grid0.N, win0_0.index t 0 = t.val % 2 ∧ win0_0.index t 1 = 0 := by decide +kernel
theorem idx1 : ∀ t : Fin grid0.N, t.val < 4 → win0_1.index t 0 = t.val % 2 ∧ win0_1.index t 1 = t.val / 2 := by decide +kernel
theorem idx2 : ∀ t : Fin grid0.N, 4 ≤ t.val → win0_2.index t 0 = t.val % 2 ∧ win0_2.index t 1 = t.val / 2 - 2 := by decide +kernel
theorem idx3 : ∀ t : Fin grid0.N, win0_3.index t 0 = 0 ∧ win0_3.index t 1 = t.val / 2 := by decide +kernel

/-- Row `k` of row block `a`; column `j` of the point's column block. -/
def ro (a : Fin 2) (k : Fin 2048) : Fin 4096 := ⟨a.val * 2048 + k.val, by omega⟩
def co (t : Fin cfg0.N) (j : Fin 1408) : Fin 5632 := ⟨t.val / 2 * 1408 + j.val, by have : t.val < 8 := lt_of_lt_of_eq t.isLt N_0; omega⟩

variable (m : (ℓ : Loc nD τ sig) → Buf (Elt Ideal) ℓ) (c : Dev nD)

def A0 : FVec Ideal S4096x1024 .bf16 := m ((c.tc : Thread nD τ).loc main_arg0)
def A1 : FVec Ideal S4096x2816 .bf16 := m ((c.tc : Thread nD τ).loc main_arg1)
def A2 : FVec Ideal S4096x2816 .bf16 := m ((c.tc : Thread nD τ).loc main_arg2)

/-- The two halves of the gradient beside each other. -/
def both (k : Fin 4096) (j : Fin 5632) : EReal :=
  if e : j.val < 2816 then A1 m c (ix2 k ⟨j.val, e⟩) else A2 m c (ix2 k ⟨j.val - 2816, by omega⟩)

theorem blk0 (t : Fin cfg0.N) (a : Fin 2) (ha : t.val % 2 = a.val) (k : Fin 2048) (i : Fin 1024) : iblk m c 0 t (ix2 k i) = A0 m c (ix2 (ro a k) i) := by
  unfold iblk
  rw [View.read_apply]
  show V m c main_arg0 _ = _
  rw [V_main_arg0]
  refine congrArg (A0 m c) (funext fun e => Fin.ext ?_)
  match e with
  | ⟨0, _⟩ => show win0_0.index t 0 * 2048 + 1 * k.val = a.val * 2048 + k.val; rw [(idx0 t).1, ha]; omega
  | ⟨1, _⟩ => show win0_0.index t 1 * 1024 + 1 * i.val = i.val; rw [(idx0 t).2]; omega
theorem blk1 (t : Fin cfg0.N) (h4 : t.val < 4) (a : Fin 2) (ha : t.val % 2 = a.val) (k : Fin 2048) (j : Fin 1408) : iblk m c 1 t (ix2 k j) = both m c (ro a k) (co t j) := by
  have hj : (co t j).val < 2816 := by show t.val / 2 * 1408 + j.val < 2816; omega
  unfold both
  rw [dif_pos hj]
  unfold iblk
  rw [View.read_apply]
  show V m c main_arg1 _ = _
  rw [V_main_arg1]
  refine congrArg (A1 m c) (funext fun e => Fin.ext ?_)
  match e with
  | ⟨0, _⟩ => show win0_1.index t 0 * 2048 + 1 * k.val = a.val * 2048 + k.val; rw [(idx1 t h4).1, ha]; omega
  | ⟨1, _⟩ => show win0_1.index t 1 * 1408 + 1 * j.val = t.val / 2 * 1408 + j.val; rw [(idx1 t h4).2]; omega
theorem blk2 (t : Fin cfg0.N) (h4 : 4 ≤ t.val) (a : Fin 2) (ha : t.val % 2 = a.val) (k : Fin 2048) (j : Fin 1408) : iblk m c 2 t (ix2 k j) = both m c (ro a k) (co t j) := by
  have hj : ¬(co t j).val < 2816 := by show ¬t.val / 2 * 1408 + j.val < 2816; omega
  unfold both
  rw [dif_neg hj]
  unfold iblk
  rw [View.read_apply]
  show V m c main_arg2 _ = _
  rw [V_main_arg2]
  refine congrArg (A2 m c) (funext fun e => Fin.ext ?_)
  match e with
  | ⟨0, _⟩ => show win0_2.index t 0 * 2048 + 1 * k.val = a.val * 2048 + k.val; rw [(idx2 t h4).1, ha]; omega
  | ⟨1, _⟩ => show win0_2.index t 1 * 1408 + 1 * j.val = t.val / 2 * 1408 + j.val - 2816; rw [(idx2 t h4).2]; omega
theorem at3 (t : Fin cfg0.N) (i : Fin 1024) (j : Fin 1408) :
    (((cfg0.win 3).blk t).view.emb (ix2 i j) : S1024x5632.Idx) = ix2 i (co t j) := funext fun a => Fin.ext (by
  match a with
  | ⟨0, _⟩ => show win0_3.index t 0 * 1024 + 1 * i.val = i.val; rw [(idx3 t).1]; omega
  | ⟨1, _⟩ => show win0_3.index t 1 * 1408 + 1 * j.val = t.val / 2 * 1408 + j.val; rw [(idx3 t).2]; omega)

/-- The product over row block `a`. -/
def blockSum (a : Fin 2) (i : Fin 1024) (j : Fin 5632) : EReal := ∑ k : Fin 2048, A0 m c (ix2 (ro a k) i) * both m c (ro a k) j

/-- What a first point leaves behind. -/
theorem first_at (t : Fin cfg0.N) (he : t.val % 2 = 0) (i : Fin 1024) (j : Fin 1408) :
    (outsAt0 m c t.val t.isLt).2 (ix2 i j) = blockSum m c 0 i (co t j) := by
  have h0 := fun k i => blk0 m c t 0 he k i
  by_cases h4 : t.val < 4
  · have h1 := fun k j => blk1 m c t h4 0 he k j
    rw [outsAt0_A m c t h4 he (by omega) (by omega) (by omega)]
    dsimp only
    rw [left_A, pay2_at]
    exact Finset.sum_congr rfl fun k _ => congrArg₂ (· * ·) (h0 k i) (h1 k j)
  · have h1 := fun k j => blk2 m c t (by omega) 0 he k j
    rw [outsAt0_C m c t h4 (by omega) he (by omega) (by omega)]
    dsimp only
    rw [left_C, pay5_at]
    exact Finset.sum_congr rfl fun k _ => congrArg₂ (· * ·) (h0 k i) (h1 k j)

/-- What a second point writes. -/
theorem second_at (t : Fin cfg0.N) (he : t.val % 2 = 1) (i : Fin 1024) (j : Fin 1408) :
    (outsAt0 m c t.val t.isLt).1 (ix2 i j) = blockSum m c 0 i (co t j) + blockSum m c 1 i (co t j) := by
  have h0 := fun k i => blk0 m c t 1 he k i
  have hc : co ⟨t.val - 1, Nat.lt_of_le_of_lt (Nat.sub_le _ _) t.isLt⟩ j = co t j := Fin.ext (by
    show (t.val - 1) / 2 * 1408 + j.val = t.val / 2 * 1408 + j.val
    have : (t.val - 1) / 2 = t.val / 2 := by omega
    rw [this])
  have hp := first_at m c ⟨t.val - 1, Nat.lt_of_le_of_lt (Nat.sub_le _ _) t.isLt⟩ (by show (t.val - 1) % 2 = 0; omega) i j
  rw [hc] at hp
  by_cases h4 : t.val < 4
  · have h1 := fun k j => blk1 m c t h4 1 he k j
    rw [outsAt0_B m c t h4 (by omega) he he (by omega)]
    dsimp only
    rw [left_B, pay3_at]
    exact congrArg₂ (· + ·) hp (Finset.sum_congr rfl fun k _ => congrArg₂ (· * ·) (h0 k i) (h1 k j))
  · have h1 := fun k j => blk2 m c t (by omega) 1 he k j
    rw [outsAt0_D m c t h4 (by omega) (by omega) he he]
    dsimp only
    rw [left_D, pay6_at]
    exact congrArg₂ (· + ·) hp (Finset.sum_congr rfl fun k _ => congrArg₂ (· * ·) (h0 k i) (h1 k j))

theorem sum_both (i : Fin 1024) (j : Fin 5632) :
    blockSum m c 0 i j + blockSum m c 1 i j = ∑ k : Fin 4096, both m c k j * A0 m c (ix2 k i) := by
  refine Eq.trans ?_ (Cert.Prod.sum_blocks (n := 2) (l := 2048) (by norm_num) _).symm
  rw [Fin.sum_univ_two]
  exact congrArg₂ (· + ·) (Finset.sum_congr rfl fun k _ => mul_comm _ _) (Finset.sum_congr rfl fun k _ => mul_comm _ _)

/-- An array with these elements is the one after the launch. -/
theorem final (G : FVec Ideal S1024x5632 .f32)
    (hG : ∀ (i : Fin 1024) (j : Fin 5632), G (ix2 i j) = ∑ k : Fin 4096, both m c k j * A0 m c (ix2 k i)) :
    (dats m 0 c).arrAt 3 cfg0.N = G := by
  refine (dats m 0 c).arrAt_eq_of_covers 3 G (by decide +kernel) fun t hf y => ?_
  obtain ⟨i, j, rfl⟩ : ∃ (i : Fin 1024) (j : Fin 1408), y = ix2 i j := ⟨_, _, eq_ix2 y⟩
  refine (congrFun (after0_3 m c t) (ix2 i j)).trans ?_
  refine Eq.trans ?_ (congrArg G (at3 t i j)).symm
  rw [hG, ← sum_both]
  exact second_at m c t ((flush0_3 t).mp hf) i j

end Cert.Kernel4Ideal.Prod

end
-- ==== Proof.Prod.DwUpRef.lean ====
/- The reference of the gradient of the up projection's weights, read at one element. -/
module

public import proofs.«01_k».proof.Proof.Gen.Reference4Ideal.Run
public import Idealize.ShloMosaic.Lib.Pointwise
public import Idealize.ShloMosaic.PureOps.Ideal

@[expose] public section

set_option maxRecDepth 16384

noncomputable section

namespace Cert.Reference4Ideal.Prod

open Idealize.ShloMosaic Idealize.ShloMosaic.TcCoe
open Cert.Reference4Ideal Cert.Reference4Ideal.Facts₀ Cert.Reference4Ideal.Facts

/-- The reference's result as a term of its arguments. -/
def G (h : FVec Ideal S4096x1024 .bf16) (a b : FVec Ideal S4096x2816 .bf16) : FVec Ideal S1024x5632 .f32 :=
  transpose S1024x5632 [1, 0] (Host.dotGeneral dot_S4096x5632_S4096x1024_S5632x1024_0_0_1_1_n_n none (concatenate S4096x5632 1 [⟨S4096x2816, (extf .f32 a bitsLt_bf16_f32)⟩, ⟨S4096x2816, (extf .f32 b bitsLt_bf16_f32)⟩] concatenates_S4096x2816_S4096x2816_S4096x5632_d1) (extf .f32 h bitsLt_bf16_f32)) transposes_S5632x1024_S1024x5632_1_0

theorem G_at (h : FVec Ideal S4096x1024 .bf16) (a b : FVec Ideal S4096x2816 .bf16) (i : Fin 1024) (j : Fin 5632) :
    G h a b (ix2 i j) = ∑ k : Fin 4096, (if e : j.val < 2816 then a (ix2 k ⟨j.val, e⟩) else b (ix2 k ⟨j.val - 2816, by omega⟩)) * h (ix2 k i) := by
  pointwise! [G]

end Cert.Reference4Ideal.Prod

end
-- ==== Proof.Prod.DAct.lean ====
/- The gradient at the down projection's input after the launch: the reference's product, element by element. -/
module

public import proofs.«01_k».proof.Proof.Gen.Kernel5Ideal.Value
public import proofs.«01_k».proof.Proof.Gen.Reference5Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference5Ideal.Prod

open Idealize.ShloMosaic Idealize.ShloMosaic.TcCoe
open Cert.Reference5Ideal Cert.Reference5Ideal.Facts₀ Cert.Reference5Ideal.Facts

/-- The reference's result as a term of its arguments. -/
def G (x : FVec Ideal S4096x1024 .bf16) (w : FVec Ideal S2816x1024 .bf16) : FVec Ideal S4096x2816 .f32 :=
  Host.dotGeneral dot_S4096x1024_S2816x1024_S4096x2816_1_1_0_0_n_n none (extf .f32 x bitsLt_bf16_f32) (extf .f32 w bitsLt_bf16_f32)

theorem G_at (x : FVec Ideal S4096x1024 .bf16) (w : FVec Ideal S2816x1024 .bf16) (i : Fin 4096) (j : Fin 2816) :
    G x w (ix2 i j) = ∑ k : Fin 1024, x (ix2 i k) * w (ix2 j k) := by
  pointwise! [G]

end Cert.Reference5Ideal.Prod

namespace Cert.Kernel5Ideal.Prod

open Idealize.ShloMosaic Idealize.ShloMosaic.TcCoe
open Idealize.SL.Sem
open Cert.Kernel5Ideal Cert.Kernel5Ideal.Gen

theorem pay_at (p : Vec Ideal S2048x1024 .bf16) (w : Vec Ideal S1408x1024 .bf16) (i : Fin 2048) (j : Fin 1408) : k0_pay1 p w (ix2 i j) = ∑ k : Fin 1024, p (ix2 i k) * w (ix2 j k) := by
  pointwise! [k0_pay1]

/-- What a point leaves, element by element. -/
theorem out_at (p : Vec Ideal S2048x1024 .bf16) (w : Vec Ideal S1408x1024 .bf16) (i : Fin 2048) (j : Fin 1408) : out0_2 p w (ix2 i j) = ∑ k : Fin 1024, p (ix2 i k) * w (ix2 j k) := by
  have e : out0_2 p w = k0_pay1 p w := (View.canon_cons_unit_lit _ _ _ (by decide)).trans
    (congrArg₂ k0_pay1 (View.ld_unit_lit _ _ (by decide)) (View.ld_unit_lit _ _ (by decide)))
  rw [e, pay_at]

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel

/-- Row `i` of the point's row block, column `j` of its column block. -/
def ro (t : Fin cfg0.N) (i : Fin 2048) : Fin 4096 := ⟨t.val / 2 * 2048 + i.val, by have : t.val < 4 := lt_of_lt_of_eq t.isLt N_0; omega⟩
def co (t : Fin cfg0.N) (j : Fin 1408) : Fin 2816 := ⟨t.val % 2 * 1408 + j.val, by omega⟩

variable (m : (ℓ : Loc nD τ sig) → Buf (Elt Ideal) ℓ) (c : Dev nD)

def A0 : FVec Ideal S4096x1024 .bf16 := m ((c.tc : Thread nD τ).loc main_arg0)
def A1 : FVec Ideal S2816x1024 .bf16 := m ((c.tc : Thread nD τ).loc main_arg1)

theorem blk0 (t : Fin cfg0.N) (i : Fin 2048) (k : Fin 1024) : iblk m c 0 t (ix2 i k) = A0 m c (ix2 (ro t i) k) := by
  unfold iblk
  rw [View.read_apply]
  show V m c main_arg0 _ = _
  rw [V_main_arg0]
  refine congrArg (A0 m c) (funext fun e => Fin.ext ?_)
  match e with
  | ⟨0, _⟩ => show win0_0.index t 0 * 2048 + 1 * i.val = t.val / 2 * 2048 + i.val; rw [(idx0 t).1]; omega
  | ⟨1, _⟩ => show win0_0.index t 1 * 1024 + 1 * k.val = k.val; rw [(idx0 t).2]; omega
theorem blk1 (t : Fin cfg0.N) (j : Fin 1408) (k : Fin 1024) : iblk m c 1 t (ix2 j k) = A1 m c (ix2 (co t j) k) := by
  unfold iblk
  rw [View.read_apply]
  show V m c main_arg1 _ = _
  rw [V_main_arg1]
  refine congrArg (A1 m c) (funext fun e => Fin.ext ?_)
  match e with
  | ⟨0, _⟩ => show win0_1.index t 0 * 1408 + 1 * j.val = t.val % 2 * 1408 + j.val; rw [(idx1 t).1]; omega
  | ⟨1, _⟩ => show win0_1.index t 1 * 1024 + 1 * k.val = k.val; rw [(idx1 t).2]; omega
theorem at2 (t : Fin cfg0.N) (i : Fin 2048) (j : Fin 1408) :
    (((cfg0.win 2).blk t).view.emb (ix2 i j) : S4096x2816.Idx) = ix2 (ro t i) (co t j) := funext fun a => Fin.ext (by
  match a with
  | ⟨0, _⟩ => show win0_2.index t 0 * 2048 + 1 * i.val = t.val / 2 * 2048 + i.val; rw [(idx2 t).1]; omega
  | ⟨1, _⟩ => show win0_2.index t 1 * 1408 + 1 * j.val = t.val % 2 * 1408 + j.val; rw [(idx2 t).2]; omega)

/-- What point `t` leaves, of the arguments. -/
theorem left_at (t : Fin cfg0.N) (i : Fin 2048) (j : Fin 1408) : out0_2 (iblk m c 0 t) (iblk m c 1 t) (ix2 i j)
    = ∑ k : Fin 1024, A0 m c (ix2 (ro t i) k) * A1 m c (ix2 (co t j) k) := by
  have h0 := fun i k => blk0 m c t i k
  have h1 := fun i k => blk1 m c t i k
  generalize iblk m c 0 t = p at *
  generalize iblk m c 1 t = w at *
  refine (out_at p w i j).trans ?_
  simp only [h0, h1]

/-- An array with these elements is the one after the launch. -/
theorem final (G : FVec Ideal S4096x2816 .f32)
    (hG : ∀ (i : Fin 4096) (j : Fin 2816), G (ix2 i j) = ∑ k : Fin 1024, A0 m c (ix2 i k) * A1 m c (ix2 j k)) : (dats m 0 c).arrAt 2 cfg0.N = G := by
  refine (dats m 0 c).arrAt_eq_of_covers 2 G (by decide +kernel) fun t hf y => ?_
  obtain ⟨i, j, rfl⟩ : ∃ (i : Fin 2048) (j : Fin 1408), y = ix2 i j := ⟨_, _, eq_ix2 y⟩
  refine (congrFun (after0_2 m c t) (ix2 i j)).trans ?_
  refine Eq.trans ?_ (congrArg G (at2 t i j)).symm
  rw [hG, left_at]

end Cert.Kernel5Ideal.Prod

end
-- ==== Proof.Prod.DwDown.lean ====
/- The weight gradient of the down projection after the launch: the reference's product, element by element. -/
module

public import proofs.«01_k».proof.Proof.Gen.Kernel6Ideal.Value
public import proofs.«01_k».proof.Proof.Gen.Reference6Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference6Ideal.Prod

open Idealize.ShloMosaic Idealize.ShloMosaic.TcCoe
open Cert.Reference6Ideal Cert.Reference6Ideal.Facts₀ Cert.Reference6Ideal.Facts

/-- The reference's result as a term of its arguments. -/
def G (x : FVec Ideal S4096x2816 .bf16) (w : FVec Ideal S4096x1024 .bf16) : FVec Ideal S2816x1024 .f32 :=
  transpose S2816x1024 [1, 0] (Host.dotGeneral dot_S4096x1024_S4096x2816_S1024x2816_0_0_1_1_n_n none (extf .f32 w bitsLt_bf16_f32) (extf .f32 x bitsLt_bf16_f32)) transposes_S1024x2816_S2816x1024_1_0

theorem G_at (x : FVec Ideal S4096x2816 .bf16) (w : FVec Ideal S4096x1024 .bf16) (i : Fin 2816) (j : Fin 1024) :
    G x w (ix2 i j) = ∑ k : Fin 4096, w (ix2 k j) * x (ix2 k i) := by
  pointwise! [G]

end Cert.Reference6Ideal.Prod

namespace Cert.Kernel6Ideal.Prod

open Idealize.ShloMosaic Idealize.ShloMosaic.TcCoe
open Idealize.SL.Sem
open Cert.Kernel6Ideal Cert.Kernel6Ideal.Gen

/-- What a load through `r` reads of a buffer holding `x`. -/
theorem load_whole {S : Shape} {e : EltTy} (M : Memref sig .tc .vmem S e) (h : M.IsWhole) (x : Vec Ideal S e) (r : Rect S) :
    M.view.readAt (Elt Ideal) r.toLoadRect (h.unread x) = View.ld x r := by
  rw [View.readAt_eq_ld, h.read_unread]
theorem load_all {S : Shape} {e : EltTy} (M : Memref sig .tc .vmem S e) (h : M.IsWhole) (x : Vec Ideal S e) {off : Fin S.rank → Nat}
    (inb : ∀ a, off a + S.size a ≤ S.size a) (h0 : ∀ a, off a = 0) :
    M.view.readAt (Elt Ideal) (Rect.unit off S.size inb).toLoadRect (h.unread x) = x :=
  (load_whole M h x _).trans (View.ld_unit_lit inb x h0)

/-- What the two points of a block leave: the first its product, the second that product added to it. -/
theorem left_A (c : Dev nD) (i : grid0.Coords) (a0 : Memref sig .tc .vmem S2048x1408 .bf16) (h0 : a0.IsWhole) (a1 : Memref sig .tc .vmem S2048x1024 .bf16) (h1 : a1.IsWhole)
    (a2 : Memref sig .tc .vmem S1408x1024 .f32) (h2 : a2.IsWhole) (a3 : Memref sig .tc .vmem S1408x1024 .f32) (h3 : a3.IsWhole)
    (c0 : cond0_0 i) (c1 : ¬cond0_1 i) (c2 : ¬cond0_2 i)
    (x0 : Vec Ideal S2048x1408 .bf16) (x1 : Vec Ideal S2048x1024 .bf16) : sout0_A_0 c i a0 h0 a1 h1 a2 h2 a3 h3 c0 c1 c2 x0 x1 = k0_pay2 x0 x1 := by
  refine (View.read_writes_eq_canon VS0_0 _ _ (scover0_A_0 c i a0 h0 a1 h1 a2 h2 a3 h3 c0 c1 c2 x0 x1)).trans ?_
  unfold kernelRun0_A
  dsimp only
  refine (View.canon_cons_unit_lit _ _ _ (by decide)).trans ?_
  simp only [load_all a0 h0 x0 inb_S2048x1408_S2048x1408_0_0 (by decide), load_all a1 h1 x1 inb_S2048x1024_S2048x1024_0_0 (by decide)]
theorem left_B (c : Dev nD) (i : grid0.Coords) (a0 : Memref sig .tc .vmem S2048x1408 .bf16) (h0 : a0.IsWhole) (a1 : Memref sig .tc .vmem S2048x1024 .bf16) (h1 : a1.IsWhole)
    (a2 : Memref sig .tc .vmem S1408x1024 .f32) (h2 : a2.IsWhole) (a3 : Memref sig .tc .vmem S1408x1024 .f32) (h3 : a3.IsWhole)
    (c0 : ¬cond0_0 i) (c1 : cond0_1 i) (c2 : cond0_2 i)
    (x0 : Vec Ideal S2048x1408 .bf16) (x1 : Vec Ideal S2048x1024 .bf16) (s : Vec Ideal S1408x1024 .f32) : out0_B_2 c i a0 h0 a1 h1 a2 h2 a3 h3 c0 c1 c2 x0 x1 s = k0_pay3 x0 x1 s := by
  refine (View.read_writes_eq_canon VO0_2 _ _ (cover0_B_2 c i a0 h0 a1 h1 a2 h2 a3 h3 c0 c1 c2 x0 x1 s)).trans ?_
  unfold kernelRun0_B
  dsimp only
  refine (View.canon_cons_unit_lit _ _ _ (by decide)).trans ?_
  unfold kernelRun0_B.sl.v12
  refine (View.readCov_eq_canon' _ _ _).trans ?_
  refine (View.ld_unit_lit inb_S1408x1024_S1408x1024_0_0 _ (by decide)).trans ?_
  unfold kernelRun0_B.sl.HS0_1
  refine (View.canon_cons_unit_lit _ _ _ (by decide)).trans ?_
  simp only [load_all a0 h0 x0 inb_S2048x1408_S2048x1408_0_0 (by decide), load_all a1 h1 x1 inb_S2048x1024_S2048x1024_0_0 (by decide), load_all a3 h3 s inb_S1408x1024_S1408x1024_0_0 (by decide)]

theorem pay2_at (x : Vec Ideal S2048x1408 .bf16) (y : Vec Ideal S2048x1024 .bf16) (i : Fin 1408) (j : Fin 1024) :
    k0_pay2 x y (ix2 i j) = ∑ k : Fin 2048, x (ix2 k i) * y (ix2 k j) := by
  pointwise! [k0_pay2, k0_pay1]
theorem pay3_at (x : Vec Ideal S2048x1408 .bf16) (y : Vec Ideal S2048x1024 .bf16) (s : Vec Ideal S1408x1024 .f32) (i : Fin 1408) (j : Fin 1024) :
    k0_pay3 x y s (ix2 i j) = s (ix2 i j) + ∑ k : Fin 2048, x (ix2 k i) * y (ix2 k j) := by
  pointwise! [k0_pay3, k0_pay1]

theorem idx0 : ∀ t : Fin grid0.N, win0_0.index t 0 = t.val % 2 ∧ win0_0.index t 1 = t.val / 2 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = 0 := by decide +kernel

/-- Row `k` of row block `a`; row `i` of the point's block of the result; its column `j`. -/
def ko (a : Fin 2) (k : Fin 2048) : Fin 4096 := ⟨a.val * 2048 + k.val, by omega⟩
def ro (t : Fin cfg0.N) (i : Fin 1408) : Fin 2816 := ⟨t.val / 2 * 1408 + i.val, by have : t.val < 4 := lt_of_lt_of_eq t.isLt N_0; omega⟩
def co (t : Fin cfg0.N) (j : Fin 1024) : Fin 1024 := ⟨0 * 1024 + j.val, by omega⟩

variable (m : (ℓ : Loc nD τ sig) → Buf (Elt Ideal) ℓ) (c : Dev nD)

def A0 : FVec Ideal S4096x2816 .bf16 := m ((c.tc : Thread nD τ).loc main_arg0)
def A1 : FVec Ideal S4096x1024 .bf16 := m ((c.tc : Thread nD τ).loc main_arg1)

theorem blk0 (t : Fin cfg0.N) (a : Fin 2) (ha : t.val % 2 = a.val) (k : Fin 2048) (i : Fin 1408) : iblk m c 0 t (ix2 k i) = A0 m c (ix2 (ko a k) (ro t i)) := by
  unfold iblk
  rw [View.read_apply]
  show V m c main_arg0 _ = _
  rw [V_main_arg0]
  refine congrArg (A0 m c) (funext fun e => Fin.ext ?_)
  match e with
  | ⟨0, _⟩ => show win0_0.index t 0 * 2048 + 1 * k.val = a.val * 2048 + k.val; rw [(idx0 t).1, ha]; omega
  | ⟨1, _⟩ => show win0_0.index t 1 * 1408 + 1 * i.val = t.val / 2 * 1408 + i.val; rw [(idx0 t).2]; omega
theorem blk1 (t : Fin cfg0.N) (a : Fin 2) (ha : t.val % 2 = a.val) (k : Fin 2048) (j : Fin 1024) : iblk m c 1 t (ix2 k j) = A1 m c (ix2 (ko a k) (co t j)) := by
  unfold iblk
  rw [View.read_apply]
  show V m c main_arg1 _ = _
  rw [V_main_arg1]
  refine congrArg (A1 m c) (funext fun e => Fin.ext ?_)
  match e with
  | ⟨0, _⟩ => show win0_1.index t 0 * 2048 + 1 * k.val = a.val * 2048 + k.val; rw [(idx1 t).1, ha]; omega
  | ⟨1, _⟩ => show win0_1.index t 1 * 1024 + 1 * j.val = 0 * 1024 + j.val; rw [(idx1 t).2]; omega
theorem at2 (t : Fin cfg0.N) (i : Fin 1408) (j : Fin 1024) :
    (((cfg0.win 2).blk t).view.emb (ix2 i j) : S2816x1024.Idx) = ix2 (ro t i) (co t j) := funext fun a => Fin.ext (by
  match a with
  | ⟨0, _⟩ => show win0_2.index t 0 * 1408 + 1 * i.val = t.val / 2 * 1408 + i.val; rw [(idx2 t).1]; omega
  | ⟨1, _⟩ => show win0_2.index t 1 * 1024 + 1 * j.val = 0 * 1024 + j.val; rw [(idx2 t).2]; omega)

/-- The product over row block `a`. -/
def blockSum (a : Fin 2) (i : Fin 2816) (j : Fin 1024) : EReal := ∑ k : Fin 2048, A0 m c (ix2 (ko a k) i) * A1 m c (ix2 (ko a k) j)

/-- What a first point leaves behind. -/
theorem first_at (t : Fin cfg0.N) (he : t.val % 2 = 0) (i : Fin 1408) (j : Fin 1024) :
    (outsAt0 m c t.val t.isLt).2 (ix2 i j) = blockSum m c 0 (ro t i) (co t j) := by
  have h0 := fun k i => blk0 m c t 0 he k i
  have h1 := fun k j => blk1 m c t 0 he k j
  rw [outsAt0_A m c t he (by omega) (by omega)]
  dsimp only
  rw [left_A, pay2_at]
  exact Finset.sum_congr rfl fun k _ => congrArg₂ (· * ·) (h0 k i) (h1 k j)

/-- What a second point writes. -/
theorem second_at (t : Fin cfg0.N) (he : t.val % 2 = 1) (i : Fin 1408) (j : Fin 1024) :
    (outsAt0 m c t.val t.isLt).1 (ix2 i j) = blockSum m c 0 (ro t i) (co t j) + blockSum m c 1 (ro t i) (co t j) := by
  have h0 := fun k i => blk0 m c t 1 he k i
  have h1 := fun k j => blk1 m c t 1 he k j
  have hr : ro ⟨t.val - 1, Nat.lt_of_le_of_lt (Nat.sub_le _ _) t.isLt⟩ i = ro t i := Fin.ext (by
    show (t.val - 1) / 2 * 1408 + i.val = t.val / 2 * 1408 + i.val
    have : (t.val - 1) / 2 = t.val / 2 := by omega
    rw [this])
  have hp : _ = blockSum m c 0 _ (co t j) := first_at m c ⟨t.val - 1, Nat.lt_of_le_of_lt (Nat.sub_le _ _) t.isLt⟩ (by show (t.val - 1) % 2 = 0; omega) i j
  rw [hr] at hp
  rw [outsAt0_B m c t (by omega) he he]
  dsimp only
  rw [left_B, pay3_at]
  exact congrArg₂ (· + ·) hp (Finset.sum_congr rfl fun k _ => congrArg₂ (· * ·) (h0 k i) (h1 k j))

theorem sum_both (i : Fin 2816) (j : Fin 1024) :
    blockSum m c 0 i j + blockSum m c 1 i j = ∑ k : Fin 4096, A1 m c (ix2 k j) * A0 m c (ix2 k i) := by
  refine Eq.trans ?_ (Cert.Prod.sum_blocks (n := 2) (l := 2048) (by norm_num) _).symm
  rw [Fin.sum_univ_two]
  exact congrArg₂ (· + ·) (Finset.sum_congr rfl fun k _ => mul_comm _ _) (Finset.sum_congr rfl fun k _ => mul_comm _ _)

/-- An array with these elements is the one after the launch. -/
theorem final (G : FVec Ideal S2816x1024 .f32)
    (hG : ∀ (i : Fin 2816) (j : Fin 1024), G (ix2 i j) = ∑ k : Fin 4096, A1 m c (ix2 k j) * A0 m c (ix2 k i)) : (dats m 0 c).arrAt 2 cfg0.N = G := by
  refine (dats m 0 c).arrAt_eq_of_covers 2 G (by decide +kernel) fun t hf y => ?_
  obtain ⟨i, j, rfl⟩ : ∃ (i : Fin 1408) (j : Fin 1024), y = ix2 i j := ⟨_, _, eq_ix2 y⟩
  refine (congrFun (after0_2 m c t) (ix2 i j)).trans ?_
  refine Eq.trans ?_ (congrArg G (at2 t i j)).symm
  rw [hG, ← sum_both]
  exact second_at m c t ((flush0_2 t).mp hf) i j

end Cert.Kernel6Ideal.Prod

end
-- ==== Proof.Prod.DMerged.lean ====
/- The gradient at the output projection's input after the launch: the reference's product, element by element. -/
module

public import proofs.«01_k».proof.Proof.Gen.Kernel7Ideal.Value
public import proofs.«01_k».proof.Proof.Gen.Reference7Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference7Ideal.Prod

open Idealize.ShloMosaic Idealize.ShloMosaic.TcCoe
open Cert.Reference7Ideal Cert.Reference7Ideal.Facts₀ Cert.Reference7Ideal.Facts

/-- The reference's result as a term of its arguments. -/
def G (x : FVec Ideal S4096x1024 .bf16) (w : FVec Ideal S1024x1024 .bf16) : FVec Ideal S4096x1024 .f32 :=
  Host.dotGeneral dot_S4096x1024_S1024x1024_S4096x1024_1_1_0_0_n_n none (extf .f32 x bitsLt_bf16_f32) (extf .f32 w bitsLt_bf16_f32)

theorem G_at (x : FVec Ideal S4096x1024 .bf16) (w : FVec Ideal S1024x1024 .bf16) (i : Fin 4096) (j : Fin 1024) :
    G x w (ix2 i j) = ∑ k : Fin 1024, x (ix2 i k) * w (ix2 j k) := by
  pointwise! [G]

end Cert.Reference7Ideal.Prod

namespace Cert.Kernel7Ideal.Prod

open Idealize.ShloMosaic Idealize.ShloMosaic.TcCoe
open Idealize.SL.Sem
open Cert.Kernel7Ideal Cert.Kernel7Ideal.Gen

theorem pay_at (p : Vec Ideal S1024x1024 .bf16) (w : Vec Ideal S1024x1024 .bf16) (i : Fin 1024) (j : Fin 1024) : k0_pay1 p w (ix2 i j) = ∑ k : Fin 1024, p (ix2 i k) * w (ix2 j k) := by
  pointwise! [k0_pay1]

/-- What a point leaves, element by element. -/
theorem out_at (p : Vec Ideal S1024x1024 .bf16) (w : Vec Ideal S1024x1024 .bf16) (i : Fin 1024) (j : Fin 1024) : out0_2 p w (ix2 i j) = ∑ k : Fin 1024, p (ix2 i k) * w (ix2 j k) := by
  have e : out0_2 p w = k0_pay1 p w := (View.canon_cons_unit_lit _ _ _ (by decide)).trans
    (congrArg₂ k0_pay1 (View.ld_unit_lit _ _ (by decide)) (View.ld_unit_lit _ _ (by decide)))
  rw [e, pay_at]

theorem idx0 : ∀ t : Fin grid0.N, win0_0.index t 0 = t.val / 1 ∧ win0_0.index t 1 = 0 := by decide +kernel
theorem idx1 : ∀ t : Fin grid0.N, win0_1.index t 0 = t.val % 1 ∧ win0_1.index t 1 = 0 := by decide +kernel
theorem idx2 : ∀ t : Fin grid0.N, win0_2.index t 0 = t.val / 1 ∧ win0_2.index t 1 = t.val % 1 := by decide +kernel

/-- Row `i` of the point's row block, column `j` of its column block. -/
def ro (t : Fin cfg0.N) (i : Fin 1024) : Fin 4096 := ⟨t.val / 1 * 1024 + i.val, by have : t.val < 4 := lt_of_lt_of_eq t.isLt N_0; omega⟩
def co (t : Fin cfg0.N) (j : Fin 1024) : Fin 1024 := ⟨t.val % 1 * 1024 + j.val, by omega⟩

variable (m : (ℓ : Loc nD τ sig) → Buf (Elt Ideal) ℓ) (c : Dev nD)

def A0 : FVec Ideal S4096x1024 .bf16 := m ((c.tc : Thread nD τ).loc main_arg0)
def A1 : FVec Ideal S1024x1024 .bf16 := m ((c.tc : Thread nD τ).loc main_arg1)

theorem blk0 (t : Fin cfg0.N) (i : Fin 1024) (k : Fin 1024) : iblk m c 0 t (ix2 i k) = A0 m c (ix2 (ro t i) k) := by
  unfold iblk
  rw [View.read_apply]
  show V m c main_arg0 _ = _
  rw [V_main_arg0]
  refine congrArg (A0 m c) (funext fun e => Fin.ext ?_)
  match e with
  | ⟨0, _⟩ => show win0_0.index t 0 * 1024 + 1 * i.val = t.val / 1 * 1024 + i.val; rw [(idx0 t).1]; omega
  | ⟨1, _⟩ => show win0_0.index t 1 * 1024 + 1 * k.val = k.val; rw [(idx0 t).2]; omega
theorem blk1 (t : Fin cfg0.N) (j : Fin 1024) (k : Fin 1024) : iblk m c 1 t (ix2 j k) = A1 m c (ix2 (co t j) k) := by
  unfold iblk
  rw [View.read_apply]
  show V m c main_arg1 _ = _
  rw [V_main_arg1]
  refine congrArg (A1 m c) (funext fun e => Fin.ext ?_)
  match e with
  | ⟨0, _⟩ => show win0_1.index t 0 * 1024 + 1 * j.val = t.val % 1 * 1024 + j.val; rw [(idx1 t).1]; omega
  | ⟨1, _⟩ => show win0_1.index t 1 * 1024 + 1 * k.val = k.val; rw [(idx1 t).2]; omega
theorem at2 (t : Fin cfg0.N) (i : Fin 1024) (j : Fin 1024) :
    (((cfg0.win 2).blk t).view.emb (ix2 i j) : S4096x1024.Idx) = ix2 (ro t i) (co t j) := funext fun a => Fin.ext (by
  match a with
  | ⟨0, _⟩ => show win0_2.index t 0 * 1024 + 1 * i.val = t.val / 1 * 1024 + i.val; rw [(idx2 t).1]; omega
  | ⟨1, _⟩ => show win0_2.index t 1 * 1024 + 1 * j.val = t.val % 1 * 1024 + j.val; rw [(idx2 t).2]; omega)

/-- What point `t` leaves, of the arguments. -/
theorem left_at (t : Fin cfg0.N) (i : Fin 1024) (j : Fin 1024) : out0_2 (iblk m c 0 t) (iblk m c 1 t) (ix2 i j)
    = ∑ k : Fin 1024, A0 m c (ix2 (ro t i) k) * A1 m c (ix2 (co t j) k) := by
  have h0 := fun i k => blk0 m c t i k
  have h1 := fun i k => blk1 m c t i k
  generalize iblk m c 0 t = p at *
  generalize iblk m c 1 t = w at *
  refine (out_at p w i j).trans ?_
  simp only [h0, h1]

/-- An array with these elements is the one after the launch. -/
theorem final (G : FVec Ideal S4096x1024 .f32)
    (hG : ∀ (i : Fin 4096) (j : Fin 1024), G (ix2 i j) = ∑ k : Fin 1024, A0 m c (ix2 i k) * A1 m c (ix2 j k)) : (dats m 0 c).arrAt 2 cfg0.N = G := by
  refine (dats m 0 c).arrAt_eq_of_covers 2 G (by decide +kernel) fun t hf y => ?_
  obtain ⟨i, j, rfl⟩ : ∃ (i : Fin 1024) (j : Fin 1024), y = ix2 i j := ⟨_, _, eq_ix2 y⟩
  refine (congrFun (after0_2 m c t) (ix2 i j)).trans ?_
  refine Eq.trans ?_ (congrArg G (at2 t i j)).symm
  rw [hG, left_at]

end Cert.Kernel7Ideal.Prod

end
-- ==== Proof.Prod.DHb.lean ====
/- The gradient at the attention branch's result after the launch: the reference's product, element by element. -/
module

public import proofs.«01_k».proof.Proof.Gen.Kernel8Ideal.Value
public import proofs.«01_k».proof.Proof.Gen.Reference8Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference8Ideal.Prod

open Idealize.ShloMosaic Idealize.ShloMosaic.TcCoe
open Cert.Reference8Ideal Cert.Reference8Ideal.Facts₀ Cert.Reference8Ideal.Facts

/-- The reference's result as a term of its arguments. -/
def G (x : FVec Ideal S4096x1024 .bf16) (w : FVec Ideal S1024x1024 .bf16) : FVec Ideal S4096x1024 .bf16 :=
  truncf .bf16 (Host.dotGeneral dot_S4096x1024_S1024x1024_S4096x1024_1_1_0_0_n_n none (extf .f32 x bitsLt_bf16_f32) (extf .f32 w bitsLt_bf16_f32)) bitsLt_bf16_f32

theorem G_at (x : FVec Ideal S4096x1024 .bf16) (w : FVec Ideal S1024x1024 .bf16) (i : Fin 4096) (j : Fin 1024) :
    G x w (ix2 i j) = ∑ k : Fin 1024, x (ix2 i k) * w (ix2 j k) := by
  pointwise! [G]

end Cert.Reference8Ideal.Prod

namespace Cert.Kernel8Ideal.Prod

open Idealize.ShloMosaic Idealize.ShloMosaic.TcCoe
open Idealize.SL.Sem
open Cert.Kernel8Ideal Cert.Kernel8Ideal.Gen

theorem pay_at (p : Vec Ideal S1024x1024 .bf16) (w : Vec Ideal S1024x1024 .bf16) (i : Fin 1024) (j : Fin 1024) : k0_pay1 p w (ix2 i j) = ∑ k : Fin 1024, p (ix2 i k) * w (ix2 j k) := by
  pointwise! [k0_pay1]

/-- What a point leaves, element by element. -/
theorem out_at (p : Vec Ideal S1024x1024 .bf16) (w : Vec Ideal S1024x1024 .bf16) (i : Fin 1024) (j : Fin 1024) : out0_2 p w (ix2 i j) = ∑ k : Fin 1024, p (ix2 i k) * w (ix2 j k) := by
  have e : out0_2 p w = k0_pay1 p w := (View.canon_cons_unit_lit _ _ _ (by decide)).trans
    (congrArg₂ k0_pay1 (View.ld_unit_lit _ _ (by decide)) (View.ld_unit_lit _ _ (by decide)))
  rw [e, pay_at]

theorem idx0 : ∀ t : Fin grid0.N, win0_0.index t 0 = t.val / 1 ∧ win0_0.index t 1 = 0 := by decide +kernel
theorem idx1 : ∀ t : Fin grid0.N, win0_1.index t 0 = t.val % 1 ∧ win0_1.index t 1 = 0 := by decide +kernel
theorem idx2 : ∀ t : Fin grid0.N, win0_2.index t 0 = t.val / 1 ∧ win0_2.index t 1 = t.val % 1 := by decide +kernel

/-- Row `i` of the point's row block, column `j` of its column block. -/
def ro (t : Fin cfg0.N) (i : Fin 1024) : Fin 4096 := ⟨t.val / 1 * 1024 + i.val, by have : t.val < 4 := lt_of_lt_of_eq t.isLt N_0; omega⟩
def co (t : Fin cfg0.N) (j : Fin 1024) : Fin 1024 := ⟨t.val % 1 * 1024 + j.val, by omega⟩

variable (m : (ℓ : Loc nD τ sig) → Buf (Elt Ideal) ℓ) (c : Dev nD)

def A0 : FVec Ideal S4096x1024 .bf16 := m ((c.tc : Thread nD τ).loc main_arg0)
def A1 : FVec Ideal S1024x1024 .bf16 := m ((c.tc : Thread nD τ).loc main_arg1)

theorem blk0 (t : Fin cfg0.N) (i : Fin 1024) (k : Fin 1024) : iblk m c 0 t (ix2 i k) = A0 m c (ix2 (ro t i) k) := by
  unfold iblk
  rw [View.read_apply]
  show V m c main_arg0 _ = _
  rw [V_main_arg0]
  refine congrArg (A0 m c) (funext fun e => Fin.ext ?_)
  match e with
  | ⟨0, _⟩ => show win0_0.index t 0 * 1024 + 1 * i.val = t.val / 1 * 1024 + i.val; rw [(idx0 t).1]; omega
  | ⟨1, _⟩ => show win0_0.index t 1 * 1024 + 1 * k.val = k.val; rw [(idx0 t).2]; omega
theorem blk1 (t : Fin cfg0.N) (j : Fin 1024) (k : Fin 1024) : iblk m c 1 t (ix2 j k) = A1 m c (ix2 (co t j) k) := by
  unfold iblk
  rw [View.read_apply]
  show V m c main_arg1 _ = _
  rw [V_main_arg1]
  refine congrArg (A1 m c) (funext fun e => Fin.ext ?_)
  match e with
  | ⟨0, _⟩ => show win0_1.index t 0 * 1024 + 1 * j.val = t.val % 1 * 1024 + j.val; rw [(idx1 t).1]; omega
  | ⟨1, _⟩ => show win0_1.index t 1 * 1024 + 1 * k.val = k.val; rw [(idx1 t).2]; omega
theorem at2 (t : Fin cfg0.N) (i : Fin 1024) (j : Fin 1024) :
    (((cfg0.win 2).blk t).view.emb (ix2 i j) : S4096x1024.Idx) = ix2 (ro t i) (co t j) := funext fun a => Fin.ext (by
  match a with
  | ⟨0, _⟩ => show win0_2.index t 0 * 1024 + 1 * i.val = t.val / 1 * 1024 + i.val; rw [(idx2 t).1]; omega
  | ⟨1, _⟩ => show win0_2.index t 1 * 1024 + 1 * j.val = t.val % 1 * 1024 + j.val; rw [(idx2 t).2]; omega)

/-- What point `t` leaves, of the arguments. -/
theorem left_at (t : Fin cfg0.N) (i : Fin 1024) (j : Fin 1024) : out0_2 (iblk m c 0 t) (iblk m c 1 t) (ix2 i j)
    = ∑ k : Fin 1024, A0 m c (ix2 (ro t i) k) * A1 m c (ix2 (co t j) k) := by
  have h0 := fun i k => blk0 m c t i k
  have h1 := fun i k => blk1 m c t i k
  generalize iblk m c 0 t = p at *
  generalize iblk m c 1 t = w at *
  refine (out_at p w i j).trans ?_
  simp only [h0, h1]

/-- An array with these elements is the one after the launch. -/
theorem final (G : FVec Ideal S4096x1024 .bf16)
    (hG : ∀ (i : Fin 4096) (j : Fin 1024), G (ix2 i j) = ∑ k : Fin 1024, A0 m c (ix2 i k) * A1 m c (ix2 j k)) : (dats m 0 c).arrAt 2 cfg0.N = G := by
  refine (dats m 0 c).arrAt_eq_of_covers 2 G (by decide +kernel) fun t hf y => ?_
  obtain ⟨i, j, rfl⟩ : ∃ (i : Fin 1024) (j : Fin 1024), y = ix2 i j := ⟨_, _, eq_ix2 y⟩
  refine (congrFun (after0_2 m c t) (ix2 i j)).trans ?_
  refine Eq.trans ?_ (congrArg G (at2 t i j)).symm
  rw [hG, left_at]

end Cert.Kernel8Ideal.Prod

end
-- ==== Proof.Prod.DwOut.lean ====
/- The weight gradient of the output projection after the launch: the reference's product, element by element. -/
module

public import proofs.«01_k».proof.Proof.Gen.Kernel9Ideal.Value
public import proofs.«01_k».proof.Proof.Gen.Reference9Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference9Ideal.Prod

open Idealize.ShloMosaic Idealize.ShloMosaic.TcCoe
open Cert.Reference9Ideal Cert.Reference9Ideal.Facts₀ Cert.Reference9Ideal.Facts

/-- The reference's result as a term of its arguments. -/
def G (x : FVec Ideal S4096x1024 .bf16) (w : FVec Ideal S4096x1024 .bf16) : FVec Ideal S1024x1024 .f32 :=
  transpose S1024x1024 [1, 0] (Host.dotGeneral dot_S4096x1024_S4096x1024_S1024x1024_0_0_1_1_n_n none (extf .f32 w bitsLt_bf16_f32) (extf .f32 x bitsLt_bf16_f32)) transposes_S1024x1024_S1024x1024_1_0

theorem G_at (x : FVec Ideal S4096x1024 .bf16) (w : FVec Ideal S4096x1024 .bf16) (i : Fin 1024) (j : Fin 1024) :
    G x w (ix2 i j) = ∑ k : Fin 4096, w (ix2 k j) * x (ix2 k i) := by
  pointwise! [G]

end Cert.Reference9Ideal.Prod

namespace Cert.Kernel9Ideal.Prod

open Idealize.ShloMosaic Idealize.ShloMosaic.TcCoe
open Idealize.SL.Sem
open Cert.Kernel9Ideal Cert.Kernel9Ideal.Gen

/-- What a load through `r` reads of a buffer holding `x`. -/
theorem load_whole {S : Shape} {e : EltTy} (M : Memref sig .tc .vmem S e) (h : M.IsWhole) (x : Vec Ideal S e) (r : Rect S) :
    M.view.readAt (Elt Ideal) r.toLoadRect (h.unread x) = View.ld x r := by
  rw [View.readAt_eq_ld, h.read_unread]
theorem load_all {S : Shape} {e : EltTy} (M : Memref sig .tc .vmem S e) (h : M.IsWhole) (x : Vec Ideal S e) {off : Fin S.rank → Nat}
    (inb : ∀ a, off a + S.size a ≤ S.size a) (h0 : ∀ a, off a = 0) :
    M.view.readAt (Elt Ideal) (Rect.unit off S.size inb).toLoadRect (h.unread x) = x :=
  (load_whole M h x _).trans (View.ld_unit_lit inb x h0)

/-- What the two points of a block leave: the first its product, the second that product added to it. -/
theorem left_A (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : cond0_0 i) (c1 : ¬cond0_1 i) (c2 : ¬cond0_2 i)
    (x0 : Vec Ideal S2048x1024 .bf16) (x1 : Vec Ideal S2048x1024 .bf16) : sout0_A_0 c i a0 h0 a1 h1 a2 h2 a3 h3 c0 c1 c2 x0 x1 = k0_pay2 x0 x1 := by
  refine (View.read_writes_eq_canon VS0_0 _ _ (scover0_A_0 c i a0 h0 a1 h1 a2 h2 a3 h3 c0 c1 c2 x0 x1)).trans ?_
  unfold kernelRun0_A
  dsimp only
  refine (View.canon_cons_unit_lit _ _ _ (by decide)).trans ?_
  simp only [load_all a0 h0 x0 inb_S2048x1024_S2048x1024_0_0 (by decide), load_all a1 h1 x1 inb_S2048x1024_S2048x1024_0_0 (by decide)]
theorem left_B (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (c0 : ¬cond0_0 i) (c1 : cond0_1 i) (c2 : cond0_2 i)
    (x0 : Vec Ideal S2048x1024 .bf16) (x1 : Vec Ideal S2048x1024 .bf16) (s : Vec Ideal S1024x1024 .f32) : out0_B_2 c i a0 h0 a1 h1 a2 h2 a3 h3 c0 c1 c2 x0 x1 s = k0_pay3 x0 x1 s := by
  refine (View.read_writes_eq_canon VO0_2 _ _ (cover0_B_2 c i a0 h0 a1 h1 a2 h2 a3 h3 c0 c1 c2 x0 x1 s)).trans ?_
  unfold kernelRun0_B
  dsimp only
  refine (View.canon_cons_unit_lit _ _ _ (by decide)).trans ?_
  unfold kernelRun0_B.sl.v12
  refine (View.readCov_eq_canon' _ _ _).trans ?_
  refine (View.ld_unit_lit inb_S1024x1024_S1024x1024_0_0 _ (by decide)).trans ?_
  unfold kernelRun0_B.sl.HS0_1
  refine (View.canon_cons_unit_lit _ _ _ (by decide)).trans ?_
  simp only [load_all a0 h0 x0 inb_S2048x1024_S2048x1024_0_0 (by decide), load_all a1 h1 x1 inb_S2048x1024_S2048x1024_0_0 (by decide), load_all a3 h3 s inb_S1024x1024_S1024x1024_0_0 (by decide)]

theorem pay2_at (x : Vec Ideal S2048x1024 .bf16) (y : Vec Ideal S2048x1024 .bf16) (i : Fin 1024) (j : Fin 1024) :
    k0_pay2 x y (ix2 i j) = ∑ k : Fin 2048, x (ix2 k i) * y (ix2 k j) := by
  pointwise! [k0_pay2, k0_pay1]
theorem pay3_at (x : Vec Ideal S2048x1024 .bf16) (y : Vec Ideal S2048x1024 .bf16) (s : Vec Ideal S1024x1024 .f32) (i : Fin 1024) (j : Fin 1024) :
    k0_pay3 x y s (ix2 i j) = s (ix2 i j) + ∑ k : Fin 2048, x (ix2 k i) * y (ix2 k j) := by
  pointwise! [k0_pay3, k0_pay1]

theorem idx0 : ∀ t : Fin grid0.N, win0_0.index t 0 = t.val % 2 ∧ win0_0.index t 1 = t.val / 2 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = 0 := by decide +kernel

/-- Row `k` of row block `a`; row `i` of the point's block of the result; its column `j`. -/
def ko (a : Fin 2) (k : Fin 2048) : Fin 4096 := ⟨a.val * 2048 + k.val, by omega⟩
def ro (t : Fin cfg0.N) (i : Fin 1024) : Fin 1024 := ⟨t.val / 2 * 1024 + i.val, by have : t.val < 2 := lt_of_lt_of_eq t.isLt N_0; omega⟩
def co (t : Fin cfg0.N) (j : Fin 1024) : Fin 1024 := ⟨0 * 1024 + j.val, by omega⟩

variable (m : (ℓ : Loc nD τ sig) → Buf (Elt Ideal) ℓ) (c : Dev nD)

def A0 : FVec Ideal S4096x1024 .bf16 := m ((c.tc : Thread nD τ).loc main_arg0)
def A1 : FVec Ideal S4096x1024 .bf16 := m ((c.tc : Thread nD τ).loc main_arg1)

theorem blk0 (t : Fin cfg0.N) (a : Fin 2) (ha : t.val % 2 = a.val) (k : Fin 2048) (i : Fin 1024) : iblk m c 0 t (ix2 k i) = A0 m c (ix2 (ko a k) (ro t i)) := by
  unfold iblk
  rw [View.read_apply]
  show V m c main_arg0 _ = _
  rw [V_main_arg0]
  refine congrArg (A0 m c) (funext fun e => Fin.ext ?_)
  match e with
  | ⟨0, _⟩ => show win0_0.index t 0 * 2048 + 1 * k.val = a.val * 2048 + k.val; rw [(idx0 t).1, ha]; omega
  | ⟨1, _⟩ => show win0_0.index t 1 * 1024 + 1 * i.val = t.val / 2 * 1024 + i.val; rw [(idx0 t).2]; omega
theorem blk1 (t : Fin cfg0.N) (a : Fin 2) (ha : t.val % 2 = a.val) (k : Fin 2048) (j : Fin 1024) : iblk m c 1 t (ix2 k j) = A1 m c (ix2 (ko a k) (co t j)) := by
  unfold iblk
  rw [View.read_apply]
  show V m c main_arg1 _ = _
  rw [V_main_arg1]
  refine congrArg (A1 m c) (funext fun e => Fin.ext ?_)
  match e with
  | ⟨0, _⟩ => show win0_1.index t 0 * 2048 + 1 * k.val = a.val * 2048 + k.val; rw [(idx1 t).1, ha]; omega
  | ⟨1, _⟩ => show win0_1.index t 1 * 1024 + 1 * j.val = 0 * 1024 + j.val; rw [(idx1 t).2]; omega
theorem at2 (t : Fin cfg0.N) (i : Fin 1024) (j : Fin 1024) :
    (((cfg0.win 2).blk t).view.emb (ix2 i j) : S1024x1024.Idx) = ix2 (ro t i) (co t j) := funext fun a => Fin.ext (by
  match a with
  | ⟨0, _⟩ => show win0_2.index t 0 * 1024 + 1 * i.val = t.val / 2 * 1024 + i.val; rw [(idx2 t).1]; omega
  | ⟨1, _⟩ => show win0_2.index t 1 * 1024 + 1 * j.val = 0 * 1024 + j.val; rw [(idx2 t).2]; omega)

/-- The product over row block `a`. -/
def blockSum (a : Fin 2) (i : Fin 1024) (j : Fin 1024) : EReal := ∑ k : Fin 2048, A0 m c (ix2 (ko a k) i) * A1 m c (ix2 (ko a k) j)

/-- What a first point leaves behind. -/
theorem first_at (t : Fin cfg0.N) (he : t.val % 2 = 0) (i : Fin 1024) (j : Fin 1024) :
    (outsAt0 m c t.val t.isLt).2 (ix2 i j) = blockSum m c 0 (ro t i) (co t j) := by
  have h0 := fun k i => blk0 m c t 0 he k i
  have h1 := fun k j => blk1 m c t 0 he k j
  rw [outsAt0_A m c t he (by omega) (by omega)]
  dsimp only
  rw [left_A, pay2_at]
  exact Finset.sum_congr rfl fun k _ => congrArg₂ (· * ·) (h0 k i) (h1 k j)

/-- What a second point writes. -/
theorem second_at (t : Fin cfg0.N) (he : t.val % 2 = 1) (i : Fin 1024) (j : Fin 1024) :
    (outsAt0 m c t.val t.isLt).1 (ix2 i j) = blockSum m c 0 (ro t i) (co t j) + blockSum m c 1 (ro t i) (co t j) := by
  have h0 := fun k i => blk0 m c t 1 he k i
  have h1 := fun k j => blk1 m c t 1 he k j
  have hr : ro ⟨t.val - 1, Nat.lt_of_le_of_lt (Nat.sub_le _ _) t.isLt⟩ i = ro t i := Fin.ext (by
    show (t.val - 1) / 2 * 1024 + i.val = t.val / 2 * 1024 + i.val
    have : (t.val - 1) / 2 = t.val / 2 := by omega
    rw [this])
  have hp : _ = blockSum m c 0 _ (co t j) := first_at m c ⟨t.val - 1, Nat.lt_of_le_of_lt (Nat.sub_le _ _) t.isLt⟩ (by show (t.val - 1) % 2 = 0; omega) i j
  rw [hr] at hp
  rw [outsAt0_B m c t (by omega) he he]
  dsimp only
  rw [left_B, pay3_at]
  exact congrArg₂ (· + ·) hp (Finset.sum_congr rfl fun k _ => congrArg₂ (· * ·) (h0 k i) (h1 k j))

theorem sum_both (i : Fin 1024) (j : Fin 1024) :
    blockSum m c 0 i j + blockSum m c 1 i j = ∑ k : Fin 4096, A1 m c (ix2 k j) * A0 m c (ix2 k i) := by
  refine Eq.trans ?_ (Cert.Prod.sum_blocks (n := 2) (l := 2048) (by norm_num) _).symm
  rw [Fin.sum_univ_two]
  exact congrArg₂ (· + ·) (Finset.sum_congr rfl fun k _ => mul_comm _ _) (Finset.sum_congr rfl fun k _ => mul_comm _ _)

/-- An array with these elements is the one after the launch. -/
theorem final (G : FVec Ideal S1024x1024 .f32)
    (hG : ∀ (i : Fin 1024) (j : Fin 1024), G (ix2 i j) = ∑ k : Fin 4096, A1 m c (ix2 k j) * A0 m c (ix2 k i)) : (dats m 0 c).arrAt 2 cfg0.N = G := by
  refine (dats m 0 c).arrAt_eq_of_covers 2 G (by decide +kernel) fun t hf y => ?_
  obtain ⟨i, j, rfl⟩ : ∃ (i : Fin 1024) (j : Fin 1024), y = ix2 i j := ⟨_, _, eq_ix2 y⟩
  refine (congrFun (after0_2 m c t) (ix2 i j)).trans ?_
  refine Eq.trans ?_ (congrArg G (at2 t i j)).symm
  rw [hG, ← sum_both]
  exact second_at m c t ((flush0_2 t).mp hf) i j

end Cert.Kernel9Ideal.Prod

end
-- ==== Proof.Prod.FfnUp.lean ====
/- The up projection after the launch: the reference's product, element by element. -/
module

public import proofs.«01_k».proof.Proof.Gen.Kernel10Ideal.Value
public import proofs.«01_k».proof.Proof.Gen.Reference10Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference10Ideal.Prod

open Idealize.ShloMosaic Idealize.ShloMosaic.TcCoe
open Cert.Reference10Ideal Cert.Reference10Ideal.Facts₀ Cert.Reference10Ideal.Facts

/-- The reference's result as a term of its arguments. -/
def G (x : FVec Ideal S4096x1024 .bf16) (w : FVec Ideal S1024x5632 .bf16) : FVec Ideal S4096x5632 .f32 :=
  Host.dotGeneral dot_S4096x1024_S1024x5632_S4096x5632_1_0_0_1_n_n none (extf .f32 x bitsLt_bf16_f32) (extf .f32 w bitsLt_bf16_f32)

theorem G_at (x : FVec Ideal S4096x1024 .bf16) (w : FVec Ideal S1024x5632 .bf16) (i : Fin 4096) (j : Fin 5632) :
    G x w (ix2 i j) = ∑ k : Fin 1024, x (ix2 i k) * w (ix2 k j) := by
  pointwise! [G]

end Cert.Reference10Ideal.Prod

namespace Cert.Kernel10Ideal.Prod

open Idealize.ShloMosaic Idealize.ShloMosaic.TcCoe
open Idealize.SL.Sem
open Cert.Kernel10Ideal Cert.Kernel10Ideal.Gen

theorem pay_at (p : Vec Ideal S2048x1024 .bf16) (w : Vec Ideal S1024x1408 .bf16) (i : Fin 2048) (j : Fin 1408) : k0_pay1 p w (ix2 i j) = ∑ k : Fin 1024, p (ix2 i k) * w (ix2 k j) := by
  pointwise! [k0_pay1]

/-- What a point leaves, element by element. -/
theorem out_at (p : Vec Ideal S2048x1024 .bf16) (w : Vec Ideal S1024x1408 .bf16) (i : Fin 2048) (j : Fin 1408) : out0_2 p w (ix2 i j) = ∑ k : Fin 1024, p (ix2 i k) * w (ix2 k j) := by
  have e : out0_2 p w = k0_pay1 p w := (View.canon_cons_unit_lit _ _ _ (by decide)).trans
    (congrArg₂ k0_pay1 (View.ld_unit_lit _ _ (by decide)) (View.ld_unit_lit _ _ (by decide)))
  rw [e, pay_at]

theorem idx0 : ∀ t : Fin grid0.N, win0_0.index t 0 = t.val / 4 ∧ win0_0.index t 1 = 0 := by decide +kernel
theorem idx1 : ∀ t : Fin grid0.N, win0_1.index t 0 = 0 ∧ win0_1.index t 1 = t.val % 4 := by decide +kernel
theorem idx2 : ∀ t : Fin grid0.N, win0_2.index t 0 = t.val / 4 ∧ win0_2.index t 1 = t.val % 4 := by decide +kernel

/-- Row `i` of the point's row block, column `j` of its column block. -/
def ro (t : Fin cfg0.N) (i : Fin 2048) : Fin 4096 := ⟨t.val / 4 * 2048 + i.val, by have : t.val < 8 := lt_of_lt_of_eq t.isLt N_0; omega⟩
def co (t : Fin cfg0.N) (j : Fin 1408) : Fin 5632 := ⟨t.val % 4 * 1408 + j.val, by omega⟩

variable (m : (ℓ : Loc nD τ sig) → Buf (Elt Ideal) ℓ) (c : Dev nD)

def A0 : FVec Ideal S4096x1024 .bf16 := m ((c.tc : Thread nD τ).loc main_arg0)
def A1 : FVec Ideal S1024x5632 .bf16 := m ((c.tc : Thread nD τ).loc main_arg1)

theorem blk0 (t : Fin cfg0.N) (i : Fin 2048) (k : Fin 1024) : iblk m c 0 t (ix2 i k) = A0 m c (ix2 (ro t i) k) := by
  unfold iblk
  rw [View.read_apply]
  show V m c main_arg0 _ = _
  rw [V_main_arg0]
  refine congrArg (A0 m c) (funext fun e => Fin.ext ?_)
  match e with
  | ⟨0, _⟩ => show win0_0.index t 0 * 2048 + 1 * i.val = t.val / 4 * 2048 + i.val; rw [(idx0 t).1]; omega
  | ⟨1, _⟩ => show win0_0.index t 1 * 1024 + 1 * k.val = k.val; rw [(idx0 t).2]; omega
theorem blk1 (t : Fin cfg0.N) (k : Fin 1024) (j : Fin 1408) : iblk m c 1 t (ix2 k j) = A1 m c (ix2 k (co t j)) := by
  unfold iblk
  rw [View.read_apply]
  show V m c main_arg1 _ = _
  rw [V_main_arg1]
  refine congrArg (A1 m c) (funext fun e => Fin.ext ?_)
  match e with
  | ⟨0, _⟩ => show win0_1.index t 0 * 1024 + 1 * k.val = k.val; rw [(idx1 t).1]; omega
  | ⟨1, _⟩ => show win0_1.index t 1 * 1408 + 1 * j.val = t.val % 4 * 1408 + j.val; rw [(idx1 t).2]; omega
theorem at2 (t : Fin cfg0.N) (i : Fin 2048) (j : Fin 1408) :
    (((cfg0.win 2).blk t).view.emb (ix2 i j) : S4096x5632.Idx) = ix2 (ro t i) (co t j) := funext fun a => Fin.ext (by
  match a with
  | ⟨0, _⟩ => show win0_2.index t 0 * 2048 + 1 * i.val = t.val / 4 * 2048 + i.val; rw [(idx2 t).1]; omega
  | ⟨1, _⟩ => show win0_2.index t 1 * 1408 + 1 * j.val = t.val % 4 * 1408 + j.val; rw [(idx2 t).2]; omega)

/-- What point `t` leaves, of the arguments. -/
theorem left_at (t : Fin cfg0.N) (i : Fin 2048) (j : Fin 1408) : out0_2 (iblk m c 0 t) (iblk m c 1 t) (ix2 i j)
    = ∑ k : Fin 1024, A0 m c (ix2 (ro t i) k) * A1 m c (ix2 k (co t j)) := by
  have h0 := fun i k => blk0 m c t i k
  have h1 := fun i k => blk1 m c t i k
  generalize iblk m c 0 t = p at *
  generalize iblk m c 1 t = w at *
  refine (out_at p w i j).trans ?_
  simp only [h0, h1]

/-- An array with these elements is the one after the launch. -/
theorem final (G : FVec Ideal S4096x5632 .f32)
    (hG : ∀ (i : Fin 4096) (j : Fin 5632), G (ix2 i j) = ∑ k : Fin 1024, A0 m c (ix2 i k) * A1 m c (ix2 k j)) : (dats m 0 c).arrAt 2 cfg0.N = G := by
  refine (dats m 0 c).arrAt_eq_of_covers 2 G (by decide +kernel) fun t hf y => ?_
  obtain ⟨i, j, rfl⟩ : ∃ (i : Fin 2048) (j : Fin 1408), y = ix2 i j := ⟨_, _, eq_ix2 y⟩
  refine (congrFun (after0_2 m c t) (ix2 i j)).trans ?_
  refine Eq.trans ?_ (congrArg G (at2 t i j)).symm
  rw [hG, left_at]

end Cert.Kernel10Ideal.Prod

end
-- ==== Proof.Prod.FfnDown.lean ====
/- The down projection after the launch: the reference's product, element by element. -/
module

public import proofs.«01_k».proof.Proof.Gen.Kernel11Ideal.Value
public import proofs.«01_k».proof.Proof.Gen.Reference11Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference11Ideal.Prod

open Idealize.ShloMosaic Idealize.ShloMosaic.TcCoe
open Cert.Reference11Ideal Cert.Reference11Ideal.Facts₀ Cert.Reference11Ideal.Facts

/-- The reference's result as a term of its arguments. -/
def G (x : FVec Ideal S4096x2816 .bf16) (w : FVec Ideal S2816x1024 .bf16) : FVec Ideal S4096x1024 .f32 :=
  Host.dotGeneral dot_S4096x2816_S2816x1024_S4096x1024_1_0_0_1_n_n none (extf .f32 x bitsLt_bf16_f32) (extf .f32 w bitsLt_bf16_f32)

theorem G_at (x : FVec Ideal S4096x2816 .bf16) (w : FVec Ideal S2816x1024 .bf16) (i : Fin 4096) (j : Fin 1024) :
    G x w (ix2 i j) = ∑ k : Fin 2816, x (ix2 i k) * w (ix2 k j) := by
  pointwise! [G]

end Cert.Reference11Ideal.Prod

namespace Cert.Kernel11Ideal.Prod

open Idealize.ShloMosaic Idealize.ShloMosaic.TcCoe
open Idealize.SL.Sem
open Cert.Kernel11Ideal Cert.Kernel11Ideal.Gen

theorem pay_at (p : Vec Ideal S1024x2816 .bf16) (w : Vec Ideal S2816x1024 .bf16) (i : Fin 1024) (j : Fin 1024) : k0_pay1 p w (ix2 i j) = ∑ k : Fin 2816, p (ix2 i k) * w (ix2 k j) := by
  pointwise! [k0_pay1]

/-- What a point leaves, element by element. -/
theorem out_at (p : Vec Ideal S1024x2816 .bf16) (w : Vec Ideal S2816x1024 .bf16) (i : Fin 1024) (j : Fin 1024) : out0_2 p w (ix2 i j) = ∑ k : Fin 2816, p (ix2 i k) * w (ix2 k j) := by
  have e : out0_2 p w = k0_pay1 p w := (View.canon_cons_unit_lit _ _ _ (by decide)).trans
    (congrArg₂ k0_pay1 (View.ld_unit_lit _ _ (by decide)) (View.ld_unit_lit _ _ (by decide)))
  rw [e, pay_at]

theorem idx0 : ∀ t : Fin grid0.N, win0_0.index t 0 = t.val / 1 ∧ win0_0.index t 1 = 0 := by decide +kernel
theorem idx1 : ∀ t : Fin grid0.N, win0_1.index t 0 = 0 ∧ win0_1.index t 1 = t.val % 1 := by decide +kernel
theorem idx2 : ∀ t : Fin grid0.N, win0_2.index t 0 = t.val / 1 ∧ win0_2.index t 1 = t.val % 1 := by decide +kernel

/-- Row `i` of the point's row block, column `j` of its column block. -/
def ro (t : Fin cfg0.N) (i : Fin 1024) : Fin 4096 := ⟨t.val / 1 * 1024 + i.val, by have : t.val < 4 := lt_of_lt_of_eq t.isLt N_0; omega⟩
def co (t : Fin cfg0.N) (j : Fin 1024) : Fin 1024 := ⟨t.val % 1 * 1024 + j.val, by omega⟩

variable (m : (ℓ : Loc nD τ sig) → Buf (Elt Ideal) ℓ) (c : Dev nD)

def A0 : FVec Ideal S4096x2816 .bf16 := m ((c.tc : Thread nD τ).loc main_arg0)
def A1 : FVec Ideal S2816x1024 .bf16 := m ((c.tc : Thread nD τ).loc main_arg1)

theorem blk0 (t : Fin cfg0.N) (i : Fin 1024) (k : Fin 2816) : iblk m c 0 t (ix2 i k) = A0 m c (ix2 (ro t i) k) := by
  unfold iblk
  rw [View.read_apply]
  show V m c main_arg0 _ = _
  rw [V_main_arg0]
  refine congrArg (A0 m c) (funext fun e => Fin.ext ?_)
  match e with
  | ⟨0, _⟩ => show win0_0.index t 0 * 1024 + 1 * i.val = t.val / 1 * 1024 + i.val; rw [(idx0 t).1]; omega
  | ⟨1, _⟩ => show win0_0.index t 1 * 2816 + 1 * k.val = k.val; rw [(idx0 t).2]; omega
theorem blk1 (t : Fin cfg0.N) (k : Fin 2816) (j : Fin 1024) : iblk m c 1 t (ix2 k j) = A1 m c (ix2 k (co t j)) := by
  unfold iblk
  rw [View.read_apply]
  show V m c main_arg1 _ = _
  rw [V_main_arg1]
  refine congrArg (A1 m c) (funext fun e => Fin.ext ?_)
  match e with
  | ⟨0, _⟩ => show win0_1.index t 0 * 2816 + 1 * k.val = k.val; rw [(idx1 t).1]; omega
  | ⟨1, _⟩ => show win0_1.index t 1 * 1024 + 1 * j.val = t.val % 1 * 1024 + j.val; rw [(idx1 t).2]; omega
theorem at2 (t : Fin cfg0.N) (i : Fin 1024) (j : Fin 1024) :
    (((cfg0.win 2).blk t).view.emb (ix2 i j) : S4096x1024.Idx) = ix2 (ro t i) (co t j) := funext fun a => Fin.ext (by
  match a with
  | ⟨0, _⟩ => show win0_2.index t 0 * 1024 + 1 * i.val = t.val / 1 * 1024 + i.val; rw [(idx2 t).1]; omega
  | ⟨1, _⟩ => show win0_2.index t 1 * 1024 + 1 * j.val = t.val % 1 * 1024 + j.val; rw [(idx2 t).2]; omega)

/-- What point `t` leaves, of the arguments. -/
theorem left_at (t : Fin cfg0.N) (i : Fin 1024) (j : Fin 1024) : out0_2 (iblk m c 0 t) (iblk m c 1 t) (ix2 i j)
    = ∑ k : Fin 2816, A0 m c (ix2 (ro t i) k) * A1 m c (ix2 k (co t j)) := by
  have h0 := fun i k => blk0 m c t i k
  have h1 := fun i k => blk1 m c t i k
  generalize iblk m c 0 t = p at *
  generalize iblk m c 1 t = w at *
  refine (out_at p w i j).trans ?_
  simp only [h0, h1]

/-- An array with these elements is the one after the launch. -/
theorem final (G : FVec Ideal S4096x1024 .f32)
    (hG : ∀ (i : Fin 4096) (j : Fin 1024), G (ix2 i j) = ∑ k : Fin 2816, A0 m c (ix2 i k) * A1 m c (ix2 k j)) : (dats m 0 c).arrAt 2 cfg0.N = G := by
  refine (dats m 0 c).arrAt_eq_of_covers 2 G (by decide +kernel) fun t hf y => ?_
  obtain ⟨i, j, rfl⟩ : ∃ (i : Fin 1024) (j : Fin 1024), y = ix2 i j := ⟨_, _, eq_ix2 y⟩
  refine (congrFun (after0_2 m c t) (ix2 i j)).trans ?_
  refine Eq.trans ?_ (congrArg G (at2 t i j)).symm
  rw [hG, left_at]

end Cert.Kernel11Ideal.Prod

end
-- ==== Proof.Prod.Branch.lean ====
/- The projection of a branch after the launch: the reference's product, element by element. -/
module

public import proofs.«01_k».proof.Proof.Gen.Kernel12Ideal.Value
public import proofs.«01_k».proof.Proof.Gen.Reference12Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference12Ideal.Prod

open Idealize.ShloMosaic Idealize.ShloMosaic.TcCoe
open Cert.Reference12Ideal Cert.Reference12Ideal.Facts₀ Cert.Reference12Ideal.Facts

/-- The reference's result as a term of its arguments. -/
def G (x : FVec Ideal S4096x1024 .bf16) (w : FVec Ideal S1024x1024 .bf16) : FVec Ideal S4096x1024 .f32 :=
  Host.dotGeneral dot_S4096x1024_S1024x1024_S4096x1024_1_0_0_1_n_n none (extf .f32 x bitsLt_bf16_f32) (extf .f32 w bitsLt_bf16_f32)

theorem G_at (x : FVec Ideal S4096x1024 .bf16) (w : FVec Ideal S1024x1024 .bf16) (i : Fin 4096) (j : Fin 1024) :
    G x w (ix2 i j) = ∑ k : Fin 1024, x (ix2 i k) * w (ix2 k j) := by
  pointwise! [G]

end Cert.Reference12Ideal.Prod

namespace Cert.Kernel12Ideal.Prod

open Idealize.ShloMosaic Idealize.ShloMosaic.TcCoe
open Idealize.SL.Sem
open Cert.Kernel12Ideal Cert.Kernel12Ideal.Gen

theorem pay_at (p : Vec Ideal S1024x1024 .bf16) (w : Vec Ideal S1024x1024 .bf16) (i : Fin 1024) (j : Fin 1024) : k0_pay1 p w (ix2 i j) = ∑ k : Fin 1024, p (ix2 i k) * w (ix2 k j) := by
  pointwise! [k0_pay1]

/-- What a point leaves, element by element. -/
theorem out_at (p : Vec Ideal S1024x1024 .bf16) (w : Vec Ideal S1024x1024 .bf16) (i : Fin 1024) (j : Fin 1024) : out0_2 p w (ix2 i j) = ∑ k : Fin 1024, p (ix2 i k) * w (ix2 k j) := by
  have e : out0_2 p w = k0_pay1 p w := (View.canon_cons_unit_lit _ _ _ (by decide)).trans
    (congrArg₂ k0_pay1 (View.ld_unit_lit _ _ (by decide)) (View.ld_unit_lit _ _ (by decide)))
  rw [e, pay_at]

theorem idx0 : ∀ t : Fin grid0.N, win0_0.index t 0 = t.val / 1 ∧ win0_0.index t 1 = 0 := by decide +kernel
theorem idx1 : ∀ t : Fin grid0.N, win0_1.index t 0 = 0 ∧ win0_1.index t 1 = t.val % 1 := by decide +kernel
theorem idx2 : ∀ t : Fin grid0.N, win0_2.index t 0 = t.val / 1 ∧ win0_2.index t 1 = t.val % 1 := by decide +kernel

/-- Row `i` of the point's row block, column `j` of its column block. -/
def ro (t : Fin cfg0.N) (i : Fin 1024) : Fin 4096 := ⟨t.val / 1 * 1024 + i.val, by have : t.val < 4 := lt_of_lt_of_eq t.isLt N_0; omega⟩
def co (t : Fin cfg0.N) (j : Fin 1024) : Fin 1024 := ⟨t.val % 1 * 1024 + j.val, by omega⟩

variable (m : (ℓ : Loc nD τ sig) → Buf (Elt Ideal) ℓ) (c : Dev nD)

def A0 : FVec Ideal S4096x1024 .bf16 := m ((c.tc : Thread nD τ).loc main_arg0)
def A1 : FVec Ideal S1024x1024 .bf16 := m ((c.tc : Thread nD τ).loc main_arg1)

theorem blk0 (t : Fin cfg0.N) (i : Fin 1024) (k : Fin 1024) : iblk m c 0 t (ix2 i k) = A0 m c (ix2 (ro t i) k) := by
  unfold iblk
  rw [View.read_apply]
  show V m c main_arg0 _ = _
  rw [V_main_arg0]
  refine congrArg (A0 m c) (funext fun e => Fin.ext ?_)
  match e with
  | ⟨0, _⟩ => show win0_0.index t 0 * 1024 + 1 * i.val = t.val / 1 * 1024 + i.val; rw [(idx0 t).1]; omega
  | ⟨1, _⟩ => show win0_0.index t 1 * 1024 + 1 * k.val = k.val; rw [(idx0 t).2]; omega
theorem blk1 (t : Fin cfg0.N) (k : Fin 1024) (j : Fin 1024) : iblk m c 1 t (ix2 k j) = A1 m c (ix2 k (co t j)) := by
  unfold iblk
  rw [View.read_apply]
  show V m c main_arg1 _ = _
  rw [V_main_arg1]
  refine congrArg (A1 m c) (funext fun e => Fin.ext ?_)
  match e with
  | ⟨0, _⟩ => show win0_1.index t 0 * 1024 + 1 * k.val = k.val; rw [(idx1 t).1]; omega
  | ⟨1, _⟩ => show win0_1.index t 1 * 1024 + 1 * j.val = t.val % 1 * 1024 + j.val; rw [(idx1 t).2]; omega
theorem at2 (t : Fin cfg0.N) (i : Fin 1024) (j : Fin 1024) :
    (((cfg0.win 2).blk t).view.emb (ix2 i j) : S4096x1024.Idx) = ix2 (ro t i) (co t j) := funext fun a => Fin.ext (by
  match a with
  | ⟨0, _⟩ => show win0_2.index t 0 * 1024 + 1 * i.val = t.val / 1 * 1024 + i.val; rw [(idx2 t).1]; omega
  | ⟨1, _⟩ => show win0_2.index t 1 * 1024 + 1 * j.val = t.val % 1 * 1024 + j.val; rw [(idx2 t).2]; omega)

/-- What point `t` leaves, of the arguments. -/
theorem left_at (t : Fin cfg0.N) (i : Fin 1024) (j : Fin 1024) : out0_2 (iblk m c 0 t) (iblk m c 1 t) (ix2 i j)
    = ∑ k : Fin 1024, A0 m c (ix2 (ro t i) k) * A1 m c (ix2 k (co t j)) := by
  have h0 := fun i k => blk0 m c t i k
  have h1 := fun i k => blk1 m c t i k
  generalize iblk m c 0 t = p at *
  generalize iblk m c 1 t = w at *
  refine (out_at p w i j).trans ?_
  simp only [h0, h1]

/-- An array with these elements is the one after the launch. -/
theorem final (G : FVec Ideal S4096x1024 .f32)
    (hG : ∀ (i : Fin 4096) (j : Fin 1024), G (ix2 i j) = ∑ k : Fin 1024, A0 m c (ix2 i k) * A1 m c (ix2 k j)) : (dats m 0 c).arrAt 2 cfg0.N = G := by
  refine (dats m 0 c).arrAt_eq_of_covers 2 G (by decide +kernel) fun t hf y => ?_
  obtain ⟨i, j, rfl⟩ : ∃ (i : Fin 1024) (j : Fin 1024), y = ix2 i j := ⟨_, _, eq_ix2 y⟩
  refine (congrFun (after0_2 m c t) (ix2 i j)).trans ?_
  refine Eq.trans ?_ (congrArg G (at2 t i j)).symm
  rw [hG, left_at]

end Cert.Kernel12Ideal.Prod

end
-- ==== Proof.Prod.ProjMlstm.lean ====
/- The mLSTM's part of the big projection after the launch: the reference's product, element by element. -/
module

public import proofs.«01_k».proof.Proof.Gen.Kernel13Ideal.Value
public import proofs.«01_k».proof.Proof.Gen.Reference13Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference13Ideal.Prod

open Idealize.ShloMosaic Idealize.ShloMosaic.TcCoe
open Cert.Reference13Ideal Cert.Reference13Ideal.Facts₀ Cert.Reference13Ideal.Facts

/-- The reference's result as a term of its arguments. -/
def G (x : FVec Ideal S4096x1024 .bf16) (w : FVec Ideal S8192x1024 .bf16) : FVec Ideal S4096x3072 .f32 :=
  extractStridedSlice S4096x3072 ![0, 0] (Host.dotGeneral dot_S4096x1024_S1024x8192_S4096x8192_1_0_0_1_n_n none (extf .f32 x bitsLt_bf16_f32) (transpose S1024x8192 [1, 0] (extf .f32 w bitsLt_bf16_f32) transposes_S8192x1024_S1024x8192_1_0)) slices_S4096x8192_S4096x3072_0_0

theorem G_at (x : FVec Ideal S4096x1024 .bf16) (w : FVec Ideal S8192x1024 .bf16) (i : Fin 4096) (j : Fin 3072) :
    G x w (ix2 i j) = ∑ k : Fin 1024, x (ix2 i k) * w (ix2 ⟨0 + j.val, by omega⟩ k) := by
  pointwise! [G]

end Cert.Reference13Ideal.Prod

namespace Cert.Kernel13Ideal.Prod

open Idealize.ShloMosaic Idealize.ShloMosaic.TcCoe
open Idealize.SL.Sem
open Cert.Kernel13Ideal Cert.Kernel13Ideal.Gen

theorem pay_at (p : Vec Ideal S2048x1024 .bf16) (w : Vec Ideal S1024x1024 .bf16) (i : Fin 2048) (j : Fin 1024) : k0_pay1 p w (ix2 i j) = ∑ k : Fin 1024, p (ix2 i k) * w (ix2 j k) := by
  pointwise! [k0_pay1]

/-- What a point leaves, element by element. -/
theorem out_at (p : Vec Ideal S2048x1024 .bf16) (w : Vec Ideal S1024x1024 .bf16) (i : Fin 2048) (j : Fin 1024) : out0_2 p w (ix2 i j) = ∑ k : Fin 1024, p (ix2 i k) * w (ix2 j k) := by
  have e : out0_2 p w = k0_pay1 p w := (View.canon_cons_unit_lit _ _ _ (by decide)).trans
    (congrArg₂ k0_pay1 (View.ld_unit_lit _ _ (by decide)) (View.ld_unit_lit _ _ (by decide)))
  rw [e, pay_at]

theorem idx0 : ∀ t : Fin grid0.N, win0_0.index t 0 = t.val / 3 ∧ win0_0.index t 1 = 0 := by decide +kernel
theorem idx1 : ∀ t : Fin grid0.N, win0_1.index t 0 = t.val % 3 ∧ win0_1.index t 1 = 0 := by decide +kernel
theorem idx2 : ∀ t : Fin grid0.N, win0_2.index t 0 = t.val / 3 ∧ win0_2.index t 1 = t.val % 3 := by decide +kernel

/-- Row `i` of the point's row block, column `j` of its column block. -/
def ro (t : Fin cfg0.N) (i : Fin 2048) : Fin 4096 := ⟨t.val / 3 * 2048 + i.val, by have : t.val < 6 := lt_of_lt_of_eq t.isLt N_0; omega⟩
def co (t : Fin cfg0.N) (j : Fin 1024) : Fin 3072 := ⟨t.val % 3 * 1024 + j.val, by omega⟩
/-- The weights' row for that column. -/
def wr (t : Fin cfg0.N) (j : Fin 1024) : Fin 8192 := ⟨0 + (co t j).val, by omega⟩

variable (m : (ℓ : Loc nD τ sig) → Buf (Elt Ideal) ℓ) (c : Dev nD)

def A0 : FVec Ideal S4096x1024 .bf16 := m ((c.tc : Thread nD τ).loc main_arg0)
def A1 : FVec Ideal S8192x1024 .bf16 := m ((c.tc : Thread nD τ).loc main_arg1)

theorem blk0 (t : Fin cfg0.N) (i : Fin 2048) (k : Fin 1024) : iblk m c 0 t (ix2 i k) = A0 m c (ix2 (ro t i) k) := by
  unfold iblk
  rw [View.read_apply]
  show V m c main_arg0 _ = _
  rw [V_main_arg0]
  refine congrArg (A0 m c) (funext fun e => Fin.ext ?_)
  match e with
  | ⟨0, _⟩ => show win0_0.index t 0 * 2048 + 1 * i.val = t.val / 3 * 2048 + i.val; rw [(idx0 t).1]; omega
  | ⟨1, _⟩ => show win0_0.index t 1 * 1024 + 1 * k.val = k.val; rw [(idx0 t).2]; omega
theorem blk1 (t : Fin cfg0.N) (j : Fin 1024) (k : Fin 1024) : iblk m c 1 t (ix2 j k) = A1 m c (ix2 (wr t j) k) := by
  unfold iblk
  rw [View.read_apply]
  show V m c main_arg1 _ = _
  rw [V_main_arg1]
  refine congrArg (A1 m c) (funext fun e => Fin.ext ?_)
  match e with
  | ⟨0, _⟩ => show win0_1.index t 0 * 1024 + 1 * j.val = 0 + (t.val % 3 * 1024 + j.val); rw [(idx1 t).1]; omega
  | ⟨1, _⟩ => show win0_1.index t 1 * 1024 + 1 * k.val = k.val; rw [(idx1 t).2]; omega
theorem at2 (t : Fin cfg0.N) (i : Fin 2048) (j : Fin 1024) :
    (((cfg0.win 2).blk t).view.emb (ix2 i j) : S4096x3072.Idx) = ix2 (ro t i) (co t j) := funext fun a => Fin.ext (by
  match a with
  | ⟨0, _⟩ => show win0_2.index t 0 * 2048 + 1 * i.val = t.val / 3 * 2048 + i.val; rw [(idx2 t).1]; omega
  | ⟨1, _⟩ => show win0_2.index t 1 * 1024 + 1 * j.val = t.val % 3 * 1024 + j.val; rw [(idx2 t).2]; omega)

/-- What point `t` leaves, of the arguments. -/
theorem left_at (t : Fin cfg0.N) (i : Fin 2048) (j : Fin 1024) : out0_2 (iblk m c 0 t) (iblk m c 1 t) (ix2 i j)
    = ∑ k : Fin 1024, A0 m c (ix2 (ro t i) k) * A1 m c (ix2 (wr t j) k) := by
  have h0 := fun i k => blk0 m c t i k
  have h1 := fun i k => blk1 m c t i k
  generalize iblk m c 0 t = p at *
  generalize iblk m c 1 t = w at *
  refine (out_at p w i j).trans ?_
  simp only [h0, h1]

/-- An array with these elements is the one after the launch. -/
theorem final (G : FVec Ideal S4096x3072 .f32)
    (hG : ∀ (i : Fin 4096) (j : Fin 3072), G (ix2 i j) = ∑ k : Fin 1024, A0 m c (ix2 i k) * A1 m c (ix2 ⟨0 + j.val, by omega⟩ k)) : (dats m 0 c).arrAt 2 cfg0.N = G := by
  refine (dats m 0 c).arrAt_eq_of_covers 2 G (by decide +kernel) fun t hf y => ?_
  obtain ⟨i, j, rfl⟩ : ∃ (i : Fin 2048) (j : Fin 1024), y = ix2 i j := ⟨_, _, eq_ix2 y⟩
  refine (congrFun (after0_2 m c t) (ix2 i j)).trans ?_
  refine Eq.trans ?_ (congrArg G (at2 t i j)).symm
  rw [hG, left_at]
  rfl

end Cert.Kernel13Ideal.Prod

end
-- ==== Proof.Prod.ProjFox.lean ====
/- The attention's part of the big projection after the launch: the reference's product, element by element. -/
module

public import proofs.«01_k».proof.Proof.Gen.Kernel14Ideal.Value
public import proofs.«01_k».proof.Proof.Gen.Reference14Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference14Ideal.Prod

open Idealize.ShloMosaic Idealize.ShloMosaic.TcCoe
open Cert.Reference14Ideal Cert.Reference14Ideal.Facts₀ Cert.Reference14Ideal.Facts

/-- The reference's result as a term of its arguments. -/
def G (x : FVec Ideal S4096x1024 .bf16) (w : FVec Ideal S8192x1024 .bf16) : FVec Ideal S4096x3072 .bf16 :=
  truncf .bf16 (extractStridedSlice S4096x3072 ![0, 3072] (Host.dotGeneral dot_S4096x1024_S1024x8192_S4096x8192_1_0_0_1_n_n none (extf .f32 x bitsLt_bf16_f32) (transpose S1024x8192 [1, 0] (extf .f32 w bitsLt_bf16_f32) transposes_S8192x1024_S1024x8192_1_0)) slices_S4096x8192_S4096x3072_0_3072) bitsLt_bf16_f32

theorem G_at (x : FVec Ideal S4096x1024 .bf16) (w : FVec Ideal S8192x1024 .bf16) (i : Fin 4096) (j : Fin 3072) :
    G x w (ix2 i j) = ∑ k : Fin 1024, x (ix2 i k) * w (ix2 ⟨3072 + j.val, by omega⟩ k) := by
  pointwise! [G]

end Cert.Reference14Ideal.Prod

namespace Cert.Kernel14Ideal.Prod

open Idealize.ShloMosaic Idealize.ShloMosaic.TcCoe
open Idealize.SL.Sem
open Cert.Kernel14Ideal Cert.Kernel14Ideal.Gen

theorem pay_at (p : Vec Ideal S2048x1024 .bf16) (w : Vec Ideal S1024x1024 .bf16) (i : Fin 2048) (j : Fin 1024) : k0_pay1 p w (ix2 i j) = ∑ k : Fin 1024, p (ix2 i k) * w (ix2 j k) := by
  pointwise! [k0_pay1]

/-- What a point leaves, element by element. -/
theorem out_at (p : Vec Ideal S2048x1024 .bf16) (w : Vec Ideal S1024x1024 .bf16) (i : Fin 2048) (j : Fin 1024) : out0_2 p w (ix2 i j) = ∑ k : Fin 1024, p (ix2 i k) * w (ix2 j k) := by
  have e : out0_2 p w = k0_pay1 p w := (View.canon_cons_unit_lit _ _ _ (by decide)).trans
    (congrArg₂ k0_pay1 (View.ld_unit_lit _ _ (by decide)) (View.ld_unit_lit _ _ (by decide)))
  rw [e, pay_at]

theorem idx0 : ∀ t : Fin grid0.N, win0_0.index t 0 = t.val / 3 ∧ win0_0.index t 1 = 0 := by decide +kernel
theorem idx1 : ∀ t : Fin grid0.N, win0_1.index t 0 = 3 + t.val % 3 ∧ win0_1.index t 1 = 0 := by decide +kernel
theorem idx2 : ∀ t : Fin grid0.N, win0_2.index t 0 = t.val / 3 ∧ win0_2.index t 1 = t.val % 3 := by decide +kernel

/-- Row `i` of the point's row block, column `j` of its column block. -/
def ro (t : Fin cfg0.N) (i : Fin 2048) : Fin 4096 := ⟨t.val / 3 * 2048 + i.val, by have : t.val < 6 := lt_of_lt_of_eq t.isLt N_0; omega⟩
def co (t : Fin cfg0.N) (j : Fin 1024) : Fin 3072 := ⟨t.val % 3 * 1024 + j.val, by omega⟩
/-- The weights' row for that column. -/
def wr (t : Fin cfg0.N) (j : Fin 1024) : Fin 8192 := ⟨3072 + (co t j).val, by omega⟩

variable (m : (ℓ : Loc nD τ sig) → Buf (Elt Ideal) ℓ) (c : Dev nD)

def A0 : FVec Ideal S4096x1024 .bf16 := m ((c.tc : Thread nD τ).loc main_arg0)
def A1 : FVec Ideal S8192x1024 .bf16 := m ((c.tc : Thread nD τ).loc main_arg1)

theorem blk0 (t : Fin cfg0.N) (i : Fin 2048) (k : Fin 1024) : iblk m c 0 t (ix2 i k) = A0 m c (ix2 (ro t i) k) := by
  unfold iblk
  rw [View.read_apply]
  show V m c main_arg0 _ = _
  rw [V_main_arg0]
  refine congrArg (A0 m c) (funext fun e => Fin.ext ?_)
  match e with
  | ⟨0, _⟩ => show win0_0.index t 0 * 2048 + 1 * i.val = t.val / 3 * 2048 + i.val; rw [(idx0 t).1]; omega
  | ⟨1, _⟩ => show win0_0.index t 1 * 1024 + 1 * k.val = k.val; rw [(idx0 t).2]; omega
theorem blk1 (t : Fin cfg0.N) (j : Fin 1024) (k : Fin 1024) : iblk m c 1 t (ix2 j k) = A1 m c (ix2 (wr t j) k) := by
  unfold iblk
  rw [View.read_apply]
  show V m c main_arg1 _ = _
  rw [V_main_arg1]
  refine congrArg (A1 m c) (funext fun e => Fin.ext ?_)
  match e with
  | ⟨0, _⟩ => show win0_1.index t 0 * 1024 + 1 * j.val = 3072 + (t.val % 3 * 1024 + j.val); rw [(idx1 t).1]; omega
  | ⟨1, _⟩ => show win0_1.index t 1 * 1024 + 1 * k.val = k.val; rw [(idx1 t).2]; omega
theorem at2 (t : Fin cfg0.N) (i : Fin 2048) (j : Fin 1024) :
    (((cfg0.win 2).blk t).view.emb (ix2 i j) : S4096x3072.Idx) = ix2 (ro t i) (co t j) := funext fun a => Fin.ext (by
  match a with
  | ⟨0, _⟩ => show win0_2.index t 0 * 2048 + 1 * i.val = t.val / 3 * 2048 + i.val; rw [(idx2 t).1]; omega
  | ⟨1, _⟩ => show win0_2.index t 1 * 1024 + 1 * j.val = t.val % 3 * 1024 + j.val; rw [(idx2 t).2]; omega)

/-- What point `t` leaves, of the arguments. -/
theorem left_at (t : Fin cfg0.N) (i : Fin 2048) (j : Fin 1024) : out0_2 (iblk m c 0 t) (iblk m c 1 t) (ix2 i j)
    = ∑ k : Fin 1024, A0 m c (ix2 (ro t i) k) * A1 m c (ix2 (wr t j) k) := by
  have h0 := fun i k => blk0 m c t i k
  have h1 := fun i k => blk1 m c t i k
  generalize iblk m c 0 t = p at *
  generalize iblk m c 1 t = w at *
  refine (out_at p w i j).trans ?_
  simp only [h0, h1]

/-- An array with these elements is the one after the launch. -/
theorem final (G : FVec Ideal S4096x3072 .bf16)
    (hG : ∀ (i : Fin 4096) (j : Fin 3072), G (ix2 i j) = ∑ k : Fin 1024, A0 m c (ix2 i k) * A1 m c (ix2 ⟨3072 + j.val, by omega⟩ k)) : (dats m 0 c).arrAt 2 cfg0.N = G := by
  refine (dats m 0 c).arrAt_eq_of_covers 2 G (by decide +kernel) fun t hf y => ?_
  obtain ⟨i, j, rfl⟩ : ∃ (i : Fin 2048) (j : Fin 1024), y = ix2 i j := ⟨_, _, eq_ix2 y⟩
  refine (congrFun (after0_2 m c t) (ix2 i j)).trans ?_
  refine Eq.trans ?_ (congrArg G (at2 t i j)).symm
  rw [hG, left_at]
  rfl

end Cert.Kernel14Ideal.Prod

end
-- ==== Proof.Prod.ProjMerge.lean ====
/- The gates' part of the big projection after the launch: the reference's product, element by element. -/
module

public import proofs.«01_k».proof.Proof.Gen.Kernel15Ideal.Value
public import proofs.«01_k».proof.Proof.Gen.Reference15Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference15Ideal.Prod

open Idealize.ShloMosaic Idealize.ShloMosaic.TcCoe
open Cert.Reference15Ideal Cert.Reference15Ideal.Facts₀ Cert.Reference15Ideal.Facts

/-- The reference's result as a term of its arguments. -/
def G (x : FVec Ideal S4096x1024 .bf16) (w : FVec Ideal S8192x1024 .bf16) : FVec Ideal S4096x2048 .f32 :=
  extractStridedSlice S4096x2048 ![0, 6144] (Host.dotGeneral dot_S4096x1024_S1024x8192_S4096x8192_1_0_0_1_n_n none (extf .f32 x bitsLt_bf16_f32) (transpose S1024x8192 [1, 0] (extf .f32 w bitsLt_bf16_f32) transposes_S8192x1024_S1024x8192_1_0)) slices_S4096x8192_S4096x2048_0_6144

theorem G_at (x : FVec Ideal S4096x1024 .bf16) (w : FVec Ideal S8192x1024 .bf16) (i : Fin 4096) (j : Fin 2048) :
    G x w (ix2 i j) = ∑ k : Fin 1024, x (ix2 i k) * w (ix2 ⟨6144 + j.val, by omega⟩ k) := by
  pointwise! [G]

end Cert.Reference15Ideal.Prod

namespace Cert.Kernel15Ideal.Prod

open Idealize.ShloMosaic Idealize.ShloMosaic.TcCoe
open Idealize.SL.Sem
open Cert.Kernel15Ideal Cert.Kernel15Ideal.Gen

theorem pay_at (p : Vec Ideal S2048x1024 .bf16) (w : Vec Ideal S1024x1024 .bf16) (i : Fin 2048) (j : Fin 1024) : k0_pay1 p w (ix2 i j) = ∑ k : Fin 1024, p (ix2 i k) * w (ix2 j k) := by
  pointwise! [k0_pay1]

/-- What a point leaves, element by element. -/
theorem out_at (p : Vec Ideal S2048x1024 .bf16) (w : Vec Ideal S1024x1024 .bf16) (i : Fin 2048) (j : Fin 1024) : out0_2 p w (ix2 i j) = ∑ k : Fin 1024, p (ix2 i k) * w (ix2 j k) := by
  have e : out0_2 p w = k0_pay1 p w := (View.canon_cons_unit_lit _ _ _ (by decide)).trans
    (congrArg₂ k0_pay1 (View.ld_unit_lit _ _ (by decide)) (View.ld_unit_lit _ _ (by decide)))
  rw [e, pay_at]

theorem idx0 : ∀ t : Fin grid0.N, win0_0.index t 0 = t.val / 2 ∧ win0_0.index t 1 = 0 := by decide +kernel
theorem idx1 : ∀ t : Fin grid0.N, win0_1.index t 0 = 6 + t.val % 2 ∧ win0_1.index t 1 = 0 := by decide +kernel
theorem idx2 : ∀ t : Fin grid0.N, win0_2.index t 0 = t.val / 2 ∧ win0_2.index t 1 = t.val % 2 := by decide +kernel

/-- Row `i` of the point's row block, column `j` of its column block. -/
def ro (t : Fin cfg0.N) (i : Fin 2048) : Fin 4096 := ⟨t.val / 2 * 2048 + i.val, by have : t.val < 4 := lt_of_lt_of_eq t.isLt N_0; omega⟩
def co (t : Fin cfg0.N) (j : Fin 1024) : Fin 2048 := ⟨t.val % 2 * 1024 + j.val, by omega⟩
/-- The weights' row for that column. -/
def wr (t : Fin cfg0.N) (j : Fin 1024) : Fin 8192 := ⟨6144 + (co t j).val, by omega⟩

variable (m : (ℓ : Loc nD τ sig) → Buf (Elt Ideal) ℓ) (c : Dev nD)

def A0 : FVec Ideal S4096x1024 .bf16 := m ((c.tc : Thread nD τ).loc main_arg0)
def A1 : FVec Ideal S8192x1024 .bf16 := m ((c.tc : Thread nD τ).loc main_arg1)

theorem blk0 (t : Fin cfg0.N) (i : Fin 2048) (k : Fin 1024) : iblk m c 0 t (ix2 i k) = A0 m c (ix2 (ro t i) k) := by
  unfold iblk
  rw [View.read_apply]
  show V m c main_arg0 _ = _
  rw [V_main_arg0]
  refine congrArg (A0 m c) (funext fun e => Fin.ext ?_)
  match e with
  | ⟨0, _⟩ => show win0_0.index t 0 * 2048 + 1 * i.val = t.val / 2 * 2048 + i.val; rw [(idx0 t).1]; omega
  | ⟨1, _⟩ => show win0_0.index t 1 * 1024 + 1 * k.val = k.val; rw [(idx0 t).2]; omega
theorem blk1 (t : Fin cfg0.N) (j : Fin 1024) (k : Fin 1024) : iblk m c 1 t (ix2 j k) = A1 m c (ix2 (wr t j) k) := by
  unfold iblk
  rw [View.read_apply]
  show V m c main_arg1 _ = _
  rw [V_main_arg1]
  refine congrArg (A1 m c) (funext fun e => Fin.ext ?_)
  match e with
  | ⟨0, _⟩ => show win0_1.index t 0 * 1024 + 1 * j.val = 6144 + (t.val % 2 * 1024 + j.val); rw [(idx1 t).1]; omega
  | ⟨1, _⟩ => show win0_1.index t 1 * 1024 + 1 * k.val = k.val; rw [(idx1 t).2]; omega
theorem at2 (t : Fin cfg0.N) (i : Fin 2048) (j : Fin 1024) :
    (((cfg0.win 2).blk t).view.emb (ix2 i j) : S4096x2048.Idx) = ix2 (ro t i) (co t j) := funext fun a => Fin.ext (by
  match a with
  | ⟨0, _⟩ => show win0_2.index t 0 * 2048 + 1 * i.val = t.val / 2 * 2048 + i.val; rw [(idx2 t).1]; omega
  | ⟨1, _⟩ => show win0_2.index t 1 * 1024 + 1 * j.val = t.val % 2 * 1024 + j.val; rw [(idx2 t).2]; omega)

/-- What point `t` leaves, of the arguments. -/
theorem left_at (t : Fin cfg0.N) (i : Fin 2048) (j : Fin 1024) : out0_2 (iblk m c 0 t) (iblk m c 1 t) (ix2 i j)
    = ∑ k : Fin 1024, A0 m c (ix2 (ro t i) k) * A1 m c (ix2 (wr t j) k) := by
  have h0 := fun i k => blk0 m c t i k
  have h1 := fun i k => blk1 m c t i k
  generalize iblk m c 0 t = p at *
  generalize iblk m c 1 t = w at *
  refine (out_at p w i j).trans ?_
  simp only [h0, h1]

/-- An array with these elements is the one after the launch. -/
theorem final (G : FVec Ideal S4096x2048 .f32)
    (hG : ∀ (i : Fin 4096) (j : Fin 2048), G (ix2 i j) = ∑ k : Fin 1024, A0 m c (ix2 i k) * A1 m c (ix2 ⟨6144 + j.val, by omega⟩ k)) : (dats m 0 c).arrAt 2 cfg0.N = G := by
  refine (dats m 0 c).arrAt_eq_of_covers 2 G (by decide +kernel) fun t hf y => ?_
  obtain ⟨i, j, rfl⟩ : ∃ (i : Fin 2048) (j : Fin 1024), y = ix2 i j := ⟨_, _, eq_ix2 y⟩
  refine (congrFun (after0_2 m c t) (ix2 i j)).trans ?_
  refine Eq.trans ?_ (congrArg G (at2 t i j)).symm
  rw [hG, left_at]
  rfl

end Cert.Kernel15Ideal.Prod

end
-- ==== Proof.Prod.ProjGates.lean ====
/- The gates' small projection after the launch: the reference's product, element by element. -/
module

public import proofs.«01_k».proof.Proof.Gen.Kernel16Ideal.Value
public import proofs.«01_k».proof.Proof.Gen.Reference16Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference16Ideal.Prod

open Idealize.ShloMosaic Idealize.ShloMosaic.TcCoe
open Cert.Reference16Ideal Cert.Reference16Ideal.Facts₀ Cert.Reference16Ideal.Facts

/-- The reference's result as a term of its arguments. -/
def G (x : FVec Ideal S4096x1024 .bf16) (w : FVec Ideal S384x1024 .bf16) : FVec Ideal S4096x384 .f32 :=
  Host.dotGeneral dot_S4096x1024_S1024x384_S4096x384_1_0_0_1_n_n none (extf .f32 x bitsLt_bf16_f32) (transpose S1024x384 [1, 0] (extf .f32 w bitsLt_bf16_f32) transposes_S384x1024_S1024x384_1_0)

theorem G_at (x : FVec Ideal S4096x1024 .bf16) (w : FVec Ideal S384x1024 .bf16) (i : Fin 4096) (j : Fin 384) :
    G x w (ix2 i j) = ∑ k : Fin 1024, x (ix2 i k) * w (ix2 j k) := by
  pointwise! [G]

end Cert.Reference16Ideal.Prod

namespace Cert.Kernel16Ideal.Prod

open Idealize.ShloMosaic Idealize.ShloMosaic.TcCoe
open Idealize.SL.Sem
open Cert.Kernel16Ideal Cert.Kernel16Ideal.Gen

theorem pay_at (p : Vec Ideal S1024x1024 .bf16) (w : Vec Ideal S384x1024 .bf16) (i : Fin 1024) (j : Fin 384) : k0_pay1 p w (ix2 i j) = ∑ k : Fin 1024, p (ix2 i k) * w (ix2 j k) := by
  pointwise! [k0_pay1]

/-- What a point leaves, element by element. -/
theorem out_at (p : Vec Ideal S1024x1024 .bf16) (w : Vec Ideal S384x1024 .bf16) (i : Fin 1024) (j : Fin 384) : out0_2 p w (ix2 i j) = ∑ k : Fin 1024, p (ix2 i k) * w (ix2 j k) := by
  have e : out0_2 p w = k0_pay1 p w := (View.canon_cons_unit_lit _ _ _ (by decide)).trans
    (congrArg₂ k0_pay1 (View.ld_unit_lit _ _ (by decide)) (View.ld_unit_lit _ _ (by decide)))
  rw [e, pay_at]

theorem idx0 : ∀ t : Fin grid0.N, win0_0.index t 0 = t.val / 1 ∧ win0_0.index t 1 = 0 := by decide +kernel
theorem idx1 : ∀ t : Fin grid0.N, win0_1.index t 0 = t.val % 1 ∧ win0_1.index t 1 = 0 := by decide +kernel
theorem idx2 : ∀ t : Fin grid0.N, win0_2.index t 0 = t.val / 1 ∧ win0_2.index t 1 = t.val % 1 := by decide +kernel

/-- Row `i` of the point's row block, column `j` of its column block. -/
def ro (t : Fin cfg0.N) (i : Fin 1024) : Fin 4096 := ⟨t.val / 1 * 1024 + i.val, by have : t.val < 4 := lt_of_lt_of_eq t.isLt N_0; omega⟩
def co (t : Fin cfg0.N) (j : Fin 384) : Fin 384 := ⟨t.val % 1 * 384 + j.val, by omega⟩

variable (m : (ℓ : Loc nD τ sig) → Buf (Elt Ideal) ℓ) (c : Dev nD)

def A0 : FVec Ideal S4096x1024 .bf16 := m ((c.tc : Thread nD τ).loc main_arg0)
def A1 : FVec Ideal S384x1024 .bf16 := m ((c.tc : Thread nD τ).loc main_arg1)

theorem blk0 (t : Fin cfg0.N) (i : Fin 1024) (k : Fin 1024) : iblk m c 0 t (ix2 i k) = A0 m c (ix2 (ro t i) k) := by
  unfold iblk
  rw [View.read_apply]
  show V m c main_arg0 _ = _
  rw [V_main_arg0]
  refine congrArg (A0 m c) (funext fun e => Fin.ext ?_)
  match e with
  | ⟨0, _⟩ => show win0_0.index t 0 * 1024 + 1 * i.val = t.val / 1 * 1024 + i.val; rw [(idx0 t).1]; omega
  | ⟨1, _⟩ => show win0_0.index t 1 * 1024 + 1 * k.val = k.val; rw [(idx0 t).2]; omega
theorem blk1 (t : Fin cfg0.N) (j : Fin 384) (k : Fin 1024) : iblk m c 1 t (ix2 j k) = A1 m c (ix2 (co t j) k) := by
  unfold iblk
  rw [View.read_apply]
  show V m c main_arg1 _ = _
  rw [V_main_arg1]
  refine congrArg (A1 m c) (funext fun e => Fin.ext ?_)
  match e with
  | ⟨0, _⟩ => show win0_1.index t 0 * 384 + 1 * j.val = t.val % 1 * 384 + j.val; rw [(idx1 t).1]; omega
  | ⟨1, _⟩ => show win0_1.index t 1 * 1024 + 1 * k.val = k.val; rw [(idx1 t).2]; omega
theorem at2 (t : Fin cfg0.N) (i : Fin 1024) (j : Fin 384) :
    (((cfg0.win 2).blk t).view.emb (ix2 i j) : S4096x384.Idx) = ix2 (ro t i) (co t j) := funext fun a => Fin.ext (by
  match a with
  | ⟨0, _⟩ => show win0_2.index t 0 * 1024 + 1 * i.val = t.val / 1 * 1024 + i.val; rw [(idx2 t).1]; omega
  | ⟨1, _⟩ => show win0_2.index t 1 * 384 + 1 * j.val = t.val % 1 * 384 + j.val; rw [(idx2 t).2]; omega)

/-- What point `t` leaves, of the arguments. -/
theorem left_at (t : Fin cfg0.N) (i : Fin 1024) (j : Fin 384) : out0_2 (iblk m c 0 t) (iblk m c 1 t) (ix2 i j)
    = ∑ k : Fin 1024, A0 m c (ix2 (ro t i) k) * A1 m c (ix2 (co t j) k) := by
  have h0 := fun i k => blk0 m c t i k
  have h1 := fun i k => blk1 m c t i k
  generalize iblk m c 0 t = p at *
  generalize iblk m c 1 t = w at *
  refine (out_at p w i j).trans ?_
  simp only [h0, h1]

/-- An array with these elements is the one after the launch. -/
theorem final (G : FVec Ideal S4096x384 .f32)
    (hG : ∀ (i : Fin 4096) (j : Fin 384), G (ix2 i j) = ∑ k : Fin 1024, A0 m c (ix2 i k) * A1 m c (ix2 j k)) : (dats m 0 c).arrAt 2 cfg0.N = G := by
  refine (dats m 0 c).arrAt_eq_of_covers 2 G (by decide +kernel) fun t hf y => ?_
  obtain ⟨i, j, rfl⟩ : ∃ (i : Fin 1024) (j : Fin 384), y = ix2 i j := ⟨_, _, eq_ix2 y⟩
  refine (congrFun (after0_2 m c t) (ix2 i j)).trans ?_
  refine Eq.trans ?_ (congrArg G (at2 t i j)).symm
  rw [hG, left_at]

end Cert.Kernel16Ideal.Prod

end
-- ==== Proof.Prod.Dh0Gates.lean ====
/- The gradient at the input of the gates' small projection after the launch: the reference's product, element by element. -/
module

public import proofs.«01_k».proof.Proof.Gen.Kernel17Ideal.Value
public import proofs.«01_k».proof.Proof.Gen.Reference17Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference17Ideal.Prod

open Idealize.ShloMosaic Idealize.ShloMosaic.TcCoe
open Cert.Reference17Ideal Cert.Reference17Ideal.Facts₀ Cert.Reference17Ideal.Facts

/-- The reference's result as a term of its arguments. -/
def G (x : FVec Ideal S4096x384 .bf16) (w : FVec Ideal S384x1024 .bf16) : FVec Ideal S4096x1024 .f32 :=
  Host.dotGeneral dot_S4096x384_S1024x384_S4096x1024_1_1_0_0_n_n none (extf .f32 x bitsLt_bf16_f32) (transpose S1024x384 [1, 0] (extf .f32 w bitsLt_bf16_f32) transposes_S384x1024_S1024x384_1_0)

theorem G_at (x : FVec Ideal S4096x384 .bf16) (w : FVec Ideal S384x1024 .bf16) (i : Fin 4096) (j : Fin 1024) :
    G x w (ix2 i j) = ∑ k : Fin 384, x (ix2 i k) * w (ix2 k j) := by
  pointwise! [G]

end Cert.Reference17Ideal.Prod

namespace Cert.Kernel17Ideal.Prod

open Idealize.ShloMosaic Idealize.ShloMosaic.TcCoe
open Idealize.SL.Sem
open Cert.Kernel17Ideal Cert.Kernel17Ideal.Gen

theorem pay_at (p : Vec Ideal S1024x384 .bf16) (w : Vec Ideal S384x1024 .bf16) (i : Fin 1024) (j : Fin 1024) : k0_pay1 p w (ix2 i j) = ∑ k : Fin 384, p (ix2 i k) * w (ix2 k j) := by
  pointwise! [k0_pay1]

/-- What a point leaves, element by element. -/
theorem out_at (p : Vec Ideal S1024x384 .bf16) (w : Vec Ideal S384x1024 .bf16) (i : Fin 1024) (j : Fin 1024) : out0_2 p w (ix2 i j) = ∑ k : Fin 384, p (ix2 i k) * w (ix2 k j) := by
  have e : out0_2 p w = k0_pay1 p w := (View.canon_cons_unit_lit _ _ _ (by decide)).trans
    (congrArg₂ k0_pay1 (View.ld_unit_lit _ _ (by decide)) (View.ld_unit_lit _ _ (by decide)))
  rw [e, pay_at]

theorem idx0 : ∀ t : Fin grid0.N, win0_0.index t 0 = t.val / 1 ∧ win0_0.index t 1 = 0 := by decide +kernel
theorem idx1 : ∀ t : Fin grid0.N, win0_1.index t 0 = 0 ∧ win0_1.index t 1 = t.val % 1 := by decide +kernel
theorem idx2 : ∀ t : Fin grid0.N, win0_2.index t 0 = t.val / 1 ∧ win0_2.index t 1 = t.val % 1 := by decide +kernel

/-- Row `i` of the point's row block, column `j` of its column block. -/
def ro (t : Fin cfg0.N) (i : Fin 1024) : Fin 4096 := ⟨t.val / 1 * 1024 + i.val, by have : t.val < 4 := lt_of_lt_of_eq t.isLt N_0; omega⟩
def co (t : Fin cfg0.N) (j : Fin 1024) : Fin 1024 := ⟨t.val % 1 * 1024 + j.val, by omega⟩

variable (m : (ℓ : Loc nD τ sig) → Buf (Elt Ideal) ℓ) (c : Dev nD)

def A0 : FVec Ideal S4096x384 .bf16 := m ((c.tc : Thread nD τ).loc main_arg0)
def A1 : FVec Ideal S384x1024 .bf16 := m ((c.tc : Thread nD τ).loc main_arg1)

theorem blk0 (t : Fin cfg0.N) (i : Fin 1024) (k : Fin 384) : iblk m c 0 t (ix2 i k) = A0 m c (ix2 (ro t i) k) := by
  unfold iblk
  rw [View.read_apply]
  show V m c main_arg0 _ = _
  rw [V_main_arg0]
  refine congrArg (A0 m c) (funext fun e => Fin.ext ?_)
  match e with
  | ⟨0, _⟩ => show win0_0.index t 0 * 1024 + 1 * i.val = t.val / 1 * 1024 + i.val; rw [(idx0 t).1]; omega
  | ⟨1, _⟩ => show win0_0.index t 1 * 384 + 1 * k.val = k.val; rw [(idx0 t).2]; omega
theorem blk1 (t : Fin cfg0.N) (k : Fin 384) (j : Fin 1024) : iblk m c 1 t (ix2 k j) = A1 m c (ix2 k (co t j)) := by
  unfold iblk
  rw [View.read_apply]
  show V m c main_arg1 _ = _
  rw [V_main_arg1]
  refine congrArg (A1 m c) (funext fun e => Fin.ext ?_)
  match e with
  | ⟨0, _⟩ => show win0_1.index t 0 * 384 + 1 * k.val = k.val; rw [(idx1 t).1]; omega
  | ⟨1, _⟩ => show win0_1.index t 1 * 1024 + 1 * j.val = t.val % 1 * 1024 + j.val; rw [(idx1 t).2]; omega
theorem at2 (t : Fin cfg0.N) (i : Fin 1024) (j : Fin 1024) :
    (((cfg0.win 2).blk t).view.emb (ix2 i j) : S4096x1024.Idx) = ix2 (ro t i) (co t j) := funext fun a => Fin.ext (by
  match a with
  | ⟨0, _⟩ => show win0_2.index t 0 * 1024 + 1 * i.val = t.val / 1 * 1024 + i.val; rw [(idx2 t).1]; omega
  | ⟨1, _⟩ => show win0_2.index t 1 * 1024 + 1 * j.val = t.val % 1 * 1024 + j.val; rw [(idx2 t).2]; omega)

/-- What point `t` leaves, of the arguments. -/
theorem left_at (t : Fin cfg0.N) (i : Fin 1024) (j : Fin 1024) : out0_2 (iblk m c 0 t) (iblk m c 1 t) (ix2 i j)
    = ∑ k : Fin 384, A0 m c (ix2 (ro t i) k) * A1 m c (ix2 k (co t j)) := by
  have h0 := fun i k => blk0 m c t i k
  have h1 := fun i k => blk1 m c t i k
  generalize iblk m c 0 t = p at *
  generalize iblk m c 1 t = w at *
  refine (out_at p w i j).trans ?_
  simp only [h0, h1]

/-- An array with these elements is the one after the launch. -/
theorem final (G : FVec Ideal S4096x1024 .f32)
    (hG : ∀ (i : Fin 4096) (j : Fin 1024), G (ix2 i j) = ∑ k : Fin 384, A0 m c (ix2 i k) * A1 m c (ix2 k j)) : (dats m 0 c).arrAt 2 cfg0.N = G := by
  refine (dats m 0 c).arrAt_eq_of_covers 2 G (by decide +kernel) fun t hf y => ?_
  obtain ⟨i, j, rfl⟩ : ∃ (i : Fin 1024) (j : Fin 1024), y = ix2 i j := ⟨_, _, eq_ix2 y⟩
  refine (congrFun (after0_2 m c t) (ix2 i j)).trans ?_
  refine Eq.trans ?_ (congrArg G (at2 t i j)).symm
  rw [hG, left_at]

end Cert.Kernel17Ideal.Prod

end
-- ==== Proof.Prod.DwGates.lean ====
/- The weight gradient of the gates' small projection after the launch: the reference's product, element by element. -/
module

public import proofs.«01_k».proof.Proof.Gen.Kernel18Ideal.Value
public import proofs.«01_k».proof.Proof.Gen.Reference18Ideal.Run
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Reference18Ideal.Prod

open Idealize.ShloMosaic Idealize.ShloMosaic.TcCoe
open Cert.Reference18Ideal Cert.Reference18Ideal.Facts₀ Cert.Reference18Ideal.Facts

/-- The reference's result as a term of its arguments. -/
def G (x : FVec Ideal S4096x384 .bf16) (w : FVec Ideal S4096x1024 .bf16) : FVec Ideal S384x1024 .f32 :=
  transpose S384x1024 [1, 0] (transpose S1024x384 [1, 0] (Host.dotGeneral dot_S4096x384_S4096x1024_S384x1024_0_0_1_1_n_n none (extf .f32 x bitsLt_bf16_f32) (extf .f32 w bitsLt_bf16_f32)) transposes_S384x1024_S1024x384_1_0) transposes_S1024x384_S384x1024_1_0

theorem G_at (x : FVec Ideal S4096x384 .bf16) (w : FVec Ideal S4096x1024 .bf16) (i : Fin 384) (j : Fin 1024) :
    G x w (ix2 i j) = ∑ k : Fin 4096, x (ix2 k i) * w (ix2 k j) := by
  pointwise! [G]

end Cert.Reference18Ideal.Prod

namespace Cert.Kernel18Ideal.Prod

open Idealize.ShloMosaic Idealize.ShloMosaic.TcCoe
open Idealize.SL.Sem
open Cert.Kernel18Ideal Cert.Kernel18Ideal.Gen

/-- What a load through `r` reads of a buffer holding `x`. -/
theorem load_whole {S : Shape} {e : EltTy} (M : Memref sig .tc .vmem S e) (h : M.IsWhole) (x : Vec Ideal S e) (r : Rect S) :
    M.view.readAt (Elt Ideal) r.toLoadRect (h.unread x) = View.ld x r := by
  rw [View.readAt_eq_ld, h.read_unread]
theorem load_all {S : Shape} {e : EltTy} (M : Memref sig .tc .vmem S e) (h : M.IsWhole) (x : Vec Ideal S e) {off : Fin S.rank → Nat}
    (inb : ∀ a, off a + S.size a ≤ S.size a) (h0 : ∀ a, off a = 0) :
    M.view.readAt (Elt Ideal) (Rect.unit off S.size inb).toLoadRect (h.unread x) = x :=
  (load_whole M h x _).trans (View.ld_unit_lit inb x h0)

/-- What a point leaves: the first its product, each further one its product added to what the one before it left. -/
theorem left_A (c : Dev nD) (i : grid0.Coords) (a0 : Memref sig .tc .vmem S1024x384 .bf16) (h0 : a0.IsWhole) (a1 : Memref sig .tc .vmem S1024x1024 .bf16) (h1 : a1.IsWhole)
    (a2 : Memref sig .tc .vmem S384x1024 .f32) (h2 : a2.IsWhole) (a3 : Memref sig .tc .vmem S384x1024 .f32) (h3 : a3.IsWhole)
    (c0 : cond0_0 i) (c1 : ¬cond0_1 i) (c2 : ¬cond0_2 i)
    (x0 : Vec Ideal S1024x384 .bf16) (x1 : Vec Ideal S1024x1024 .bf16) : sout0_A_0 c i a0 h0 a1 h1 a2 h2 a3 h3 c0 c1 c2 x0 x1 = k0_pay2 x0 x1 := by
  refine (View.read_writes_eq_canon VS0_0 _ _ (scover0_A_0 c i a0 h0 a1 h1 a2 h2 a3 h3 c0 c1 c2 x0 x1)).trans ?_
  unfold kernelRun0_A
  dsimp only
  refine (View.canon_cons_unit_lit _ _ _ (by decide)).trans ?_
  simp only [load_all a0 h0 x0 inb_S1024x384_S1024x384_0_0 (by decide), load_all a1 h1 x1 inb_S1024x1024_S1024x1024_0_0 (by decide)]
theorem left_B (c : Dev nD) (i : grid0.Coords) (a0 : Memref sig .tc .vmem S1024x384 .bf16) (h0 : a0.IsWhole) (a1 : Memref sig .tc .vmem S1024x1024 .bf16) (h1 : a1.IsWhole)
    (a2 : Memref sig .tc .vmem S384x1024 .f32) (h2 : a2.IsWhole) (a3 : Memref sig .tc .vmem S384x1024 .f32) (h3 : a3.IsWhole)
    (c0 : ¬cond0_0 i) (c1 : cond0_1 i) (c2 : ¬cond0_2 i)
    (x0 : Vec Ideal S1024x384 .bf16) (x1 : Vec Ideal S1024x1024 .bf16) (s : Vec Ideal S384x1024 .f32) : sout0_B_0 c i a0 h0 a1 h1 a2 h2 a3 h3 c0 c1 c2 x0 x1 s = k0_pay3 x0 x1 s := by
  refine (View.read_writes_eq_canon VS0_0 _ _ (scover0_B_0 c i a0 h0 a1 h1 a2 h2 a3 h3 c0 c1 c2 x0 x1 s)).trans ?_
  unfold kernelRun0_B
  dsimp only
  refine (View.canon_cons_unit_lit _ _ _ (by decide)).trans ?_
  simp only [load_all a0 h0 x0 inb_S1024x384_S1024x384_0_0 (by decide), load_all a1 h1 x1 inb_S1024x1024_S1024x1024_0_0 (by decide), load_all a3 h3 s inb_S384x1024_S384x1024_0_0 (by decide)]
theorem left_C (c : Dev nD) (i : grid0.Coords) (a0 : Memref sig .tc .vmem S1024x384 .bf16) (h0 : a0.IsWhole) (a1 : Memref sig .tc .vmem S1024x1024 .bf16) (h1 : a1.IsWhole)
    (a2 : Memref sig .tc .vmem S384x1024 .f32) (h2 : a2.IsWhole) (a3 : Memref sig .tc .vmem S384x1024 .f32) (h3 : a3.IsWhole)
    (c0 : ¬cond0_0 i) (c1 : cond0_1 i) (c2 : cond0_2 i)
    (x0 : Vec Ideal S1024x384 .bf16) (x1 : Vec Ideal S1024x1024 .bf16) (s : Vec Ideal S384x1024 .f32) : out0_C_2 c i a0 h0 a1 h1 a2 h2 a3 h3 c0 c1 c2 x0 x1 s = k0_pay3 x0 x1 s := by
  refine (View.read_writes_eq_canon VO0_2 _ _ (cover0_C_2 c i a0 h0 a1 h1 a2 h2 a3 h3 c0 c1 c2 x0 x1 s)).trans ?_
  unfold kernelRun0_C
  dsimp only
  refine (View.canon_cons_unit_lit _ _ _ (by decide)).trans ?_
  unfold kernelRun0_C.sl.v12
  refine (View.readCov_eq_canon' _ _ _).trans ?_
  refine (View.ld_unit_lit inb_S384x1024_S384x1024_0_0 _ (by decide)).trans ?_
  unfold kernelRun0_C.sl.HS0_1
  refine (View.canon_cons_unit_lit _ _ _ (by decide)).trans ?_
  simp only [load_all a0 h0 x0 inb_S1024x384_S1024x384_0_0 (by decide), load_all a1 h1 x1 inb_S1024x1024_S1024x1024_0_0 (by decide), load_all a3 h3 s inb_S384x1024_S384x1024_0_0 (by decide)]

/-- The product of two blocks. -/
def prod (x : Vec Ideal S1024x384 .bf16) (y : Vec Ideal S1024x1024 .bf16) (i : Fin 384) (j : Fin 1024) : EReal := ∑ k : Fin 1024, x (ix2 k i) * y (ix2 k j)

theorem pay2_at (x : Vec Ideal S1024x384 .bf16) (y : Vec Ideal S1024x1024 .bf16) (i : Fin 384) (j : Fin 1024) :
    k0_pay2 x y (ix2 i j) = prod x y i j := by
  pointwise! [k0_pay2, k0_pay1, prod]
theorem pay3_at (x : Vec Ideal S1024x384 .bf16) (y : Vec Ideal S1024x1024 .bf16) (s : Vec Ideal S384x1024 .f32) (i : Fin 384) (j : Fin 1024) :
    k0_pay3 x y s (ix2 i j) = s (ix2 i j) + prod x y i j := by
  pointwise! [k0_pay3, k0_pay1, prod]

theorem idx0 : ∀ t : Fin grid0.N, win0_0.index t 0 = t.val % 4 ∧ win0_0.index t 1 = 0 := by decide +kernel
theorem idx1 : ∀ t : Fin grid0.N, win0_1.index t 0 = t.val % 4 ∧ win0_1.index t 1 = 0 := by decide +kernel
theorem idx2 : ∀ t : Fin grid0.N, win0_2.index t 0 = 0 ∧ win0_2.index t 1 = 0 := by decide +kernel

/-- Row `k` of row block `a`. -/
def ko (a : Fin 4) (k : Fin 1024) : Fin 4096 := ⟨a.val * 1024 + k.val, by omega⟩

variable (m : (ℓ : Loc nD τ sig) → Buf (Elt Ideal) ℓ) (c : Dev nD)

def A0 : FVec Ideal S4096x384 .bf16 := m ((c.tc : Thread nD τ).loc main_arg0)
def A1 : FVec Ideal S4096x1024 .bf16 := m ((c.tc : Thread nD τ).loc main_arg1)

theorem blk0 (t : Fin cfg0.N) (a : Fin 4) (ha : t.val % 4 = a.val) (k : Fin 1024) (i : Fin 384) : iblk m c 0 t (ix2 k i) = A0 m c (ix2 (ko a k) i) := by
  unfold iblk
  rw [View.read_apply]
  show V m c main_arg0 _ = _
  rw [V_main_arg0]
  refine congrArg (A0 m c) (funext fun e => Fin.ext ?_)
  match e with
  | ⟨0, _⟩ => show win0_0.index t 0 * 1024 + 1 * k.val = a.val * 1024 + k.val; rw [(idx0 t).1, ha]; omega
  | ⟨1, _⟩ => show win0_0.index t 1 * 384 + 1 * i.val = i.val; rw [(idx0 t).2]; omega
theorem blk1 (t : Fin cfg0.N) (a : Fin 4) (ha : t.val % 4 = a.val) (k : Fin 1024) (j : Fin 1024) : iblk m c 1 t (ix2 k j) = A1 m c (ix2 (ko a k) j) := by
  unfold iblk
  rw [View.read_apply]
  show V m c main_arg1 _ = _
  rw [V_main_arg1]
  refine congrArg (A1 m c) (funext fun e => Fin.ext ?_)
  match e with
  | ⟨0, _⟩ => show win0_1.index t 0 * 1024 + 1 * k.val = a.val * 1024 + k.val; rw [(idx1 t).1, ha]; omega
  | ⟨1, _⟩ => show win0_1.index t 1 * 1024 + 1 * j.val = j.val; rw [(idx1 t).2]; omega
theorem at2 (t : Fin cfg0.N) (i : Fin 384) (j : Fin 1024) :
    (((cfg0.win 2).blk t).view.emb (ix2 i j) : S384x1024.Idx) = ix2 i j := funext fun a => Fin.ext (by
  match a with
  | ⟨0, _⟩ => show win0_2.index t 0 * 384 + 1 * i.val = i.val; rw [(idx2 t).1]; omega
  | ⟨1, _⟩ => show win0_2.index t 1 * 1024 + 1 * j.val = j.val; rw [(idx2 t).2]; omega)

/-- The product over row block `a`. -/
def blockSum (a : Fin 4) (i : Fin 384) (j : Fin 1024) : EReal := ∑ k : Fin 1024, A0 m c (ix2 (ko a k) i) * A1 m c (ix2 (ko a k) j)

/-- What a block's product is at point `t`. -/
theorem block_at (t : Fin cfg0.N) (a : Fin 4) (ha : t.val % 4 = a.val) (i : Fin 384) (j : Fin 1024) :
    prod (iblk m c 0 t) (iblk m c 1 t) i j = blockSum m c a i j :=
  Finset.sum_congr rfl fun k _ => congrArg₂ (· * ·) (blk0 m c t a ha k i) (blk1 m c t a ha k j)

/-- What the points leave behind, one after the other. -/
theorem at_0 (t : Fin cfg0.N) (he : t.val % 4 = 0) (i : Fin 384) (j : Fin 1024) : (outsAt0 m c t.val t.isLt).2 (ix2 i j) = blockSum m c 0 i j := by
  have hN : t.val < 4 := lt_of_lt_of_eq t.isLt N_0
  rw [outsAt0_A m c t he (by omega) (by omega)]
  dsimp only
  rw [left_A, pay2_at]
  exact block_at m c t 0 he i j
theorem at_1 (t : Fin cfg0.N) (he : t.val % 4 = 1) (i : Fin 384) (j : Fin 1024) :
    (outsAt0 m c t.val t.isLt).2 (ix2 i j) = blockSum m c 0 i j + blockSum m c 1 i j := by
  have hp : _ = blockSum m c 0 i j := at_0 m c ⟨t.val - 1, Nat.lt_of_le_of_lt (Nat.sub_le _ _) t.isLt⟩ (by show (t.val - 1) % 4 = 0; omega) i j
  rw [outsAt0_B m c t (by omega) (by omega) (by omega)]
  dsimp only
  rw [left_B, pay3_at]
  exact congrArg₂ (· + ·) hp (block_at m c t 1 he i j)
theorem at_2 (t : Fin cfg0.N) (he : t.val % 4 = 2) (i : Fin 384) (j : Fin 1024) :
    (outsAt0 m c t.val t.isLt).2 (ix2 i j) = blockSum m c 0 i j + blockSum m c 1 i j + blockSum m c 2 i j := by
  have hp : _ = blockSum m c 0 i j + blockSum m c 1 i j := at_1 m c ⟨t.val - 1, Nat.lt_of_le_of_lt (Nat.sub_le _ _) t.isLt⟩ (by show (t.val - 1) % 4 = 1; omega) i j
  rw [outsAt0_B m c t (by omega) (by omega) (by omega)]
  dsimp only
  rw [left_B, pay3_at]
  exact congrArg₂ (· + ·) hp (block_at m c t 2 he i j)
/-- What the last point writes. -/
theorem at_3 (t : Fin cfg0.N) (he : t.val % 4 = 3) (i : Fin 384) (j : Fin 1024) :
    (outsAt0 m c t.val t.isLt).1 (ix2 i j) = blockSum m c 0 i j + blockSum m c 1 i j + blockSum m c 2 i j + blockSum m c 3 i j := by
  have hp : _ = blockSum m c 0 i j + blockSum m c 1 i j + blockSum m c 2 i j := at_2 m c ⟨t.val - 1, Nat.lt_of_le_of_lt (Nat.sub_le _ _) t.isLt⟩ (by show (t.val - 1) % 4 = 2; omega) i j
  rw [outsAt0_C m c t (by omega) (by omega) he]
  dsimp only
  rw [left_C, pay3_at]
  exact congrArg₂ (· + ·) hp (block_at m c t 3 he i j)

theorem sum_all (i : Fin 384) (j : Fin 1024) :
    blockSum m c 0 i j + blockSum m c 1 i j + blockSum m c 2 i j + blockSum m c 3 i j = ∑ k : Fin 4096, A0 m c (ix2 k i) * A1 m c (ix2 k j) := by
  refine Eq.trans ?_ (Cert.Prod.sum_blocks (n := 4) (l := 1024) (by norm_num) _).symm
  rw [Fin.sum_univ_four]
  rfl

/-- An array with these elements is the one after the launch. -/
theorem final (G : FVec Ideal S384x1024 .f32)
    (hG : ∀ (i : Fin 384) (j : Fin 1024), G (ix2 i j) = ∑ k : Fin 4096, A0 m c (ix2 k i) * A1 m c (ix2 k j)) : (dats m 0 c).arrAt 2 cfg0.N = G := by
  refine (dats m 0 c).arrAt_eq_of_covers 2 G (by decide +kernel) fun t hf y => ?_
  obtain ⟨i, j, rfl⟩ : ∃ (i : Fin 384) (j : Fin 1024), y = ix2 i j := ⟨_, _, eq_ix2 y⟩
  refine (congrFun (after0_2 m c t) (ix2 i j)).trans ?_
  refine Eq.trans ?_ (congrArg G (at2 t i j)).symm
  rw [hG, ← sum_all]
  exact at_3 m c t ((flush0_2 t).mp hf) i j

end Cert.Kernel18Ideal.Prod

end
-- ==== Proof.DwMain.Body.lean ====
/- One grid point of the big weight gradient's program: eight blocks of statements alike but for the buffer they read, of which
   the point's row block says the one that runs. -/
module

public import proofs.«01_k».proof.Proof.Gen.Kernel19Ideal.Skeleton
public import Idealize.ShloMosaic.Lib.VecWindow
public import Idealize.ShloMosaic.Lib.Pipeline.ValueKit
public import Idealize.ShloMosaic.Lib.Exec
public import Idealize.ShloMosaic.Lib.Tactic
public import Idealize.ShloMosaic.Lib.Pipeline.Kit
public import Idealize.ShloMosaic.Lib.Pipeline.TableIdle

@[expose] public section

set_option maxRecDepth 65536
set_option maxHeartbeats 1600000

noncomputable section

namespace Cert.Kernel19Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel19Ideal Cert.Kernel19Ideal.Gen

variable {F : FTy → Type} [FloatOps F]

local notation "𝕄" => MT nD τ sig Unit (Elt F) ℕ (UR sig nD τ) ℕ

/-- One block of statements, then `K`: when `on`, the product of `a` and `b` is stored into `s` (at a sweep's first point, `e`) or added
    to it (at the further ones, `g`), and at the last point `s` is copied to `o`. -/
def blk (on e g last : BitVec 1) (a b : Memref sig .tc .vmem S1024x1024 .bf16) (o s : Memref sig .tc .vmem S1024x1024 .f32) {α : Type}
    (K : Prog (TpuEff nD τ sig (Elt F) Λ₀ .tc) α) : Prog (TpuEff nD τ sig (Elt F) Λ₀ .tc) α := do
  if h1 : on = 1#1 then do
    let v41 : Vec F S1024x1024 .bf16 ← Prog.lift (.load a (Rect.unit (s := S1024x1024) ![0, 0] S1024x1024.size inb_S1024x1024_S1024x1024_0_0).toLoadRect (View.loadsAt_vmem h_S1024x1024))
    let v42 : Vec F S1024x1024 .bf16 ← Prog.lift (.load b (Rect.unit (s := S1024x1024) ![0, 0] S1024x1024.size inb_S1024x1024_S1024x1024_0_0).toLoadRect (View.loadsAt_vmem h_S1024x1024))
    if h2 : e = 1#1 then do
      let v53 : Vec F S1024x1024 .f32 ← Prog.lift (.load s (Rect.unit (s := S1024x1024) ![0, 0] S1024x1024.size inb_S1024x1024_S1024x1024_0_0).toLoadRect (View.loadsAt_vmem h_S1024x1024))
      Prog.lift (.store s (Rect.unit (s := S1024x1024) ![0, 0] S1024x1024.size inb_S1024x1024_S1024x1024_0_0) (k0_pay2 v41 v42) Finset.univ (View.stores_vmem_bits_univ h_S1024x1024 rfl) (.inl rfl))
      pure ⟨⟩
    else do
      pure ⟨⟩
    if h3 : g = 1#1 then do
      let v53 : Vec F S1024x1024 .f32 ← Prog.lift (.load s (Rect.unit (s := S1024x1024) ![0, 0] S1024x1024.size inb_S1024x1024_S1024x1024_0_0).toLoadRect (View.loadsAt_vmem h_S1024x1024))
      let v55 : Vec F S1024x1024 .f32 ← Prog.lift (.load s (Rect.unit (s := S1024x1024) ![0, 0] S1024x1024.size inb_S1024x1024_S1024x1024_0_0).toLoadRect (View.loadsAt_vmem h_S1024x1024))
      Prog.lift (.store s (Rect.unit (s := S1024x1024) ![0, 0] S1024x1024.size inb_S1024x1024_S1024x1024_0_0) (k0_pay3 v41 v42 v53) Finset.univ (View.stores_vmem_bits_univ h_S1024x1024 rfl) (.inl rfl))
      pure ⟨⟩
    else do
      pure ⟨⟩
    if h4 : last = 1#1 then do
      let v53 : Vec F S1024x1024 .f32 ← Prog.lift (.load s (Rect.unit (s := S1024x1024) ![0, 0] S1024x1024.size inb_S1024x1024_S1024x1024_0_0).toLoadRect (View.loadsAt_vmem h_S1024x1024))
      let v54 : Vec F S1024x1024 .f32 ← Prog.lift (.load o (Rect.unit (s := S1024x1024) ![0, 0] S1024x1024.size inb_S1024x1024_S1024x1024_0_0).toLoadRect (View.loadsAt_vmem h_S1024x1024))
      Prog.lift (.store o (Rect.unit (s := S1024x1024) ![0, 0] S1024x1024.size inb_S1024x1024_S1024x1024_0_0) v53 Finset.univ (View.stores_vmem_bits_univ h_S1024x1024 rfl) (.inl rfl))
      pure ⟨⟩
    else do
      pure ⟨⟩
    pure ⟨⟩
  else do
    pure ⟨⟩
  K

def isFirst (i : grid0.Coords) : BitVec 1 := Scalar.cmpi .ne (Scalar.extui (Scalar.cmpi .eq (BitVec.ofNat 32 (i 2).val) 0#32) : BitVec 32) 0#32
def isLater (i : grid0.Coords) : BitVec 1 := Scalar.cmpi .ne (Scalar.extui (Scalar.cmpi .sgt (BitVec.ofNat 32 (i 2).val) 0#32) : BitVec 32) 0#32

variable (on e g last : BitVec 1) (a b : Memref sig .tc .vmem S1024x1024 .bf16) (o s : Memref sig .tc .vmem S1024x1024 .f32)

theorem blk_off (h : ¬ on = 1#1) {α : Type} (K : Prog (TpuEff nD τ sig (Elt F) Λ₀ .tc) α) : blk on e g last a b o s K = K := by
  unfold blk
  simp only [dif_neg h, pure_bind]

theorem blk_bind {α β : Type} (K : Prog (TpuEff nD τ sig (Elt F) Λ₀ .tc) α) (f : α → Prog (TpuEff nD τ sig (Elt F) Λ₀ .tc) β) :
    (blk on e g last a b o s K >>= f) = blk on e g last a b o s (K >>= f) := by
  unfold blk
  by_cases h1 : on = 1#1 <;> by_cases h2 : e = 1#1 <;> by_cases h3 : g = 1#1 <;> by_cases h4 : last = 1#1 <;>
    simp only [h1, h2, h3, h4, dite_true, dite_false, bind_assoc, pure_bind]

theorem part1_eq (i : grid0.Coords) (a3 : Memref sig .tc .vmem S1024x1024 .bf16) (w3 : a3.IsWhole) (a4 : Memref sig .tc .vmem S1024x1024 .bf16) (w4 : a4.IsWhole) (a5 : Memref sig .tc .vmem S1024x1024 .bf16) (w5 : a5.IsWhole) (a6 : Memref sig .tc .vmem S1024x1024 .bf16) (w6 : a6.IsWhole) (a7 : Memref sig .tc .vmem S1024x1024 .bf16) (w7 : a7.IsWhole) (a8 : Memref sig .tc .vmem S1024x1024 .bf16) (w8 : a8.IsWhole) (a9 : Memref sig .tc .vmem S1024x1024 .bf16) (w9 : a9.IsWhole) (a10 : Memref sig .tc .vmem S1024x1024 .bf16) (w10 : a10.IsWhole) (a11 : Memref sig .tc .vmem S1024x1024 .bf16) (w11 : a11.IsWhole) (a12 : Memref sig .tc .vmem S1024x1024 .f32) (w12 : a12.IsWhole) (a13 : Memref sig .tc .vmem S1024x1024 .f32) (w13 : a13.IsWhole) :
    ∃ u v : BitVec 32, k0_part1 (F := F) i a3 w3 a4 w4 a5 w5 a6 w6 a7 w7 a8 w8 a9 w9 a10 w10 a11 w11 a12 w12 a13 w13
      = blk (k0_cond1 i) (isFirst i) (isLater i) (k0_cond4 i) a3 a11 a12 a13 (blk (k0_cond5 i) (isFirst i) (isLater i) (k0_cond8 i) a4 a11 a12 a13 (blk (k0_cond9 i) (isFirst i) (isLater i) (k0_cond12 i) a5 a11 a12 a13 (blk (k0_cond13 i) (isFirst i) (isLater i) (k0_cond16 i) a6 a11 a12 a13 (blk (k0_cond17 i) (isFirst i) (isLater i) (k0_cond20 i) a7 a11 a12 a13 (pure ⟨BitVec.ofNat 32 (i 2).val, u, v⟩))))) :=
  ⟨_, _, rfl⟩

theorem whole_eq (i : grid0.Coords) (a3 : Memref sig .tc .vmem S1024x1024 .bf16) (w3 : a3.IsWhole) (a4 : Memref sig .tc .vmem S1024x1024 .bf16) (w4 : a4.IsWhole) (a5 : Memref sig .tc .vmem S1024x1024 .bf16) (w5 : a5.IsWhole) (a6 : Memref sig .tc .vmem S1024x1024 .bf16) (w6 : a6.IsWhole) (a7 : Memref sig .tc .vmem S1024x1024 .bf16) (w7 : a7.IsWhole) (a8 : Memref sig .tc .vmem S1024x1024 .bf16) (w8 : a8.IsWhole) (a9 : Memref sig .tc .vmem S1024x1024 .bf16) (w9 : a9.IsWhole) (a10 : Memref sig .tc .vmem S1024x1024 .bf16) (w10 : a10.IsWhole) (a11 : Memref sig .tc .vmem S1024x1024 .bf16) (w11 : a11.IsWhole) (a12 : Memref sig .tc .vmem S1024x1024 .f32) (w12 : a12.IsWhole) (a13 : Memref sig .tc .vmem S1024x1024 .f32) (w13 : a13.IsWhole) :
    cc0_dw_main (F := F) i a3 w3 a4 w4 a5 w5 a6 w6 a7 w7 a8 w8 a9 w9 a10 w10 a11 w11 a12 w12 a13 w13
      = k0_part1 (F := F) i a3 w3 a4 w4 a5 w5 a6 w6 a7 w7 a8 w8 a9 w9 a10 w10 a11 w11 a12 w12 a13 w13 >>= fun r =>
          blk (k0_cond21 i) (Scalar.cmpi .ne (Scalar.extui (Scalar.cmpi .eq r.1 0#32) : BitVec 32) 0#32) (Scalar.cmpi .ne (Scalar.extui (Scalar.cmpi .sgt r.1 0#32) : BitVec 32) 0#32) (k0_cond24 i) a8 a11 a12 a13 (blk (k0_cond25 i) (Scalar.cmpi .ne (Scalar.extui (Scalar.cmpi .eq r.1 0#32) : BitVec 32) 0#32) (Scalar.cmpi .ne (Scalar.extui (Scalar.cmpi .sgt r.1 0#32) : BitVec 32) 0#32) (k0_cond28 i) a9 a11 a12 a13 (blk (k0_cond29 i) (Scalar.cmpi .ne (Scalar.extui (Scalar.cmpi .eq r.1 0#32) : BitVec 32) 0#32) (Scalar.cmpi .ne (Scalar.extui (Scalar.cmpi .sgt r.1 0#32) : BitVec 32) 0#32) (k0_cond32 i) a10 a11 a12 a13 (pure ⟨⟩))) :=
  rfl

/-- The program is the eight blocks one after another. -/
theorem body_eq (i : grid0.Coords) (a3 : Memref sig .tc .vmem S1024x1024 .bf16) (w3 : a3.IsWhole) (a4 : Memref sig .tc .vmem S1024x1024 .bf16) (w4 : a4.IsWhole) (a5 : Memref sig .tc .vmem S1024x1024 .bf16) (w5 : a5.IsWhole) (a6 : Memref sig .tc .vmem S1024x1024 .bf16) (w6 : a6.IsWhole) (a7 : Memref sig .tc .vmem S1024x1024 .bf16) (w7 : a7.IsWhole) (a8 : Memref sig .tc .vmem S1024x1024 .bf16) (w8 : a8.IsWhole) (a9 : Memref sig .tc .vmem S1024x1024 .bf16) (w9 : a9.IsWhole) (a10 : Memref sig .tc .vmem S1024x1024 .bf16) (w10 : a10.IsWhole) (a11 : Memref sig .tc .vmem S1024x1024 .bf16) (w11 : a11.IsWhole) (a12 : Memref sig .tc .vmem S1024x1024 .f32) (w12 : a12.IsWhole) (a13 : Memref sig .tc .vmem S1024x1024 .f32) (w13 : a13.IsWhole) :
    cc0_dw_main (F := F) i a3 w3 a4 w4 a5 w5 a6 w6 a7 w7 a8 w8 a9 w9 a10 w10 a11 w11 a12 w12 a13 w13
      = blk (k0_cond1 i) (isFirst i) (isLater i) (k0_cond4 i) a3 a11 a12 a13 (blk (k0_cond5 i) (isFirst i) (isLater i) (k0_cond8 i) a4 a11 a12 a13 (blk (k0_cond9 i) (isFirst i) (isLater i) (k0_cond12 i) a5 a11 a12 a13 (blk (k0_cond13 i) (isFirst i) (isLater i) (k0_cond16 i) a6 a11 a12 a13 (blk (k0_cond17 i) (isFirst i) (isLater i) (k0_cond20 i) a7 a11 a12 a13 (blk (k0_cond21 i) (isFirst i) (isLater i) (k0_cond24 i) a8 a11 a12 a13 (blk (k0_cond25 i) (isFirst i) (isLater i) (k0_cond28 i) a9 a11 a12 a13 (blk (k0_cond29 i) (isFirst i) (isLater i) (k0_cond32 i) a10 a11 a12 a13 (pure ⟨⟩)))))))) := by
  obtain ⟨u, v, h⟩ := part1_eq (F := F) i a3 w3 a4 w4 a5 w5 a6 w6 a7 w7 a8 w8 a9 w9 a10 w10 a11 w11 a12 w12 a13 w13
  rw [whole_eq, h]
  simp only [blk_bind, pure_bind]
  rfl

variable (𝒱 : Variants) (c : Dev nD) (bd : Option 𝒱.V) (E : Set ℕ)

/-- A sweep's first point. -/
theorem run_A (h1 : on = 1#1) (h2 : e = 1#1) (h3 : ¬ g = 1#1) (h4 : ¬ last = 1#1)
    (x y : Vec F S1024x1024 .bf16) (z : Vec F S1024x1024 .f32) :
    (iprop(owns (c : Thread nD τ) a fullShare x ∗ owns (c : Thread nD τ) b fullShare y ∗ owns (c : Thread nD τ) s fullShare z) : sProp 𝕄) ⊢
      wp frame (wpE (defs₀ (F := F)) 𝒱 (c : Thread nD τ) bd) E (blk (F := F) on e g last a b o s (pure PUnit.unit))
        (fun _ => iprop(owns (c : Thread nD τ) a fullShare x ∗ owns (c : Thread nD τ) b fullShare y ∗ owns (c : Thread nD τ) s fullShare (k0_pay2 x y))) := by
  have ea := View.readAt_rep_full a.view x inb_S1024x1024_S1024x1024_0_0
  have eb := View.readAt_rep_full b.view y inb_S1024x1024_S1024x1024_0_0
  have es := View.readAt_rep_full s.view z inb_S1024x1024_S1024x1024_0_0
  rw [owns_eq_rep (c : Thread nD τ) a fullShare x, owns_eq_rep (c : Thread nD τ) b fullShare y, owns_eq_rep (c : Thread nD τ) s fullShare z]
  unfold blk
  iintro ⟨Ha, Hb, Hs⟩
  sl_exec
  sl_step
  isplitl [Ha]; · iexact Ha
  isplitl [Hb]; · iexact Hb
  unfold owns
  iexists _; isplitr
  rotate_left
  · iexact Hs
  · ipureintro
    exact (View.read_writes_full _ _ _ _ _).trans rfl

/-- A point in between. -/
theorem run_B (h1 : on = 1#1) (h2 : ¬ e = 1#1) (h3 : g = 1#1) (h4 : ¬ last = 1#1)
    (x y : Vec F S1024x1024 .bf16) (z : Vec F S1024x1024 .f32) :
    (iprop(owns (c : Thread nD τ) a fullShare x ∗ owns (c : Thread nD τ) b fullShare y ∗ owns (c : Thread nD τ) s fullShare z) : sProp 𝕄) ⊢
      wp frame (wpE (defs₀ (F := F)) 𝒱 (c : Thread nD τ) bd) E (blk (F := F) on e g last a b o s (pure PUnit.unit))
        (fun _ => iprop(owns (c : Thread nD τ) a fullShare x ∗ owns (c : Thread nD τ) b fullShare y ∗ owns (c : Thread nD τ) s fullShare (k0_pay3 x y z))) := by
  have ea := View.readAt_rep_full a.view x inb_S1024x1024_S1024x1024_0_0
  have eb := View.readAt_rep_full b.view y inb_S1024x1024_S1024x1024_0_0
  have es := View.readAt_rep_full s.view z inb_S1024x1024_S1024x1024_0_0
  rw [owns_eq_rep (c : Thread nD τ) a fullShare x, owns_eq_rep (c : Thread nD τ) b fullShare y, owns_eq_rep (c : Thread nD τ) s fullShare z]
  unfold blk
  iintro ⟨Ha, Hb, Hs⟩
  sl_exec
  sl_step
  isplitl [Ha]; · iexact Ha
  isplitl [Hb]; · iexact Hb
  unfold owns
  iexists _; isplitr
  rotate_left
  · iexact Hs
  · ipureintro
    exact (View.read_writes_full _ _ _ _ _).trans rfl

/-- The last point. -/
theorem run_C (h1 : on = 1#1) (h2 : ¬ e = 1#1) (h3 : g = 1#1) (h4 : last = 1#1)
    (x y : Vec F S1024x1024 .bf16) (z d : Vec F S1024x1024 .f32) :
    (iprop(owns (c : Thread nD τ) a fullShare x ∗ owns (c : Thread nD τ) b fullShare y ∗ owns (c : Thread nD τ) s fullShare z ∗ owns (c : Thread nD τ) o fullShare d) : sProp 𝕄) ⊢
      wp frame (wpE (defs₀ (F := F)) 𝒱 (c : Thread nD τ) bd) E (blk (F := F) on e g last a b o s (pure PUnit.unit))
        (fun _ => iprop(owns (c : Thread nD τ) a fullShare x ∗ owns (c : Thread nD τ) b fullShare y ∗ owns (c : Thread nD τ) s fullShare (k0_pay3 x y z) ∗ owns (c : Thread nD τ) o fullShare (k0_pay3 x y z))) := by
  have ea := View.readAt_rep_full a.view x inb_S1024x1024_S1024x1024_0_0
  have eb := View.readAt_rep_full b.view y inb_S1024x1024_S1024x1024_0_0
  have es := View.readAt_rep_full s.view z inb_S1024x1024_S1024x1024_0_0
  rw [owns_eq_rep (c : Thread nD τ) a fullShare x, owns_eq_rep (c : Thread nD τ) b fullShare y, owns_eq_rep (c : Thread nD τ) s fullShare z, owns_eq_rep (c : Thread nD τ) o fullShare d]
  unfold blk
  iintro ⟨Ha, Hb, Hs, Ho⟩
  sl_exec
  sl_step
  isplitl [Ha]; · iexact Ha
  isplitl [Hb]; · iexact Hb
  isplitl [Hs]
  · unfold owns
    iexists _; isplitr
    rotate_left
    · iexact Hs
    · ipureintro
      exact (View.read_writes_full _ _ _ _ _).trans rfl
  unfold owns
  iexists _; isplitr
  rotate_left
  · iexact Ho
  · ipureintro
    refine (View.read_writes_full _ _ _ _ _).trans ?_
    unfold run_C.sl.v53
    refine (View.readCov_eq_canon' _ _ _).trans ?_
    refine (View.ld_unit_lit inb_S1024x1024_S1024x1024_0_0 _ (by decide)).trans ?_
    unfold run_C.sl.Hs_1
    exact View.canon_cons_unit_lit _ _ _ (by decide)

end Cert.Kernel19Ideal.Run

end
-- ==== Proof.DwMain.Track.lean ====
/- The pipeline's proof data for the big weight gradient: what the scratch buffer holds after each grid point, the body's obligation at a
   point, the run of the program. -/
module

public import proofs.«01_k».proof.Proof.DwMain.Body
public import proofs.«01_k».proof.Proof.Gen.Kernel19Ideal.Frame
public import Idealize.ShloMosaic.Lib.Pipeline.FrameBody
public import Idealize.ShloMosaic.Lib.Claim

@[expose] public section

set_option maxRecDepth 16384
set_option maxHeartbeats 1600000

noncomputable section

namespace Cert.Kernel19Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel19Ideal Cert.Kernel19Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions at a point -/

theorem on0 : ∀ t : Fin cfg0.N, k0_cond1 (grid0.coords t) = 1#1 ↔ t.val / 4 = 0 :=
  (by decide +kernel : ∀ t : Fin grid0.N, k0_cond1 (grid0.coords t) = 1#1 ↔ t.val / 4 = 0)
theorem off0 (t : Fin cfg0.N) (h : t.val / 4 ≠ 0) : ¬ k0_cond1 (grid0.coords t) = 1#1 := fun e => h ((on0 t).mp e)
theorem last0 : ∀ t : Fin cfg0.N, k0_cond4 (grid0.coords t) = 1#1 ↔ t.val % 4 = 3 :=
  (by decide +kernel : ∀ t : Fin grid0.N, k0_cond4 (grid0.coords t) = 1#1 ↔ t.val % 4 = 3)
theorem on1 : ∀ t : Fin cfg0.N, k0_cond5 (grid0.coords t) = 1#1 ↔ t.val / 4 = 1 :=
  (by decide +kernel : ∀ t : Fin grid0.N, k0_cond5 (grid0.coords t) = 1#1 ↔ t.val / 4 = 1)
theorem off1 (t : Fin cfg0.N) (h : t.val / 4 ≠ 1) : ¬ k0_cond5 (grid0.coords t) = 1#1 := fun e => h ((on1 t).mp e)
theorem last1 : ∀ t : Fin cfg0.N, k0_cond8 (grid0.coords t) = 1#1 ↔ t.val % 4 = 3 :=
  (by decide +kernel : ∀ t : Fin grid0.N, k0_cond8 (grid0.coords t) = 1#1 ↔ t.val % 4 = 3)
theorem on2 : ∀ t : Fin cfg0.N, k0_cond9 (grid0.coords t) = 1#1 ↔ t.val / 4 = 2 :=
  (by decide +kernel : ∀ t : Fin grid0.N, k0_cond9 (grid0.coords t) = 1#1 ↔ t.val / 4 = 2)
theorem off2 (t : Fin cfg0.N) (h : t.val / 4 ≠ 2) : ¬ k0_cond9 (grid0.coords t) = 1#1 := fun e => h ((on2 t).mp e)
theorem last2 : ∀ t : Fin cfg0.N, k0_cond12 (grid0.coords t) = 1#1 ↔ t.val % 4 = 3 :=
  (by decide +kernel : ∀ t : Fin grid0.N, k0_cond12 (grid0.coords t) = 1#1 ↔ t.val % 4 = 3)
theorem on3 : ∀ t : Fin cfg0.N, k0_cond13 (grid0.coords t) = 1#1 ↔ t.val / 4 = 3 :=
  (by decide +kernel : ∀ t : Fin grid0.N, k0_cond13 (grid0.coords t) = 1#1 ↔ t.val / 4 = 3)
theorem off3 (t : Fin cfg0.N) (h : t.val / 4 ≠ 3) : ¬ k0_cond13 (grid0.coords t) = 1#1 := fun e => h ((on3 t).mp e)
theorem last3 : ∀ t : Fin cfg0.N, k0_cond16 (grid0.coords t) = 1#1 ↔ t.val % 4 = 3 :=
  (by decide +kernel : ∀ t : Fin grid0.N, k0_cond16 (grid0.coords t) = 1#1 ↔ t.val % 4 = 3)
theorem on4 : ∀ t : Fin cfg0.N, k0_cond17 (grid0.coords t) = 1#1 ↔ t.val / 4 = 4 :=
  (by decide +kernel : ∀ t : Fin grid0.N, k0_cond17 (grid0.coords t) = 1#1 ↔ t.val / 4 = 4)
theorem off4 (t : Fin cfg0.N) (h : t.val / 4 ≠ 4) : ¬ k0_cond17 (grid0.coords t) = 1#1 := fun e => h ((on4 t).mp e)
theorem last4 : ∀ t : Fin cfg0.N, k0_cond20 (grid0.coords t) = 1#1 ↔ t.val % 4 = 3 :=
  (by decide +kernel : ∀ t : Fin grid0.N, k0_cond20 (grid0.coords t) = 1#1 ↔ t.val % 4 = 3)
theorem on5 : ∀ t : Fin cfg0.N, k0_cond21 (grid0.coords t) = 1#1 ↔ t.val / 4 = 5 :=
  (by decide +kernel : ∀ t : Fin grid0.N, k0_cond21 (grid0.coords t) = 1#1 ↔ t.val / 4 = 5)
theorem off5 (t : Fin cfg0.N) (h : t.val / 4 ≠ 5) : ¬ k0_cond21 (grid0.coords t) = 1#1 := fun e => h ((on5 t).mp e)
theorem last5 : ∀ t : Fin cfg0.N, k0_cond24 (grid0.coords t) = 1#1 ↔ t.val % 4 = 3 :=
  (by decide +kernel : ∀ t : Fin grid0.N, k0_cond24 (grid0.coords t) = 1#1 ↔ t.val % 4 = 3)
theorem on6 : ∀ t : Fin cfg0.N, k0_cond25 (grid0.coords t) = 1#1 ↔ t.val / 4 = 6 :=
  (by decide +kernel : ∀ t : Fin grid0.N, k0_cond25 (grid0.coords t) = 1#1 ↔ t.val / 4 = 6)
theorem off6 (t : Fin cfg0.N) (h : t.val / 4 ≠ 6) : ¬ k0_cond25 (grid0.coords t) = 1#1 := fun e => h ((on6 t).mp e)
theorem last6 : ∀ t : Fin cfg0.N, k0_cond28 (grid0.coords t) = 1#1 ↔ t.val % 4 = 3 :=
  (by decide +kernel : ∀ t : Fin grid0.N, k0_cond28 (grid0.coords t) = 1#1 ↔ t.val % 4 = 3)
theorem on7 : ∀ t : Fin cfg0.N, k0_cond29 (grid0.coords t) = 1#1 ↔ t.val / 4 = 7 :=
  (by decide +kernel : ∀ t : Fin grid0.N, k0_cond29 (grid0.coords t) = 1#1 ↔ t.val / 4 = 7)
theorem off7 (t : Fin cfg0.N) (h : t.val / 4 ≠ 7) : ¬ k0_cond29 (grid0.coords t) = 1#1 := fun e => h ((on7 t).mp e)
theorem last7 : ∀ t : Fin cfg0.N, k0_cond32 (grid0.coords t) = 1#1 ↔ t.val % 4 = 3 :=
  (by decide +kernel : ∀ t : Fin grid0.N, k0_cond32 (grid0.coords t) = 1#1 ↔ t.val % 4 = 3)
theorem first_iff : ∀ t : Fin cfg0.N, isFirst (grid0.coords t) = 1#1 ↔ t.val % 4 = 0 :=
  (by decide +kernel : ∀ t : Fin grid0.N, isFirst (grid0.coords t) = 1#1 ↔ t.val % 4 = 0)
theorem later_iff : ∀ t : Fin cfg0.N, isLater (grid0.coords t) = 1#1 ↔ t.val % 4 ≠ 0 :=
  (by decide +kernel : ∀ t : Fin grid0.N, isLater (grid0.coords t) = 1#1 ↔ t.val % 4 ≠ 0)
theorem idle_iff : ∀ t : Fin cfg0.N, cfg0.idle 9 (grid0.coords t) = !decide (t.val % 4 = 3) :=
  (by decide +kernel : ∀ t : Fin grid0.N, idle0 9 (grid0.coords t) = !decide (t.val % 4 = 3))

/-! ## The buffers and blocks of a point -/

abbrev ms0 (t : Fin cfg0.N) : Memref sig .tc .vmem S1024x1024 .bf16 := win0_0.stage (cfg0.slots t 0)
abbrev ms1 (t : Fin cfg0.N) : Memref sig .tc .vmem S1024x1024 .bf16 := win0_1.stage (cfg0.slots t 1)
abbrev ms2 (t : Fin cfg0.N) : Memref sig .tc .vmem S1024x1024 .bf16 := win0_2.stage (cfg0.slots t 2)
abbrev ms3 (t : Fin cfg0.N) : Memref sig .tc .vmem S1024x1024 .bf16 := win0_3.stage (cfg0.slots t 3)
abbrev ms4 (t : Fin cfg0.N) : Memref sig .tc .vmem S1024x1024 .bf16 := win0_4.stage (cfg0.slots t 4)
abbrev ms5 (t : Fin cfg0.N) : Memref sig .tc .vmem S1024x1024 .bf16 := win0_5.stage (cfg0.slots t 5)
abbrev ms6 (t : Fin cfg0.N) : Memref sig .tc .vmem S1024x1024 .bf16 := win0_6.stage (cfg0.slots t 6)
abbrev ms7 (t : Fin cfg0.N) : Memref sig .tc .vmem S1024x1024 .bf16 := win0_7.stage (cfg0.slots t 7)
abbrev ms8 (t : Fin cfg0.N) : Memref sig .tc .vmem S1024x1024 .bf16 := win0_8.stage (cfg0.slots t 8)
abbrev ms9 (t : Fin cfg0.N) : Memref sig .tc .vmem S1024x1024 .f32 := win0_9.stage (cfg0.slots t 9)
abbrev scM : Memref sig .tc .vmem S1024x1024 .f32 := Memref.whole cc0_scratch0

/-- The row block of the result point `t` works on. -/
def row (t : Fin cfg0.N) : Fin 8 := ⟨t.val / 4, by have : t.val < 32 := lt_of_lt_of_eq t.isLt N_0; omega⟩

/-- The buffer of part `p` at point `t`. -/
def arg (p : Fin 8) (t : Fin cfg0.N) : Memref sig .tc .vmem S1024x1024 .bf16 := match p with
  | 0 => ms0 t
  | 1 => ms1 t
  | 2 => ms2 t
  | 3 => ms3 t
  | 4 => ms4 t
  | 5 => ms5 t
  | 6 => ms6 t
  | 7 => ms7 t

/-- Its block. -/
def part (c : Dev nD) (p : Fin 8) (t : Fin cfg0.N) : Vec F S1024x1024 .bf16 := match p with
  | 0 => iblk m c 0 t
  | 1 => iblk m c 1 t
  | 2 => iblk m c 2 t
  | 3 => iblk m c 3 t
  | 4 => iblk m c 4 t
  | 5 => iblk m c 5 t
  | 6 => iblk m c 6 t
  | 7 => iblk m c 7 t

/-- The program at point `t`: the block of statements of the row block's part. -/
theorem body_at (t : Fin cfg0.N) : ∃ on last : BitVec 1, on = 1#1 ∧ (last = 1#1 ↔ t.val % 4 = 3) ∧
    bodyAt0 (F := F) t = blk on (isFirst (grid0.coords t)) (isLater (grid0.coords t)) last (arg (row t) t) (ms8 t) (ms9 t) scM (pure ⟨⟩) := by
  have hv : t.val / 4 = (row t).val := rfl
  generalize row t = p at hv ⊢
  match p, hv with
  | 0, hv =>
    have hv : t.val / 4 = 0 := hv
    refine ⟨k0_cond1 (grid0.coords t), k0_cond4 (grid0.coords t), (on0 t).mpr hv, last0 t, ?_⟩
    refine (body_eq (F := F) _ _ _ _ _ _ _ _ _ _ _ _ _ _ _ _ _ _ _ _ _ _ _).trans ?_
    rw [blk_off _ _ _ _ _ _ _ _ (off1 t (by omega)), blk_off _ _ _ _ _ _ _ _ (off2 t (by omega)), blk_off _ _ _ _ _ _ _ _ (off3 t (by omega)), blk_off _ _ _ _ _ _ _ _ (off4 t (by omega)), blk_off _ _ _ _ _ _ _ _ (off5 t (by omega)), blk_off _ _ _ _ _ _ _ _ (off6 t (by omega)), blk_off _ _ _ _ _ _ _ _ (off7 t (by omega))]
    rfl
  | 1, hv =>
    have hv : t.val / 4 = 1 := hv
    refine ⟨k0_cond5 (grid0.coords t), k0_cond8 (grid0.coords t), (on1 t).mpr hv, last1 t, ?_⟩
    refine (body_eq (F := F) _ _ _ _ _ _ _ _ _ _ _ _ _ _ _ _ _ _ _ _ _ _ _).trans ?_
    rw [blk_off _ _ _ _ _ _ _ _ (off0 t (by omega)), blk_off _ _ _ _ _ _ _ _ (off2 t (by omega)), blk_off _ _ _ _ _ _ _ _ (off3 t (by omega)), blk_off _ _ _ _ _ _ _ _ (off4 t (by omega)), blk_off _ _ _ _ _ _ _ _ (off5 t (by omega)), blk_off _ _ _ _ _ _ _ _ (off6 t (by omega)), blk_off _ _ _ _ _ _ _ _ (off7 t (by omega))]
    rfl
  | 2, hv =>
    have hv : t.val / 4 = 2 := hv
    refine ⟨k0_cond9 (grid0.coords t), k0_cond12 (grid0.coords t), (on2 t).mpr hv, last2 t, ?_⟩
    refine (body_eq (F := F) _ _ _ _ _ _ _ _ _ _ _ _ _ _ _ _ _ _ _ _ _ _ _).trans ?_
    rw [blk_off _ _ _ _ _ _ _ _ (off0 t (by omega)), blk_off _ _ _ _ _ _ _ _ (off1 t (by omega)), blk_off _ _ _ _ _ _ _ _ (off3 t (by omega)), blk_off _ _ _ _ _ _ _ _ (off4 t (by omega)), blk_off _ _ _ _ _ _ _ _ (off5 t (by omega)), blk_off _ _ _ _ _ _ _ _ (off6 t (by omega)), blk_off _ _ _ _ _ _ _ _ (off7 t (by omega))]
    rfl
  | 3, hv =>
    have hv : t.val / 4 = 3 := hv
    refine ⟨k0_cond13 (grid0.coords t), k0_cond16 (grid0.coords t), (on3 t).mpr hv, last3 t, ?_⟩
    refine (body_eq (F := F) _ _ _ _ _ _ _ _ _ _ _ _ _ _ _ _ _ _ _ _ _ _ _).trans ?_
    rw [blk_off _ _ _ _ _ _ _ _ (off0 t (by omega)), blk_off _ _ _ _ _ _ _ _ (off1 t (by omega)), blk_off _ _ _ _ _ _ _ _ (off2 t (by omega)), blk_off _ _ _ _ _ _ _ _ (off4 t (by omega)), blk_off _ _ _ _ _ _ _ _ (off5 t (by omega)), blk_off _ _ _ _ _ _ _ _ (off6 t (by omega)), blk_off _ _ _ _ _ _ _ _ (off7 t (by omega))]
    rfl
  | 4, hv =>
    have hv : t.val / 4 = 4 := hv
    refine ⟨k0_cond17 (grid0.coords t), k0_cond20 (grid0.coords t), (on4 t).mpr hv, last4 t, ?_⟩
    refine (body_eq (F := F) _ _ _ _ _ _ _ _ _ _ _ _ _ _ _ _ _ _ _ _ _ _ _).trans ?_
    rw [blk_off _ _ _ _ _ _ _ _ (off0 t (by omega)), blk_off _ _ _ _ _ _ _ _ (off1 t (by omega)), blk_off _ _ _ _ _ _ _ _ (off2 t (by omega)), blk_off _ _ _ _ _ _ _ _ (off3 t (by omega)), blk_off _ _ _ _ _ _ _ _ (off5 t (by omega)), blk_off _ _ _ _ _ _ _ _ (off6 t (by omega)), blk_off _ _ _ _ _ _ _ _ (off7 t (by omega))]
    rfl
  | 5, hv =>
    have hv : t.val / 4 = 5 := hv
    refine ⟨k0_cond21 (grid0.coords t), k0_cond24 (grid0.coords t), (on5 t).mpr hv, last5 t, ?_⟩
    refine (body_eq (F := F) _ _ _ _ _ _ _ _ _ _ _ _ _ _ _ _ _ _ _ _ _ _ _).trans ?_
    rw [blk_off _ _ _ _ _ _ _ _ (off0 t (by omega)), blk_off _ _ _ _ _ _ _ _ (off1 t (by omega)), blk_off _ _ _ _ _ _ _ _ (off2 t (by omega)), blk_off _ _ _ _ _ _ _ _ (off3 t (by omega)), blk_off _ _ _ _ _ _ _ _ (off4 t (by omega)), blk_off _ _ _ _ _ _ _ _ (off6 t (by omega)), blk_off _ _ _ _ _ _ _ _ (off7 t (by omega))]
    rfl
  | 6, hv =>
    have hv : t.val / 4 = 6 := hv
    refine ⟨k0_cond25 (grid0.coords t), k0_cond28 (grid0.coords t), (on6 t).mpr hv, last6 t, ?_⟩
    refine (body_eq (F := F) _ _ _ _ _ _ _ _ _ _ _ _ _ _ _ _ _ _ _ _ _ _ _).trans ?_
    rw [blk_off _ _ _ _ _ _ _ _ (off0 t (by omega)), blk_off _ _ _ _ _ _ _ _ (off1 t (by omega)), blk_off _ _ _ _ _ _ _ _ (off2 t (by omega)), blk_off _ _ _ _ _ _ _ _ (off3 t (by omega)), blk_off _ _ _ _ _ _ _ _ (off4 t (by omega)), blk_off _ _ _ _ _ _ _ _ (off5 t (by omega)), blk_off _ _ _ _ _ _ _ _ (off7 t (by omega))]
    rfl
  | 7, hv =>
    have hv : t.val / 4 = 7 := hv
    refine ⟨k0_cond29 (grid0.coords t), k0_cond32 (grid0.coords t), (on7 t).mpr hv, last7 t, ?_⟩
    refine (body_eq (F := F) _ _ _ _ _ _ _ _ _ _ _ _ _ _ _ _ _ _ _ _ _ _ _).trans ?_
    rw [blk_off _ _ _ _ _ _ _ _ (off0 t (by omega)), blk_off _ _ _ _ _ _ _ _ (off1 t (by omega)), blk_off _ _ _ _ _ _ _ _ (off2 t (by omega)), blk_off _ _ _ _ _ _ _ _ (off3 t (by omega)), blk_off _ _ _ _ _ _ _ _ (off4 t (by omega)), blk_off _ _ _ _ _ _ _ _ (off5 t (by omega)), blk_off _ _ _ _ _ _ _ _ (off6 t (by omega))]
    rfl

/-- What the scratch buffer holds after point `n`: the products of the sweep's blocks so far. -/
def acc (c : Dev nD) : (n : ℕ) → n < cfg0.N → Vec F S1024x1024 .f32
  | 0, h => k0_pay2 (part m c (row ⟨0, h⟩) ⟨0, h⟩) (iblk m c 8 ⟨0, h⟩)
  | n + 1, h =>
    if (n + 1) % 4 = 0 then k0_pay2 (part m c (row ⟨n + 1, h⟩) ⟨n + 1, h⟩) (iblk m c 8 ⟨n + 1, h⟩)
    else k0_pay3 (part m c (row ⟨n + 1, h⟩) ⟨n + 1, h⟩) (iblk m c 8 ⟨n + 1, h⟩) (acc c n (Nat.lt_of_succ_lt h))

theorem acc_first (c : Dev nD) (t : Fin cfg0.N) (h : t.val % 4 = 0) : acc m c t.val t.isLt = k0_pay2 (part m c (row t) t) (iblk m c 8 t) := by
  obtain ⟨n, hn⟩ := t
  cases n with
  | zero => rfl
  | succ n => exact if_pos h

theorem acc_later (c : Dev nD) (t : Fin cfg0.N) (h : ¬t.val % 4 = 0) :
    acc m c t.val t.isLt = k0_pay3 (part m c (row t) t) (iblk m c 8 t) (acc m c (t.val - 1) (Nat.lt_of_le_of_lt (Nat.sub_le _ _) t.isLt)) := by
  obtain ⟨n, hn⟩ := t
  cases n with
  | zero => exact absurd rfl h
  | succ n => exact if_neg h

/-! ## The pipeline's proof data -/

/-- The scratch buffer before point `n`: at the first at anything, afterwards at what the point before left. -/
def PhiS (c : Dev nD) : (n : ℕ) → n ≤ cfg0.N → sProp 𝕄
  | 0, _ => Pipeline.ΦA spec0 c
  | n + 1, hn => iprop(owns (c : Thread nD τ) scM fullShare (acc m c n hn) ∗ (∃ r, prngReg c r))

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem PhiS_pos (c : Dev nD) (n : ℕ) (h : n ≤ cfg0.N) (hz : n ≠ 0) :
    PhiS m c n h = iprop(owns (c : Thread nD τ) scM fullShare (acc m c (n - 1) (by omega)) ∗ (∃ r, prngReg c r)) := by
  cases n with
  | zero => exact absurd rfl hz
  | succ n => rfl

theorem PhiS_any (c : Dev nD) (n : ℕ) (h : n ≤ cfg0.N) :
    PhiS m c n h ⊢ iprop((∃ d, owns (c : Thread nD τ) scM fullShare d) ∗ (∃ r, prngReg c r)) := by
  cases n with
  | zero =>
    show Pipeline.ΦA spec0 c ⊢ _
    rw [PhiA_eq]
  | succ n =>
    show iprop(owns (c : Thread nD τ) scM fullShare (acc m c n h) ∗ (∃ r, prngReg c r)) ⊢ _
    iintro ⟨HS, Hg⟩
    isplitl [HS]
    · iexists _; iexact HS
    iexact Hg

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => acc m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem live_0 : ∀ t : Fin cfg0.N, cfg0.idle 0 (grid0.coords t) = false := fun _ => rfl
theorem leaves_0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live_0 t], after_0]
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem live_1 : ∀ t : Fin cfg0.N, cfg0.idle 1 (grid0.coords t) = false := fun _ => rfl
theorem leaves_1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live_1 t], after_1]
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem live_2 : ∀ t : Fin cfg0.N, cfg0.idle 2 (grid0.coords t) = false := fun _ => rfl
theorem leaves_2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live_2 t], after_2]
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem live_3 : ∀ t : Fin cfg0.N, cfg0.idle 3 (grid0.coords t) = false := fun _ => rfl
theorem leaves_3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live_3 t], after_3]
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem live_4 : ∀ t : Fin cfg0.N, cfg0.idle 4 (grid0.coords t) = false := fun _ => rfl
theorem leaves_4 (c : Dev nD) (t : Fin cfg0.N) : (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [live_4 t], after_4]
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem live_5 : ∀ t : Fin cfg0.N, cfg0.idle 5 (grid0.coords t) = false := fun _ => rfl
theorem leaves_5 (c : Dev nD) (t : Fin cfg0.N) : (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [live_5 t], after_5]
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem live_6 : ∀ t : Fin cfg0.N, cfg0.idle 6 (grid0.coords t) = false := fun _ => rfl
theorem leaves_6 (c : Dev nD) (t : Fin cfg0.N) : (dats m 0 c).leavesExact 6 t = owns (c : Thread nD τ) (ms6 t) fullShare (iblk m c 6 t) := by
  rw [show (dats m 0 c).leavesExact 6 t = owns (c : Thread nD τ) (ms6 t) fullShare ((dats m 0 c).after 6 t) from by
    unfold Dat.leavesExact; rw [live_6 t], after_6]
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem live_7 : ∀ t : Fin cfg0.N, cfg0.idle 7 (grid0.coords t) = false := fun _ => rfl
theorem leaves_7 (c : Dev nD) (t : Fin cfg0.N) : (dats m 0 c).leavesExact 7 t = owns (c : Thread nD τ) (ms7 t) fullShare (iblk m c 7 t) := by
  rw [show (dats m 0 c).leavesExact 7 t = owns (c : Thread nD τ) (ms7 t) fullShare ((dats m 0 c).after 7 t) from by
    unfold Dat.leavesExact; rw [live_7 t], after_7]
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem live_8 : ∀ t : Fin cfg0.N, cfg0.idle 8 (grid0.coords t) = false := fun _ => rfl
theorem leaves_8 (c : Dev nD) (t : Fin cfg0.N) : (dats m 0 c).leavesExact 8 t = owns (c : Thread nD τ) (ms8 t) fullShare (iblk m c 8 t) := by
  rw [show (dats m 0 c).leavesExact 8 t = owns (c : Thread nD τ) (ms8 t) fullShare ((dats m 0 c).after 8 t) from by
    unfold Dat.leavesExact; rw [live_8 t], after_8]
theorem after_9 (c : Dev nD) (t : Fin cfg0.N) : (dats m 0 c).after 9 t = acc m c t.val t.isLt := by dsimp only [dats]
theorem live_9 (t : Fin cfg0.N) (h : t.val % 4 = 3) : cfg0.idle 9 (grid0.coords t) = false := by
  rw [idle_iff t, decide_eq_true h, Bool.not_true]
theorem idle_9 (t : Fin cfg0.N) (h : ¬t.val % 4 = 3) : cfg0.idle 9 (grid0.coords t) = true := by
  rw [idle_iff t, decide_eq_false h, Bool.not_false]
theorem leaves_9 (c : Dev nD) (t : Fin cfg0.N) (h : t.val % 4 = 3) :
    (dats m 0 c).leavesExact 9 t = owns (c : Thread nD τ) (ms9 t) fullShare (acc m c t.val t.isLt) := by
  rw [show (dats m 0 c).leavesExact 9 t = owns (c : Thread nD τ) (ms9 t) fullShare ((dats m 0 c).after 9 t) from by
    unfold Dat.leavesExact; rw [live_9 t h], after_9]
theorem leaves_9_idle (c : Dev nD) (t : Fin cfg0.N) (h : ¬t.val % 4 = 3) :
    (dats m 0 c).leavesExact 9 t = iprop(∃ d, owns (c : Thread nD τ) (ms9 t) fullShare ((dats m 0 c).before 9 t d)) :=
  Dat.leavesExact_idle (dats m 0 c) 9 t (idle_9 t h)
    (by rw [Bool.eq_false_iff]; exact fun hf => h ((flush0_9 t).mp hf))

/-! ## The body's obligation -/

/-- The eight parts' buffers at their blocks. -/
def ins (c : Dev nD) (t : Fin cfg0.N) : sProp 𝕄 :=
  iprop(owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ owns (c : Thread nD τ) (ms6 t) fullShare (iblk m c 6 t)
    ∗ owns (c : Thread nD τ) (ms7 t) fullShare (iblk m c 7 t))

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- One part's buffer, taken out and put back. -/
theorem take (c : Dev nD) (t : Fin cfg0.N) (p : Fin 8) :
    ins m c t ⊢ iprop(owns (c : Thread nD τ) (arg p t) fullShare (part m c p t) ∗ (owns (c : Thread nD τ) (arg p t) fullShare (part m c p t) -∗ ins m c t)) := by
  match p with
  | 0 =>
    show ins m c t ⊢ iprop(owns (c : Thread nD τ) (ms0 t) fullShare (iblk m c 0 t) ∗ (owns (c : Thread nD τ) (ms0 t) fullShare (iblk m c 0 t) -∗ ins m c t))
    unfold ins
    iintro ⟨H0, H1, H2, H3, H4, H5, H6, H7⟩
    isplitl [H0]; · iexact H0
    iintro H0
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  | 1 =>
    show ins m c t ⊢ iprop(owns (c : Thread nD τ) (ms1 t) fullShare (iblk m c 1 t) ∗ (owns (c : Thread nD τ) (ms1 t) fullShare (iblk m c 1 t) -∗ ins m c t))
    unfold ins
    iintro ⟨H0, H1, H2, H3, H4, H5, H6, H7⟩
    isplitl [H1]; · iexact H1
    iintro H1
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  | 2 =>
    show ins m c t ⊢ iprop(owns (c : Thread nD τ) (ms2 t) fullShare (iblk m c 2 t) ∗ (owns (c : Thread nD τ) (ms2 t) fullShare (iblk m c 2 t) -∗ ins m c t))
    unfold ins
    iintro ⟨H0, H1, H2, H3, H4, H5, H6, H7⟩
    isplitl [H2]; · iexact H2
    iintro H2
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  | 3 =>
    show ins m c t ⊢ iprop(owns (c : Thread nD τ) (ms3 t) fullShare (iblk m c 3 t) ∗ (owns (c : Thread nD τ) (ms3 t) fullShare (iblk m c 3 t) -∗ ins m c t))
    unfold ins
    iintro ⟨H0, H1, H2, H3, H4, H5, H6, H7⟩
    isplitl [H3]; · iexact H3
    iintro H3
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  | 4 =>
    show ins m c t ⊢ iprop(owns (c : Thread nD τ) (ms4 t) fullShare (iblk m c 4 t) ∗ (owns (c : Thread nD τ) (ms4 t) fullShare (iblk m c 4 t) -∗ ins m c t))
    unfold ins
    iintro ⟨H0, H1, H2, H3, H4, H5, H6, H7⟩
    isplitl [H4]; · iexact H4
    iintro H4
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  | 5 =>
    show ins m c t ⊢ iprop(owns (c : Thread nD τ) (ms5 t) fullShare (iblk m c 5 t) ∗ (owns (c : Thread nD τ) (ms5 t) fullShare (iblk m c 5 t) -∗ ins m c t))
    unfold ins
    iintro ⟨H0, H1, H2, H3, H4, H5, H6, H7⟩
    isplitl [H5]; · iexact H5
    iintro H5
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  | 6 =>
    show ins m c t ⊢ iprop(owns (c : Thread nD τ) (ms6 t) fullShare (iblk m c 6 t) ∗ (owns (c : Thread nD τ) (ms6 t) fullShare (iblk m c 6 t) -∗ ins m c t))
    unfold ins
    iintro ⟨H0, H1, H2, H3, H4, H5, H6, H7⟩
    isplitl [H6]; · iexact H6
    iintro H6
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  | 7 =>
    show ins m c t ⊢ iprop(owns (c : Thread nD τ) (ms7 t) fullShare (iblk m c 7 t) ∗ (owns (c : Thread nD τ) (ms7 t) fullShare (iblk m c 7 t) -∗ ins m c t))
    unfold ins
    iintro ⟨H0, H1, H2, H3, H4, H5, H6, H7⟩
    isplitl [H7]; · iexact H7
    iintro H7
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem pre_split (c : Dev nD) (t : Fin cfg0.N) :
    bodyPre m c t ⊢ iprop(ins m c t ∗ owns (c : Thread nD τ) (ms8 t) fullShare (iblk m c 8 t)
      ∗ (∃ d, owns (c : Thread nD τ) (ms9 t) fullShare ((dats m 0 c).before 9 t d)) ∗ PhiS m c t.val (Nat.le_of_lt t.isLt) ∗ (dats m 0 c).owesAt () t.castSucc) := by
  unfold bodyPre ins
  simp only [before_0, before_1, before_2, before_3, before_4, before_5, before_6, before_7, before_8]
  rw [PhiS_castSucc m c t]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  isplitl [HP]; · iexact HP
  iexact Ho

theorem post_join (c : Dev nD) (t : Fin cfg0.N) :
    iprop(ins m c t ∗ owns (c : Thread nD τ) (ms8 t) fullShare (iblk m c 8 t) ∗ (dats m 0 c).leavesExact 9 t
      ∗ (owns (c : Thread nD τ) scM fullShare (acc m c t.val t.isLt) ∗ (∃ r, prngReg c r)) ∗ (dats m 0 c).owesAt () t.castSucc) ⊢ bodyPost m c t := by
  unfold bodyPost ins
  rw [show (dats m 0 c).owesAt () t.succ = (dats m 0 c).owesAt () t.castSucc from rfl,
    show (dats m 0 c).Φ t.succ = iprop(owns (c : Thread nD τ) scM fullShare (acc m c t.val t.isLt) ∗ (∃ r, prngReg c r)) from rfl,
    leaves_0, leaves_1, leaves_2, leaves_3, leaves_4, leaves_5, leaves_6, leaves_7, leaves_8]
  iintro ⟨⟨H0, H1, H2, H3, H4, H5, H6, H7⟩, H8, H9, HP, Ho⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound_body (c : Dev nD) (t : Fin cfg0.N) :
    bodyPre m c t ⊢ wp frame (wpE (defs₀ (F := F)) Variants.none (c : Thread nD τ) none) Set.univ (bodyAt0 t) (fun _ => bodyPost m c t) := by
  obtain ⟨on, last, hon, hlast, he⟩ := body_at (F := F) t
  rw [he]
  refine (pre_split m c t).trans ?_
  refine (BIClass.sep_mono (take m c t (row t)) .rfl).trans ?_
  by_cases h0 : t.val % 4 = 0
  · iintro ⟨⟨Hp, Hback⟩, H8, H9, HP, Ho⟩
    ihave HP := (PhiS_any m c t.val (Nat.le_of_lt t.isLt)) $$ HP
    icases HP with ⟨⟨%z, HS⟩, Hg⟩
    iapply (wp_wand_r frame (wpE (defs₀ (F := F)) Variants.none (c : Thread nD τ) none) Set.univ)
    isplitl [Hp H8 HS]
    · iapply (run_A on (isFirst (grid0.coords t)) (isLater (grid0.coords t)) last (arg (row t) t) (ms8 t) (ms9 t) scM Variants.none c none Set.univ
        hon ((first_iff t).mpr h0) (fun e => (later_iff t).mp e h0) (fun e => by have := hlast.mp e; omega) (part m c (row t) t) (iblk m c 8 t) z)
      isplitl [Hp]; · iexact Hp
      isplitl [H8]; · iexact H8
      iexact HS
    iintro %r ⟨Hp, H8, HS⟩
    iapply (post_join m c t)
    rw [acc_first m c t h0, leaves_9_idle m c t (by omega)]
    isplitl [Hback Hp]
    · iapply Hback; iexact Hp
    isplitl [H8]; · iexact H8
    isplitl [H9]; · iexact H9
    isplitl [HS Hg]
    · isplitl [HS]; · iexact HS
      iexact Hg
    iexact Ho
  · rw [PhiS_pos m c t.val _ (by omega)]
    by_cases h3 : t.val % 4 = 3
    · iintro ⟨⟨Hp, Hback⟩, H8, ⟨%d9, H9⟩, ⟨HS, Hg⟩, Ho⟩
      iapply (wp_wand_r frame (wpE (defs₀ (F := F)) Variants.none (c : Thread nD τ) none) Set.univ)
      isplitl [Hp H8 HS H9]
      · iapply (run_C on (isFirst (grid0.coords t)) (isLater (grid0.coords t)) last (arg (row t) t) (ms8 t) (ms9 t) scM Variants.none c none Set.univ
          hon (fun e => h0 ((first_iff t).mp e)) ((later_iff t).mpr h0) (hlast.mpr h3) (part m c (row t) t) (iblk m c 8 t) _ _)
        isplitl [Hp]; · iexact Hp
        isplitl [H8]; · iexact H8
        isplitl [HS]; · iexact HS
        iexact H9
      iintro %r ⟨Hp, H8, HS, H9⟩
      iapply (post_join m c t)
      rw [leaves_9 m c t h3, acc_later m c t h0]
      isplitl [Hback Hp]
      · iapply Hback; iexact Hp
      isplitl [H8]; · iexact H8
      isplitl [H9]; · iexact H9
      isplitl [HS Hg]
      · isplitl [HS]; · iexact HS
        iexact Hg
      iexact Ho
    · iintro ⟨⟨Hp, Hback⟩, H8, H9, ⟨HS, Hg⟩, Ho⟩
      iapply (wp_wand_r frame (wpE (defs₀ (F := F)) Variants.none (c : Thread nD τ) none) Set.univ)
      isplitl [Hp H8 HS]
      · iapply (run_B on (isFirst (grid0.coords t)) (isLater (grid0.coords t)) last (arg (row t) t) (ms8 t) (ms9 t) scM Variants.none c none Set.univ
          hon (fun e => h0 ((first_iff t).mp e)) ((later_iff t).mpr h0) (fun e => h3 (hlast.mp e)) (part m c (row t) t) (iblk m c 8 t) _)
        isplitl [Hp]; · iexact Hp
        isplitl [H8]; · iexact H8
        iexact HS
      iintro %r ⟨Hp, H8, HS⟩
      iapply (post_join m c t)
      rw [leaves_9_idle m c t h3, acc_later m c t h0]
      isplitl [Hback Hp]
      · iapply Hback; iexact Hp
      isplitl [H8]; · iexact H8
      isplitl [H9]; · iexact H9
      isplitl [HS Hg]
      · isplitl [HS]; · iexact HS
        iexact Hg
      iexact Ho

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [PhiA_eq]
  exact PhiS_any m c (Fin.last cfg0.N).val (Nat.le_of_lt_succ (Fin.last cfg0.N).isLt)

set_option backward.isDefEq.respectTransparency.types false in
/-- Every execution of the program ends with the windows' arrays as `dats` says and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel19Ideal.Run

end
-- ==== Proof.DwMain.Final.lean ====
/- The big projection's weight gradient after the launch: the reference's product, element by element. -/
module

public import proofs.«01_k».proof.Proof.DwMain.Track
public import proofs.«01_k».proof.Proof.Prod.Sums
public import Idealize.ShloMosaic.Lib.Pointwise
public import Idealize.ShloMosaic.Lib.Pipeline.ValueKit
public import Idealize.ShloMosaic.PureOps.Ideal

@[expose] public section

set_option maxRecDepth 16384

noncomputable section

namespace Cert.Kernel19Ideal.Run

open Idealize.ShloMosaic Idealize.ShloMosaic.TcCoe
open Idealize.SL.Sem
open Cert.Kernel19Ideal Cert.Kernel19Ideal.Gen

/-- The product of two blocks. -/
def prod (x y : Vec Ideal S1024x1024 .bf16) (i j : Fin 1024) : EReal := ∑ k : Fin 1024, x (ix2 k i) * y (ix2 k j)

theorem pay2_at (x y : Vec Ideal S1024x1024 .bf16) (i j : Fin 1024) : k0_pay2 x y (ix2 i j) = prod x y i j := by
  pointwise! [k0_pay2, k0_pay1, prod]
theorem pay3_at (x y : Vec Ideal S1024x1024 .bf16) (s : Vec Ideal S1024x1024 .f32) (i j : Fin 1024) :
    k0_pay3 x y s (ix2 i j) = s (ix2 i j) + prod x y i j := by
  pointwise! [k0_pay3, k0_pay1, prod]

theorem idx0 : ∀ t : Fin grid0.N, t.val / 4 = 0 → win0_0.index t 0 = t.val % 4 ∧ win0_0.index t 1 = 0 := by decide +kernel
theorem idx1 : ∀ t : Fin grid0.N, t.val / 4 = 1 → win0_1.index t 0 = t.val % 4 ∧ win0_1.index t 1 = 0 := by decide +kernel
theorem idx2 : ∀ t : Fin grid0.N, t.val / 4 = 2 → win0_2.index t 0 = t.val % 4 ∧ win0_2.index t 1 = 0 := by decide +kernel
theorem idx3 : ∀ t : Fin grid0.N, t.val / 4 = 3 → win0_3.index t 0 = t.val % 4 ∧ win0_3.index t 1 = 0 := by decide +kernel
theorem idx4 : ∀ t : Fin grid0.N, t.val / 4 = 4 → win0_4.index t 0 = t.val % 4 ∧ win0_4.index t 1 = 0 := by decide +kernel
theorem idx5 : ∀ t : Fin grid0.N, t.val / 4 = 5 → win0_5.index t 0 = t.val % 4 ∧ win0_5.index t 1 = 0 := by decide +kernel
theorem idx6 : ∀ t : Fin grid0.N, t.val / 4 = 6 → win0_6.index t 0 = t.val % 4 ∧ win0_6.index t 1 = 0 := by decide +kernel
theorem idx7 : ∀ t : Fin grid0.N, t.val / 4 = 7 → win0_7.index t 0 = t.val % 4 ∧ win0_7.index t 1 = 0 := by decide +kernel
theorem idx8 : ∀ t : Fin grid0.N, win0_8.index t 0 = t.val % 4 ∧ win0_8.index t 1 = 0 := by decide +kernel
theorem idx9 : ∀ t : Fin grid0.N, win0_9.index t 0 = t.val / 4 ∧ win0_9.index t 1 = 0 := by decide +kernel

/-- Row `k` of row block `a`. -/
def ko (a : Fin 4) (k : Fin 1024) : Fin 4096 := ⟨a.val * 1024 + k.val, by omega⟩
/-- Row `i` of part `p`'s rows of the result. -/
def ro (p : Fin 8) (i : Fin 1024) : Fin 8192 := ⟨p.val * 1024 + i.val, by omega⟩

variable (m : (ℓ : Loc nD τ sig) → Buf (Elt Ideal) ℓ) (c : Dev nD)

/-- The eight parts and the input among the arguments. -/
def args (p : Fin 8) : FVec Ideal S4096x1024 .bf16 := match p with
  | ⟨0, _⟩ => m ((c.tc : Thread nD τ).loc main_arg0)
  | ⟨1, _⟩ => m ((c.tc : Thread nD τ).loc main_arg1)
  | ⟨2, _⟩ => m ((c.tc : Thread nD τ).loc main_arg2)
  | ⟨3, _⟩ => m ((c.tc : Thread nD τ).loc main_arg3)
  | ⟨4, _⟩ => m ((c.tc : Thread nD τ).loc main_arg4)
  | ⟨5, _⟩ => m ((c.tc : Thread nD τ).loc main_arg5)
  | ⟨6, _⟩ => m ((c.tc : Thread nD τ).loc main_arg6)
  | ⟨7, _⟩ => m ((c.tc : Thread nD τ).loc main_arg7)
def inp : FVec Ideal S4096x1024 .bf16 := m ((c.tc : Thread nD τ).loc main_arg8)

theorem part_at (t : Fin cfg0.N) (p : Fin 8) (hp : t.val / 4 = p.val) (a : Fin 4) (ha : t.val % 4 = a.val) (k i : Fin 1024) :
    part m c p t (ix2 k i) = args m c p (ix2 (ko a k) i) := by
  match p, hp with
  | 0, hp =>
    show iblk m c 0 t (ix2 k i) = args m c 0 (ix2 (ko a k) i)
    unfold iblk
    rw [View.read_apply]
    show V m c main_arg0 _ = _
    rw [V_main_arg0]
    refine congrArg (args m c 0) (funext fun e => Fin.ext ?_)
    match e with
    | ⟨0, _⟩ => show win0_0.index t 0 * 1024 + 1 * k.val = a.val * 1024 + k.val; rw [(idx0 t hp).1, ha]; omega
    | ⟨1, _⟩ => show win0_0.index t 1 * 1024 + 1 * i.val = i.val; rw [(idx0 t hp).2]; omega
  | 1, hp =>
    show iblk m c 1 t (ix2 k i) = args m c 1 (ix2 (ko a k) i)
    unfold iblk
    rw [View.read_apply]
    show V m c main_arg1 _ = _
    rw [V_main_arg1]
    refine congrArg (args m c 1) (funext fun e => Fin.ext ?_)
    match e with
    | ⟨0, _⟩ => show win0_1.index t 0 * 1024 + 1 * k.val = a.val * 1024 + k.val; rw [(idx1 t hp).1, ha]; omega
    | ⟨1, _⟩ => show win0_1.index t 1 * 1024 + 1 * i.val = i.val; rw [(idx1 t hp).2]; omega
  | 2, hp =>
    show iblk m c 2 t (ix2 k i) = args m c 2 (ix2 (ko a k) i)
    unfold iblk
    rw [View.read_apply]
    show V m c main_arg2 _ = _
    rw [V_main_arg2]
    refine congrArg (args m c 2) (funext fun e => Fin.ext ?_)
    match e with
    | ⟨0, _⟩ => show win0_2.index t 0 * 1024 + 1 * k.val = a.val * 1024 + k.val; rw [(idx2 t hp).1, ha]; omega
    | ⟨1, _⟩ => show win0_2.index t 1 * 1024 + 1 * i.val = i.val; rw [(idx2 t hp).2]; omega
  | 3, hp =>
    show iblk m c 3 t (ix2 k i) = args m c 3 (ix2 (ko a k) i)
    unfold iblk
    rw [View.read_apply]
    show V m c main_arg3 _ = _
    rw [V_main_arg3]
    refine congrArg (args m c 3) (funext fun e => Fin.ext ?_)
    match e with
    | ⟨0, _⟩ => show win0_3.index t 0 * 1024 + 1 * k.val = a.val * 1024 + k.val; rw [(idx3 t hp).1, ha]; omega
    | ⟨1, _⟩ => show win0_3.index t 1 * 1024 + 1 * i.val = i.val; rw [(idx3 t hp).2]; omega
  | 4, hp =>
    show iblk m c 4 t (ix2 k i) = args m c 4 (ix2 (ko a k) i)
    unfold iblk
    rw [View.read_apply]
    show V m c main_arg4 _ = _
    rw [V_main_arg4]
    refine congrArg (args m c 4) (funext fun e => Fin.ext ?_)
    match e with
    | ⟨0, _⟩ => show win0_4.index t 0 * 1024 + 1 * k.val = a.val * 1024 + k.val; rw [(idx4 t hp).1, ha]; omega
    | ⟨1, _⟩ => show win0_4.index t 1 * 1024 + 1 * i.val = i.val; rw [(idx4 t hp).2]; omega
  | 5, hp =>
    show iblk m c 5 t (ix2 k i) = args m c 5 (ix2 (ko a k) i)
    unfold iblk
    rw [View.read_apply]
    show V m c main_arg5 _ = _
    rw [V_main_arg5]
    refine congrArg (args m c 5) (funext fun e => Fin.ext ?_)
    match e with
    | ⟨0, _⟩ => show win0_5.index t 0 * 1024 + 1 * k.val = a.val * 1024 + k.val; rw [(idx5 t hp).1, ha]; omega
    | ⟨1, _⟩ => show win0_5.index t 1 * 1024 + 1 * i.val = i.val; rw [(idx5 t hp).2]; omega
  | 6, hp =>
    show iblk m c 6 t (ix2 k i) = args m c 6 (ix2 (ko a k) i)
    unfold iblk
    rw [View.read_apply]
    show V m c main_arg6 _ = _
    rw [V_main_arg6]
    refine congrArg (args m c 6) (funext fun e => Fin.ext ?_)
    match e with
    | ⟨0, _⟩ => show win0_6.index t 0 * 1024 + 1 * k.val = a.val * 1024 + k.val; rw [(idx6 t hp).1, ha]; omega
    | ⟨1, _⟩ => show win0_6.index t 1 * 1024 + 1 * i.val = i.val; rw [(idx6 t hp).2]; omega
  | 7, hp =>
    show iblk m c 7 t (ix2 k i) = args m c 7 (ix2 (ko a k) i)
    unfold iblk
    rw [View.read_apply]
    show V m c main_arg7 _ = _
    rw [V_main_arg7]
    refine congrArg (args m c 7) (funext fun e => Fin.ext ?_)
    match e with
    | ⟨0, _⟩ => show win0_7.index t 0 * 1024 + 1 * k.val = a.val * 1024 + k.val; rw [(idx7 t hp).1, ha]; omega
    | ⟨1, _⟩ => show win0_7.index t 1 * 1024 + 1 * i.val = i.val; rw [(idx7 t hp).2]; omega

theorem inp_at (t : Fin cfg0.N) (a : Fin 4) (ha : t.val % 4 = a.val) (k i : Fin 1024) :
    iblk m c 8 t (ix2 k i) = inp m c (ix2 (ko a k) i) := by
  unfold iblk
  rw [View.read_apply]
  show V m c main_arg8 _ = _
  rw [V_main_arg8]
  refine congrArg (inp m c) (funext fun e => Fin.ext ?_)
  match e with
  | ⟨0, _⟩ => show win0_8.index t 0 * 1024 + 1 * k.val = a.val * 1024 + k.val; rw [(idx8 t).1, ha]; omega
  | ⟨1, _⟩ => show win0_8.index t 1 * 1024 + 1 * i.val = i.val; rw [(idx8 t).2]; omega

theorem at9 (t : Fin cfg0.N) (p : Fin 8) (hp : t.val / 4 = p.val) (i j : Fin 1024) :
    (((cfg0.win 9).blk t).view.emb (ix2 i j) : S8192x1024.Idx) = ix2 (ro p i) j := funext fun a => Fin.ext (by
  match a with
  | ⟨0, _⟩ => show win0_9.index t 0 * 1024 + 1 * i.val = p.val * 1024 + i.val; rw [(idx9 t).1, hp]; omega
  | ⟨1, _⟩ => show win0_9.index t 1 * 1024 + 1 * j.val = j.val; rw [(idx9 t).2]; omega)

/-- The product over row block `a` with part `p`. -/
def blockSum (p : Fin 8) (a : Fin 4) (i j : Fin 1024) : EReal := ∑ k : Fin 1024, args m c p (ix2 (ko a k) i) * inp m c (ix2 (ko a k) j)

theorem block_at (t : Fin cfg0.N) (p : Fin 8) (hp : t.val / 4 = p.val) (a : Fin 4) (ha : t.val % 4 = a.val) (i j : Fin 1024) :
    prod (part m c (row t) t) (iblk m c 8 t) i j = blockSum m c p a i j := by
  have hr : row t = p := Fin.ext hp
  rw [hr]
  exact Finset.sum_congr rfl fun k _ => congrArg₂ (· * ·) (part_at m c t p hp a ha k i) (inp_at m c t a ha k j)

/-- What the points of a sweep leave, one after the other. -/
theorem at_0 (t : Fin cfg0.N) (p : Fin 8) (hp : t.val / 4 = p.val) (he : t.val % 4 = 0) (i j : Fin 1024) :
    acc m c t.val t.isLt (ix2 i j) = blockSum m c p 0 i j := by
  rw [acc_first m c t he, pay2_at]
  exact block_at m c t p hp 0 he i j
theorem at_1 (t : Fin cfg0.N) (p : Fin 8) (hp : t.val / 4 = p.val) (he : t.val % 4 = 1) (i j : Fin 1024) :
    acc m c t.val t.isLt (ix2 i j) = blockSum m c p 0 i j + blockSum m c p 1 i j := by
  have hb : _ = blockSum m c p 0 i j := at_0 m c ⟨t.val - 1, Nat.lt_of_le_of_lt (Nat.sub_le _ _) t.isLt⟩ p (by show (t.val - 1) / 4 = p.val; omega) (by show (t.val - 1) % 4 = 0; omega) i j
  rw [acc_later m c t (by omega), pay3_at]
  exact congrArg₂ (· + ·) hb (block_at m c t p hp 1 he i j)
theorem at_2 (t : Fin cfg0.N) (p : Fin 8) (hp : t.val / 4 = p.val) (he : t.val % 4 = 2) (i j : Fin 1024) :
    acc m c t.val t.isLt (ix2 i j) = blockSum m c p 0 i j + blockSum m c p 1 i j + blockSum m c p 2 i j := by
  have hb : _ = blockSum m c p 0 i j + blockSum m c p 1 i j := at_1 m c ⟨t.val - 1, Nat.lt_of_le_of_lt (Nat.sub_le _ _) t.isLt⟩ p (by show (t.val - 1) / 4 = p.val; omega) (by show (t.val - 1) % 4 = 1; omega) i j
  rw [acc_later m c t (by omega), pay3_at]
  exact congrArg₂ (· + ·) hb (block_at m c t p hp 2 he i j)
theorem at_3 (t : Fin cfg0.N) (p : Fin 8) (hp : t.val / 4 = p.val) (he : t.val % 4 = 3) (i j : Fin 1024) :
    acc m c t.val t.isLt (ix2 i j) = blockSum m c p 0 i j + blockSum m c p 1 i j + blockSum m c p 2 i j + blockSum m c p 3 i j := by
  have hb : _ = blockSum m c p 0 i j + blockSum m c p 1 i j + blockSum m c p 2 i j := at_2 m c ⟨t.val - 1, Nat.lt_of_le_of_lt (Nat.sub_le _ _) t.isLt⟩ p (by show (t.val - 1) / 4 = p.val; omega) (by show (t.val - 1) % 4 = 2; omega) i j
  rw [acc_later m c t (by omega), pay3_at]
  exact congrArg₂ (· + ·) hb (block_at m c t p hp 3 he i j)

theorem sum_all (p : Fin 8) (i j : Fin 1024) : blockSum m c p 0 i j + blockSum m c p 1 i j + blockSum m c p 2 i j + blockSum m c p 3 i j
      = ∑ k : Fin 4096, args m c p (ix2 k i) * inp m c (ix2 k j) := by
  refine Eq.trans ?_ (Cert.Prod.sum_blocks (n := 4) (l := 1024) (by norm_num) _).symm
  rw [Fin.sum_univ_four]
  rfl

/-- An array with these elements is the one after the launch. -/
theorem final (G : FVec Ideal S8192x1024 .f32)
    (hG : ∀ (p : Fin 8) (i j : Fin 1024), G (ix2 (ro p i) j) = ∑ k : Fin 4096, args m c p (ix2 k i) * inp m c (ix2 k j)) : (dats m 0 c).arrAt 9 cfg0.N = G := by
  refine (dats m 0 c).arrAt_eq_of_covers 9 G (by decide +kernel) fun t hf y => ?_
  obtain ⟨i, j, rfl⟩ : ∃ (i j : Fin 1024), y = ix2 i j := ⟨_, _, eq_ix2 y⟩
  refine (congrFun (after_9 m c t) (ix2 i j)).trans ?_
  refine Eq.trans ?_ (congrArg G (at9 t (row t) rfl i j)).symm
  rw [hG, ← sum_all]
  exact at_3 m c t (row t) rfl ((flush0_9 t).mp hf) i j

/-- Every execution ends with the result's array at the one after the launch and the arguments as they were. -/
theorem run_blocks (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h.1.2 c, h.2.1 c⟩)
    (θ_run_and ((θ_run defs _ _).mono (fun r (h : (Pipeline.FramePost cfgs (dats m) 0 (V m)) r ∧ r.2.sem = fun _ => 0) =>
      (⟨trivial, fun c => (h.1 c).1 9⟩ : True ∧ ∀ c : Dev nD, r.2.mem ((c.tc : Thread nD τ).loc main_v0) = (dats m 0 c).arrAt 9 cfg0.N)) (run_main m ρ)) (frame m ρ))

end Cert.Kernel19Ideal.Run

end
-- ==== Proof.DwMain.Reference.lean ====
/- The reference of the big projection's weight gradient, read at one element. -/
module

public import proofs.«01_k».proof.Proof.Gen.Reference19Ideal.Run
public import Idealize.ShloMosaic.Lib.Pointwise
public import Idealize.ShloMosaic.Lib.Pipeline.Value
public import Idealize.ShloMosaic.PureOps.Ideal

@[expose] public section

set_option maxRecDepth 16384

noncomputable section

namespace Cert.Reference19Ideal.Prod

open Idealize.ShloMosaic Idealize.ShloMosaic.TcCoe
open Cert.Reference19Ideal Cert.Reference19Ideal.Facts₀ Cert.Reference19Ideal.Facts

/-- Eight blocks side by side. -/
def cat (p : Fin 8 → FVec Ideal S4096x1024 .f32) : FVec Ideal S4096x8192 .f32 :=
  concatenate S4096x8192 1 [⟨S4096x1024, p 0⟩, ⟨S4096x1024, p 1⟩, ⟨S4096x1024, p 2⟩, ⟨S4096x1024, p 3⟩, ⟨S4096x1024, p 4⟩, ⟨S4096x1024, p 5⟩, ⟨S4096x1024, p 6⟩, ⟨S4096x1024, p 7⟩]
    concatenates_S4096x1024_S4096x1024_S4096x1024_S4096x1024_S4096x1024_S4096x1024_S4096x1024_S4096x1024_S4096x8192_d1

theorem cat_at (p : Fin 8 → FVec Ideal S4096x1024 .f32) (i : Fin 4096) (a : Fin 8) (b : Fin 1024) :
    cat p (ix2 i ⟨a.val * 1024 + b.val, by omega⟩) = p a (ix2 i b) :=
  concatenate_ofFn_apply (t := S4096x8192) (s₁ := S4096x1024) 1 (N := 8) p
    concatenates_S4096x1024_S4096x1024_S4096x1024_S4096x1024_S4096x1024_S4096x1024_S4096x1024_S4096x1024_S4096x8192_d1
    rfl 1024 rfl _ a (by show (a.val * 1024 + b.val) / 1024 = a.val; omega) (ix2 i b)
    (by show b.val = (a.val * 1024 + b.val) % 1024; omega) fun e he => by match e with
      | ⟨0, _⟩ => rfl
      | ⟨1, _⟩ => exact absurd rfl he

/-- The product with the rows of `u` running down the result. -/
def mul (u : FVec Ideal S4096x8192 .f32) (h : FVec Ideal S4096x1024 .bf16) : FVec Ideal S8192x1024 .f32 :=
  transpose S8192x1024 [1, 0] (transpose S1024x8192 [1, 0] (Host.dotGeneral dot_S4096x8192_S4096x1024_S8192x1024_0_0_1_1_n_n none u (extf .f32 h bitsLt_bf16_f32)) transposes_S8192x1024_S1024x8192_1_0) transposes_S1024x8192_S8192x1024_1_0

theorem mul_at (u : FVec Ideal S4096x8192 .f32) (h : FVec Ideal S4096x1024 .bf16) (i : Fin 8192) (j : Fin 1024) :
    mul u h (ix2 i j) = ∑ k : Fin 4096, u (ix2 k i) * h (ix2 k j) := by
  pointwise! [mul]

/-- The reference's result as a term of its arguments. -/
def G (p : Fin 8 → FVec Ideal S4096x1024 .bf16) (h : FVec Ideal S4096x1024 .bf16) : FVec Ideal S8192x1024 .f32 :=
  mul (cat fun a => extf .f32 (p a) bitsLt_bf16_f32) h

/-- The eight parts among the arguments. -/
def args (m : (ℓ : Loc nD τ sig) → Buf (Elt Ideal) ℓ) (c : Dev nD) (a : Fin 8) : FVec Ideal S4096x1024 .bf16 := match a with
  | ⟨0, _⟩ => m ((c.tc : Thread nD τ).loc main_arg0)
  | ⟨1, _⟩ => m ((c.tc : Thread nD τ).loc main_arg1)
  | ⟨2, _⟩ => m ((c.tc : Thread nD τ).loc main_arg2)
  | ⟨3, _⟩ => m ((c.tc : Thread nD τ).loc main_arg3)
  | ⟨4, _⟩ => m ((c.tc : Thread nD τ).loc main_arg4)
  | ⟨5, _⟩ => m ((c.tc : Thread nD τ).loc main_arg5)
  | ⟨6, _⟩ => m ((c.tc : Thread nD τ).loc main_arg6)
  | ⟨7, _⟩ => m ((c.tc : Thread nD τ).loc main_arg7)

theorem G_at (p : Fin 8 → FVec Ideal S4096x1024 .bf16) (h : FVec Ideal S4096x1024 .bf16) (a : Fin 8) (i j : Fin 1024) :
    G p h (ix2 (⟨a.val * 1024 + i.val, by omega⟩ : Fin 8192) j) = ∑ k : Fin 4096, p a (ix2 k i) * h (ix2 k j) := by
  unfold G
  rw [mul_at]
  refine Finset.sum_congr rfl fun k _ => ?_
  rw [cat_at]
  rfl

end Cert.Reference19Ideal.Prod

end
-- ==== Proof.Fox.Model.lean ====
/- What one grid point of the attention gradient does to the buffers it keeps: the five accumulators as a record of
   plain arrays, one query block's contribution to them, and the tables filled at a head's first point. -/
module

public import proofs.«01_k».proof.Proof.Gen.KernelIdeal.Skeleton
public import Idealize.ShloMosaic.Lib.VecWindow

@[expose] public section

noncomputable section

namespace Cert.KernelIdeal.Fox

open Idealize.ShloMosaic Idealize.ShloMosaic.TcCoe
open Idealize.SL.Sem
open Cert.KernelIdeal Cert.KernelIdeal.Gen

variable {F : FTy → Type} [FloatOps F] [Named F]

theorem inRows (r : Fin 4) : ∀ a : Fin S4096x128.rank, (![1024 * r.val, 0] : Fin 2 → ℕ) a + S1024x128.size a ≤ S4096x128.size a := by
  intro a; have := r.isLt
  match a with
  | ⟨0, _⟩ => show 1024 * r.val + 1024 ≤ 4096; omega
  | ⟨1, _⟩ => show 0 + 128 ≤ 128; omega
theorem inSide (r : Fin 4) : ∀ a : Fin S4x1x1024.rank, (![r.val, 0, 0] : Fin 3 → ℕ) a + S1x1x1024.size a ≤ S4x1x1024.size a := by
  intro a; have := r.isLt
  match a with
  | ⟨0, _⟩ => show r.val + 1 ≤ 4; omega
  | ⟨1, _⟩ => show 0 + 1 ≤ 1; omega
  | ⟨2, _⟩ => show 0 + 1024 ≤ 1024; omega
theorem inLine (r : Fin 4) : ∀ a : Fin S1x4x1x1024.rank, (![0, r.val, 0, 0] : Fin 4 → ℕ) a + S1x1x1x1024.size a ≤ S1x4x1x1024.size a := by
  intro a; have := r.isLt
  match a with
  | ⟨0, _⟩ => show 0 + 1 ≤ 1; omega
  | ⟨1, _⟩ => show r.val + 1 ≤ 4; omega
  | ⟨2, _⟩ => show 0 + 1 ≤ 1; omega
  | ⟨3, _⟩ => show 0 + 1024 ≤ 1024; omega

/-- Query block `r` of a head's 4096 rows. -/
def rows {e : EltTy} (X : Vec F S4096x128 e) (r : Fin 4) : Vec F S1024x128 e := VecWindow.window X ![1024 * r.val, 0] S1024x128.size (inRows r)
/-- Row `r` of a head's side table. -/
def side {e : EltTy} (X : Vec F S4x1x1024 e) (r : Fin 4) : Vec F S1x1x1024 e := VecWindow.window X ![r.val, 0, 0] S1x1x1024.size (inSide r)
/-- Row `r` of a head's four rows of 1024. -/
def line {e : EltTy} (X : Vec F S1x4x1x1024 e) (r : Fin 4) : Vec F S1x1x1x1024 e := VecWindow.window X ![0, r.val, 0, 0] S1x1x1x1024.size (inLine r)

/-- The five accumulators: the row sums, the query gradient, the key and value gradients, the column sums. -/
@[ext] structure St (F : FTy → Type) where
  dFq : Vec F S1x4x1x1024 .f32
  dq : Vec F S4096x128 .f32
  dk : Vec F S1024x128 .f32
  dv : Vec F S1024x128 .f32
  cs : Vec F S1024x1 .f32

/-- The inputs of a grid point after the tables are filled: the head's queries and cotangents, the two side tables, the
    point's key and value block and its column of scaled gates. -/
structure Ins (F : FTy → Type) where
  q : Vec F S4096x128 .bf16
  ct : Vec F S4096x128 .bf16
  qs : Vec F S4x1x1024 .f32
  de : Vec F S4x1x1024 .f32
  k : Vec F S1024x128 .bf16
  v : Vec F S1024x128 .bf16
  fk : FVec F S1024x1 .f32

/-- Query block `r`'s contribution, from its weights `p` and its weighted differences `ds`. -/
def St.add (s : St F) (r : Fin 4) (k q ct : Vec F S1024x128 .bf16) (p ds : FVec F S1024x1024 .f32) : St F where
  dFq := VecWindow.put s.dFq ![0, r.val, 0, 0] S1x1x1x1024.size (k0_pay3 ds (line s.dFq r))
  dq := VecWindow.put s.dq ![1024 * r.val, 0] S1024x128.size (k0_pay1 k (truncf .bf16 ds bitsLt_bf16_f32) (rows s.dq r))
  dk := k0_pay33 q (truncf .bf16 ds bitsLt_bf16_f32) s.dk
  dv := shapeCast S1024x128 (addf s.dv (matmul dot_S1024x1024_S1024x128_S1024x128_1_0_0_1_n_n none (truncf .bf16 p bitsLt_bf16_f32) ct
    (constant S1024x128 .f32 0x00000000#32))) shapeCasts_S1024x128_S1024x128
  cs := k0_pay2 ds s.cs

/-- Query block `r` below the diagonal block. -/
def Ins.step (x : Ins F) (r : Fin 4) (s : St F) : St F :=
  s.add r x.k (rows x.q r) (rows x.ct r) (k0_pay11 x.k x.fk (rows x.q r) (side x.qs r))
    (k0_pay13 x.k x.v x.fk (rows x.q r) (rows x.ct r) (side x.qs r) (side x.de r))

/-- The masked query block of grid point `i`: the block of its own rows. -/
def Ins.diag (x : Ins F) (i : grid0.Coords) (r : Fin 4) (s : St F) : St F :=
  s.add r x.k (rows x.q r) (rows x.ct r)
    (k0_pay29 (BitVec.ofNat 32 (i 1).val) x.k x.fk (Scalar.addi (Scalar.muli 1#32 (BitVec.ofNat 32 (i 1).val)) 0#32) (rows x.q r) (side x.qs r))
    (k0_pay31 (BitVec.ofNat 32 (i 1).val) x.k x.v x.fk (Scalar.addi (Scalar.muli 1#32 (BitVec.ofNat 32 (i 1).val)) 0#32) (rows x.q r) (rows x.ct r)
      (side x.qs r) (side x.de r))

/-- The query blocks `j + 1, …, j + n` in order (those past the last are none). -/
def Ins.rest (x : Ins F) (j : ℕ) : ℕ → St F → St F
  | 0, s => s
  | n + 1, s => if h : j + 1 + n < 4 then x.step ⟨j + 1 + n, h⟩ (x.rest j n s) else x.rest j n s

/-- The two side tables after their first `n` rows are filled. -/
def fillDe (ct o : Vec F S4096x128 .bf16) (de : Vec F S4x1x1024 .f32) : ℕ → Vec F S4x1x1024 .f32
  | 0 => de
  | n + 1 => if h : n < 4 then VecWindow.put (fillDe ct o de n) ![n, 0, 0] S1x1x1024.size (k0_pay23 (rows ct ⟨n, h⟩) (rows o ⟨n, h⟩)) else fillDe ct o de n
def fillQs (l f : Vec F S1x4x1x1024 .f32) (qs : Vec F S4x1x1024 .f32) : ℕ → Vec F S4x1x1024 .f32
  | 0 => qs
  | n + 1 => if h : n < 4 then VecWindow.put (fillQs l f qs n) ![n, 0, 0] S1x1x1024.size (k0_pay24 (line f ⟨n, h⟩) (line l ⟨n, h⟩)) else fillQs l f qs n

/-- The accumulators at the start of a point: the head's two running ones as found, the block's three at zero. -/
def St.start (dFq : Vec F S1x4x1x1024 .f32) (dq : Vec F S4096x128 .f32) : St F := ⟨dFq, dq, k0_pay26, k0_pay27, k0_pay28⟩

/-- What a point begins with: at a head's first key block the tables are filled and the head's two accumulators zeroed. -/
def begQs (i : grid0.Coords) (l f : Vec F S1x4x1x1024 .f32) (qs : Vec F S4x1x1024 .f32) := if (i 1).val = 0 then fillQs l f qs 4 else qs
def begDe (i : grid0.Coords) (ct o : Vec F S4096x128 .bf16) (de : Vec F S4x1x1024 .f32) := if (i 1).val = 0 then fillDe ct o de 4 else de
def begFq (i : grid0.Coords) (X : Vec F S1x4x1x1024 .f32) : Vec F S1x4x1x1024 .f32 := if (i 1).val = 0 then k0_pay22 else X
def begDq (i : grid0.Coords) (X : Vec F S4096x128 .f32) : Vec F S4096x128 .f32 := if (i 1).val = 0 then k0_pay21 else X

/-- The number of the masked block's first row over 1024, as the program computes it. -/
abbrev jw (i : grid0.Coords) : BitVec 32 := BitVec.ofNat 32 (i 1).val
abbrev iw (i : grid0.Coords) : BitVec 32 := Scalar.addi (Scalar.muli 1#32 (jw i)) 0#32

/-- The whole point, `j` being its key block: the masked block, then the rest. -/
def Ins.point (x : Ins F) (i : grid0.Coords) (s : St F) : St F :=
  x.rest (i 1).val (3 - (i 1).val) (x.diag i (i 1) s)

/-- A point's inputs once its tables are filled, from the blocks it is given and the tables as found. -/
def ins (i : grid0.Coords) (q : Vec F S4096x128 .bf16) (k v : Vec F S1024x128 .bf16) (fc : Vec F S1024x128 .f32) (ct o : Vec F S4096x128 .bf16)
    (l f : Vec F S1x4x1x1024 .f32) (qs de : Vec F S4x1x1024 .f32) : Ins F :=
  ⟨q, ct, begQs i l f qs, begDe i ct o de, k, v, k0_pay25 i fc⟩

/-- The accumulators a point leaves. -/
def Ins.leave (x : Ins F) (i : grid0.Coords) (dFq : Vec F S1x4x1x1024 .f32) (dq : Vec F S4096x128 .f32) : St F :=
  x.point i (St.start (begFq i dFq) (begDq i dq))

/-- The query gradient's block: stored at a head's last key block, left as found before. -/
def outQ (i : grid0.Coords) (dq : Vec F S4096x128 .f32) (D : Vec F S4096x128 .bf16) : Vec F S4096x128 .bf16 := if (i 1).val = 3 then k0_pay10 dq else D

/-! ## The offsets in closed form -/

theorem trips1 : k0_t1_loop.trips = 4 := by decide +kernel
theorem trips2 : ∀ i : grid0.Coords, (k0_t2_loop i).trips = 3 - (i 1).val := by decide +kernel
theorem trips3 : ∀ i : grid0.Coords, (k0_t3_loop i).trips = 0 := by decide +kernel
theorem off1 : ∀ k : Fin k0_t1_loop.trips, k0_off1 k = ![1024 * k.val, 0] := by decide +kernel
theorem off2 : ∀ k : Fin k0_t1_loop.trips, k0_off2 k = ![k.val, 0, 0] := by decide +kernel
theorem off3 : ∀ k : Fin k0_t1_loop.trips, k0_off3 k = ![0, k.val, 0, 0] := by decide +kernel
theorem off4 : ∀ i : grid0.Coords, k0_off4 i = ![1024 * (i 1).val, 0] := by decide +kernel
theorem off5 : ∀ i : grid0.Coords, k0_off5 i = ![(i 1).val, 0, 0] := by decide +kernel
theorem off6 : ∀ i : grid0.Coords, k0_off6 i = ![0, (i 1).val, 0, 0] := by decide +kernel
theorem off7 : ∀ (i : grid0.Coords) (k : Fin (k0_t2_loop i).trips), k0_off7 i k = ![1024 * ((i 1).val + 1 + k.val), 0] := by decide +kernel
theorem off8 : ∀ (i : grid0.Coords) (k : Fin (k0_t2_loop i).trips), k0_off8 i k = ![(i 1).val + 1 + k.val, 0, 0] := by decide +kernel
theorem off9 : ∀ (i : grid0.Coords) (k : Fin (k0_t2_loop i).trips), k0_off9 i k = ![0, (i 1).val + 1 + k.val, 0, 0] := by decide +kernel
theorem cond1 : ∀ i : grid0.Coords, k0_cond1 i = 1#1 ↔ (i 1).val = 0 := by decide +kernel
theorem cond2 : ∀ i : grid0.Coords, k0_cond2 i = 1#1 ↔ (i 1).val = 3 := by decide +kernel

end Cert.KernelIdeal.Fox

end
-- ==== Proof.Fox.Body.lean ====
/- The pieces of one grid point's program, run over plain arrays: the loop's trip, the masked block, the fill of the
   side tables, and what each leaves in the buffers. -/
module

public import proofs.«01_k».proof.Proof.Fox.Model
public import Idealize.ShloMosaic.Lib.Exec
public import Idealize.ShloMosaic.Lib.Tactic
public import Idealize.ShloMosaic.Lib.Pipeline.Kit
public import Idealize.ShloMosaic.Lib.Pipeline.TableIdle

@[expose] public section

set_option maxRecDepth 16384
set_option maxHeartbeats 400000

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The buffers the body is given: eight inputs, five outputs, six scratch arrays. -/
structure Args where
  a2 : Memref sig .tc .vmem S4096x128 .bf16
  w2 : a2.IsWhole
  a3 : Memref sig .tc .vmem S1024x128 .bf16
  w3 : a3.IsWhole
  a4 : Memref sig .tc .vmem S1024x128 .bf16
  w4 : a4.IsWhole
  a5 : Memref sig .tc .vmem S4096x128 .bf16
  w5 : a5.IsWhole
  a6 : Memref sig .tc .vmem S4096x128 .bf16
  w6 : a6.IsWhole
  a7 : Memref sig .tc .vmem S1x4x1x1024 .f32
  w7 : a7.IsWhole
  a8 : Memref sig .tc .vmem S1x4x1x1024 .f32
  w8 : a8.IsWhole
  a9 : Memref sig .tc .vmem S1024x128 .f32
  w9 : a9.IsWhole
  a10 : Memref sig .tc .vmem S4096x128 .bf16
  w10 : a10.IsWhole
  a11 : Memref sig .tc .vmem S1024x128 .bf16
  w11 : a11.IsWhole
  a12 : Memref sig .tc .vmem S1024x128 .bf16
  w12 : a12.IsWhole
  a13 : Memref sig .tc .vmem S1x1x1x1024 .f32
  w13 : a13.IsWhole
  a14 : Memref sig .tc .vmem S1x4x1x1024 .f32
  w14 : a14.IsWhole
  a15 : Memref sig .tc .vmem S4096x128 .f32
  w15 : a15.IsWhole
  a16 : Memref sig .tc .vmem S4x1x1024 .f32
  w16 : a16.IsWhole
  a17 : Memref sig .tc .vmem S4x1x1024 .f32
  w17 : a17.IsWhole
  a18 : Memref sig .tc .vmem S1024x128 .f32
  w18 : a18.IsWhole
  a19 : Memref sig .tc .vmem S1024x128 .f32
  w19 : a19.IsWhole
  a20 : Memref sig .tc .vmem S1024x1 .f32
  w20 : a20.IsWhole

variable (𝒱 : Variants) (c : Dev nD) (bd : Option 𝒱.V) (E : Set ℕ) (i : grid0.Coords) (A : Args)

abbrev body2 (v3 v4 : Vec F S1024x128 .bf16) (v14 : FVec F S1024x1 .f32) (v104 : BitVec 32) := k0_t2_body (F := F) i A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 A.a15 A.w15 A.a16 A.w16 A.a17 A.w17 A.a18 A.w18 A.a19 A.w19 A.a20 A.w20 v3 v4 v14 v104
abbrev body1 (h : k0_cond1 i = 1#1) := k0_t1_body (F := F) i A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 A.a15 A.w15 A.a16 A.w16 A.a17 A.w17 A.a18 A.w18 A.a19 A.w19 A.a20 A.w20 h
abbrev part3 := k0_part3 (F := F) i A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 A.a15 A.w15 A.a16 A.w16 A.a17 A.w17 A.a18 A.w18 A.a19 A.w19 A.a20 A.w20
abbrev part4 := k0_part4 (F := F) i A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 A.a15 A.w15 A.a16 A.w16 A.a17 A.w17 A.a18 A.w18 A.a19 A.w19 A.a20 A.w20
abbrev part5 := k0_part5 (F := F) i A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 A.a15 A.w15 A.a16 A.w16 A.a17 A.w17 A.a18 A.w18 A.a19 A.w19 A.a20 A.w20
abbrev whole := cc0_fox_bwd (F := F) i A.a2 A.w2 A.a3 A.w3 A.a4 A.w4 A.a5 A.w5 A.a6 A.w6 A.a7 A.w7 A.a8 A.w8 A.a9 A.w9 A.a10 A.w10 A.a11 A.w11 A.a12 A.w12 A.a13 A.w13 A.a14 A.w14 A.a15 A.w15 A.a16 A.w16 A.a17 A.w17 A.a18 A.w18 A.a19 A.w19 A.a20 A.w20

/-- The five accumulators' buffers at a state. -/
def accs (s : St F) : sProp 𝕄 :=
  iprop(owns (c : Thread nD τ) A.a14 fullShare s.dFq ∗ owns (c : Thread nD τ) A.a15 fullShare s.dq ∗ owns (c : Thread nD τ) A.a18 fullShare s.dk
    ∗ owns (c : Thread nD τ) A.a19 fullShare s.dv ∗ owns (c : Thread nD τ) A.a20 fullShare s.cs)

/-- The four buffers a query block is read from. -/
def tabs (x : Ins F) : sProp 𝕄 :=
  iprop(owns (c : Thread nD τ) A.a2 fullShare x.q ∗ owns (c : Thread nD τ) A.a5 fullShare x.ct ∗ owns (c : Thread nD τ) A.a16 fullShare x.qs
    ∗ owns (c : Thread nD τ) A.a17 fullShare x.de)

theorem rd_rows {e : EltTy} (m : Memref sig .tc .vmem S4096x128 e) (X : Vec F S4096x128 e) (r : Fin 4) {off : Fin 2 → ℕ}
    (inb : ∀ a : Fin S4096x128.rank, off a + S1024x128.size a ≤ S4096x128.size a) (h : off = ![1024 * r.val, 0]) :
    m.view.readAt (Elt F) (Rect.unit (s := S4096x128) off S1024x128.size inb).toLoadRect (m.view.rep X) = rows X r :=
  View.readAt_rep_unit m.view X inb h (inRows r)

theorem rd_side {e : EltTy} (m : Memref sig .tc .vmem S4x1x1024 e) (X : Vec F S4x1x1024 e) (r : Fin 4) {off : Fin 3 → ℕ}
    (inb : ∀ a : Fin S4x1x1024.rank, off a + S1x1x1024.size a ≤ S4x1x1024.size a) (h : off = ![r.val, 0, 0]) :
    m.view.readAt (Elt F) (Rect.unit (s := S4x1x1024) off S1x1x1024.size inb).toLoadRect (m.view.rep X) = side X r :=
  View.readAt_rep_unit m.view X inb h (inSide r)

theorem rd_line {e : EltTy} (m : Memref sig .tc .vmem S1x4x1x1024 e) (X : Vec F S1x4x1x1024 e) (r : Fin 4) {off : Fin 4 → ℕ}
    (inb : ∀ a : Fin S1x4x1x1024.rank, off a + S1x1x1x1024.size a ≤ S1x4x1x1024.size a) (h : off = ![0, r.val, 0, 0]) :
    m.view.readAt (Elt F) (Rect.unit (s := S1x4x1x1024) off S1x1x1x1024.size inb).toLoadRect (m.view.rep X) = line X r :=
  View.readAt_rep_unit m.view X inb h (inLine r)

theorem trip2 (x : Ins F) (s : St F) (k : Fin (k0_t2_loop i).trips) (a v104 : BitVec 32) (r : Fin 4) (hr : r.val = (i 1).val + 1 + k.val) :
    iprop(tabs c A x ∗ accs c A s) ⊢
      wp frame (wpE (defs₀ (F := F)) 𝒱 (c : Thread nD τ) bd) E (body2 i A x.k x.v x.fk v104 k a)
        (fun _ => iprop(tabs c A x ∗ accs c A (x.step r s))) := by
  have h7 : k0_off7 i k = ![1024 * r.val, 0] := hr ▸ off7 i k
  have h8 : k0_off8 i k = ![r.val, 0, 0] := hr ▸ off8 i k
  have h9 : k0_off9 i k = ![0, r.val, 0, 0] := hr ▸ off9 i k
  have e2 := rd_rows A.a2 x.q r (k0_off7_inb i k) h7
  have e5 := rd_rows A.a5 x.ct r (k0_off7_inb i k) h7
  have e15 := rd_rows A.a15 s.dq r (k0_off7_inb i k) h7
  have e16 := rd_side A.a16 x.qs r (k0_off8_inb i k) h8
  have e17 := rd_side A.a17 x.de r (k0_off8_inb i k) h8
  have e14 := rd_line A.a14 s.dFq r (k0_off9_inb i k) h9
  have e18 := View.readAt_rep_full A.a18.view s.dk inb_S1024x128_S1024x128_0_0
  have e19 := View.readAt_rep_full A.a19.view s.dv inb_S1024x128_S1024x128_0_0
  have e20 := View.readAt_rep_full A.a20.view s.cs inb_S1024x1_S1024x1_0_0
  unfold tabs accs body2 k0_t2_body
  rw [owns_eq_rep (c : Thread nD τ) A.a2 fullShare x.q, owns_eq_rep (c : Thread nD τ) A.a5 fullShare x.ct, owns_eq_rep (c : Thread nD τ) A.a16 fullShare x.qs,
    owns_eq_rep (c : Thread nD τ) A.a17 fullShare x.de, owns_eq_rep (c : Thread nD τ) A.a14 fullShare s.dFq, owns_eq_rep (c : Thread nD τ) A.a15 fullShare s.dq,
    owns_eq_rep (c : Thread nD τ) A.a18 fullShare s.dk, owns_eq_rep (c : Thread nD τ) A.a19 fullShare s.dv, owns_eq_rep (c : Thread nD τ) A.a20 fullShare s.cs]
  iintro ⟨⟨H2, H5, H16, H17⟩, H14, H15, H18, H19, H20⟩
  sl_exec
  sl_step
  isplitl [H2 H5 H16 H17]
  · isplitl [H2]; · iexact H2
    isplitl [H5]; · iexact H5
    isplitl [H16]; · iexact H16
    iexact H17
  unfold owns
  isplitl [H14]
  · iexists _; isplitr
    rotate_left
    · iexact H14
    · ipureintro
      exact (View.read_writes_rep_unit _ _ _ _ h9).trans rfl
  isplitl [H15]
  · iexists _; isplitr
    rotate_left
    · iexact H15
    · ipureintro
      exact (View.read_writes_rep_unit _ _ _ _ h7).trans rfl
  isplitl [H18]
  · iexists _; isplitr
    rotate_left
    · iexact H18
    · ipureintro
      exact (View.read_writes_full _ _ _ _ _).trans rfl
  isplitl [H19]
  · iexists _; isplitr
    rotate_left
    · iexact H19
    · ipureintro
      exact (View.read_writes_full _ _ _ _ _).trans rfl
  · iexists _; isplitr
    rotate_left
    · iexact H20
    · ipureintro
      exact (View.read_writes_full _ _ _ _ _).trans rfl

/-- The side tables' buffers and what they are filled from. -/
def fills (ct o : Vec F S4096x128 .bf16) (l f : Vec F S1x4x1x1024 .f32) (qs de : Vec F S4x1x1024 .f32) : sProp 𝕄 :=
  iprop(owns (c : Thread nD τ) A.a5 fullShare ct ∗ owns (c : Thread nD τ) A.a6 fullShare o ∗ owns (c : Thread nD τ) A.a7 fullShare l
    ∗ owns (c : Thread nD τ) A.a8 fullShare f ∗ owns (c : Thread nD τ) A.a16 fullShare qs ∗ owns (c : Thread nD τ) A.a17 fullShare de)

theorem trip1 (h : k0_cond1 i = 1#1) (ct o : Vec F S4096x128 .bf16) (l f : Vec F S1x4x1x1024 .f32) (qs de : Vec F S4x1x1024 .f32)
    (k : Fin k0_t1_loop.trips) (a : Unit) (r : Fin 4) (hr : r.val = k.val) :
    fills c A ct o l f qs de ⊢
      wp frame (wpE (defs₀ (F := F)) 𝒱 (c : Thread nD τ) bd) E (body1 (F := F) i A h k a)
        (fun _ => fills c A ct o l f (VecWindow.put qs ![r.val, 0, 0] S1x1x1024.size (k0_pay24 (line f r) (line l r)))
          (VecWindow.put de ![r.val, 0, 0] S1x1x1024.size (k0_pay23 (rows ct r) (rows o r)))) := by
  have h1 : k0_off1 k = ![1024 * r.val, 0] := hr ▸ off1 k
  have h2 : k0_off2 k = ![r.val, 0, 0] := hr ▸ off2 k
  have h3 : k0_off3 k = ![0, r.val, 0, 0] := hr ▸ off3 k
  have e5 := rd_rows A.a5 ct r (k0_off1_inb i k h) h1
  have e6 := rd_rows A.a6 o r (k0_off1_inb i k h) h1
  have e7 := rd_line A.a7 l r (k0_off3_inb i k h) h3
  have e8 := rd_line A.a8 f r (k0_off3_inb i k h) h3
  unfold fills body1 k0_t1_body
  rw [owns_eq_rep (c : Thread nD τ) A.a5 fullShare ct, owns_eq_rep (c : Thread nD τ) A.a6 fullShare o, owns_eq_rep (c : Thread nD τ) A.a7 fullShare l,
    owns_eq_rep (c : Thread nD τ) A.a8 fullShare f, owns_eq_rep (c : Thread nD τ) A.a16 fullShare qs, owns_eq_rep (c : Thread nD τ) A.a17 fullShare de]
  iintro ⟨H5, H6, H7, H8, H16, H17⟩
  sl_exec
  sl_step
  isplitl [H5]; · iexact H5
  isplitl [H6]; · iexact H6
  isplitl [H7]; · iexact H7
  isplitl [H8]; · iexact H8
  unfold owns
  isplitl [H16]
  · iexists _; isplitr
    rotate_left
    · iexact H16
    · ipureintro
      exact (View.read_writes_rep_unit _ _ _ _ h2).trans rfl
  · iexists _; isplitr
    rotate_left
    · iexact H17
    · ipureintro
      exact (View.read_writes_rep_unit _ _ _ _ h2).trans rfl

theorem loop1 (h : k0_cond1 i = 1#1) (ct o : Vec F S4096x128 .bf16) (l f : Vec F S1x4x1x1024 .f32) (qs de : Vec F S4x1x1024 .f32) :
    fills c A ct o l f qs de ⊢
      wp frame (wpE (defs₀ (F := F)) 𝒱 (c : Thread nD τ) bd) E (Scf.Loop.for k0_t1_loop (k0_t1_ok i h) ⟨⟩ (body1 (F := F) i A h))
        (fun _ => fills c A ct o l f (fillQs l f qs 4) (fillDe ct o de 4)) := by
  iintro H
  iapply (Scf.wp_for frame (wpE (defs₀ (F := F)) 𝒱 (c : Thread nD τ) bd) E k0_t1_loop.lb k0_t1_loop.ub k0_t1_loop.st (k0_t1_ok i h) ⟨⟩ (body1 (F := F) i A h)
    (fun k _ => fills c A ct o l f (fillQs l f qs k) (fillDe ct o de k)) (fun k a => by
      have hk : k.val < 4 := lt_of_lt_of_eq k.isLt trips1
      have := trip1 𝒱 c bd E i A h ct o l f (fillQs l f qs k.val) (fillDe ct o de k.val) k a ⟨k.val, hk⟩ rfl
      simpa only [fillQs, fillDe, dif_pos hk] using this))
  isplitl [H]
  · iexact H
  · iintro %a H
    rw [show Scf.trips k0_t1_loop.lb k0_t1_loop.ub k0_t1_loop.st = 4 from trips1]
    iexact H

theorem loop2 (x : Ins F) (s : St F) (v104 init : BitVec 32) :
    iprop(tabs c A x ∗ accs c A s) ⊢
      wp frame (wpE (defs₀ (F := F)) 𝒱 (c : Thread nD τ) bd) E (Scf.Loop.for (k0_t2_loop i) (k0_t2_ok i) init (body2 i A x.k x.v x.fk v104))
        (fun _ => iprop(tabs c A x ∗ accs c A (x.rest (i 1).val (3 - (i 1).val) s))) := by
  iintro H
  iapply (Scf.wp_for frame (wpE (defs₀ (F := F)) 𝒱 (c : Thread nD τ) bd) E (k0_t2_loop i).lb (k0_t2_loop i).ub (k0_t2_loop i).st (k0_t2_ok i) init
    (body2 i A x.k x.v x.fk v104) (fun k _ => iprop(tabs c A x ∗ accs c A (x.rest (i 1).val k s))) (fun k a => by
      have hk : k.val < 3 - (i 1).val := lt_of_lt_of_eq k.isLt (trips2 i)
      have hk' : (i 1).val + 1 + k.val < 4 := by omega
      have := trip2 𝒱 c bd E i A x (x.rest (i 1).val k.val s) k a v104 ⟨(i 1).val + 1 + k.val, hk'⟩ rfl
      simpa only [Ins.rest, dif_pos hk'] using this))
  isplitl [H]
  · iexact H
  · iintro %a H
    rw [show Scf.trips (k0_t2_loop i).lb (k0_t2_loop i).ub (k0_t2_loop i).st = 3 - (i 1).val from trips2 i]
    iexact H

/-- The second counted loop makes no trip. -/
theorem loop3 (P : sProp 𝕄) (init : BitVec 32) (body : Fin (k0_t3_loop i).trips → BitVec 32 → Prog (TpuEff nD τ sig (Elt F) Λ₀ .tc) (BitVec 32)) :
    P ⊢ wp frame (wpE (defs₀ (F := F)) 𝒱 (c : Thread nD τ) bd) E (Scf.Loop.for (k0_t3_loop i) (k0_t3_ok i) init body) (fun _ => P) := by
  iintro H
  iapply (Scf.wp_for frame (wpE (defs₀ (F := F)) 𝒱 (c : Thread nD τ) bd) E (k0_t3_loop i).lb (k0_t3_loop i).ub (k0_t3_loop i).st (k0_t3_ok i) init body
    (fun _ _ => P) (fun k a => absurd (lt_of_lt_of_eq k.isLt (trips3 i)) (Nat.not_lt_zero _)))
  isplitl [H]
  · iexact H
  · iintro %a H
    iexact H

/-- The block's buffers. -/
def blks (k v : Vec F S1024x128 .bf16) (fc : Vec F S1024x128 .f32) : sProp 𝕄 :=
  iprop(owns (c : Thread nD τ) A.a3 fullShare k ∗ owns (c : Thread nD τ) A.a4 fullShare v ∗ owns (c : Thread nD τ) A.a9 fullShare fc)

theorem run3 (k v : Vec F S1024x128 .bf16) (fc : Vec F S1024x128 .f32) (ct o : Vec F S4096x128 .bf16) (l f : Vec F S1x4x1x1024 .f32)
    (qs de : Vec F S4x1x1024 .f32) (s : St F) :
    iprop(blks c A k v fc ∗ fills c A ct o l f qs de ∗ accs c A s) ⊢
      wp frame (wpE (defs₀ (F := F)) 𝒱 (c : Thread nD τ) bd) E (part3 (F := F) i A)
        (fun r => iprop(⌜r = ⟨jw i, k, v, k0_pay25 i fc, iw i, Scalar.muli (iw i) 1024#32⟩⌝ ∗ blks c A k v fc
          ∗ fills c A ct o l f (begQs i l f qs) (begDe i ct o de) ∗ accs c A (St.start (begFq i s.dFq) (begDq i s.dq)))) := by
  have e3 := View.readAt_rep_full A.a3.view k inb_S1024x128_S1024x128_0_0
  have e4 := View.readAt_rep_full A.a4.view v inb_S1024x128_S1024x128_0_0
  have e9 := View.readAt_rep_full A.a9.view fc inb_S1024x128_S1024x128_0_0
  by_cases h : (i 1).val = 0
  · have hc : k0_cond1 i = 1#1 := (cond1 i).mpr h
    unfold part3
    rw [k0_part3_eq_skeleton]
    unfold k0_part3_skel blks accs
    rw [owns_eq_rep (c : Thread nD τ) A.a3 fullShare k, owns_eq_rep (c : Thread nD τ) A.a4 fullShare v, owns_eq_rep (c : Thread nD τ) A.a9 fullShare fc,
      owns_eq_rep (c : Thread nD τ) A.a14 fullShare s.dFq, owns_eq_rep (c : Thread nD τ) A.a15 fullShare s.dq,
      owns_eq_rep (c : Thread nD τ) A.a18 fullShare s.dk, owns_eq_rep (c : Thread nD τ) A.a19 fullShare s.dv, owns_eq_rep (c : Thread nD τ) A.a20 fullShare s.cs]
    simp only [begQs, begDe, begFq, begDq, if_pos h]
    iintro ⟨⟨H3, H4, H9⟩, HF, H14, H15, H18, H19, H20⟩
    sl_exec
    rw [wp_bind]
    iapply (wp_wand_r frame (wpE (defs₀ (F := F)) 𝒱 (c : Thread nD τ) bd) E)
    isplitl [HF]
    · iapply (loop1 𝒱 c bd E i A hc ct o l f qs de); iexact HF
    iintro %u HF
    sl_exec
    sl_step
    isplitr; · ipureintro; rfl
    isplitl [H3 H4 H9]
    · isplitl [H3]; · iexact H3
      isplitl [H4]; · iexact H4
      iexact H9
    isplitl [HF]; · iexact HF
    unfold owns
    isplitl [H14]
    · iexists _; isplitr
      rotate_left
      · iexact H14
      · ipureintro
        exact View.read_writes_full (Val := Elt F) A.a14.view A.a14.view.junk inb_S1x4x1x1024_S1x4x1x1024_0_0_0_0 (k0_pay22 (F := F)) []
    isplitl [H15]
    · iexists _; isplitr
      rotate_left
      · iexact H15
      · ipureintro
        exact View.read_writes_full (Val := Elt F) A.a15.view A.a15.view.junk inb_S4096x128_S4096x128_0_0 (k0_pay21 (F := F)) []
    isplitl [H18]
    · iexists _; isplitr
      rotate_left
      · iexact H18
      · ipureintro
        exact View.read_writes_full _ _ _ _ _
    isplitl [H19]
    · iexists _; isplitr
      rotate_left
      · iexact H19
      · ipureintro
        exact View.read_writes_full _ _ _ _ _
    · iexists _; isplitr
      rotate_left
      · iexact H20
      · ipureintro
        exact View.read_writes_full _ _ _ _ _
  · have hc : ¬ k0_cond1 i = 1#1 := fun e => h ((cond1 i).mp e)
    unfold part3
    rw [k0_part3_eq_skeleton]
    unfold k0_part3_skel blks accs
    rw [owns_eq_rep (c : Thread nD τ) A.a3 fullShare k, owns_eq_rep (c : Thread nD τ) A.a4 fullShare v, owns_eq_rep (c : Thread nD τ) A.a9 fullShare fc,
      owns_eq_rep (c : Thread nD τ) A.a14 fullShare s.dFq, owns_eq_rep (c : Thread nD τ) A.a15 fullShare s.dq,
      owns_eq_rep (c : Thread nD τ) A.a18 fullShare s.dk, owns_eq_rep (c : Thread nD τ) A.a19 fullShare s.dv, owns_eq_rep (c : Thread nD τ) A.a20 fullShare s.cs]
    simp only [begQs, begDe, begFq, begDq, if_neg h]
    iintro ⟨⟨H3, H4, H9⟩, HF, H14, H15, H18, H19, H20⟩
    sl_exec
    sl_step
    isplitr; · ipureintro; rfl
    isplitl [H3 H4 H9]
    · isplitl [H3]; · iexact H3
      isplitl [H4]; · iexact H4
      iexact H9
    isplitl [HF]; · iexact HF
    unfold owns
    isplitl [H14]
    · iexists _; isplitr
      rotate_left
      · iexact H14
      · ipureintro
        exact View.read_rep _ _
    isplitl [H15]
    · iexists _; isplitr
      rotate_left
      · iexact H15
      · ipureintro
        exact View.read_rep _ _
    isplitl [H18]
    · iexists _; isplitr
      rotate_left
      · iexact H18
      · ipureintro
        exact View.read_writes_full _ _ _ _ _
    isplitl [H19]
    · iexists _; isplitr
      rotate_left
      · iexact H19
      · ipureintro
        exact View.read_writes_full _ _ _ _ _
    · iexists _; isplitr
      rotate_left
      · iexact H20
      · ipureintro
        exact View.read_writes_full _ _ _ _ _

/-- The masked block's weights and weighted differences. -/
abbrev Ins.p (x : Ins F) (i : grid0.Coords) (r : Fin 4) : FVec F S1024x1024 .f32 := k0_pay29 (jw i) x.k x.fk (iw i) (rows x.q r) (side x.qs r)
abbrev Ins.ds (x : Ins F) (i : grid0.Coords) (r : Fin 4) : FVec F S1024x1024 .f32 :=
  k0_pay31 (jw i) x.k x.v x.fk (iw i) (rows x.q r) (rows x.ct r) (side x.qs r) (side x.de r)

theorem run4 (x : Ins F) (X : Vec F S1024x128 .f32) (v30 : BitVec 32) (r : Fin 4) (hr : r.val = (i 1).val) :
    iprop(tabs c A x ∗ owns (c : Thread nD τ) A.a19 fullShare X) ⊢
      wp frame (wpE (defs₀ (F := F)) 𝒱 (c : Thread nD τ) bd) E (part4 (F := F) i A (jw i) x.k x.v x.fk (iw i) v30)
        (fun y => iprop(⌜y = ⟨rows x.q r, x.ds i r, truncf .bf16 (x.ds i r) bitsLt_bf16_f32⟩⌝ ∗ tabs c A x ∗ owns (c : Thread nD τ) A.a19 fullShare
          (shapeCast S1024x128 (addf X (matmul dot_S1024x1024_S1024x128_S1024x128_1_0_0_1_n_n none (truncf .bf16 (x.p i r) bitsLt_bf16_f32) (rows x.ct r)
    (constant S1024x128 .f32 0x00000000#32))) shapeCasts_S1024x128_S1024x128))) := by
  have h4 : k0_off4 i = ![1024 * r.val, 0] := hr ▸ off4 i
  have h5 : k0_off5 i = ![r.val, 0, 0] := hr ▸ off5 i
  have e2 := rd_rows A.a2 x.q r (k0_off4_inb i) h4
  have e5 := rd_rows A.a5 x.ct r (k0_off4_inb i) h4
  have e16 := rd_side A.a16 x.qs r (k0_off5_inb i) h5
  have e17 := rd_side A.a17 x.de r (k0_off5_inb i) h5
  have e19 := View.readAt_rep_full A.a19.view X inb_S1024x128_S1024x128_0_0
  unfold part4
  rw [k0_part4_eq_skeleton]
  unfold tabs k0_part4_skel
  rw [owns_eq_rep (c : Thread nD τ) A.a2 fullShare x.q, owns_eq_rep (c : Thread nD τ) A.a5 fullShare x.ct, owns_eq_rep (c : Thread nD τ) A.a16 fullShare x.qs,
    owns_eq_rep (c : Thread nD τ) A.a17 fullShare x.de, owns_eq_rep (c : Thread nD τ) A.a19 fullShare X]
  iintro ⟨⟨H2, H5, H16, H17⟩, H19⟩
  sl_exec
  sl_step
  isplitr; · ipureintro; rfl
  isplitl [H2 H5 H16 H17]
  · isplitl [H2]; · iexact H2
    isplitl [H5]; · iexact H5
    isplitl [H16]; · iexact H16
    iexact H17
  unfold owns
  iexists _; isplitr
  rotate_left
  · iexact H19
  · ipureintro
    exact (View.read_writes_full _ _ _ _ _).trans rfl

theorem run5 (k q : Vec F S1024x128 .bf16) (ds : FVec F S1024x1024 .f32) (dFq : Vec F S1x4x1x1024 .f32) (dq : Vec F S4096x128 .f32) (dk : Vec F S1024x128 .f32)
    (cs : Vec F S1024x1 .f32) (v30 : BitVec 32) (r : Fin 4) (hr : r.val = (i 1).val) :
    (iprop(owns (c : Thread nD τ) A.a14 fullShare dFq ∗ owns (c : Thread nD τ) A.a15 fullShare dq ∗ owns (c : Thread nD τ) A.a18 fullShare dk
      ∗ owns (c : Thread nD τ) A.a20 fullShare cs) : sProp 𝕄) ⊢
      wp frame (wpE (defs₀ (F := F)) 𝒱 (c : Thread nD τ) bd) E (part5 (F := F) i A (jw i) k (iw i) v30 q ds (truncf .bf16 ds bitsLt_bf16_f32))
        (fun y => iprop(⌜y = ⟨Scalar.addi (Scalar.muli 1#32 (jw i)) 1#32, 4#32, 0#32⟩⌝
          ∗ owns (c : Thread nD τ) A.a14 fullShare (VecWindow.put dFq ![0, r.val, 0, 0] S1x1x1x1024.size (k0_pay3 ds (line dFq r)))
          ∗ owns (c : Thread nD τ) A.a15 fullShare
            (VecWindow.put dq ![1024 * r.val, 0] S1024x128.size (k0_pay1 k (truncf .bf16 ds bitsLt_bf16_f32) (rows dq r)))
          ∗ owns (c : Thread nD τ) A.a18 fullShare (k0_pay33 q (truncf .bf16 ds bitsLt_bf16_f32) dk)
          ∗ owns (c : Thread nD τ) A.a20 fullShare (k0_pay2 ds cs))) := by
  have h4 : k0_off4 i = ![1024 * r.val, 0] := hr ▸ off4 i
  have h6 : k0_off6 i = ![0, r.val, 0, 0] := hr ▸ off6 i
  have e15 := rd_rows A.a15 dq r (k0_off4_inb i) h4
  have e14 := rd_line A.a14 dFq r (k0_off6_inb i) h6
  have e18 := View.readAt_rep_full A.a18.view dk inb_S1024x128_S1024x128_0_0
  have e20 := View.readAt_rep_full A.a20.view cs inb_S1024x1_S1024x1_0_0
  unfold part5
  rw [k0_part5_eq_skeleton]
  unfold k0_part5_skel
  rw [owns_eq_rep (c : Thread nD τ) A.a14 fullShare dFq, owns_eq_rep (c : Thread nD τ) A.a15 fullShare dq, owns_eq_rep (c : Thread nD τ) A.a18 fullShare dk,
    owns_eq_rep (c : Thread nD τ) A.a20 fullShare cs]
  iintro ⟨H14, H15, H18, H20⟩
  sl_exec
  sl_step
  isplitr; · ipureintro; rfl
  unfold owns
  isplitl [H14]
  · iexists _; isplitr
    rotate_left
    · iexact H14
    · ipureintro
      exact (View.read_writes_rep_unit _ _ _ _ h6).trans rfl
  isplitl [H15]
  · iexists _; isplitr
    rotate_left
    · iexact H15
    · ipureintro
      exact (View.read_writes_rep_unit _ _ _ _ h4).trans rfl
  isplitl [H18]
  · iexists _; isplitr
    rotate_left
    · iexact H18
    · ipureintro
      exact (View.read_writes_full _ _ _ _ _).trans rfl
  · iexists _; isplitr
    rotate_left
    · iexact H20
    · ipureintro
      exact (View.read_writes_full _ _ _ _ _).trans rfl

end Cert.KernelIdeal.Fox

end
-- ==== Proof.Fox.Whole.lean ====
/- One grid point's whole program over plain arrays. -/
module

public import proofs.«01_k».proof.Proof.Fox.Body

@[expose] public section

set_option maxRecDepth 16384
set_option maxHeartbeats 400000

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (𝒱 : Variants) (c : Dev nD) (bd : Option 𝒱.V) (E : Set ℕ) (i : grid0.Coords) (A : Args)

theorem run (q : Vec F S4096x128 .bf16) (k v : Vec F S1024x128 .bf16) (fc : Vec F S1024x128 .f32) (ct o : Vec F S4096x128 .bf16)
    (l f : Vec F S1x4x1x1024 .f32) (qs de : Vec F S4x1x1024 .f32) (s : St F) (D : Vec F S4096x128 .bf16) (D1 D2 : Vec F S1024x128 .bf16)
    (D3 : Vec F S1x1x1x1024 .f32) :
    iprop(owns (c : Thread nD τ) A.a2 fullShare q ∗ blks c A k v fc ∗ fills c A ct o l f qs de ∗ accs c A s ∗ owns (c : Thread nD τ) A.a10 fullShare D
      ∗ owns (c : Thread nD τ) A.a11 fullShare D1 ∗ owns (c : Thread nD τ) A.a12 fullShare D2 ∗ owns (c : Thread nD τ) A.a13 fullShare D3) ⊢
      wp frame (wpE (defs₀ (F := F)) 𝒱 (c : Thread nD τ) bd) E (whole (F := F) i A)
        (fun _ => iprop(owns (c : Thread nD τ) A.a2 fullShare q ∗ blks c A k v fc ∗ fills c A ct o l f (begQs i l f qs) (begDe i ct o de)
          ∗ accs c A ((ins i q k v fc ct o l f qs de).leave i s.dFq s.dq)
          ∗ owns (c : Thread nD τ) A.a10 fullShare (outQ i ((ins i q k v fc ct o l f qs de).leave i s.dFq s.dq).dq D)
          ∗ owns (c : Thread nD τ) A.a11 fullShare (k0_pay7 ((ins i q k v fc ct o l f qs de).leave i s.dFq s.dq).dk)
          ∗ owns (c : Thread nD τ) A.a12 fullShare (k0_pay8 ((ins i q k v fc ct o l f qs de).leave i s.dFq s.dq).dv)
          ∗ owns (c : Thread nD τ) A.a13 fullShare (k0_pay9 ((ins i q k v fc ct o l f qs de).leave i s.dFq s.dq).cs))) := by
  unfold whole
  rw [cc0_fox_bwd_eq_skeleton]
  unfold cc0_fox_bwd_skel
  iintro ⟨H2, HB, HF, HA, H10, H11, H12, H13⟩
  rw [wp_bind]
  iapply (wp_wand_r frame (wpE (defs₀ (F := F)) 𝒱 (c : Thread nD τ) bd) E)
  isplitl [HB HF HA]
  · iapply (run3 𝒱 c bd E i A k v fc ct o l f qs de s)
    isplitl [HB]; · iexact HB
    isplitl [HF]; · iexact HF
    iexact HA
  iintro %r3 ⟨%h3, HB, HF, HA⟩
  subst h3
  dsimp only
  rw [wp_bind]
  iapply (wp_wand_r frame (wpE (defs₀ (F := F)) 𝒱 (c : Thread nD τ) bd) E)
  unfold fills accs
  icases HF with ⟨H5, H6, H7, H8, H16, H17⟩
  icases HA with ⟨H14, H15, H18, H19, H20⟩
  isplitl [H2 H5 H16 H17 H19]
  · iapply (run4 𝒱 c bd E i A (ins i q k v fc ct o l f qs de) (St.start (begFq i s.dFq) (begDq i s.dq)).dv (Scalar.muli (iw i) 1024#32) (i 1) rfl)
    unfold tabs
    isplitl [H2 H5 H16 H17]
    · isplitl [H2]; · iexact H2
      isplitl [H5]; · iexact H5
      isplitl [H16]; · iexact H16
      iexact H17
    iexact H19
  iintro %r4 ⟨%h4, HT, H19⟩
  subst h4
  dsimp only
  rw [wp_bind]
  iapply (wp_wand_r frame (wpE (defs₀ (F := F)) 𝒱 (c : Thread nD τ) bd) E)
  isplitl [H14 H15 H18 H20]
  · iapply (run5 𝒱 c bd E i A k (rows q (i 1)) ((ins i q k v fc ct o l f qs de).ds i (i 1)) (begFq i s.dFq) (begDq i s.dq)
      (k0_pay26 (F := F)) (k0_pay28 (F := F)) (Scalar.muli (iw i) 1024#32) (i 1) rfl)
    isplitl [H14]; · iexact H14
    isplitl [H15]; · iexact H15
    isplitl [H18]; · iexact H18
    iexact H20
  iintro %r5 ⟨%h5, H14, H15, H18, H20⟩
  subst h5
  dsimp only
  rw [wp_bind]
  iapply (wp_wand_r frame (wpE (defs₀ (F := F)) 𝒱 (c : Thread nD τ) bd) E)
  isplitl [HT H14 H15 H18 H19 H20]
  · iapply (loop2 𝒱 c bd E i A (ins i q k v fc ct o l f qs de)
      ((ins i q k v fc ct o l f qs de).diag i (i 1) (St.start (begFq i s.dFq) (begDq i s.dq))) _ _)
    isplitl [HT]; · iexact HT
    unfold accs
    isplitl [H14]; · iexact H14
    isplitl [H15]; · iexact H15
    isplitl [H18]; · iexact H18
    isplitl [H19]; · iexact H19
    iexact H20
  iintro %r6 ⟨HT, HA⟩
  rw [wp_bind]
  iapply (wp_wand_r frame (wpE (defs₀ (F := F)) 𝒱 (c : Thread nD τ) bd) E)
  isplitl [HA]
  · iapply (loop3 𝒱 c bd E i (accs c A ((ins i q k v fc ct o l f qs de).leave i s.dFq s.dq)) _ _)
    iexact HA
  iintro %r7 HA
  generalize (ins i q k v fc ct o l f qs de).leave i s.dFq s.dq = s'
  unfold accs tabs
  icases HA with ⟨H14, H15, H18, H19, H20⟩
  icases HT with ⟨H2, H5, H16, H17⟩
  have e15 := View.readAt_rep_full A.a15.view s'.dq inb_S4096x128_S4096x128_0_0
  have e18 := View.readAt_rep_full A.a18.view s'.dk inb_S1024x128_S1024x128_0_0
  have e19 := View.readAt_rep_full A.a19.view s'.dv inb_S1024x128_S1024x128_0_0
  have e20 := View.readAt_rep_full A.a20.view s'.cs inb_S1024x1_S1024x1_0_0
  ihave H15 := (rep_of_owns (c : Thread nD τ) A.a15 fullShare s'.dq) $$ H15
  ihave H18 := (rep_of_owns (c : Thread nD τ) A.a18 fullShare s'.dk) $$ H18
  ihave H19 := (rep_of_owns (c : Thread nD τ) A.a19 fullShare s'.dv) $$ H19
  ihave H20 := (rep_of_owns (c : Thread nD τ) A.a20 fullShare s'.cs) $$ H20
  ihave H10 := (rep_of_owns (c : Thread nD τ) A.a10 fullShare D) $$ H10
  ihave H11 := (rep_of_owns (c : Thread nD τ) A.a11 fullShare D1) $$ H11
  ihave H12 := (rep_of_owns (c : Thread nD τ) A.a12 fullShare D2) $$ H12
  ihave H13 := (rep_of_owns (c : Thread nD τ) A.a13 fullShare D3) $$ H13
  by_cases h : (i 1).val = 3
  · have hc : k0_cond2 i = 1#1 := (cond2 i).mpr h
    have hq : outQ i s'.dq D = k0_pay10 s'.dq := if_pos h
    sl_exec
    sl_step
    isplitl [H2]; · iexact H2
    isplitl [HB]; · iexact HB
    isplitl [H5 H6 H7 H8 H16 H17]
    · isplitl [H5]; · iexact H5
      isplitl [H6]; · iexact H6
      isplitl [H7]; · iexact H7
      isplitl [H8]; · iexact H8
      isplitl [H16]; · iexact H16
      iexact H17
    isplitl [H14 H15 H18 H19 H20]
    · isplitl [H14]; · iexact H14
      isplitl [H15]; · iapply (owns_of_rep (c : Thread nD τ) A.a15 fullShare s'.dq); iexact H15
      isplitl [H18]; · iapply (owns_of_rep (c : Thread nD τ) A.a18 fullShare s'.dk); iexact H18
      isplitl [H19]; · iapply (owns_of_rep (c : Thread nD τ) A.a19 fullShare s'.dv); iexact H19
      iapply (owns_of_rep (c : Thread nD τ) A.a20 fullShare s'.cs); iexact H20
    unfold owns
    isplitl [H10]
    · iexists _; isplitr
      rotate_left
      · iexact H10
      · ipureintro
        exact (View.read_writes_full _ _ _ _ _).trans hq.symm
    isplitl [H11]
    · iexists _; isplitr
      rotate_left
      · iexact H11
      · ipureintro
        exact View.read_writes_full _ _ _ _ _
    isplitl [H12]
    · iexists _; isplitr
      rotate_left
      · iexact H12
      · ipureintro
        exact View.read_writes_full _ _ _ _ _
    · iexists _; isplitr
      rotate_left
      · iexact H13
      · ipureintro
        exact View.read_writes_full _ _ _ _ _
  · have hc : ¬ k0_cond2 i = 1#1 := fun e => h ((cond2 i).mp e)
    have hq : outQ i s'.dq D = D := if_neg h
    sl_exec
    sl_step
    isplitl [H2]; · iexact H2
    isplitl [HB]; · iexact HB
    isplitl [H5 H6 H7 H8 H16 H17]
    · isplitl [H5]; · iexact H5
      isplitl [H6]; · iexact H6
      isplitl [H7]; · iexact H7
      isplitl [H8]; · iexact H8
      isplitl [H16]; · iexact H16
      iexact H17
    isplitl [H14 H15 H18 H19 H20]
    · isplitl [H14]; · iexact H14
      isplitl [H15]; · iapply (owns_of_rep (c : Thread nD τ) A.a15 fullShare s'.dq); iexact H15
      isplitl [H18]; · iapply (owns_of_rep (c : Thread nD τ) A.a18 fullShare s'.dk); iexact H18
      isplitl [H19]; · iapply (owns_of_rep (c : Thread nD τ) A.a19 fullShare s'.dv); iexact H19
      iapply (owns_of_rep (c : Thread nD τ) A.a20 fullShare s'.cs); iexact H20
    isplitl [H10]; · rw [hq, owns_eq_rep (c : Thread nD τ) A.a10 fullShare D]; iexact H10
    unfold owns
    isplitl [H11]
    · iexists _; isplitr
      rotate_left
      · iexact H11
      · ipureintro
        exact View.read_writes_full _ _ _ _ _
    isplitl [H12]
    · iexists _; isplitr
      rotate_left
      · iexact H12
      · ipureintro
        exact View.read_writes_full _ _ _ _ _
    · iexists _; isplitr
      rotate_left
      · iexact H13
      · ipureintro
        exact View.read_writes_full _ _ _ _ _

end Cert.KernelIdeal.Fox

end
-- ==== Proof.Fox.Carry.lean ====
/- What one grid point hands to the next, over plain arrays: a head's two running accumulators and its two side tables. -/
module

public import proofs.«01_k».proof.Proof.Fox.Model

@[expose] public section

set_option maxRecDepth 16384
set_option maxHeartbeats 400000

noncomputable section

namespace Cert.KernelIdeal.Fox

open Idealize.ShloMosaic Idealize.ShloMosaic.TcCoe
open Cert.KernelIdeal Cert.KernelIdeal.Gen

variable {F : FTy → Type} [FloatOps F] [Named F]

/-- An index of row `n` of a side table lies in the window of that row. -/
theorem inside_side {n : ℕ} {y : S4x1x1024.Idx} (h : (y 0).val = n) :
    ∀ a : Fin S4x1x1024.rank, (![n, 0, 0] : Fin 3 → ℕ) a ≤ (y a).val ∧ (y a).val < (![n, 0, 0] : Fin 3 → ℕ) a + S1x1x1024.size a := by
  intro a
  match a with
  | ⟨0, _⟩ => exact ⟨Nat.le_of_eq h.symm, by show (y 0).val < n + 1; omega⟩
  | ⟨1, _⟩ => exact ⟨Nat.zero_le _, by have := (y 1).isLt; show (y 1).val < 0 + 1; simpa using this⟩
  | ⟨2, _⟩ => exact ⟨Nat.zero_le _, by have := (y 2).isLt; show (y 2).val < 0 + 1024; simpa using this⟩

theorem fillQs_congr (l f : Vec F S1x4x1x1024 .f32) (qs qs' : Vec F S4x1x1024 .f32) (n : ℕ) (hn : n ≤ 4) (y : S4x1x1024.Idx) (hy : (y 0).val < n) :
    fillQs l f qs n y = fillQs l f qs' n y := by
  induction n with
  | zero => exact absurd hy (Nat.not_lt_zero _)
  | succ n ih =>
    have hn' : n < 4 := hn
    simp only [fillQs, dif_pos hn']
    unfold VecWindow.put
    split
    · rfl
    · next h =>
      refine ih (Nat.le_of_lt hn') ?_
      by_contra hc
      exact h (inside_side (by omega))

theorem fillDe_congr (ct o : Vec F S4096x128 .bf16) (de de' : Vec F S4x1x1024 .f32) (n : ℕ) (hn : n ≤ 4) (y : S4x1x1024.Idx) (hy : (y 0).val < n) :
    fillDe ct o de n y = fillDe ct o de' n y := by
  induction n with
  | zero => exact absurd hy (Nat.not_lt_zero _)
  | succ n ih =>
    have hn' : n < 4 := hn
    simp only [fillDe, dif_pos hn']
    unfold VecWindow.put
    split
    · rfl
    · next h =>
      refine ih (Nat.le_of_lt hn') ?_
      by_contra hc
      exact h (inside_side (by omega))

/-- What a point hands on: a head's running row sums and query gradient, and its two side tables. -/
@[ext] structure Car (F : FTy → Type) where
  dFq : Vec F S1x4x1x1024 .f32
  dq : Vec F S4096x128 .f32
  qs : Vec F S4x1x1024 .f32
  de : Vec F S4x1x1024 .f32

/-- The blocks a point is given. -/
structure Blk (F : FTy → Type) where
  q : Vec F S4096x128 .bf16
  k : Vec F S1024x128 .bf16
  v : Vec F S1024x128 .bf16
  ct : Vec F S4096x128 .bf16
  o : Vec F S4096x128 .bf16
  l : Vec F S1x4x1x1024 .f32
  f : Vec F S1x4x1x1024 .f32
  fc : Vec F S1024x128 .f32

/-- The accumulators point `i` leaves when it is handed `y`. -/
def Blk.leave (b : Blk F) (i : grid0.Coords) (y : Car F) : St F :=
  (ins i b.q b.k b.v b.fc b.ct b.o b.l b.f y.qs y.de).leave i y.dFq y.dq

/-- What it hands on. -/
def Blk.next (b : Blk F) (i : grid0.Coords) (y : Car F) : Car F :=
  ⟨(b.leave i y).dFq, (b.leave i y).dq, begQs i b.l b.f y.qs, begDe i b.ct b.o y.de⟩

/-- A head's first point forgets what it is handed. -/
theorem Blk.leave_first (b : Blk F) (i : grid0.Coords) (h : (i 1).val = 0) (y y' : Car F) : b.leave i y = b.leave i y' := by
  have e1 : begQs i b.l b.f y.qs = begQs i b.l b.f y'.qs := by
    unfold begQs; rw [if_pos h, if_pos h]; funext z; exact fillQs_congr _ _ _ _ 4 (Nat.le_refl _) z (z 0).isLt
  have e2 : begDe i b.ct b.o y.de = begDe i b.ct b.o y'.de := by
    unfold begDe; rw [if_pos h, if_pos h]; funext z; exact fillDe_congr _ _ _ _ 4 (Nat.le_refl _) z (z 0).isLt
  have e3 : begFq i y.dFq = begFq i y'.dFq := by unfold begFq; rw [if_pos h, if_pos h]
  have e4 : begDq i y.dq = begDq i y'.dq := by unfold begDq; rw [if_pos h, if_pos h]
  unfold Blk.leave Ins.leave ins
  rw [e1, e2, e3, e4]

theorem Blk.next_first (b : Blk F) (i : grid0.Coords) (h : (i 1).val = 0) (y y' : Car F) : b.next i y = b.next i y' := by
  have e1 : begQs i b.l b.f y.qs = begQs i b.l b.f y'.qs := by
    unfold begQs; rw [if_pos h, if_pos h]; funext z; exact fillQs_congr _ _ _ _ 4 (Nat.le_refl _) z (z 0).isLt
  have e2 : begDe i b.ct b.o y.de = begDe i b.ct b.o y'.de := by
    unfold begDe; rw [if_pos h, if_pos h]; funext z; exact fillDe_congr _ _ _ _ 4 (Nat.le_refl _) z (z 0).isLt
  unfold Blk.next
  rw [e1, e2, b.leave_first i h y y']

theorem coord1 : ∀ t : Fin grid0.N, ((grid0.coords t) 1).val = t.val % 4 := by decide +kernel

end Cert.KernelIdeal.Fox

end
-- ==== Proof.Fox.Track.lean ====
/- The pipeline's proof data for the gradient call: what every window holds after each grid point and what the scratch buffers carry
   from one point to the next; the body's obligation at a point; the run of the program. -/
module

public import proofs.«01_k».proof.Proof.Fox.Whole
public import proofs.«01_k».proof.Proof.Fox.Carry
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Tactic

@[expose] public section

set_option maxRecDepth 16384
set_option maxHeartbeats 400000

noncomputable section

namespace Cert.KernelIdeal.Fox

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks the pipeline gives point `t`. -/
def blk (c : Dev nD) (t : Fin cfg0.N) : Blk F :=
  ⟨iblk m c 0 t, iblk m c 1 t, iblk m c 2 t, iblk m c 3 t, iblk m c 4 t, iblk m c 5 t, iblk m c 6 t, iblk m c 7 t⟩

/-- What point `n` is handed by the one before (the first of a head uses nothing of it). -/
def carry (c : Dev nD) : ℕ → Car F
  | 0 => ⟨k0_pay22, k0_pay21, fun _ => FloatOps.ofBits .f32 0#32, fun _ => FloatOps.ofBits .f32 0#32⟩
  | n + 1 => if h : n < cfg0.N then (blk m c ⟨n, h⟩).next (grid0.coords ⟨n, h⟩) (carry c n) else carry c n

/-- The accumulators point `t` leaves. -/
def left (c : Dev nD) (t : Fin cfg0.N) : St F := (blk m c t).leave (grid0.coords t) (carry m c t.val)

theorem carry_succ (c : Dev nD) (t : Fin cfg0.N) : carry m c (t.val + 1) = (blk m c t).next (grid0.coords t) (carry m c t.val) := by
  show (if h : t.val < cfg0.N then _ else _) = _
  rw [dif_pos t.isLt]

/-- What a point hands on does not depend on what the first point of a head was handed. -/
theorem next_eq (c : Dev nD) (t : Fin cfg0.N) (y : Car F) (h : t.val % 4 ≠ 0 → y = carry m c t.val) :
    (blk m c t).leave (grid0.coords t) y = left m c t ∧ (blk m c t).next (grid0.coords t) y = carry m c (t.val + 1) := by
  rw [carry_succ]
  by_cases h0 : t.val % 4 = 0
  · have := (coord1 t).trans h0
    exact ⟨Blk.leave_first _ _ this _ _, Blk.next_first _ _ this _ _⟩
  · rw [h h0]; exact ⟨rfl, rfl⟩

/-- The scratch buffers before point `n`: inside a head the query gradient and the side tables are what the point before handed on. -/
def scr (c : Dev nD) (n : ℕ) : sProp 𝕄 :=
  iprop(∃ y : Car F, ⌜n % 4 ≠ 0 → y.dq = (carry m c n).dq ∧ y.qs = (carry m c n).qs ∧ y.de = (carry m c n).de⌝
    ∗ owns (c : Thread nD τ) (Memref.whole cc0_scratch0) fullShare y.dq
    ∗ owns (c : Thread nD τ) (Memref.whole cc0_scratch1) fullShare y.qs
    ∗ owns (c : Thread nD τ) (Memref.whole cc0_scratch2) fullShare y.de
    ∗ (∃ d : Vec F S1024x128 .f32, owns (c : Thread nD τ) (Memref.whole cc0_scratch3) fullShare d)
    ∗ (∃ d : Vec F S1024x128 .f32, owns (c : Thread nD τ) (Memref.whole cc0_scratch4) fullShare d)
    ∗ (∃ d : Vec F S1024x1 .f32, owns (c : Thread nD τ) (Memref.whole cc0_scratch5) fullShare d))

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => k0_pay10 (left m c t).dq
    | 9 => k0_pay7 (left m c t).dk
    | 10 => k0_pay8 (left m c t).dv
    | 11 => k0_pay9 (left m c t).cs
    | 12 => (left m c t).dFq
  Φ t := iprop(scr m c t.val ∗ ∃ r, prngReg c r)
  q w := Pipeline.shareOf spec0 w
  owed _ := 0

theorem A_eq (c : Dev nD) (w : Fin cfg0.W) : (dats m 0 c).A w = V m c (Pipeline.arrRef spec0 w) := by dsimp only [dats]

/-! ## What the staging buffers hold when the body starts -/

theorem before_12 (c : Dev nD) (t : Fin cfg0.N) (h : t.val % 4 ≠ 0) (d) : (dats m 0 c).before 12 t d = (carry m c t.val).dFq := by
  have h0 : t.val ≠ 0 := fun e => h (by omega)
  have hN : t.val - 1 < cfg0.N := Nat.lt_of_le_of_lt (Nat.sub_le _ _) t.isLt
  have hfl : (cfg0.win 12).flush ⟨t.val - 1, hN⟩ = false := by
    rw [Bool.eq_false_iff]; intro hf
    have := (flush0_12 ⟨t.val - 1, hN⟩).mp hf
    have e : (⟨t.val - 1, hN⟩ : Fin cfg0.N).val = t.val - 1 := rfl
    omega
  rw [(dats m 0 c).before_out_kept 12 rfl t h0 hfl (fun _ => rfl) (fun _ _ => rfl) d]
  have e := carry_succ m c ⟨t.val - 1, hN⟩
  have e' : (⟨t.val - 1, hN⟩ : Fin cfg0.N).val + 1 = t.val := by show t.val - 1 + 1 = t.val; omega
  rw [e'] at e
  rw [e]
  rfl

theorem after_0 (c : Dev nD) (t : Fin cfg0.N) : (dats m 0 c).after 0 t = iblk m c 0 t := by dsimp only [dats]
theorem before_0 (c : Dev nD) (t : Fin cfg0.N) (d) : (dats m 0 c).before 0 t d = (blk m c t).q :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = (blk m c t).k :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = (blk m c t).v :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = (blk m c t).ct :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = (blk m c t).o :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = (blk m c t).l :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = (blk m c t).f :=
  before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = (blk m c t).fc :=
  before0_7_of m (dats m 0 c) (A_eq m c 7) (after_7 m c) t d

/-- The body's memrefs at point `t`. -/
def args (t : Fin cfg0.N) : Args :=
  ⟨win0_0.stage (cfg0.slots t 0), hstage0_0 ((cfg0.slots t 0).cast nbuf0_0), win0_1.stage (cfg0.slots t 1), hstage0_1 ((cfg0.slots t 1).cast nbuf0_1),
   win0_2.stage (cfg0.slots t 2), hstage0_2 ((cfg0.slots t 2).cast nbuf0_2), win0_3.stage (cfg0.slots t 3), hstage0_3 ((cfg0.slots t 3).cast nbuf0_3),
   win0_4.stage (cfg0.slots t 4), hstage0_4 ((cfg0.slots t 4).cast nbuf0_4), win0_5.stage (cfg0.slots t 5), hstage0_5 ((cfg0.slots t 5).cast nbuf0_5),
   win0_6.stage (cfg0.slots t 6), hstage0_6 ((cfg0.slots t 6).cast nbuf0_6), win0_7.stage (cfg0.slots t 7), hstage0_7 ((cfg0.slots t 7).cast nbuf0_7),
   win0_8.stage (cfg0.slots t 8), hstage0_8 ((cfg0.slots t 8).cast nbuf0_8), win0_9.stage (cfg0.slots t 9), hstage0_9 ((cfg0.slots t 9).cast nbuf0_9),
   win0_10.stage (cfg0.slots t 10), hstage0_10 ((cfg0.slots t 10).cast nbuf0_10), win0_11.stage (cfg0.slots t 11), hstage0_11 ((cfg0.slots t 11).cast nbuf0_11),
   win0_12.stage (cfg0.slots t 12), hstage0_12 ((cfg0.slots t 12).cast nbuf0_12),
   Memref.whole cc0_scratch0, Memref.isWhole_whole _, Memref.whole cc0_scratch1, Memref.isWhole_whole _, Memref.whole cc0_scratch2, Memref.isWhole_whole _,
   Memref.whole cc0_scratch3, Memref.isWhole_whole _, Memref.whole cc0_scratch4, Memref.isWhole_whole _, Memref.whole cc0_scratch5, Memref.isWhole_whole _⟩

/-- The query gradient's staging buffer after the body: as found at all but a head's last point. -/
def post8 (c : Dev nD) (t : Fin cfg0.N) : sProp 𝕄 :=
  match cfg0.idle 8 (cfg0.grid.coords t) with
  | true =>
    match (cfg0.win 8).flush t with
    | false => iprop(∃ d, owns (c : Thread nD τ) (st0_8 t) fullShare ((dats m 0 c).before 8 t d))
    | true => owns (c : Thread nD τ) (st0_8 t) fullShare ((dats m 0 c).after 8 t)
  | false => owns (c : Thread nD τ) (st0_8 t) fullShare ((dats m 0 c).after 8 t)

theorem idle_8 (t : Fin cfg0.N) : cfg0.idle 8 (cfg0.grid.coords t) = !decide (t.val % 4 = 3) := by
  show (!decide (k0_cond2 (grid0.coords t) = 1#1)) = _
  rw [decide_eq_decide.mpr ((cond2 (grid0.coords t)).trans (by rw [coord1]))]

theorem to_post8 (c : Dev nD) (t : Fin cfg0.N) (d) :
    (owns (c : Thread nD τ) (st0_8 t) fullShare (outQ (grid0.coords t) (left m c t).dq ((dats m 0 c).before 8 t d)) : sProp 𝕄) ⊢ post8 m c t := by
  unfold post8 outQ
  rw [idle_8, coord1]
  by_cases h : t.val % 4 = 3
  · rw [if_pos h, decide_eq_true h]
    exact .rfl
  · have hf : (cfg0.win 8).flush t = false := by rw [Bool.eq_false_iff]; exact fun hf => h ((flush0_8 t).mp hf)
    rw [if_neg h, decide_eq_false h, hf]
    show _ ⊢ iprop(∃ d, owns (c : Thread nD τ) (st0_8 t) fullShare ((dats m 0 c).before 8 t d))
    iintro H; iexists d; iexact H

def bodyPre (c : Dev nD) (t : Fin cfg0.N) : sProp 𝕄 :=
  iprop((scr m c t.val ∗ ∃ r, prngReg c r) ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((scr m c (t.val + 1) ∗ ∃ r, prngReg c r) ∗ (dats m 0 c).owesAt () t.castSucc
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ post8 m c t
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

/-- A buffer at one of several contents that are all equal. -/
theorem owns_all {sp : Space} {s : Shape} {e : EltTy} {α : Sort*} (c : Dev nD) (M : Memref sig .tc sp s e) (f : α → Vec F s e) (x : Vec F s e)
    (h : ∀ d, f d = x) : iprop(∃ d, owns (c : Thread nD τ) M fullShare (f d)) ⊢ (owns (c : Thread nD τ) M fullShare x : sProp 𝕄) := by
  iintro ⟨%d, H⟩
  have e := h d
  subst e
  iexact H

/-- What the program at point `t` is run from, when it is handed `y`, and what it leaves. -/
def have8 (c : Dev nD) (t : Fin cfg0.N) (y : Car F) (s3 s4 : Vec F S1024x128 .f32) (s5 : Vec F S1024x1 .f32) (D : Vec F S4096x128 .bf16)
    (D1 D2 : Vec F S1024x128 .bf16) (D3 : Vec F S1x1x1x1024 .f32) : sProp 𝕄 :=
  iprop(owns (c : Thread nD τ) (st0_0 t) fullShare (blk m c t).q ∗ blks c (args t) (blk m c t).k (blk m c t).v (blk m c t).fc
    ∗ fills c (args t) (blk m c t).ct (blk m c t).o (blk m c t).l (blk m c t).f y.qs y.de ∗ accs c (args t) ⟨y.dFq, y.dq, s3, s4, s5⟩
    ∗ owns (c : Thread nD τ) (st0_8 t) fullShare D ∗ owns (c : Thread nD τ) (st0_9 t) fullShare D1
    ∗ owns (c : Thread nD τ) (st0_10 t) fullShare D2 ∗ owns (c : Thread nD τ) (st0_11 t) fullShare D3)

def gets (c : Dev nD) (t : Fin cfg0.N) (y : Car F) (D : Vec F S4096x128 .bf16) : sProp 𝕄 :=
  iprop(owns (c : Thread nD τ) (st0_0 t) fullShare (blk m c t).q ∗ blks c (args t) (blk m c t).k (blk m c t).v (blk m c t).fc
    ∗ fills c (args t) (blk m c t).ct (blk m c t).o (blk m c t).l (blk m c t).f (begQs (grid0.coords t) (blk m c t).l (blk m c t).f y.qs)
        (begDe (grid0.coords t) (blk m c t).ct (blk m c t).o y.de)
    ∗ accs c (args t) (left m c t)
    ∗ owns (c : Thread nD τ) (st0_8 t) fullShare (outQ (grid0.coords t) (left m c t).dq D)
    ∗ owns (c : Thread nD τ) (st0_9 t) fullShare (k0_pay7 (left m c t).dk) ∗ owns (c : Thread nD τ) (st0_10 t) fullShare (k0_pay8 (left m c t).dv)
    ∗ owns (c : Thread nD τ) (st0_11 t) fullShare (k0_pay9 (left m c t).cs))

theorem run_at (c : Dev nD) (t : Fin cfg0.N) (y : Car F) (h : (blk m c t).leave (grid0.coords t) y = left m c t)
    (s3 s4 : Vec F S1024x128 .f32) (s5 : Vec F S1024x1 .f32) (D : Vec F S4096x128 .bf16) (D1 D2 : Vec F S1024x128 .bf16) (D3 : Vec F S1x1x1x1024 .f32) :
    have8 m c t y s3 s4 s5 D D1 D2 D3 ⊢
      wp frame (wpE (defs₀ (F := F)) Variants.none (c : Thread nD τ) none) Set.univ (bodyAt0 t) (fun _ => gets m c t y D) := by
  unfold gets have8
  rw [← h]
  exact run Variants.none c none Set.univ (grid0.coords t) (args t) (blk m c t).q (blk m c t).k (blk m c t).v (blk m c t).fc (blk m c t).ct (blk m c t).o
      (blk m c t).l (blk m c t).f y.qs y.de ⟨y.dFq, y.dq, s3, s4, s5⟩ D D1 D2 D3

/-- What is kept aside while the program runs. -/
def aside (c : Dev nD) (t : Fin cfg0.N) : sProp 𝕄 := iprop((∃ r, prngReg c r) ∗ (dats m 0 c).owesAt () t.castSucc)

/-- `bodyPre` with the eight inputs' contents named. -/
def bodyPre1 (c : Dev nD) (t : Fin cfg0.N) : sProp 𝕄 :=
  iprop((scr m c t.val ∗ ∃ r, prngReg c r) ∗ (dats m 0 c).owesAt () t.castSucc
    ∗ owns (c : Thread nD τ) (st0_0 t) fullShare (blk m c t).q
    ∗ owns (c : Thread nD τ) (st0_1 t) fullShare (blk m c t).k
    ∗ owns (c : Thread nD τ) (st0_2 t) fullShare (blk m c t).v
    ∗ owns (c : Thread nD τ) (st0_3 t) fullShare (blk m c t).ct
    ∗ owns (c : Thread nD τ) (st0_4 t) fullShare (blk m c t).o
    ∗ owns (c : Thread nD τ) (st0_5 t) fullShare (blk m c t).l
    ∗ owns (c : Thread nD τ) (st0_6 t) fullShare (blk m c t).f
    ∗ owns (c : Thread nD τ) (st0_7 t) fullShare (blk m c t).fc
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

theorem pre_pre1 (c : Dev nD) (t : Fin cfg0.N) : bodyPre m c t ⊢ bodyPre1 m c t := by
  unfold bodyPre bodyPre1
  refine BIClass.sep_mono .rfl (BIClass.sep_mono .rfl ?_)
  refine BIClass.sep_mono (owns_all (F := F) c (st0_0 t) (fun d => (dats m 0 c).before 0 t d) (blk m c t).q (before_0 m c t)) ?_
  refine BIClass.sep_mono (owns_all (F := F) c (st0_1 t) (fun d => (dats m 0 c).before 1 t d) (blk m c t).k (before_1 m c t)) ?_
  refine BIClass.sep_mono (owns_all (F := F) c (st0_2 t) (fun d => (dats m 0 c).before 2 t d) (blk m c t).v (before_2 m c t)) ?_
  refine BIClass.sep_mono (owns_all (F := F) c (st0_3 t) (fun d => (dats m 0 c).before 3 t d) (blk m c t).ct (before_3 m c t)) ?_
  refine BIClass.sep_mono (owns_all (F := F) c (st0_4 t) (fun d => (dats m 0 c).before 4 t d) (blk m c t).o (before_4 m c t)) ?_
  refine BIClass.sep_mono (owns_all (F := F) c (st0_5 t) (fun d => (dats m 0 c).before 5 t d) (blk m c t).l (before_5 m c t)) ?_
  refine BIClass.sep_mono (owns_all (F := F) c (st0_6 t) (fun d => (dats m 0 c).before 6 t d) (blk m c t).f (before_6 m c t)) ?_
  refine BIClass.sep_mono (owns_all (F := F) c (st0_7 t) (fun d => (dats m 0 c).before 7 t d) (blk m c t).fc (before_7 m c t)) ?_
  exact .rfl

theorem split_pre (c : Dev nD) (t : Fin cfg0.N) :
    bodyPre1 m c t ⊢ iprop(∃ (y : Car F) (s3 s4 : Vec F S1024x128 .f32) (s5 : Vec F S1024x1 .f32) (d : (cfg0.win 8).block.Idx → Elt F (cfg0.win 8).elt)
      (D1 D2 : Vec F S1024x128 .bf16) (D3 : Vec F S1x1x1x1024 .f32),
      ⌜t.val % 4 ≠ 0 → y = carry m c t.val⌝ ∗ have8 m c t y s3 s4 s5 ((dats m 0 c).before 8 t d) D1 D2 D3 ∗ aside m c t) := by
  unfold bodyPre1
  iintro ⟨HS, HO, H0, H1, H2, H3, H4, H5, H6, H7, ⟨%d8, H8⟩, ⟨%d9, H9⟩, ⟨%d10, H10⟩, ⟨%d11, H11⟩, ⟨%d12, H12⟩⟩
  unfold scr
  icases HS with ⟨⟨%y, %hy, S0, S1, S2, ⟨%s3, S3⟩, ⟨%s4, S4⟩, ⟨%s5, S5⟩⟩, HR⟩
  iexists (⟨(dats m 0 c).before 12 t d12, y.dq, y.qs, y.de⟩ : Car F), s3, s4, s5, d8, ((dats m 0 c).before 9 t d9), ((dats m 0 c).before 10 t d10), ((dats m 0 c).before 11 t d11)
  isplitr
  · ipureintro; intro h
    obtain ⟨a, b, e⟩ := hy h
    exact Car.ext (before_12 m c t h d12) a b e
  isplitr [HR HO]; rotate_left
  · unfold aside
    isplitl [HR]; · iexact HR
    iexact HO
  unfold have8 blks fills accs
  isplitl [H0]; · iexact H0
  isplitl [H1 H2 H7]
  · isplitl [H1]; · iexact H1
    isplitl [H2]; · iexact H2
    iexact H7
  isplitl [H3 H4 H5 H6 S1 S2]
  · isplitl [H3]; · iexact H3
    isplitl [H4]; · iexact H4
    isplitl [H5]; · iexact H5
    isplitl [H6]; · iexact H6
    isplitl [S1]; · iexact S1
    iexact S2
  isplitl [H12 S0 S3 S4 S5]
  · isplitl [H12]; · iexact H12
    isplitl [S0]; · iexact S0
    isplitl [S3]; · iexact S3
    isplitl [S4]; · iexact S4
    iexact S5
  isplitl [H8]; · iexact H8
  isplitl [H9]; · iexact H9
  isplitl [H10]; · iexact H10
  iexact H11

theorem join_post (c : Dev nD) (t : Fin cfg0.N) (y : Car F) (d) (e1 : (blk m c t).leave (grid0.coords t) y = left m c t)
    (e2 : (blk m c t).next (grid0.coords t) y = carry m c (t.val + 1)) :
    iprop(gets m c t y ((dats m 0 c).before 8 t d) ∗ aside m c t) ⊢ bodyPost m c t := by
  unfold gets aside blks fills accs bodyPost
  iintro ⟨⟨H0, ⟨H1, H2, H7⟩, ⟨H3, H4, H5, H6, S1, S2⟩, ⟨H12, S0, S3, S4, S5⟩, H8, H9, H10, H11⟩, HR, HO⟩
  isplitl [S0 S1 S2 S3 S4 S5 HR]
  · isplitr [HR]; rotate_left; · iexact HR
    unfold scr
    iexists (⟨(left m c t).dFq, (left m c t).dq, begQs (grid0.coords t) (blk m c t).l (blk m c t).f y.qs, begDe (grid0.coords t) (blk m c t).ct (blk m c t).o y.de⟩ : Car F)
    isplitr
    · ipureintro; intro _
      rw [← e2]
      unfold Blk.next
      rw [e1]
      exact ⟨rfl, rfl, rfl⟩
    isplitl [S0]; · iexact S0
    isplitl [S1]; · iexact S1
    isplitl [S2]; · iexact S2
    isplitl [S3]; · iexists _; iexact S3
    isplitl [S4]; · iexists _; iexact S4
    iexists _; iexact S5
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (to_post8 m c t d); iexact H8
  isplitl [H9]; · iexact H9
  isplitl [H10]; · iexact H10
  isplitl [H11]; · iexact H11
  iexact H12

/-- The body at point `t`, for any program that runs from what `have8` says to what `gets` says. -/
theorem sound_prog (c : Dev nD) (t : Fin cfg0.N) (p : Prog (TpuEff nD τ sig (Elt F) Λ₀ .tc) PUnit)
    (hp : ∀ (y : Car F), (blk m c t).leave (grid0.coords t) y = left m c t → ∀ s3 s4 s5 D D1 D2 D3, have8 m c t y s3 s4 s5 D D1 D2 D3 ⊢
      wp frame (wpE (defs₀ (F := F)) Variants.none (c : Thread nD τ) none) Set.univ p (fun _ => gets m c t y D)) :
    bodyPre m c t ⊢ wp frame (wpE (defs₀ (F := F)) Variants.none (c : Thread nD τ) none) Set.univ p (fun _ => bodyPost m c t) := by
  refine ((pre_pre1 m c t).trans (split_pre m c t)).trans ?_
  iintro ⟨%y, %s3, %s4, %s5, %d, %D1, %D2, %D3, %hy, H, HA⟩
  obtain ⟨e1, e2⟩ := next_eq m c t y hy
  iapply (wp_wand_r frame (wpE (defs₀ (F := F)) Variants.none (c : Thread nD τ) none) Set.univ)
  isplitl [H]
  · iapply (hp y e1 s3 s4 s5 ((dats m 0 c).before 8 t d) D1 D2 D3)
    iexact H
  iintro %r HG
  iapply (join_post m c t y d e1 e2)
  isplitl [HG]; · iexact HG
  iexact HA

theorem sound_body (c : Dev nD) (t : Fin cfg0.N) :
    bodyPre m c t ⊢ wp frame (wpE (defs₀ (F := F)) Variants.none (c : Thread nD τ) none) Set.univ (bodyAt0 t) (fun _ => bodyPost m c t) :=
  sound_prog m c t (bodyAt0 t) (fun y e s3 s4 s5 D D1 D2 D3 => run_at m c t y e s3 s4 s5 D D1 D2 D3)

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ := fun t => by
  rw [bigSep_W0, bigSep_W0, defs₀_row]
  exact triple_restated (sound_body m c t) rfl .rfl fun _ => .rfl

/-! ## The launch -/

theorem scr_in (c : Dev nD) : Pipeline.ΦA spec0 c ⊢ ((dats m 0 c).Φ 0 : sProp 𝕄) := by
  show Pipeline.ΦA spec0 c ⊢ iprop(scr m c 0 ∗ ∃ r, prngReg c r)
  unfold Pipeline.ΦA scr
  rw [scopedRest0_eq]
  simp only [owns_whole]
  iintro ⟨⟨⟨%a0, S0⟩, ⟨%a1, S1⟩, ⟨%a2, S2⟩, S3, S4, S5⟩, HR⟩
  isplitr [HR]; rotate_left; · iexact HR
  iexists (⟨k0_pay22, a0, a1, a2⟩ : Car F)
  isplitr
  · ipureintro; intro h; exact absurd rfl h
  isplitl [S0]; · iexact S0
  isplitl [S1]; · iexact S1
  isplitl [S2]; · iexact S2
  isplitl [S3]; · iexact S3
  isplitl [S4]; · iexact S4
  iexact S5

theorem scr_out (c : Dev nD) : ((dats m 0 c).Φ (Fin.last cfg0.N) : sProp 𝕄) ⊢ Pipeline.ΦA spec0 c := by
  show iprop(scr m c cfg0.N ∗ ∃ r, prngReg c r) ⊢ Pipeline.ΦA spec0 c
  unfold Pipeline.ΦA scr
  rw [scopedRest0_eq]
  simp only [owns_whole]
  iintro ⟨⟨%y, %hy, S0, S1, S2, S3, S4, S5⟩, HR⟩
  isplitr [HR]; rotate_left; · iexact HR
  isplitl [S0]; · iexists _; iexact S0
  isplitl [S1]; · iexists _; iexact S1
  isplitl [S2]; · iexists _; iexact S2
  isplitl [S3]; · iexact S3
  isplitl [S4]; · iexact S4
  iexact S5

set_option backward.isDefEq.respectTransparency.types false in
/-- Every execution of the program ends with the windows' arrays as `dats` says and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m)
    (hin := scr_in m) (hout := scr_out m) (hQ' := fun _ h => h)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 2).trans (((dats m 0 c).arrAt_in 2 rfl _).trans ((A_eq m c 2).trans (V_main_arg0 m c))),
      ((h.1 c).1 7).trans (((dats m 0 c).arrAt_in 7 rfl _).trans ((A_eq m c 7).trans (V_main_arg1 m c))),
      ((h.1 c).1 3).trans (((dats m 0 c).arrAt_in 3 rfl _).trans ((A_eq m c 3).trans (V_main_arg2 m c)))⟩, h.2⟩) (run_main m ρ)

end Cert.KernelIdeal.Fox

end
-- ==== Proof.Fox.Real.lean ====
/- The attention gradient in real numbers: scores, weights and the five gradients of one layer's attention, and the
   extended-real arithmetic on real numbers that both programs do. -/
module

public import Idealize.ShloMosaic.PureOps.Ideal
public import Idealize.ShloMosaic.Lib.IdealHost
public import Mathlib.Tactic.FieldSimp
public import Mathlib.Tactic.Ring
public import Mathlib.Tactic.Linarith
public import Mathlib.Tactic.NormNum
public import Mathlib.Analysis.SpecialFunctions.Pow.Real
public import Mathlib.Algebra.BigOperators.Field
public import Mathlib.Data.Finset.Fold

@[expose] public section

noncomputable section

namespace Cert.Fox

open Idealize.ShloMosaic

/-! ## Extended reals that are real -/

theorem coe_sum {ι : Type} (t : Finset ι) (f : ι → ℝ) : ((∑ a ∈ t, f a : ℝ) : EReal) = ∑ a ∈ t, (f a : EReal) := by
  classical
  refine Finset.induction_on t (by simp) fun a s h ih => ?_
  rw [Finset.sum_insert h, Finset.sum_insert h, EReal.coe_add, ih]

theorem div_real (a : ℝ) {b : ℝ} (hb : b ≠ 0) : Ideal.div (a : EReal) (b : EReal) = ((a / b : ℝ) : EReal) := by
  rw [Ideal.div_coe hb, ← EReal.coe_mul, mul_one_div]

theorem exp2_real (r : ℝ) : Ideal.exp2 (r : EReal) = ((Real.exp (r * Real.log 2) : ℝ) : EReal) := by
  show ((Real.rpow 2 r : ℝ) : EReal) = _
  rw [Real.rpow_eq_pow, Real.rpow_def_of_pos (by norm_num), mul_comm]
theorem exp2_bot : Ideal.exp2 (⊥ : EReal) = 0 := rfl
theorem exp_real (r : ℝ) : Ideal.exp (r : EReal) = ((Real.exp r : ℝ) : EReal) := rfl
theorem exp_bot : Ideal.exp (⊥ : EReal) = 0 := rfl
theorem log_real {r : ℝ} (h : 0 < r) : Ideal.log (r : EReal) = ((Real.log r : ℝ) : EReal) := if_neg (not_le.mpr h)
theorem sqrt_real {r : ℝ} (h : 0 ≤ r) : Ideal.sqrt (r : EReal) = ((Real.sqrt r : ℝ) : EReal) := if_neg (not_lt.mpr h)

theorem word_bot : Ideal.ofBits .f32 0xFF800000#32 = ⊥ := by simp [Ideal.ofBits, Ideal.ieee]
theorem word_128 : Ideal.ofBits .f32 0x43000000#32 = ((128 : ℝ) : EReal) := by
  simp [Ideal.ofBits, Ideal.ieee, -EReal.coe_mul]; norm_num

/-- The word of the mask: key row at most query row. -/
theorem sle_at (s i : Fin 4096) : IntOp.cmpi CmpIPredicate.sle (BitVec.ofNat 32 s.val) (BitVec.ofNat 32 i.val) = if s ≤ i then 1#1 else 0#1 := by
  have hs := s.isLt; have hi := i.isLt
  have e : (BitVec.ofNat 32 s.val).sle (BitVec.ofNat 32 i.val) = decide (s ≤ i) := by
    rw [BitVec.sle_eq_decide]
    refine decide_eq_decide.mpr ?_
    rw [BitVec.toInt_ofNat', BitVec.toInt_ofNat', Fin.le_def]
    simp only [Int.bmod]
    omega
  show BitVec.ofBool _ = _
  rw [e]
  by_cases h : s ≤ i <;> simp [h]

theorem root_ne : Real.sqrt 128 ≠ 0 := (Real.sqrt_pos.mpr (by norm_num)).ne'
theorem log2_ne : Real.log 2 ≠ 0 := (Real.log_pos (by norm_num)).ne'

/-- Row `b` of block `r`. -/
def row (r : Fin 4) (b : Fin 1024) : Fin 4096 := ⟨r.val * 1024 + b.val, by omega⟩

/-- The queries, keys, values and cotangents of the eight heads, and the logarithms of the forget gates summed along the rows. -/
structure Dat where
  q : Fin 8 → Fin 4096 → Fin 128 → ℝ
  k : Fin 8 → Fin 4096 → Fin 128 → ℝ
  v : Fin 8 → Fin 4096 → Fin 128 → ℝ
  g : Fin 8 → Fin 4096 → Fin 128 → ℝ
  f : Fin 8 → Fin 4096 → ℝ

namespace Dat

variable (x : Dat) (h : Fin 8) (i s : Fin 4096) (d : Fin 128)

/-- The score of query row `i` on key row `s`, with the forgetting between them. -/
def z : ℝ := (∑ d : Fin 128, x.q h i d * x.k h s d) / Real.sqrt 128 + x.f h i - x.f h s
/-- The same, minus infinity past the diagonal. -/
def zm : EReal := if s ≤ i then (x.z h i s : EReal) else ⊥
/-- The row's largest score. -/
def M : ℝ := (Finset.univ.fold max (⊥ : EReal) fun s => x.zm h i s).toReal
/-- The row's exponentials and their sum. -/
def e : ℝ := if s ≤ i then Real.exp (x.z h i s - x.M h i) else 0
def S : ℝ := ∑ s : Fin 4096, x.e h i s
/-- The attention weight. -/
def P : ℝ := x.e h i s / x.S h i
/-- The attention's output. -/
def o : ℝ := ∑ s : Fin 4096, x.P h i s * x.v h s d
/-- The cotangent of the weight, its mean under the weights, and the cotangent of the score. -/
def gv : ℝ := ∑ d : Fin 128, x.g h i d * x.v h s d
def del : ℝ := ∑ s : Fin 4096, x.P h i s * x.gv h i s
def DS : ℝ := x.P h i s * (x.gv h i s - x.del h i)
/-- The five gradients. -/
def dq : ℝ := (∑ s : Fin 4096, x.DS h i s * x.k h s d) / Real.sqrt 128
def dk : ℝ := (∑ i : Fin 4096, x.DS h i s * x.q h i d) / Real.sqrt 128
def dv : ℝ := ∑ i : Fin 4096, x.P h i s * x.g h i d
def dFk : ℝ := -∑ i : Fin 4096, x.DS h i s
def dFq : ℝ := ∑ s : Fin 4096, x.DS h i s

theorem fold_zm : (Finset.univ.fold max (⊥ : EReal) fun s => x.zm h i s) = (x.M h i : EReal) := by
  refine (EReal.coe_toReal (ne_of_lt ?_) (ne_of_gt ?_)).symm
  · refine Finset.fold_max_lt _ |>.mpr ⟨bot_lt_top, fun s _ => ?_⟩
    unfold zm; split
    · exact EReal.coe_lt_top _
    · exact bot_lt_top
  · refine Finset.lt_fold_max _ |>.mpr (Or.inr ⟨i, Finset.mem_univ _, ?_⟩)
    unfold zm; rw [if_pos le_rfl]; exact EReal.bot_lt_coe _

theorem e_nonneg : 0 ≤ x.e h i s := by unfold e; split; exacts [(Real.exp_pos _).le, le_rfl]
theorem S_pos : 0 < x.S h i :=
  Finset.sum_pos' (fun s _ => x.e_nonneg h i s) ⟨i, Finset.mem_univ _, by unfold e; rw [if_pos le_rfl]; exact Real.exp_pos _⟩

theorem P_past (hs : ¬s ≤ i) : x.P h i s = 0 := by unfold P e; rw [if_neg hs, zero_div]
theorem DS_past (hs : ¬s ≤ i) : x.DS h i s = 0 := by unfold DS; rw [x.P_past h i s hs, zero_mul]

theorem P_eq (hs : s ≤ i) : x.P h i s = Real.exp (x.z h i s - (x.M h i + Real.log (x.S h i))) := by
  unfold P e; rw [if_pos hs, ← sub_sub, Real.exp_sub _ (Real.log _), Real.exp_log (x.S_pos h i)]

/-- The mean cotangent is the output's product with its cotangent. -/
theorem del_eq : (∑ d : Fin 128, x.g h i d * x.o h i d) = x.del h i := by
  unfold del o gv
  simp only [Finset.mul_sum]
  rw [Finset.sum_comm]
  exact Finset.sum_congr rfl fun s _ => Finset.sum_congr rfl fun d _ => by ring

/-- The exponential of a masked score less the row's largest. -/
theorem exp_zm : Ideal.exp (x.zm h i s - (x.M h i : EReal)) = (x.e h i s : EReal) := by
  unfold zm e; split
  · rw [← EReal.coe_sub, exp_real]
  · rw [EReal.bot_sub, exp_bot, EReal.coe_zero]

/-- The kernel's weight from its base-two exponent. -/
theorem weight (hs : s ≤ i) :
    Ideal.exp2 (((∑ d : Fin 128, (x.k h s d : EReal) * (x.q h i d : EReal)) * (((Real.sqrt 128)⁻¹ * (Real.log 2)⁻¹ : ℝ) : EReal)
      + ((x.f h i : EReal) - ((x.M h i + Real.log (x.S h i) : ℝ) : EReal)) * (((Real.log 2)⁻¹ : ℝ) : EReal))
      - (x.f h s : EReal) * (((Real.log 2)⁻¹ : ℝ) : EReal)) = (x.P h i s : EReal) := by
  simp only [← EReal.coe_mul, ← coe_sum, ← EReal.coe_sub, ← EReal.coe_add]
  rw [exp2_real, x.P_eq h i s hs]
  congr 2
  unfold z
  have h2 := log2_ne
  have hc : (∑ d : Fin 128, x.k h s d * x.q h i d) = ∑ d : Fin 128, x.q h i d * x.k h s d := Finset.sum_congr rfl fun d _ => mul_comm _ _
  rw [hc]
  have hr := root_ne
  field_simp
  ring

theorem diff : (x.P h i s : EReal) * ((∑ d : Fin 128, (x.v h s d : EReal) * (x.g h i d : EReal)) - (x.del h i : EReal)) = (x.DS h i s : EReal) := by
  simp only [← EReal.coe_mul, ← coe_sum, ← EReal.coe_sub]
  have hc : (∑ d : Fin 128, x.v h s d * x.g h i d) = x.gv h i s := Finset.sum_congr rfl fun d _ => mul_comm _ _
  rw [hc]; rfl

/-- The reference's cotangent of the score, as the derivative rules write it. -/
theorem diff_ref : (x.gv h i s / x.S h i + -∑ s : Fin 4096, x.gv h i s * (1 / (x.S h i * x.S h i)) * x.e h i s) * x.e h i s = x.DS h i s := by
  have hS := (x.S_pos h i).ne'
  have hd : (∑ s : Fin 4096, x.gv h i s * (1 / (x.S h i * x.S h i)) * x.e h i s) = x.del h i / x.S h i := by
    unfold del P; rw [Finset.sum_div]
    exact Finset.sum_congr rfl fun s _ => by field_simp
  rw [hd]; unfold DS P; field_simp
  ring

end Dat

end Cert.Fox

end
-- ==== Proof.Fox.RowMax.lean ====
/- A row's maximum on the host, at any number of entries. -/
module

public import Idealize.ShloMosaic.PureOps.Ideal
public import Idealize.ShloMosaic.PureOps.Ideal.Laws
public import Idealize.ShloMosaic.Lib.Pointwise

@[expose] public section

noncomputable section

namespace Cert.Fox

open Idealize.ShloMosaic

theorem row_max {a b n : ℕ} (Z : FVec Ideal ⟨3, ![a, b, n]⟩ .f32) {u : Shape} (init : FVec Ideal u .f32) (h' : (⟨3, ![a, b, n]⟩ : Shape).ReducesTo [2] ⟨2, ![a, b]⟩)
    (h : (⟨3, ![a, b, n]⟩ : Shape).Reduces [2] ⟨2, ![a, b]⟩) (hu : 0 < u.numel) (y : Fin a) (i : Fin b) (c : EReal) (hc : init (Shape.Idx.first hu) = c)
    (g : Fin n → EReal) (hg : ∀ s, Z (ix3 y i s) = g s) :
    Host.reduce FloatOps.maximumf Z init h' hu (ix2 y i) = (Finset.univ : Finset (Fin n)).fold max c g := by
  rw [Host.reduce_eq_fold_single FloatOps.maximumf Z init h' h hu, hc]
  have e : (Z ∘ h.lift (ix2 y i)) = g := by
    funext s
    refine (congrArg Z ?_).trans (hg s)
    funext x
    match x with
    | ⟨0, _⟩ => rfl
    | ⟨1, _⟩ => rfl
    | ⟨2, _⟩ => rfl
  rw [e]
  rfl

end Cert.Fox

end
-- ==== Proof.Fox.Ref.lean ====
/- The reference's five results as the real gradients. -/
module

public import proofs.«01_k».proof.Proof.Gen.ReferenceIdeal.Run
public import proofs.«01_k».proof.Proof.Fox.Real
public import proofs.«01_k».proof.Proof.Fox.RowMax
public import Idealize.ShloMosaic.Lib.Pointwise

@[expose] public section

set_option maxRecDepth 16384

noncomputable section

namespace Cert.ReferenceIdeal.Fox

open Idealize.ShloMosaic Idealize.ShloMosaic.TcCoe
open Cert.ReferenceIdeal Cert.ReferenceIdeal.Gen Cert.ReferenceIdeal.Value
open Cert.Fox

/-- The three arguments are real, and these are their parts. -/
structure Reads (x : Dat) (a0 : FVec Ideal S4096x3072 .bf16) (a1 : FVec Ideal S4096x128 .f32) (a2 : FVec Ideal S4096x1024 .bf16) : Prop where
  q : ∀ (h : Fin 8) (i : Fin 4096) (d : Fin 128), a0 (ix2 i ⟨h.val * 128 + d.val, by omega⟩) = (x.q h i d : EReal)
  k : ∀ (h : Fin 8) (i : Fin 4096) (d : Fin 128), a0 (ix2 i ⟨1024 + (h.val * 128 + d.val), by omega⟩) = (x.k h i d : EReal)
  v : ∀ (h : Fin 8) (i : Fin 4096) (d : Fin 128), a0 (ix2 i ⟨2048 + (h.val * 128 + d.val), by omega⟩) = (x.v h i d : EReal)
  g : ∀ (h : Fin 8) (i : Fin 4096) (d : Fin 128), a2 (ix2 i ⟨h.val * 128 + d.val, by omega⟩) = (x.g h i d : EReal)
  f : ∀ (h : Fin 8) (i : Fin 4096), a1 (ix2 i ⟨h.val, by omega⟩) = (x.f h i : EReal)

def QQ (a0 : FVec Ideal S4096x3072 .bf16) : FVec Ideal S4096x8x128 .f32 :=
  shapeCast _ (extf .f32 (extractStridedSlice S4096x1024 ![0, 0] a0 slices_S4096x3072_S4096x1024_0_0) bitsLt_bf16_f32) shapeCasts_S4096x1024_S4096x8x128
def KK (a0 : FVec Ideal S4096x3072 .bf16) : FVec Ideal S4096x8x128 .f32 :=
  shapeCast _ (extf .f32 (extractStridedSlice S4096x1024 ![0, 1024] a0 slices_S4096x3072_S4096x1024_0_1024) bitsLt_bf16_f32) shapeCasts_S4096x1024_S4096x8x128
def VV (a0 : FVec Ideal S4096x3072 .bf16) : FVec Ideal S4096x8x128 .f32 :=
  shapeCast _ (extf .f32 (extractStridedSlice S4096x1024 ![0, 2048] a0 slices_S4096x3072_S4096x1024_0_2048) bitsLt_bf16_f32) shapeCasts_S4096x1024_S4096x8x128
def GG (a2 : FVec Ideal S4096x1024 .bf16) : FVec Ideal S8x128x4096 .f32 :=
  transpose S8x128x4096 [1, 2, 0] (shapeCast _ (extf .f32 a2 bitsLt_bf16_f32) shapeCasts_S4096x1024_S4096x8x128 : FVec Ideal S4096x8x128 .f32) transposes_S4096x8x128_S8x128x4096_1_2_0
def FT (a1 : FVec Ideal S4096x128 .f32) : FVec Ideal S8x4096 .f32 :=
  transpose S8x4096 [1, 0] (extractStridedSlice S4096x8 ![0, 0] a1 slices_S4096x128_S4096x8_0_0) transposes_S4096x8_S8x4096_1_0
def MASK : IVec S8x4096x4096 1 :=
  broadcastInDim S8x4096x4096 ![1, 2] bcast_S4096x4096_S8x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
def ROOT : FVec Ideal S8x4096x4096 .f32 := broadcastInDim S8x4096x4096 ![] bcast_S_S8x4096x4096 (Host.sqrt (constant S_ .f32 0x43000000#32))
def ZM (q k : FVec Ideal S4096x8x128 .f32) (f : FVec Ideal S8x4096 .f32) : FVec Ideal S8x4096x4096 .f32 :=
  select MASK (subf (addf (Host.divf (Host.dotGeneral dot_S4096x8x128_S4096x8x128_S8x4096x4096_2_2_0_0_1_1 none q k) ROOT) (broadcastInDim S8x4096x4096 ![0, 1, 2] bcast_S8x4096x1_S8x4096x4096_0_1_2 (broadcastInDim S8x4096x1 ![0, 1] bcast_S8x4096_S8x4096x1_0_1 f))) (broadcastInDim S8x4096x4096 ![0, 1, 2] bcast_S8x1x4096_S8x4096x4096_0_1_2 (broadcastInDim S8x1x4096 ![0, 2] bcast_S8x4096_S8x1x4096_0_2 f))) (broadcastInDim S8x4096x4096 ![] bcast_S_S8x4096x4096 (id (constant S_ .f32 0xFF800000#32)))
def MX (Z : FVec Ideal S8x4096x4096 .f32) : FVec Ideal S8x4096 .f32 := Host.reduce FloatOps.maximumf Z (constant S_ .f32 0xFF800000#32) reducesTo_S8x4096x4096_S8x4096_d2 h_S_
def EX (Z : FVec Ideal S8x4096x4096 .f32) (X : FVec Ideal S8x4096 .f32) : FVec Ideal S8x4096x4096 .f32 :=
  Host.exp (subf Z (broadcastInDim S8x4096x4096 ![0, 1, 2] bcast_S8x4096x1_S8x4096x4096_0_1_2 (broadcastInDim S8x4096x1 ![0, 1] bcast_S8x4096_S8x4096x1_0_1 (maximumf (broadcastInDim S8x4096 ![] bcast_S_S8x4096 (constant S_ .f32 0xFF800000#32)) X))))
def EE (Z : FVec Ideal S8x4096x4096 .f32) : FVec Ideal S8x4096x4096 .f32 := EX Z (MX Z)
def SS (E : FVec Ideal S8x4096x4096 .f32) : FVec Ideal S8x4096x1 .f32 :=
  broadcastInDim S8x4096x1 ![0, 1] bcast_S8x4096_S8x4096x1_0_1 (Host.reduceAdd E (constant S_ .f32 0x00000000#32) reducesTo_S8x4096x4096_S8x4096_d2 h_S_)
def GV (g : FVec Ideal S8x128x4096 .f32) (v : FVec Ideal S4096x8x128 .f32) : FVec Ideal S8x4096x4096 .f32 :=
  Host.dotGeneral dot_S8x128x4096_S4096x8x128_S8x4096x4096_1_2_2_0_0_1 none g v
def MM (W E : FVec Ideal S8x4096x4096 .f32) (S : FVec Ideal S8x4096x1 .f32) : FVec Ideal S8x4096 .f32 :=
  Host.reduceAdd (Host.negf (shapeCast S8x4096x1 (Host.reduceAdd (mulf (mulf W (broadcastInDim S8x4096x4096 ![0, 1, 2] bcast_S8x4096x1_S8x4096x4096_0_1_2 (Host.divf (broadcastInDim S8x4096x1 ![] bcast_S_S8x4096x1 (constant S_ .f32 0x3F800000#32)) (mulf S S)))) E) (constant S_ .f32 0x00000000#32) reducesTo_S8x4096x4096_S8x4096_d2 h_S_) shapeCasts_S8x4096_S8x4096x1)) (constant S_ .f32 0x00000000#32) reducesTo_S8x4096x1_S8x4096_d2 h_S_
def DZ (W E : FVec Ideal S8x4096x4096 .f32) (S : FVec Ideal S8x4096x1 .f32) : FVec Ideal S8x4096x4096 .f32 :=
  select MASK (mulf (addf (Host.divf W (broadcastInDim S8x4096x4096 ![0, 1, 2] bcast_S8x4096x1_S8x4096x4096_0_1_2 S)) (broadcastInDim S8x4096x4096 ![0, 1] bcast_S8x4096_S8x4096x4096_0_1 (MM W E S))) E) (broadcastInDim S8x4096x4096 ![] bcast_S_S8x4096x4096 (constant S_ .f32 0x00000000#32))
def R100 (D : FVec Ideal S8x4096x4096 .f32) : FVec Ideal S8x4x1x1024 .f32 :=
  shapeCast _ (transpose S8x4096 [1, 0] (transpose S4096x8 [1, 0] (Host.reduceAdd (shapeCast S8x1x4096 (Host.reduceAdd (Host.negf D) (constant S_ .f32 0x00000000#32) reducesTo_S8x4096x4096_S8x4096_d1 h_S_) shapeCasts_S8x4096_S8x1x4096) (constant S_ .f32 0x00000000#32) reducesTo_S8x1x4096_S8x4096_d1 h_S_) transposes_S8x4096_S4096x8_1_0) transposes_S4096x8_S8x4096_1_0) shapeCasts_S8x4096_S8x4x1x1024
def R102 (D : FVec Ideal S8x4096x4096 .f32) : FVec Ideal S8x4x1x1024 .f32 :=
  shapeCast _ (transpose S8x4096 [1, 0] (transpose S4096x8 [1, 0] (Host.reduceAdd (shapeCast S8x4096x1 (Host.reduceAdd D (constant S_ .f32 0x00000000#32) reducesTo_S8x4096x4096_S8x4096_d2 h_S_) shapeCasts_S8x4096_S8x4096x1) (constant S_ .f32 0x00000000#32) reducesTo_S8x4096x1_S8x4096_d2 h_S_) transposes_S8x4096_S4096x8_1_0) transposes_S4096x8_S8x4096_1_0) shapeCasts_S8x4096_S8x4x1x1024
def R94 (D : FVec Ideal S8x4096x4096 .f32) (k : FVec Ideal S4096x8x128 .f32) : FVec Ideal S4096x1024 .bf16 :=
  truncf .bf16 (shapeCast S4096x1024 (transpose S4096x8x128 [1, 0, 2] (Host.dotGeneral dot_S8x4096x4096_S4096x8x128_S8x4096x128_2_0_1_2_0_1 none (Host.divf D ROOT) k) transposes_S8x4096x128_S4096x8x128_1_0_2) shapeCasts_S4096x8x128_S4096x1024) bitsLt_bf16_f32
def R96 (D : FVec Ideal S8x4096x4096 .f32) (q : FVec Ideal S4096x8x128 .f32) : FVec Ideal S4096x1024 .bf16 :=
  truncf .bf16 (shapeCast S4096x1024 (transpose S4096x8x128 [1, 0, 2] (Host.dotGeneral dot_S8x4096x4096_S4096x8x128_S8x4096x128_1_0_2_2_0_1 none (Host.divf D ROOT) q) transposes_S8x4096x128_S4096x8x128_1_0_2) shapeCasts_S4096x8x128_S4096x1024) bitsLt_bf16_f32
def R98 (E : FVec Ideal S8x4096x4096 .f32) (S : FVec Ideal S8x4096x1 .f32) (g : FVec Ideal S8x128x4096 .f32) : FVec Ideal S4096x1024 .bf16 :=
  truncf .bf16 (shapeCast S4096x1024 (transpose S4096x8x128 [2, 0, 1] (Host.dotGeneral dot_S8x128x4096_S8x4096x4096_S8x128x4096_2_1_1_2_0_0 none g (Host.divf E (broadcastInDim S8x4096x4096 ![0, 1, 2] bcast_S8x4096x1_S8x4096x4096_0_1_2 S))) transposes_S8x128x4096_S4096x8x128_2_0_1) shapeCasts_S4096x8x128_S4096x1024) bitsLt_bf16_f32

variable (x : Dat) (h : Fin 8) (i s : Fin 4096) (d : Fin 128)

theorem QQ_at (a0 : FVec Ideal S4096x3072 .bf16) : QQ a0 (ix3 i h d) = a0 (ix2 i ⟨h.val * 128 + d.val, by omega⟩) := by pointwise! [QQ]
theorem KK_at (a0 : FVec Ideal S4096x3072 .bf16) : KK a0 (ix3 i h d) = a0 (ix2 i ⟨1024 + (h.val * 128 + d.val), by omega⟩) := by pointwise! [KK]
theorem VV_at (a0 : FVec Ideal S4096x3072 .bf16) : VV a0 (ix3 i h d) = a0 (ix2 i ⟨2048 + (h.val * 128 + d.val), by omega⟩) := by pointwise! [VV]
theorem GG_at (a2 : FVec Ideal S4096x1024 .bf16) : GG a2 (ix3 h d i) = a2 (ix2 i ⟨h.val * 128 + d.val, by omega⟩) := by pointwise! [GG]
theorem FT_at (a1 : FVec Ideal S4096x128 .f32) : FT a1 (ix2 h i) = a1 (ix2 i ⟨h.val, by omega⟩) := by pointwise! [FT]
theorem ROOT_at : ROOT (ix3 h i s) = ((Real.sqrt 128 : ℝ) : EReal) := by
  pointwise [ROOT]
  rw [word_128, sqrt_real (by norm_num)]
theorem MASK_at : MASK (ix3 h i s) = if s ≤ i then 1#1 else 0#1 := by
  pointwise [MASK]
  exact sle_at s i
theorem ZM_at (q k : FVec Ideal S4096x8x128 .f32) (f : FVec Ideal S8x4096 .f32) (hq : ∀ i d, q (ix3 i h d) = (x.q h i d : EReal))
    (hk : ∀ i d, k (ix3 i h d) = (x.k h i d : EReal)) (hf : ∀ i, f (ix2 h i) = (x.f h i : EReal)) : ZM q k f (ix3 h i s) = x.zm h i s := by
  pointwise [ZM]
  simp only [MASK_at, ROOT_at, hq, hk, hf]
  unfold Dat.zm
  by_cases hs : s ≤ i
  · rw [if_pos hs, if_pos hs]
    show Ideal.div _ _ + _ - _ = _
    simp only [← EReal.coe_mul, ← coe_sum]
    rw [div_real _ root_ne, ← EReal.coe_add, ← EReal.coe_sub]
    rfl
  · rw [if_neg hs, if_neg hs]
    exact word_bot
theorem MX_at (Z : FVec Ideal S8x4096x4096 .f32) (hZ : ∀ s, Z (ix3 h i s) = x.zm h i s) : MX Z (ix2 h i) = (x.M h i : EReal) :=
  (row_max Z _ _ (by decide) _ h i ⊥ word_bot _ hZ).trans (x.fold_zm h i)
theorem EX_at (Z : FVec Ideal S8x4096x4096 .f32) (X : FVec Ideal S8x4096 .f32) (hZ : Z (ix3 h i s) = x.zm h i s)
    (hX : X (ix2 h i) = (x.M h i : EReal)) : EX Z X (ix3 h i s) = (x.e h i s : EReal) := by
  pointwise [EX]
  rw [hX, hZ, word_bot, max_bot_left, x.exp_zm]
theorem EE_at (Z : FVec Ideal S8x4096x4096 .f32) (hZ : ∀ s, Z (ix3 h i s) = x.zm h i s) : EE Z (ix3 h i s) = (x.e h i s : EReal) :=
  EX_at x h i s Z (MX Z) (hZ s) (MX_at x h i Z hZ)
theorem SS_at (E : FVec Ideal S8x4096x4096 .f32) (hE : ∀ s, E (ix3 h i s) = (x.e h i s : EReal)) : SS E (ix3 h i 0) = (x.S h i : EReal) := by
  pointwise [SS]
  simp only [hE, ← coe_sum]
  rfl
theorem GV_at (g : FVec Ideal S8x128x4096 .f32) (v : FVec Ideal S4096x8x128 .f32) (hg : ∀ d, g (ix3 h d i) = (x.g h i d : EReal))
    (hv : ∀ d, v (ix3 s h d) = (x.v h s d : EReal)) : GV g v (ix3 h i s) = (x.gv h i s : EReal) := by
  pointwise [GV]
  simp only [hg, hv, ← EReal.coe_mul, ← coe_sum]
  rfl
theorem MM_at (W E : FVec Ideal S8x4096x4096 .f32) (S : FVec Ideal S8x4096x1 .f32) (hW : ∀ s, W (ix3 h i s) = (x.gv h i s : EReal))
    (hE : ∀ s, E (ix3 h i s) = (x.e h i s : EReal)) (hS : S (ix3 h i 0) = (x.S h i : EReal)) :
    MM W E S (ix2 h i) = ((-∑ s : Fin 4096, x.gv h i s * (1 / (x.S h i * x.S h i)) * x.e h i s : ℝ) : EReal) := by
  pointwise [MM]
  have hn : x.S h i * x.S h i ≠ 0 := (mul_pos (x.S_pos h i) (x.S_pos h i)).ne'
  simp only [hW, hE, hS, ← EReal.coe_mul, ← EReal.coe_one, div_real 1 hn, ← coe_sum, ← EReal.coe_neg, Finset.univ_unique, Finset.sum_singleton]
theorem DZ_at (W E : FVec Ideal S8x4096x4096 .f32) (S : FVec Ideal S8x4096x1 .f32) (hW : ∀ s, W (ix3 h i s) = (x.gv h i s : EReal))
    (hE : ∀ s, E (ix3 h i s) = (x.e h i s : EReal)) (hS : S (ix3 h i 0) = (x.S h i : EReal)) : DZ W E S (ix3 h i s) = (x.DS h i s : EReal) := by
  pointwise [DZ]
  simp only [MASK_at, MM_at x h i W E S hW hE hS, hW, hE, hS]
  by_cases hs : s ≤ i
  · rw [if_pos hs]
    show (Ideal.div _ _ + _) * _ = _
    rw [div_real _ (x.S_pos h i).ne', ← EReal.coe_add, ← EReal.coe_mul, x.diff_ref]
  · rw [if_neg hs, x.DS_past h i s hs]
    exact EReal.coe_zero.symm
theorem R100_at (D : FVec Ideal S8x4096x4096 .f32) (r : Fin 4) (b : Fin 1024) (hD : ∀ i s, D (ix3 h i s) = (x.DS h i s : EReal)) :
    R100 D (ix4 h r 0 b) = (x.dFk h ⟨r.val * 1024 + b.val, by omega⟩ : EReal) := by
  pointwise [R100]
  simp only [hD, ← EReal.coe_neg, ← coe_sum, Finset.univ_unique, Finset.sum_singleton, Finset.sum_neg_distrib]
  rfl
theorem R102_at (D : FVec Ideal S8x4096x4096 .f32) (r : Fin 4) (b : Fin 1024) (hD : ∀ i s, D (ix3 h i s) = (x.DS h i s : EReal)) :
    R102 D (ix4 h r 0 b) = (x.dFq h ⟨r.val * 1024 + b.val, by omega⟩ : EReal) := by
  pointwise [R102]
  simp only [hD, ← coe_sum, Finset.univ_unique, Finset.sum_singleton]
  rfl
theorem R94_at (D : FVec Ideal S8x4096x4096 .f32) (k : FVec Ideal S4096x8x128 .f32) (j : Fin 1024) (hD : ∀ h i s, D (ix3 h i s) = (x.DS h i s : EReal))
    (hk : ∀ h i d, k (ix3 i h d) = (x.k h i d : EReal)) : R94 D k (ix2 i j) = (x.dq ⟨j.val / 128, by omega⟩ i ⟨j.val % 128, by omega⟩ : EReal) := by
  pointwise [R94]
  simp only [hD, hk, ROOT_at, div_real _ root_ne, ← EReal.coe_mul, ← coe_sum]
  unfold Dat.dq
  rw [Finset.sum_div]
  simp only [div_mul_eq_mul_div]
theorem R96_at (D : FVec Ideal S8x4096x4096 .f32) (k : FVec Ideal S4096x8x128 .f32) (j : Fin 1024) (hD : ∀ h i s, D (ix3 h i s) = (x.DS h i s : EReal))
    (hk : ∀ h i d, k (ix3 i h d) = (x.q h i d : EReal)) : R96 D k (ix2 i j) = (x.dk ⟨j.val / 128, by omega⟩ i ⟨j.val % 128, by omega⟩ : EReal) := by
  pointwise [R96]
  simp only [hD, hk, ROOT_at, div_real _ root_ne, ← EReal.coe_mul, ← coe_sum]
  unfold Dat.dk
  rw [Finset.sum_div]
  simp only [div_mul_eq_mul_div]
theorem R98_at (E : FVec Ideal S8x4096x4096 .f32) (S : FVec Ideal S8x4096x1 .f32) (g : FVec Ideal S8x128x4096 .f32) (j : Fin 1024)
    (hE : ∀ h i s, E (ix3 h i s) = (x.e h i s : EReal)) (hS : ∀ h i, S (ix3 h i 0) = (x.S h i : EReal)) (hg : ∀ h d i, g (ix3 h d i) = (x.g h i d : EReal)) :
    R98 E S g (ix2 i j) = (x.dv ⟨j.val / 128, by omega⟩ i ⟨j.val % 128, by omega⟩ : EReal) := by
  pointwise [R98]
  simp only [hE, hS, hg, div_real _ (x.S_pos _ _).ne', ← EReal.coe_mul, ← coe_sum]
  unfold Dat.dv Dat.P
  exact congrArg _ (Finset.sum_congr rfl fun i _ => mul_comm _ _)

variable (m : (ℓ : Loc nD τ sig) → Buf (Elt Ideal) ℓ) (c : Dev nD)

abbrev A0 : FVec Ideal S4096x3072 .bf16 := m ((c.tc : Thread nD τ).loc main_arg0)
abbrev A1 : FVec Ideal S4096x128 .f32 := m ((c.tc : Thread nD τ).loc main_arg1)
abbrev A2 : FVec Ideal S4096x1024 .bf16 := m ((c.tc : Thread nD τ).loc main_arg2)
abbrev rE : FVec Ideal S8x4096x4096 .f32 := EE (ZM (QQ (A0 m c)) (KK (A0 m c)) (FT (A1 m c)))
abbrev rD : FVec Ideal S8x4096x4096 .f32 := DZ (GV (GG (A2 m c)) (VV (A0 m c))) (rE m c) (SS (rE m c))

theorem res0 : res_main_v94 m c = R94 (rD m c) (KK (A0 m c)) := by unfold res_main_v94; rfl
theorem res1 : res_main_v96 m c = R96 (rD m c) (QQ (A0 m c)) := by unfold res_main_v96; rfl
theorem res2 : res_main_v98 m c = R98 (rE m c) (SS (rE m c)) (GG (A2 m c)) := by unfold res_main_v98; rfl
theorem res3 : res_main_v100 m c = R100 (rD m c) := by unfold res_main_v100; rfl
theorem res4 : res_main_v102 m c = R102 (rD m c) := by unfold res_main_v102; rfl

variable {m c} {x}

theorem rE_at (R : Reads x (A0 m c) (A1 m c) (A2 m c)) (h : Fin 8) (i s : Fin 4096) : rE m c (ix3 h i s) = (x.e h i s : EReal) :=
  EE_at x h i s _ fun s => ZM_at x h i s _ _ _ (fun i d => (QQ_at h i d _).trans (R.q h i d)) (fun i d => (KK_at h i d _).trans (R.k h i d))
    fun i => (FT_at h i _).trans (R.f h i)
theorem rS_at (R : Reads x (A0 m c) (A1 m c) (A2 m c)) (h : Fin 8) (i : Fin 4096) : SS (rE m c) (ix3 h i 0) = (x.S h i : EReal) :=
  SS_at x h i _ fun s => rE_at R h i s
theorem rD_at (R : Reads x (A0 m c) (A1 m c) (A2 m c)) (h : Fin 8) (i s : Fin 4096) : rD m c (ix3 h i s) = (x.DS h i s : EReal) :=
  DZ_at x h i s _ _ _ (fun s => GV_at x h i s _ _ (fun d => (GG_at h i d _).trans (R.g h i d)) fun d => (VV_at h s d _).trans (R.v h s d))
    (fun s => rE_at R h i s) (rS_at R h i)

/-- The five results, element by element. -/
theorem out0 (R : Reads x (A0 m c) (A1 m c) (A2 m c)) (i : Fin 4096) (j : Fin 1024) :
    res_main_v94 m c (ix2 i j) = (x.dq ⟨j.val / 128, by omega⟩ i ⟨j.val % 128, by omega⟩ : EReal) := by
  rw [res0]; exact R94_at x i _ _ j (rD_at R) fun h i d => (KK_at h i d _).trans (R.k h i d)
theorem out1 (R : Reads x (A0 m c) (A1 m c) (A2 m c)) (i : Fin 4096) (j : Fin 1024) :
    res_main_v96 m c (ix2 i j) = (x.dk ⟨j.val / 128, by omega⟩ i ⟨j.val % 128, by omega⟩ : EReal) := by
  rw [res1]; exact R96_at x i _ _ j (rD_at R) fun h i d => (QQ_at h i d _).trans (R.q h i d)
theorem out2 (R : Reads x (A0 m c) (A1 m c) (A2 m c)) (i : Fin 4096) (j : Fin 1024) :
    res_main_v98 m c (ix2 i j) = (x.dv ⟨j.val / 128, by omega⟩ i ⟨j.val % 128, by omega⟩ : EReal) := by
  rw [res2]; exact R98_at x i _ _ _ j (rE_at R) (rS_at R) fun h d i => (GG_at h i d _).trans (R.g h i d)
theorem out3 (R : Reads x (A0 m c) (A1 m c) (A2 m c)) (h : Fin 8) (r : Fin 4) (b : Fin 1024) :
    res_main_v100 m c (ix4 h r 0 b) = (x.dFk h ⟨r.val * 1024 + b.val, by omega⟩ : EReal) := by
  rw [res3]; exact R100_at x h _ r b (rD_at R h)
theorem out4 (R : Reads x (A0 m c) (A1 m c) (A2 m c)) (h : Fin 8) (r : Fin 4) (b : Fin 1024) :
    res_main_v102 m c (ix4 h r 0 b) = (x.dFq h ⟨r.val * 1024 + b.val, by omega⟩ : EReal) := by
  rw [res4]; exact R102_at x h _ r b (rD_at R h)

end Cert.ReferenceIdeal.Fox

end
-- ==== Proof.Fox.Host.lean ====
/- The arrays prepared beside the call, read: the rows of gates, the row logarithms, the attention's result. -/
module

public import proofs.«01_k».proof.Proof.Gen.KernelIdeal.Frame
public import proofs.«01_k».proof.Proof.Fox.Ref
public import Idealize.ShloMosaic.Lib.StableHlo.Run
public import Idealize.ShloMosaic.Lib.Pointwise

@[expose] public section

set_option maxRecDepth 16384
set_option maxHeartbeats 2000000

noncomputable section

namespace Cert.KernelIdeal.Fox

open Idealize.ShloMosaic Idealize.ShloMosaic.TcCoe
open Idealize.SL.Sem
open Cert.KernelIdeal Cert.KernelIdeal.Gen
open Cert.Fox
open Cert.ReferenceIdeal.Fox (QQ KK VV FT ZM MX EE SS Reads)

/-- The exponentials as the row logarithms use them. -/
def LX (Z : FVec Ideal S8x4096x4096 .f32) (X : FVec Ideal S8x4096 .f32) : FVec Ideal S8x4096x4096 .f32 :=
  Host.exp (subf Z (broadcastInDim S8x4096x4096 ![0, 1, 2] bcast_S8x4096x1_S8x4096x4096_0_1_2 (broadcastInDim S8x4096x1 ![0, 1] bcast_S8x4096_S8x4096x1_0_1 X)))
/-- The row logarithms. -/
def LL (X : FVec Ideal S8x4096 .f32) (E : FVec Ideal S8x4096x4096 .f32) : FVec Ideal S8x4x1x1024 .f32 :=
  shapeCast S8x4x1x1024 (addf X (Host.log (Host.reduceAdd E (constant S_ .f32 0x00000000#32) reducesTo_S8x4096x4096_S8x4096_d2 h_S_) : FVec Ideal S8x4096 .f32)) shapeCasts_S8x4096_S8x4x1x1024
/-- The attention's result. -/
def OO (v : FVec Ideal S4096x8x128 .f32) (E : FVec Ideal S8x4096x4096 .f32) (S : FVec Ideal S8x4096x1 .f32) : FVec Ideal S4096x1024 .bf16 :=
  truncf .bf16 (shapeCast S4096x1024 (transpose S4096x8x128 [2, 0, 1] (Host.dotGeneral dot_S4096x8x128_S8x4096x4096_S8x128x4096_0_2_2_1_1_0 none v
    (Host.divf E (broadcastInDim S8x4096x4096 ![0, 1, 2] bcast_S8x4096x1_S8x4096x4096_0_1_2 S))) transposes_S8x128x4096_S4096x8x128_2_0_1) shapeCasts_S4096x8x128_S4096x1024) bitsLt_bf16_f32
/-- The rows of gates. -/
def FR (f : FVec Ideal S8x4096 .f32) : FVec Ideal S8x4x1x1024 .f32 := shapeCast S8x4x1x1024 f shapeCasts_S8x4096_S8x4x1x1024

variable (m : (ℓ : Loc nD τ sig) → Buf (Elt Ideal) ℓ) (c : Dev nD)

abbrev B0 : FVec Ideal S4096x3072 .bf16 := m ((c.tc : Thread nD τ).loc main_arg0)
abbrev B1 : FVec Ideal S4096x128 .f32 := m ((c.tc : Thread nD τ).loc main_arg1)
abbrev B2 : FVec Ideal S4096x1024 .bf16 := m ((c.tc : Thread nD τ).loc main_arg2)
abbrev hZ : FVec Ideal S8x4096x4096 .f32 := ZM (QQ (B0 m c)) (KK (B0 m c)) (FT (B1 m c))

theorem V54 : V m c main_v54 = FR (FT (B1 m c)) := by
  show StableHlo.after _ _ _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem V55 : V m c main_v55 = LL (MX (hZ m c)) (LX (hZ m c) (MX (hZ m c))) := by
  show StableHlo.after _ _ _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem V51 : V m c main_v51 = OO (VV (B0 m c)) (EE (hZ m c)) (SS (EE (hZ m c))) := by
  show StableHlo.after _ _ _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

theorem FR_at (f : FVec Ideal S8x4096 .f32) (h : Fin 8) (r : Fin 4) (b : Fin 1024) : FR f (ix4 h r 0 b) = f (ix2 h (row r b)) := by
  pointwise! [FR, row]
theorem LX_at (x : Dat) (h : Fin 8) (i s : Fin 4096) (Z : FVec Ideal S8x4096x4096 .f32) (X : FVec Ideal S8x4096 .f32) (hZ : Z (ix3 h i s) = x.zm h i s)
    (hX : X (ix2 h i) = (x.M h i : EReal)) : LX Z X (ix3 h i s) = (x.e h i s : EReal) := by
  pointwise [LX]
  rw [hX, hZ, x.exp_zm]
theorem LL_at (x : Dat) (h : Fin 8) (r : Fin 4) (b : Fin 1024) (X : FVec Ideal S8x4096 .f32) (E : FVec Ideal S8x4096x4096 .f32)
    (hX : X (ix2 h (row r b)) = (x.M h (row r b) : EReal)) (hE : ∀ s, E (ix3 h (row r b) s) = (x.e h (row r b) s : EReal)) :
    LL X E (ix4 h r 0 b) = ((x.M h (row r b) + Real.log (x.S h (row r b)) : ℝ) : EReal) := by
  pointwise [LL]
  show X (ix2 h (row r b)) + Ideal.log (∑ s, E (ix3 h (row r b) s)) = _
  simp only [hX, hE, ← coe_sum]
  show _ + Ideal.log ((x.S h (row r b) : ℝ) : EReal) = _
  rw [log_real (x.S_pos h (row r b)), ← EReal.coe_add]
theorem OO_at (x : Dat) (i : Fin 4096) (j : Fin 1024) (v : FVec Ideal S4096x8x128 .f32) (E : FVec Ideal S8x4096x4096 .f32) (S : FVec Ideal S8x4096x1 .f32)
    (hv : ∀ h s d, v (ix3 s h d) = (x.v h s d : EReal)) (hE : ∀ h i s, E (ix3 h i s) = (x.e h i s : EReal)) (hS : ∀ h i, S (ix3 h i 0) = (x.S h i : EReal)) :
    OO v E S (ix2 i j) = (x.o ⟨j.val / 128, by omega⟩ i ⟨j.val % 128, by omega⟩ : EReal) := by
  pointwise [OO]
  simp only [hE, hS, hv, div_real _ (x.S_pos _ _).ne', ← EReal.coe_mul, ← coe_sum]
  unfold Dat.o Dat.P
  exact congrArg _ (Finset.sum_congr rfl fun i _ => mul_comm _ _)

variable {m c} {x : Dat}

theorem hZ_at (R : Reads x (B0 m c) (B1 m c) (B2 m c)) (h : Fin 8) (i s : Fin 4096) : hZ m c (ix3 h i s) = x.zm h i s :=
  Cert.ReferenceIdeal.Fox.ZM_at x h i s _ _ _ (fun i d => (Cert.ReferenceIdeal.Fox.QQ_at h i d _).trans (R.q h i d))
    (fun i d => (Cert.ReferenceIdeal.Fox.KK_at h i d _).trans (R.k h i d)) fun i => (Cert.ReferenceIdeal.Fox.FT_at h i _).trans (R.f h i)

theorem V54_at (R : Reads x (B0 m c) (B1 m c) (B2 m c)) (h : Fin 8) (r : Fin 4) (b : Fin 1024) : V m c main_v54 (ix4 h r 0 b) = (x.f h (row r b) : EReal) := by
  rw [V54]; exact (FR_at _ h r b).trans ((Cert.ReferenceIdeal.Fox.FT_at h _ _).trans (R.f h _))
theorem V55_at (R : Reads x (B0 m c) (B1 m c) (B2 m c)) (h : Fin 8) (r : Fin 4) (b : Fin 1024) :
    V m c main_v55 (ix4 h r 0 b) = ((x.M h (row r b) + Real.log (x.S h (row r b)) : ℝ) : EReal) := by
  rw [V55]
  have hX := Cert.ReferenceIdeal.Fox.MX_at x h (row r b) (hZ m c) (fun s => hZ_at R h _ s)
  exact LL_at x h r b _ _ hX fun s => LX_at x h _ s _ _ (hZ_at R h _ s) hX
theorem V51_at (R : Reads x (B0 m c) (B1 m c) (B2 m c)) (i : Fin 4096) (j : Fin 1024) :
    V m c main_v51 (ix2 i j) = (x.o ⟨j.val / 128, by omega⟩ i ⟨j.val % 128, by omega⟩ : EReal) := by
  rw [V51]
  have hE := fun h i s => Cert.ReferenceIdeal.Fox.EE_at x h i s (hZ m c) (fun s => hZ_at R h i s)
  exact OO_at x i j _ _ _ (fun h s d => (Cert.ReferenceIdeal.Fox.VV_at h s d _).trans (R.v h s d)) hE
    fun h i => Cert.ReferenceIdeal.Fox.SS_at x h i _ fun s => hE h i s

end Cert.KernelIdeal.Fox

end
-- ==== Proof.Fox.Read.lean ====
/- The kernel's stored values read at one element, over the extended reals. -/
module

public import proofs.«01_k».proof.Proof.Fox.Model
public import proofs.«01_k».proof.Proof.Fox.Real
public import Idealize.ShloMosaic.Lib.Pointwise
public import Idealize.ShloMosaic.PureOps.Ideal

@[expose] public section

set_option maxRecDepth 16384

noncomputable section

namespace Cert.KernelIdeal.Fox

open Idealize.ShloMosaic Idealize.ShloMosaic.TcCoe
open Cert.KernelIdeal Cert.KernelIdeal.Gen
open Cert.Fox

theorem named_scale : Named.named (F := Ideal) Cert.KernelIdeal.κ "scale" (φ := .f32) 0x3DB504F3#32 = (((Real.sqrt 128)⁻¹ : ℝ) : EReal) :=
  IdealRules.named_const.ideal_named_scalar _ _ _ _ rfl
theorem named_log2e : Named.named (F := Ideal) Cert.KernelIdeal.κ "log2e" (φ := .f32) 0x3FB8AA3B#32 = (((Real.log 2)⁻¹ : ℝ) : EReal) :=
  IdealRules.named_const.ideal_named_scalar _ _ _ _ rfl
theorem named_both : Named.named (F := Ideal) Cert.KernelIdeal.κ "scale_log2e" (φ := .f32) 0x3E0293EE#32 = (((Real.sqrt 128)⁻¹ * (Real.log 2)⁻¹ : ℝ) : EReal) :=
  IdealRules.named_const.ideal_named_scalar _ _ _ _ rfl
theorem named_mask : Named.named (F := Ideal) Cert.KernelIdeal.κ "mask" (φ := .f32) 0xF149F2CA#32 = (⊥ : EReal) :=
  IdealRules.named_const.ideal_named_scalar _ _ _ _ rfl

/-- Numbers below 2 ^ 31 compare as their words do. -/
theorem sle_word {a b : ℕ} (ha : a < 2 ^ 31) (hb : b < 2 ^ 31) :
    IntOp.cmpi CmpIPredicate.sle (BitVec.ofNat 32 a) (BitVec.ofNat 32 b) = if a ≤ b then 1#1 else 0#1 := by
  have e : (BitVec.ofNat 32 a).sle (BitVec.ofNat 32 b) = decide (a ≤ b) := by
    rw [BitVec.sle_eq_decide]
    refine decide_eq_decide.mpr ?_
    rw [BitVec.toInt_ofNat', BitVec.toInt_ofNat']
    simp only [Int.bmod]
    omega
  show BitVec.ofBool _ = _
  rw [e]
  by_cases h : a ≤ b <;> simp [h]

theorem eq_word {a b : ℕ} (ha : a < 2 ^ 31) (hb : b < 2 ^ 31) :
    IntOp.cmpi CmpIPredicate.eq (BitVec.ofNat 32 a) (BitVec.ofNat 32 b) = if a = b then 1#1 else 0#1 := by
  have e : (BitVec.ofNat 32 a == BitVec.ofNat 32 b) = decide (a = b) := by
    by_cases h : a = b
    · simp [h]
    · have : BitVec.ofNat 32 a ≠ BitVec.ofNat 32 b := by
        intro hc
        have := congrArg BitVec.toNat hc
        simp only [BitVec.toNat_ofNat] at this
        omega
      simp [h, this]
  show BitVec.ofBool _ = _
  rw [e]
  by_cases h : a = b <;> simp [h]

theorem fold_same {n : ℕ} (hn : 0 < n) (a : EReal) : Finset.univ.fold max (⊥ : EReal) (fun _ : Fin n => a) = a := by
  rw [Finset.fold_const]
  · haveI : Nonempty (Fin n) := ⟨⟨0, hn⟩⟩
    rw [if_neg Finset.univ_nonempty.ne_empty, max_bot_left]
  · rw [max_bot_left, max_self]

theorem pay1_at (k : Vec Ideal S1024x128 .bf16) (w : FVec Ideal S1024x1024 .bf16) (X : Vec Ideal S1024x128 .f32) (i : Fin 1024) (d : Fin 128) :
    k0_pay1 k w X (ix2 i d) = X (ix2 i d) + ∑ s : Fin 1024, w (ix2 s i) * k (ix2 s d) := by
  pointwise! [k0_pay1]
theorem pay2_at (w : FVec Ideal S1024x1024 .f32) (X : Vec Ideal S1024x1 .f32) (s : Fin 1024) :
    k0_pay2 w X (ix2 s 0) = X (ix2 s 0) + ∑ i : Fin 1024, w (ix2 s i) := by
  pointwise! [k0_pay2]
theorem pay3_at (w : FVec Ideal S1024x1024 .f32) (X : Vec Ideal S1x1x1x1024 .f32) (i : Fin 1024) :
    k0_pay3 w X (ix4 0 0 0 i) = X (ix4 0 0 0 i) + ∑ s : Fin 1024, w (ix2 s i) := by
  pointwise! [k0_pay3]
theorem pay33_at (q : Vec Ideal S1024x128 .bf16) (w : FVec Ideal S1024x1024 .bf16) (X : Vec Ideal S1024x128 .f32) (s : Fin 1024) (d : Fin 128) :
    k0_pay33 q w X (ix2 s d) = X (ix2 s d) + ∑ i : Fin 1024, w (ix2 s i) * q (ix2 i d) := by
  pointwise! [k0_pay33]
theorem pay9_at (X : Vec Ideal S1024x1 .f32) (s : Fin 1024) : k0_pay9 X (ix4 0 0 0 s) = 0 - X (ix2 s 0) := by
  pointwise [k0_pay9]
  refine congrArg (fun z : EReal => 0 - z) ?_
  rw [word_bot]
  exact fold_same (by norm_num) _
theorem pay23_at (a b : Vec Ideal S1024x128 .bf16) (i : Fin 1024) : k0_pay23 a b (ix3 0 0 i) = ∑ d : Fin 128, a (ix2 i d) * b (ix2 i d) := by
  pointwise! [k0_pay23]
theorem pay24_at (f l : Vec Ideal S1x1x1x1024 .f32) (i : Fin 1024) :
    k0_pay24 f l (ix3 0 0 i) = (f (ix4 0 0 0 i) - l (ix4 0 0 0 i)) * (((Real.log 2)⁻¹ : ℝ) : EReal) := by
  pointwise [k0_pay24]
  rw [named_log2e]
theorem pay25_at (t : grid0.Coords) (f : Vec Ideal S1024x128 .f32) (s : Fin 1024) :
    k0_pay25 t f (ix2 s 0) = f (ix2 s ⟨(t 0).val, by have := (t 0).isLt; exact lt_of_lt_of_le this (by decide)⟩) * (((Real.log 2)⁻¹ : ℝ) : EReal) := by
  pointwise [k0_pay25]
  rw [named_log2e]
  refine congrArg (· * _) ?_
  have h0 : (t 0).val < 128 := lt_of_lt_of_le (t 0).isLt (by decide)
  rw [Finset.sum_eq_single ⟨(t 0).val, h0⟩]
  · rw [eq_word (by omega) (by omega), if_pos rfl]; rfl
  · intro b _ hb
    have := b.isLt
    rw [eq_word (by omega) (by omega), if_neg fun e => hb (Fin.ext e)]; rfl
  · intro h; exact absurd (Finset.mem_univ _) h
theorem pay11_at (k q : Vec Ideal S1024x128 .bf16) (fk : FVec Ideal S1024x1 .f32) (qs : Vec Ideal S1x1x1024 .f32) (s i : Fin 1024) :
    k0_pay11 k fk q qs (ix2 s i) = Ideal.exp2 (((∑ d : Fin 128, k (ix2 s d) * q (ix2 i d)) * (((Real.sqrt 128)⁻¹ * (Real.log 2)⁻¹ : ℝ) : EReal)
      + qs (ix3 0 0 i)) - fk (ix2 s 0)) := by
  pointwise [k0_pay11]
  rw [named_both]
  rfl
theorem pay13_at (k v q ct : Vec Ideal S1024x128 .bf16) (fk : FVec Ideal S1024x1 .f32) (qs de : Vec Ideal S1x1x1024 .f32) (s i : Fin 1024) :
    k0_pay13 k v fk q ct qs de (ix2 s i) = k0_pay11 k fk q qs (ix2 s i) * ((∑ d : Fin 128, v (ix2 s d) * ct (ix2 i d)) - de (ix3 0 0 i)) := by
  pointwise! [k0_pay13]
theorem pay29_at (j : Fin 4) (k q : Vec Ideal S1024x128 .bf16) (fk : FVec Ideal S1024x1 .f32) (qs : Vec Ideal S1x1x1024 .f32) (s i : Fin 1024) :
    k0_pay29 (BitVec.ofNat 32 j.val) k fk (Scalar.addi (Scalar.muli 1#32 (BitVec.ofNat 32 j.val)) 0#32) q qs (ix2 s i)
      = if s ≤ i then k0_pay11 k fk q qs (ix2 s i) else 0 := by
  have hj := j.isLt; have hs := s.isLt; have hi := i.isLt
  have e1 : IntOp.addi (Scalar.muli (BitVec.ofNat 32 j.val) 1024#32) (BitVec.ofNat 32 s.val) = BitVec.ofNat 32 (j.val * 1024 + s.val) := by
    show BitVec.ofNat 32 j.val * BitVec.ofNat 32 1024 + BitVec.ofNat 32 s.val = _
    rw [BitVec.ofNat_add, BitVec.ofNat_mul]
  have e2 : IntOp.addi (Scalar.muli (Scalar.addi (Scalar.muli 1#32 (BitVec.ofNat 32 j.val)) 0#32) 1024#32) (BitVec.ofNat 32 i.val)
      = BitVec.ofNat 32 (j.val * 1024 + i.val) := by
    show (BitVec.ofNat 32 1 * BitVec.ofNat 32 j.val + BitVec.ofNat 32 0) * BitVec.ofNat 32 1024 + BitVec.ofNat 32 i.val = _
    rw [← BitVec.ofNat_mul, ← BitVec.ofNat_add, ← BitVec.ofNat_mul, ← BitVec.ofNat_add]
    congr 1; omega
  rw [pay11_at]
  pointwise [k0_pay29]
  rw [named_both, named_mask, e1, e2, sle_word (by omega) (by omega)]
  by_cases h : s ≤ i
  · rw [if_pos h, if_pos (by have := Fin.le_def.mp h; omega)]; rfl
  · rw [if_neg h, if_neg (by have := mt Fin.le_def.mpr h; omega)]; exact exp2_bot
theorem pay31_at (j w : BitVec 32) (k v q ct : Vec Ideal S1024x128 .bf16) (fk : FVec Ideal S1024x1 .f32) (qs de : Vec Ideal S1x1x1024 .f32) (s i : Fin 1024) :
    k0_pay31 j k v fk w q ct qs de (ix2 s i) = k0_pay29 j k fk w q qs (ix2 s i) * ((∑ d : Fin 128, v (ix2 s d) * ct (ix2 i d)) - de (ix3 0 0 i)) := by
  pointwise! [k0_pay31]
theorem pay7_at (X : Vec Ideal S1024x128 .f32) (i : Fin 1024) (d : Fin 128) :
    k0_pay7 X (ix2 i d) = X (ix2 i d) * (((Real.sqrt 128)⁻¹ : ℝ) : EReal) := by
  pointwise [k0_pay7]
  rw [named_scale]
theorem pay8_at (X : Vec Ideal S1024x128 .f32) (i : Fin 1024) (d : Fin 128) : k0_pay8 X (ix2 i d) = X (ix2 i d) := by
  pointwise! [k0_pay8]
theorem pay10_at (X : Vec Ideal S4096x128 .f32) (i : Fin 4096) (d : Fin 128) :
    k0_pay10 X (ix2 i d) = X (ix2 i d) * (((Real.sqrt 128)⁻¹ : ℝ) : EReal) := by
  pointwise [k0_pay10]
  rw [named_scale]
theorem pay22_at (r : Fin 4) (b : Fin 1024) : (k0_pay22 (F := Ideal)) (ix4 0 r 0 b) = 0 := by pointwise! [k0_pay22]
theorem pay26_at (s : Fin 1024) (d : Fin 128) : (k0_pay26 (F := Ideal)) (ix2 s d) = 0 := by pointwise! [k0_pay26]
theorem pay27_at (s : Fin 1024) (d : Fin 128) : (k0_pay27 (F := Ideal)) (ix2 s d) = 0 := by pointwise! [k0_pay27]
theorem pay28_at (s : Fin 1024) : (k0_pay28 (F := Ideal)) (ix2 s 0) = 0 := by pointwise! [k0_pay28]
theorem pay21_at (i : Fin 4096) (d : Fin 128) : (k0_pay21 (F := Ideal)) (ix2 i d) = 0 := by pointwise! [k0_pay21]

end Cert.KernelIdeal.Fox

end
-- ==== Proof.Fox.Point.lean ====
/- What one grid point leaves, over the reals: with real inputs every accumulator is the real sum over the query blocks done. -/
module

public import proofs.«01_k».proof.Proof.Fox.Carry
public import proofs.«01_k».proof.Proof.Fox.Read

@[expose] public section

set_option maxRecDepth 16384

noncomputable section

namespace Cert.KernelIdeal.Fox

open Idealize.ShloMosaic Idealize.ShloMosaic.TcCoe
open Cert.KernelIdeal Cert.KernelIdeal.Gen
open Cert.Fox

/-! ## Windows at an index -/

theorem rows_at {e : EltTy} (X : Vec Ideal S4096x128 e) (r : Fin 4) (i : Fin 1024) (d : Fin 128) : rows X r (ix2 i d) = X (ix2 (row r i) d) := by
  refine congrArg X (funext fun a => Fin.ext ?_)
  match a with
  | ⟨0, _⟩ => show 1024 * r.val + 1 * i.val = r.val * 1024 + i.val; omega
  | ⟨1, _⟩ => show 0 + 1 * d.val = d.val; omega
theorem side_at {e : EltTy} (X : Vec Ideal S4x1x1024 e) (r : Fin 4) (i : Fin 1024) : side X r (ix3 0 0 i) = X (ix3 r 0 i) := by
  refine congrArg X (funext fun a => Fin.ext ?_)
  match a with
  | ⟨0, _⟩ => show r.val + 1 * 0 = r.val; omega
  | ⟨1, _⟩ => rfl
  | ⟨2, _⟩ => show 0 + 1 * i.val = i.val; omega
theorem line_at {e : EltTy} (X : Vec Ideal S1x4x1x1024 e) (r : Fin 4) (i : Fin 1024) : line X r (ix4 0 0 0 i) = X (ix4 0 r 0 i) := by
  refine congrArg X (funext fun a => Fin.ext ?_)
  match a with
  | ⟨0, _⟩ => rfl
  | ⟨1, _⟩ => show r.val + 1 * 0 = r.val; omega
  | ⟨2, _⟩ => rfl
  | ⟨3, _⟩ => show 0 + 1 * i.val = i.val; omega

theorem putRows_at (X : Vec Ideal S4096x128 .f32) (r r' : Fin 4) (w : Vec Ideal S1024x128 .f32) (i : Fin 1024) (d : Fin 128) :
    VecWindow.put X ![1024 * r.val, 0] S1024x128.size w (ix2 (row r' i) d) = if r' = r then w (ix2 i d) else X (ix2 (row r' i) d) := by
  have hi := i.isLt; have hd := d.isLt
  unfold VecWindow.put
  by_cases h : r' = r
  · subst h
    rw [if_pos rfl, dif_pos]
    · refine congrArg w (funext fun a => Fin.ext ?_)
      match a with
      | ⟨0, _⟩ => show r'.val * 1024 + i.val - 1024 * r'.val = i.val; omega
      | ⟨1, _⟩ => show d.val - 0 = d.val; omega
    · intro a
      match a with
      | ⟨0, _⟩ => show 1024 * r'.val ≤ r'.val * 1024 + i.val ∧ r'.val * 1024 + i.val < 1024 * r'.val + 1024; omega
      | ⟨1, _⟩ => show 0 ≤ d.val ∧ d.val < 0 + 128; omega
  · rw [if_neg h, dif_neg]
    intro hall
    have h0 : 1024 * r.val ≤ r'.val * 1024 + i.val ∧ r'.val * 1024 + i.val < 1024 * r.val + 1024 := hall 0
    exact h (Fin.ext (by omega))
theorem putSide_at (X : Vec Ideal S4x1x1024 .f32) (n : ℕ) (r' : Fin 4) (w : Vec Ideal S1x1x1024 .f32) (i : Fin 1024) :
    VecWindow.put X ![n, 0, 0] S1x1x1024.size w (ix3 r' 0 i) = if r'.val = n then w (ix3 0 0 i) else X (ix3 r' 0 i) := by
  have hi := i.isLt
  unfold VecWindow.put
  by_cases h : r'.val = n
  · rw [if_pos h, dif_pos]
    · refine congrArg w (funext fun a => Fin.ext ?_)
      match a with
      | ⟨0, _⟩ => show r'.val - n = 0; omega
      | ⟨1, _⟩ => rfl
      | ⟨2, _⟩ => show i.val - 0 = i.val; omega
    · exact inside_side h
  · rw [if_neg h, dif_neg]
    intro hall
    have h0 : n ≤ r'.val ∧ r'.val < n + 1 := hall 0
    omega
theorem putLine_at (X : Vec Ideal S1x4x1x1024 .f32) (r r' : Fin 4) (w : Vec Ideal S1x1x1x1024 .f32) (i : Fin 1024) :
    VecWindow.put X ![0, r.val, 0, 0] S1x1x1x1024.size w (ix4 0 r' 0 i) = if r' = r then w (ix4 0 0 0 i) else X (ix4 0 r' 0 i) := by
  have hi := i.isLt
  unfold VecWindow.put
  by_cases h : r' = r
  · subst h
    rw [if_pos rfl, dif_pos]
    · refine congrArg w (funext fun a => Fin.ext ?_)
      match a with
      | ⟨0, _⟩ => rfl
      | ⟨1, _⟩ => show r'.val - r'.val = 0; omega
      | ⟨2, _⟩ => rfl
      | ⟨3, _⟩ => show i.val - 0 = i.val; omega
    · intro a
      match a with
      | ⟨0, _⟩ => show 0 ≤ 0 ∧ 0 < 0 + 1; omega
      | ⟨1, _⟩ => show r'.val ≤ r'.val ∧ r'.val < r'.val + 1; omega
      | ⟨2, _⟩ => show 0 ≤ 0 ∧ 0 < 0 + 1; omega
      | ⟨3, _⟩ => show 0 ≤ i.val ∧ i.val < 0 + 1024; omega
  · rw [if_neg h, dif_neg]
    intro hall
    have h0 : r.val ≤ r'.val ∧ r'.val < r.val + 1 := hall 1
    exact h (Fin.ext (by omega))

/-! ## One query block -/

variable (x : Dat) (h : Fin 8) (j : Fin 4)

/-- The accumulators with the query blocks of `D` done at key block `j`, from the head's running `fq`, `dq`. -/
structure Is (fq : Fin 4 → Fin 1024 → ℝ) (dq : Fin 4 → Fin 1024 → Fin 128 → ℝ) (D : Finset (Fin 4)) (s : St Ideal) : Prop where
  dFq : ∀ r i, s.dFq (ix4 0 r 0 i) = ((fq r i + if r ∈ D then ∑ b : Fin 1024, x.DS h (row r i) (row j b) else 0 : ℝ) : EReal)
  dq : ∀ r i d, s.dq (ix2 (row r i) d) = ((dq r i d + if r ∈ D then ∑ b : Fin 1024, x.DS h (row r i) (row j b) * x.k h (row j b) d else 0 : ℝ) : EReal)
  dk : ∀ b d, s.dk (ix2 b d) = ((∑ r ∈ D, ∑ i : Fin 1024, x.DS h (row r i) (row j b) * x.q h (row r i) d : ℝ) : EReal)
  dv : ∀ b d, s.dv (ix2 b d) = ((∑ r ∈ D, ∑ i : Fin 1024, x.P h (row r i) (row j b) * x.g h (row r i) d : ℝ) : EReal)
  cs : ∀ b, s.cs (ix2 b 0) = ((∑ r ∈ D, ∑ i : Fin 1024, x.DS h (row r i) (row j b) : ℝ) : EReal)

/-- The value gradient of one contribution, at an index. -/
theorem dv_at (p : FVec Ideal S1024x1024 .f32) (ct : FVec Ideal S1024x128 .bf16) (X : Vec Ideal S1024x128 .f32) (s : Fin 1024) (d : Fin 128) :
    (shapeCast S1024x128 (addf X (matmul dot_S1024x1024_S1024x128_S1024x128_1_0_0_1_n_n none (truncf .bf16 p bitsLt_bf16_f32) ct
      (constant S1024x128 .f32 0x00000000#32))) shapeCasts_S1024x128_S1024x128 : FVec Ideal S1024x128 .f32) (ix2 s d)
      = X (ix2 s d) + ∑ i : Fin 1024, p (ix2 s i) * ct (ix2 i d) := by
  pointwise!

theorem narrow_at (p : FVec Ideal S1024x1024 .f32) (s i : Fin 1024) : truncf .bf16 p bitsLt_bf16_f32 (ix2 s i) = p (ix2 s i) := rfl

variable {x h j} {fq : Fin 4 → Fin 1024 → ℝ} {dq : Fin 4 → Fin 1024 → Fin 128 → ℝ} {D : Finset (Fin 4)} {s : St Ideal}

/-- A block's contribution moves it into the set of those done. -/
theorem Is.add (H : Is x h j fq dq D s) {r : Fin 4} (hr : r ∉ D) {k q ct : Vec Ideal S1024x128 .bf16} {p ds : FVec Ideal S1024x1024 .f32}
    (hk : ∀ b d, k (ix2 b d) = (x.k h (row j b) d : EReal)) (hq : ∀ i d, q (ix2 i d) = (x.q h (row r i) d : EReal))
    (hct : ∀ i d, ct (ix2 i d) = (x.g h (row r i) d : EReal)) (hp : ∀ b i, p (ix2 b i) = (x.P h (row r i) (row j b) : EReal))
    (hds : ∀ b i, ds (ix2 b i) = (x.DS h (row r i) (row j b) : EReal)) : Is x h j fq dq (insert r D) (s.add r k q ct p ds) where
  dFq r' i := by
    show VecWindow.put _ _ _ _ _ = _
    rw [putLine_at]
    by_cases e : r' = r
    · subst e
      rw [if_pos rfl, pay3_at, line_at, H.dFq, if_neg hr, if_pos (Finset.mem_insert_self _ _)]
      simp only [hds, ← coe_sum, ← EReal.coe_add, add_zero]
    · rw [if_neg e, H.dFq]
      simp only [Finset.mem_insert, e, false_or]
  dq r' i d := by
    show VecWindow.put _ _ _ _ _ = _
    rw [putRows_at]
    by_cases e : r' = r
    · subst e
      rw [if_pos rfl, pay1_at, rows_at, H.dq, if_neg hr, if_pos (Finset.mem_insert_self _ _)]
      simp only [narrow_at, hds, hk, ← EReal.coe_mul, ← coe_sum, ← EReal.coe_add, add_zero]
    · rw [if_neg e, H.dq]
      simp only [Finset.mem_insert, e, false_or]
  dk b d := by
    show k0_pay33 _ _ _ _ = _
    rw [pay33_at, H.dk, Finset.sum_insert hr]
    simp only [narrow_at, hds, hq, ← EReal.coe_mul, ← coe_sum, ← EReal.coe_add]
    rw [add_comm]
  dv b d := by
    refine (dv_at p ct s.dv b d).trans ?_
    rw [H.dv, Finset.sum_insert hr]
    simp only [hp, hct, ← EReal.coe_mul, ← coe_sum, ← EReal.coe_add]
    rw [add_comm]
  cs b := by
    show k0_pay2 _ _ _ = _
    rw [pay2_at, H.cs, Finset.sum_insert hr]
    simp only [hds, ← coe_sum, ← EReal.coe_add]
    rw [add_comm]

/-! ## The whole point -/

variable (x h j)

/-- A point's inputs, its tables filled. -/
structure Good (y : Ins Ideal) : Prop where
  q : ∀ i d, y.q (ix2 i d) = (x.q h i d : EReal)
  ct : ∀ i d, y.ct (ix2 i d) = (x.g h i d : EReal)
  k : ∀ b d, y.k (ix2 b d) = (x.k h (row j b) d : EReal)
  v : ∀ b d, y.v (ix2 b d) = (x.v h (row j b) d : EReal)
  qs : ∀ r i, y.qs (ix3 r 0 i) = ((x.f h (row r i) : EReal) - ((x.M h (row r i) + Real.log (x.S h (row r i)) : ℝ) : EReal)) * (((Real.log 2)⁻¹ : ℝ) : EReal)
  de : ∀ r i, y.de (ix3 r 0 i) = (x.del h (row r i) : EReal)
  fk : ∀ b, y.fk (ix2 b 0) = (x.f h (row j b) : EReal) * (((Real.log 2)⁻¹ : ℝ) : EReal)

variable {x h j} {y : Ins Ideal}

/-- The unmasked weight at or below the diagonal. -/
theorem Good.weight (Y : Good x h j y) (r : Fin 4) (b i : Fin 1024) (hb : row j b ≤ row r i) :
    k0_pay11 y.k y.fk (rows y.q r) (side y.qs r) (ix2 b i) = (x.P h (row r i) (row j b) : EReal) := by
  rw [pay11_at]
  simp only [Y.k, rows_at, Y.q, side_at, Y.qs, Y.fk]
  exact x.weight h _ _ hb

theorem Good.step (Y : Good x h j y) (H : Is x h j fq dq D s) {r : Fin 4} (hr : r ∉ D) (hj : j < r) : Is x h j fq dq (insert r D) (y.step r s) := by
  have hp : ∀ b i, k0_pay11 y.k y.fk (rows y.q r) (side y.qs r) (ix2 b i) = (x.P h (row r i) (row j b) : EReal) := fun b i =>
    Y.weight r b i (by show j.val * 1024 + b.val ≤ r.val * 1024 + i.val; have : j.val < r.val := hj; have := b.isLt; omega)
  refine H.add hr Y.k (fun i d => (rows_at _ _ _ _).trans (Y.q _ _)) (fun i d => (rows_at _ _ _ _).trans (Y.ct _ _)) hp fun b i => ?_
  rw [pay13_at, hp]
  simp only [Y.v, rows_at, Y.ct, side_at, Y.de]
  exact x.diff h _ _

theorem Good.diag (Y : Good x h j y) (H : Is x h j fq dq ∅ s) (i : grid0.Coords) (hi : (i 1) = j) : Is x h j fq dq {j} (y.diag i j s) := by
  have hp : ∀ b a, k0_pay29 (BitVec.ofNat 32 (i 1).val) y.k y.fk (Scalar.addi (Scalar.muli 1#32 (BitVec.ofNat 32 (i 1).val)) 0#32) (rows y.q j) (side y.qs j) (ix2 b a)
      = (x.P h (row j a) (row j b) : EReal) := fun b a => by
    rw [hi, pay29_at]
    by_cases hb : b ≤ a
    · rw [if_pos hb]; exact Y.weight j b a (by show j.val * 1024 + b.val ≤ j.val * 1024 + a.val; have : b.val ≤ a.val := hb; omega)
    · rw [if_neg hb, x.P_past _ _ _ (by show ¬ j.val * 1024 + b.val ≤ j.val * 1024 + a.val; have : ¬ b.val ≤ a.val := hb; omega)]
      exact EReal.coe_zero.symm
  have e : (insert j ∅ : Finset (Fin 4)) = {j} := rfl
  rw [← e]
  refine H.add (Finset.notMem_empty _) Y.k (fun i d => (rows_at _ _ _ _).trans (Y.q _ _)) (fun i d => (rows_at _ _ _ _).trans (Y.ct _ _)) hp fun b a => ?_
  rw [pay31_at, hp]
  simp only [Y.v, rows_at, Y.ct, side_at, Y.de]
  exact x.diff h _ _

/-- The blocks `j, …, j + n`. -/
def done (j : Fin 4) (n : ℕ) : Finset (Fin 4) := Finset.univ.filter fun r => j.val ≤ r.val ∧ r.val ≤ j.val + n

theorem Good.rest (Y : Good x h j y) (H : Is x h j fq dq {j} s) : ∀ n, Is x h j fq dq (done j n) (y.rest j.val n s)
  | 0 => by
    have e : done j 0 = {j} := by ext r; simp only [done, Finset.mem_filter, Finset.mem_univ, true_and, Finset.mem_singleton, Fin.ext_iff]; omega
    rw [e]; exact H
  | n + 1 => by
    have ih := Y.rest H n
    show Is x h j fq dq _ (if h : j.val + 1 + n < 4 then _ else _)
    split
    · next hn =>
      have e : done j (n + 1) = insert ⟨j.val + 1 + n, hn⟩ (done j n) := by
        ext r; simp only [done, Finset.mem_filter, Finset.mem_univ, true_and, Finset.mem_insert, Fin.ext_iff]; omega
      rw [e]
      exact Y.step ih (by simp only [done, Finset.mem_filter, Finset.mem_univ, true_and]; omega) (by show j.val < j.val + 1 + n; omega)
    · next hn =>
      have e : done j (n + 1) = done j n := by
        ext r; have := r.isLt; simp only [done, Finset.mem_filter, Finset.mem_univ, true_and]; omega
      rw [e]; exact ih

/-- Blocks before the diagonal contribute nothing. -/
theorem early (r : Fin 4) (hr : r < j) (i b : Fin 1024) : x.DS h (row r i) (row j b) = 0 ∧ x.P h (row r i) (row j b) = 0 := by
  have hn : ¬ row j b ≤ row r i := by show ¬ j.val * 1024 + b.val ≤ r.val * 1024 + i.val; have : r.val < j.val := hr; have := i.isLt; omega
  exact ⟨x.DS_past _ _ _ hn, x.P_past _ _ _ hn⟩

/-- So a whole point has done every block. -/
theorem Good.point (Y : Good x h j y) (H : Is x h j fq dq ∅ s) (i : grid0.Coords) (hi : (i 1) = j) : Is x h j fq dq Finset.univ (y.point i s) := by
  have H := Y.rest (Y.diag H i hi) (3 - j.val)
  have hd : ∀ r, r ∉ done j (3 - j.val) → r < j := fun r hr => by
    have := r.isLt
    simp only [done, Finset.mem_filter, Finset.mem_univ, true_and] at hr
    show r.val < j.val; omega
  have e : y.point i s = y.rest j.val (3 - j.val) (y.diag i j s) := by unfold Ins.point; rw [hi]
  rw [e]
  have hs : ∀ T : Fin 4 → ℝ, (∀ r, r < j → T r = 0) → ∑ r ∈ done j (3 - j.val), T r = ∑ r, T r := fun T hT =>
    Finset.sum_subset (Finset.subset_univ _) fun r _ hr => hT r (hd r hr)
  refine ⟨fun r i => ?_, fun r i d => ?_, fun b d => ?_, fun b d => ?_, fun b => ?_⟩
  · rw [H.dFq, if_pos (Finset.mem_univ _)]
    split
    · rfl
    · next hr => rw [Finset.sum_eq_zero fun b _ => (early r (hd r hr) i b).1]
  · rw [H.dq, if_pos (Finset.mem_univ _)]
    split
    · rfl
    · next hr => rw [Finset.sum_eq_zero fun b _ => by rw [(early r (hd r hr) i b).1, zero_mul]]
  · rw [H.dk, hs _ fun r hr => Finset.sum_eq_zero fun i _ => by rw [(early r hr i b).1, zero_mul]]
  · rw [H.dv, hs _ fun r hr => Finset.sum_eq_zero fun i _ => by rw [(early r hr i b).2, zero_mul]]
  · rw [H.cs, hs _ fun r hr => Finset.sum_eq_zero fun i _ => (early r hr i b).1]

/-! ## Point after point -/

/-- The blocks a point of head `h`, key block `j` is given. -/
structure Given (x : Dat) (h : Fin 8) (j : Fin 4) (b : Blk Ideal) : Prop where
  q : ∀ i d, b.q (ix2 i d) = (x.q h i d : EReal)
  ct : ∀ i d, b.ct (ix2 i d) = (x.g h i d : EReal)
  o : ∀ i d, b.o (ix2 i d) = (x.o h i d : EReal)
  k : ∀ s d, b.k (ix2 s d) = (x.k h (row j s) d : EReal)
  v : ∀ s d, b.v (ix2 s d) = (x.v h (row j s) d : EReal)
  l : ∀ r i, b.l (ix4 0 r 0 i) = ((x.M h (row r i) + Real.log (x.S h (row r i)) : ℝ) : EReal)
  f : ∀ r i, b.f (ix4 0 r 0 i) = (x.f h (row r i) : EReal)
  fc : ∀ s, b.fc (ix2 s ⟨h.val, by omega⟩) = (x.f h (row j s) : EReal)

/-- What a point is handed: the sums over the key blocks before it, and the filled tables. -/
structure Handed (x : Dat) (h : Fin 8) (j : ℕ) (y : Car Ideal) : Prop where
  dFq : ∀ r i, y.dFq (ix4 0 r 0 i) = ((∑ a ∈ Finset.univ.filter (fun a : Fin 4 => a.val < j), ∑ b : Fin 1024, x.DS h (row r i) (row a b) : ℝ) : EReal)
  dq : ∀ r i d, y.dq (ix2 (row r i) d) = ((∑ a ∈ Finset.univ.filter (fun a : Fin 4 => a.val < j), ∑ b : Fin 1024, x.DS h (row r i) (row a b) * x.k h (row a b) d : ℝ) : EReal)
  qs : ∀ r i, y.qs (ix3 r 0 i) = ((x.f h (row r i) : EReal) - ((x.M h (row r i) + Real.log (x.S h (row r i)) : ℝ) : EReal)) * (((Real.log 2)⁻¹ : ℝ) : EReal)
  de : ∀ r i, y.de (ix3 r 0 i) = (x.del h (row r i) : EReal)

variable {b : Blk Ideal} {c : Car Ideal}

theorem fillQs_at (G : Given x h j b) (qs : Vec Ideal S4x1x1024 .f32) (i : Fin 1024) : ∀ n, n ≤ 4 → ∀ r : Fin 4, r.val < n → fillQs b.l b.f qs n (ix3 r 0 i)
      = ((x.f h (row r i) : EReal) - ((x.M h (row r i) + Real.log (x.S h (row r i)) : ℝ) : EReal)) * (((Real.log 2)⁻¹ : ℝ) : EReal)
  | 0, _, r, hr => absurd hr (Nat.not_lt_zero _)
  | n + 1, hn, r, hr => by
    have hn' : n < 4 := hn
    simp only [fillQs, dif_pos hn']
    rw [putSide_at]
    by_cases e : r.val = n
    · have e' : (⟨n, hn'⟩ : Fin 4) = r := Fin.ext e.symm
      rw [if_pos e, e', pay24_at, line_at, line_at, G.f, G.l]
    · rw [if_neg e]; exact fillQs_at G qs i n (Nat.le_of_lt hn') r (by omega)
theorem fillDe_at (G : Given x h j b) (de : Vec Ideal S4x1x1024 .f32) (i : Fin 1024) : ∀ n, n ≤ 4 → ∀ r : Fin 4, r.val < n →
    fillDe b.ct b.o de n (ix3 r 0 i) = (x.del h (row r i) : EReal)
  | 0, _, r, hr => absurd hr (Nat.not_lt_zero _)
  | n + 1, hn, r, hr => by
    have hn' : n < 4 := hn
    simp only [fillDe, dif_pos hn']
    rw [putSide_at]
    by_cases e : r.val = n
    · have e' : (⟨n, hn'⟩ : Fin 4) = r := Fin.ext e.symm
      rw [if_pos e, e', pay23_at]
      simp only [rows_at, G.ct, G.o, ← EReal.coe_mul, ← coe_sum]
      rw [x.del_eq]
    · rw [if_neg e]; exact fillDe_at G de i n (Nat.le_of_lt hn') r (by omega)

theorem zero_start (hj : j.val = 0) : (Finset.univ.filter fun a : Fin 4 => a.val < j.val) = ∅ := by
  ext a; simp only [Finset.mem_filter, Finset.mem_univ, true_and, Finset.notMem_empty, iff_false]; omega

/-- What a point leaves, and what it hands on. -/
theorem Given.leave (G : Given x h j b) (i : grid0.Coords) (h0 : (i 0).val = h.val) (h1 : (i 1) = j) (H : j.val ≠ 0 → Handed x h j.val c) :
    Is x h j (fun r i => ∑ a ∈ Finset.univ.filter (fun a : Fin 4 => a.val < j.val), ∑ b : Fin 1024, x.DS h (row r i) (row a b))
      (fun r i d => ∑ a ∈ Finset.univ.filter (fun a : Fin 4 => a.val < j.val), ∑ b : Fin 1024, x.DS h (row r i) (row a b) * x.k h (row a b) d)
      Finset.univ (b.leave i c) ∧ Handed x h (j.val + 1) (b.next i c) := by
  have h1v : (i 1).val = j.val := congrArg Fin.val h1
  have hqs : ∀ r a, begQs i b.l b.f c.qs (ix3 r 0 a)
      = ((x.f h (row r a) : EReal) - ((x.M h (row r a) + Real.log (x.S h (row r a)) : ℝ) : EReal)) * (((Real.log 2)⁻¹ : ℝ) : EReal) := fun r a => by
    unfold begQs
    split
    · exact fillQs_at G _ a 4 (Nat.le_refl _) r r.isLt
    · next hj => exact (H (by omega)).qs r a
  have hde : ∀ r a, begDe i b.ct b.o c.de (ix3 r 0 a) = (x.del h (row r a) : EReal) := fun r a => by
    unfold begDe
    split
    · exact fillDe_at G _ a 4 (Nat.le_refl _) r r.isLt
    · next hj => exact (H (by omega)).de r a
  have Y : Good x h j (ins i b.q b.k b.v b.fc b.ct b.o b.l b.f c.qs c.de) :=
    { q := G.q, ct := G.ct, k := G.k, v := G.v, qs := hqs, de := hde
      fk := fun s => by
        refine (pay25_at i b.fc s).trans ?_
        have e : (⟨(i 0).val, by have := h.isLt; omega⟩ : Fin 128) = ⟨h.val, by omega⟩ := Fin.ext h0
        rw [e, G.fc] }
  have S : Is x h j (fun r i => ∑ a ∈ Finset.univ.filter (fun a : Fin 4 => a.val < j.val), ∑ b : Fin 1024, x.DS h (row r i) (row a b))
      (fun r i d => ∑ a ∈ Finset.univ.filter (fun a : Fin 4 => a.val < j.val), ∑ b : Fin 1024, x.DS h (row r i) (row a b) * x.k h (row a b) d)
      ∅ (St.start (begFq i c.dFq) (begDq i c.dq)) :=
    { dFq := fun r a => by
        rw [if_neg (Finset.notMem_empty _), add_zero]
        show begFq i c.dFq _ = _
        unfold begFq
        split
        · next hj => rw [zero_start (by omega), Finset.sum_empty, pay22_at, EReal.coe_zero]
        · next hj => exact (H (by omega)).dFq r a
      dq := fun r a d => by
        rw [if_neg (Finset.notMem_empty _), add_zero]
        show begDq i c.dq _ = _
        unfold begDq
        split
        · next hj => rw [zero_start (by omega), Finset.sum_empty, pay21_at, EReal.coe_zero]
        · next hj => exact (H (by omega)).dq r a d
      dk := fun b d => (pay26_at b d).trans EReal.coe_zero.symm
      dv := fun b d => (pay27_at b d).trans EReal.coe_zero.symm
      cs := fun b => (pay28_at b).trans EReal.coe_zero.symm }
  have Z := Y.point S i h1
  have e : (Finset.univ.filter fun a : Fin 4 => a.val < j.val + 1) = insert j (Finset.univ.filter fun a : Fin 4 => a.val < j.val) := by
    ext a; simp only [Finset.mem_filter, Finset.mem_univ, true_and, Finset.mem_insert, Fin.ext_iff]; omega
  have hn : j ∉ (Finset.univ.filter fun a : Fin 4 => a.val < j.val) := by simp
  refine ⟨Z, ⟨fun r a => ?_, fun r a d => ?_, hqs, hde⟩⟩
  · refine (Z.dFq r a).trans ?_
    rw [if_pos (Finset.mem_univ _), e, Finset.sum_insert hn, add_comm]
  · refine (Z.dq r a d).trans ?_
    rw [if_pos (Finset.mem_univ _), e, Finset.sum_insert hn, add_comm]

end Cert.KernelIdeal.Fox

end
-- ==== Proof.Fox.Places.lean ====
/- The blocks the launch gives each grid point, read: the real data of the point's head and key block. -/
module

public import proofs.«01_k».proof.Proof.Fox.Track
public import proofs.«01_k».proof.Proof.Fox.Host
public import proofs.«01_k».proof.Proof.Fox.Point

@[expose] public section

set_option maxRecDepth 16384

noncomputable section

namespace Cert.KernelIdeal.Fox

open Idealize.ShloMosaic Idealize.ShloMosaic.TcCoe
open Idealize.SL.Sem
open Cert.KernelIdeal Cert.KernelIdeal.Gen
open Cert.Fox
open Cert.ReferenceIdeal.Fox (Reads)

/-! ## The blocks' places -/

theorem coord0 : ∀ t : Fin grid0.N, ((grid0.coords t) 0).val = t.val / 4 := by decide +kernel
theorem idx0 : ∀ t : Fin grid0.N, win0_0.index t 0 = 0 ∧ win0_0.index t 1 = t.val / 4 := by decide +kernel
theorem idx1 : ∀ t : Fin grid0.N, win0_1.index t 0 = t.val % 4 ∧ win0_1.index t 1 = 8 + t.val / 4 := by decide +kernel
theorem idx2 : ∀ t : Fin grid0.N, win0_2.index t 0 = t.val % 4 ∧ win0_2.index t 1 = 16 + t.val / 4 := by decide +kernel
theorem idx3 : ∀ t : Fin grid0.N, win0_3.index t 0 = 0 ∧ win0_3.index t 1 = t.val / 4 := by decide +kernel
theorem idx4 : ∀ t : Fin grid0.N, win0_4.index t 0 = 0 ∧ win0_4.index t 1 = t.val / 4 := by decide +kernel
theorem idx5 : ∀ t : Fin grid0.N, win0_5.index t 0 = t.val / 4 ∧ win0_5.index t 1 = 0 ∧ win0_5.index t 2 = 0 ∧ win0_5.index t 3 = 0 := by decide +kernel
theorem idx6 : ∀ t : Fin grid0.N, win0_6.index t 0 = t.val / 4 ∧ win0_6.index t 1 = 0 ∧ win0_6.index t 2 = 0 ∧ win0_6.index t 3 = 0 := by decide +kernel
theorem idx7 : ∀ t : Fin grid0.N, win0_7.index t 0 = t.val % 4 ∧ win0_7.index t 1 = 0 := by decide +kernel
theorem idx8 : ∀ t : Fin grid0.N, win0_8.index t 0 = 0 ∧ win0_8.index t 1 = t.val / 4 := by decide +kernel
theorem idx9 : ∀ t : Fin grid0.N, win0_9.index t 0 = t.val % 4 ∧ win0_9.index t 1 = t.val / 4 := by decide +kernel
theorem idx10 : ∀ t : Fin grid0.N, win0_10.index t 0 = t.val % 4 ∧ win0_10.index t 1 = t.val / 4 := by decide +kernel
theorem idx11 : ∀ t : Fin grid0.N, win0_11.index t 0 = t.val / 4 ∧ win0_11.index t 1 = t.val % 4 ∧ win0_11.index t 2 = 0 ∧ win0_11.index t 3 = 0 := by decide +kernel
theorem idx12 : ∀ t : Fin grid0.N, win0_12.index t 0 = t.val / 4 ∧ win0_12.index t 1 = 0 ∧ win0_12.index t 2 = 0 ∧ win0_12.index t 3 = 0 := by decide +kernel

/-- The head and the key block of point `t`. -/
def hd (t : Fin cfg0.N) : Fin 8 := ⟨t.val / 4, by have : t.val < 32 := lt_of_lt_of_eq t.isLt N_0; omega⟩
def ky (t : Fin cfg0.N) : Fin 4 := ⟨t.val % 4, Nat.mod_lt _ (by norm_num)⟩

variable (m : (ℓ : Loc nD τ sig) → Buf (Elt Ideal) ℓ) (c : Dev nD)

theorem blk0 (t : Fin cfg0.N) (i : Fin 4096) (d : Fin 128) : iblk m c 0 t (ix2 i d) = B0 m c (ix2 i ⟨(hd t).val * 128 + d.val, by omega⟩) := by
  unfold iblk
  rw [View.read_apply]
  show V m c main_arg0 _ = _
  rw [V_main_arg0]
  refine congrArg (B0 m c) (funext fun a => Fin.ext ?_)
  match a with
  | ⟨0, _⟩ => show win0_0.index t 0 * 4096 + 1 * i.val = i.val; rw [(idx0 t).1]; omega
  | ⟨1, _⟩ => show win0_0.index t 1 * 128 + 1 * d.val = t.val / 4 * 128 + d.val; rw [(idx0 t).2]; omega
theorem blk1 (t : Fin cfg0.N) (i : Fin 1024) (d : Fin 128) : iblk m c 1 t (ix2 i d) = B0 m c (ix2 (row (ky t) i) ⟨1024 + ((hd t).val * 128 + d.val), by omega⟩) := by
  unfold iblk
  rw [View.read_apply]
  show V m c main_arg0 _ = _
  rw [V_main_arg0]
  refine congrArg (B0 m c) (funext fun a => Fin.ext ?_)
  match a with
  | ⟨0, _⟩ => show win0_1.index t 0 * 1024 + 1 * i.val = t.val % 4 * 1024 + i.val; rw [(idx1 t).1]; omega
  | ⟨1, _⟩ => show win0_1.index t 1 * 128 + 1 * d.val = 1024 + (t.val / 4 * 128 + d.val); rw [(idx1 t).2]; omega
theorem blk2 (t : Fin cfg0.N) (i : Fin 1024) (d : Fin 128) : iblk m c 2 t (ix2 i d) = B0 m c (ix2 (row (ky t) i) ⟨2048 + ((hd t).val * 128 + d.val), by omega⟩) := by
  unfold iblk
  rw [View.read_apply]
  show V m c main_arg0 _ = _
  rw [V_main_arg0]
  refine congrArg (B0 m c) (funext fun a => Fin.ext ?_)
  match a with
  | ⟨0, _⟩ => show win0_2.index t 0 * 1024 + 1 * i.val = t.val % 4 * 1024 + i.val; rw [(idx2 t).1]; omega
  | ⟨1, _⟩ => show win0_2.index t 1 * 128 + 1 * d.val = 2048 + (t.val / 4 * 128 + d.val); rw [(idx2 t).2]; omega
theorem blk3 (t : Fin cfg0.N) (i : Fin 4096) (d : Fin 128) : iblk m c 3 t (ix2 i d) = B2 m c (ix2 i ⟨(hd t).val * 128 + d.val, by omega⟩) := by
  unfold iblk
  rw [View.read_apply]
  show V m c main_arg2 _ = _
  rw [V_main_arg2]
  refine congrArg (B2 m c) (funext fun a => Fin.ext ?_)
  match a with
  | ⟨0, _⟩ => show win0_3.index t 0 * 4096 + 1 * i.val = i.val; rw [(idx3 t).1]; omega
  | ⟨1, _⟩ => show win0_3.index t 1 * 128 + 1 * d.val = t.val / 4 * 128 + d.val; rw [(idx3 t).2]; omega
theorem read4 (X : FVec Ideal S4096x1024 .bf16) (t : Fin cfg0.N) (i : Fin 4096) (d : Fin 128) : (((cfg0.win 4).blk t).view.read (Elt Ideal) X : Vec Ideal S4096x128 .bf16) (ix2 i d) = X (ix2 i ⟨(hd t).val * 128 + d.val, by omega⟩) := by
  rw [View.read_apply]
  refine congrArg X (funext fun a => Fin.ext ?_)
  match a with
  | ⟨0, _⟩ => show win0_4.index t 0 * 4096 + 1 * i.val = i.val; rw [(idx4 t).1]; omega
  | ⟨1, _⟩ => show win0_4.index t 1 * 128 + 1 * d.val = t.val / 4 * 128 + d.val; rw [(idx4 t).2]; omega
theorem blk4 (t : Fin cfg0.N) (i : Fin 4096) (d : Fin 128) : iblk m c 4 t (ix2 i d) = V m c main_v51 (ix2 i ⟨(hd t).val * 128 + d.val, by omega⟩) :=
  read4 (V m c main_v51) t i d
theorem read5 (X : FVec Ideal S8x4x1x1024 .f32) (t : Fin cfg0.N) (r : Fin 4) (i : Fin 1024) : (((cfg0.win 5).blk t).view.read (Elt Ideal) X : Vec Ideal S1x4x1x1024 .f32) (ix4 0 r 0 i) = X (ix4 (hd t) r 0 i) := by
  rw [View.read_apply]
  refine congrArg X (funext fun a => Fin.ext ?_)
  match a with
  | ⟨0, _⟩ => show win0_5.index t 0 * 1 + 1 * 0 = t.val / 4; rw [(idx5 t).1]; omega
  | ⟨1, _⟩ => show win0_5.index t 1 * 4 + 1 * r.val = r.val; rw [(idx5 t).2.1]; omega
  | ⟨2, _⟩ => show win0_5.index t 2 * 1 + 1 * 0 = 0; rw [(idx5 t).2.2.1]
  | ⟨3, _⟩ => show win0_5.index t 3 * 1024 + 1 * i.val = i.val; rw [(idx5 t).2.2.2]; omega
theorem blk5 (t : Fin cfg0.N) (r : Fin 4) (i : Fin 1024) : iblk m c 5 t (ix4 0 r 0 i) = V m c main_v55 (ix4 (hd t) r 0 i) :=
  read5 (V m c main_v55) t r i
theorem read6 (X : FVec Ideal S8x4x1x1024 .f32) (t : Fin cfg0.N) (r : Fin 4) (i : Fin 1024) : (((cfg0.win 6).blk t).view.read (Elt Ideal) X : Vec Ideal S1x4x1x1024 .f32) (ix4 0 r 0 i) = X (ix4 (hd t) r 0 i) := by
  rw [View.read_apply]
  refine congrArg X (funext fun a => Fin.ext ?_)
  match a with
  | ⟨0, _⟩ => show win0_6.index t 0 * 1 + 1 * 0 = t.val / 4; rw [(idx6 t).1]; omega
  | ⟨1, _⟩ => show win0_6.index t 1 * 4 + 1 * r.val = r.val; rw [(idx6 t).2.1]; omega
  | ⟨2, _⟩ => show win0_6.index t 2 * 1 + 1 * 0 = 0; rw [(idx6 t).2.2.1]
  | ⟨3, _⟩ => show win0_6.index t 3 * 1024 + 1 * i.val = i.val; rw [(idx6 t).2.2.2]; omega
theorem blk6 (t : Fin cfg0.N) (r : Fin 4) (i : Fin 1024) : iblk m c 6 t (ix4 0 r 0 i) = V m c main_v54 (ix4 (hd t) r 0 i) :=
  read6 (V m c main_v54) t r i
theorem blk7 (t : Fin cfg0.N) (i : Fin 1024) (d : Fin 128) : iblk m c 7 t (ix2 i d) = B1 m c (ix2 (row (ky t) i) d) := by
  unfold iblk
  rw [View.read_apply]
  show V m c main_arg1 _ = _
  rw [V_main_arg1]
  refine congrArg (B1 m c) (funext fun a => Fin.ext ?_)
  match a with
  | ⟨0, _⟩ => show win0_7.index t 0 * 1024 + 1 * i.val = t.val % 4 * 1024 + i.val; rw [(idx7 t).1]; omega
  | ⟨1, _⟩ => show win0_7.index t 1 * 128 + 1 * d.val = d.val; rw [(idx7 t).2]; omega

variable {m c} {x : Dat}

/-- Column `h * 128 + d` is element `d` of head `h`. -/
theorem col (h : Fin 8) (d : Fin 128) : (⟨(h.val * 128 + d.val) / 128, by omega⟩ : Fin 8) = h ∧ (⟨(h.val * 128 + d.val) % 128, by omega⟩ : Fin 128) = d := by
  have := d.isLt
  exact ⟨Fin.ext (by show (h.val * 128 + d.val) / 128 = h.val; omega), Fin.ext (by show (h.val * 128 + d.val) % 128 = d.val; omega)⟩

theorem given_o (R : Reads x (B0 m c) (B1 m c) (B2 m c)) (t : Fin cfg0.N) (i : Fin 4096) (d : Fin 128) : iblk m c 4 t (ix2 i d) = (x.o (hd t) i d : EReal) := by
  rw [blk4, V51_at R]
  exact congrArg₂ (fun h e => (x.o h i e : EReal)) (col (hd t) d).1 (col (hd t) d).2
theorem given_l (R : Reads x (B0 m c) (B1 m c) (B2 m c)) (t : Fin cfg0.N) (r : Fin 4) (i : Fin 1024) :
    iblk m c 5 t (ix4 0 r 0 i) = ((x.M (hd t) (row r i) + Real.log (x.S (hd t) (row r i)) : ℝ) : EReal) := by
  rw [blk5, V55_at R]
theorem given_f (R : Reads x (B0 m c) (B1 m c) (B2 m c)) (t : Fin cfg0.N) (r : Fin 4) (i : Fin 1024) : iblk m c 6 t (ix4 0 r 0 i) = (x.f (hd t) (row r i) : EReal) := by
  rw [blk6, V54_at R]
theorem given_q (R : Reads x (B0 m c) (B1 m c) (B2 m c)) (t : Fin cfg0.N) (i : Fin 4096) (d : Fin 128) : iblk m c 0 t (ix2 i d) = (x.q (hd t) i d : EReal) := by
  rw [blk0]; exact R.q _ _ _
theorem given_g (R : Reads x (B0 m c) (B1 m c) (B2 m c)) (t : Fin cfg0.N) (i : Fin 4096) (d : Fin 128) : iblk m c 3 t (ix2 i d) = (x.g (hd t) i d : EReal) := by
  rw [blk3]; exact R.g _ _ _
theorem given_k (R : Reads x (B0 m c) (B1 m c) (B2 m c)) (t : Fin cfg0.N) (i : Fin 1024) (d : Fin 128) : iblk m c 1 t (ix2 i d) = (x.k (hd t) (row (ky t) i) d : EReal) := by
  rw [blk1]; exact R.k _ _ _
theorem given_v (R : Reads x (B0 m c) (B1 m c) (B2 m c)) (t : Fin cfg0.N) (i : Fin 1024) (d : Fin 128) : iblk m c 2 t (ix2 i d) = (x.v (hd t) (row (ky t) i) d : EReal) := by
  rw [blk2]; exact R.v _ _ _
theorem given_fc (R : Reads x (B0 m c) (B1 m c) (B2 m c)) (t : Fin cfg0.N) (i : Fin 1024) : iblk m c 7 t (ix2 i ⟨(hd t).val, by omega⟩) = (x.f (hd t) (row (ky t) i) : EReal) := by
  rw [blk7]; exact R.f _ _

theorem given (R : Reads x (B0 m c) (B1 m c) (B2 m c)) (t : Fin cfg0.N) : Given x (hd t) (ky t) (blk m c t) := by
  have hq := given_q R t
  have hg := given_g R t
  have ho := given_o R t
  have hk := given_k R t
  have hv := given_v R t
  have hl := given_l R t
  have hf := given_f R t
  have hc := given_fc R t
  unfold blk
  generalize iblk m c 0 t = w0 at *
  generalize iblk m c 1 t = w1 at *
  generalize iblk m c 2 t = w2 at *
  generalize iblk m c 3 t = w3 at *
  generalize iblk m c 4 t = w4 at *
  generalize iblk m c 5 t = w5 at *
  generalize iblk m c 6 t = w6 at *
  generalize iblk m c 7 t = w7 at *
  exact ⟨hq, hg, ho, hk, hv, hl, hf, hc⟩

end Cert.KernelIdeal.Fox

end
-- ==== Proof.Fox.Final.lean ====
/- The five result arrays after the launch: the real gradients, element by element. -/
module

public import proofs.«01_k».proof.Proof.Fox.Places
public import Idealize.ShloMosaic.Lib.Pipeline.ValueKit

@[expose] public section

set_option maxRecDepth 16384

noncomputable section

namespace Cert.KernelIdeal.Fox

open Idealize.ShloMosaic Idealize.ShloMosaic.TcCoe
open Idealize.SL.Sem
open Cert.KernelIdeal Cert.KernelIdeal.Gen
open Cert.Fox
open Cert.ReferenceIdeal.Fox (Reads)

/-! ## Point after point -/

variable {m : (ℓ : Loc nD τ sig) → Buf (Elt Ideal) ℓ} {c : Dev nD} {x : Dat}

theorem key (t : Fin cfg0.N) : (grid0.coords t) 1 = ky t := Fin.ext (coord1 t)

theorem handed (R : Reads x (B0 m c) (B1 m c) (B2 m c)) : ∀ (n : ℕ) (hn : n < cfg0.N), n % 4 ≠ 0 → Handed x (hd ⟨n, hn⟩) (n % 4) (carry m c n)
  | 0, _, h => absurd rfl h
  | n + 1, hn, h => by
    have hn' : n < cfg0.N := Nat.lt_of_succ_lt hn
    have ih := handed R n hn'
    have L := ((given R ⟨n, hn'⟩).leave (c := carry m c n) (grid0.coords ⟨n, hn'⟩) (coord0 ⟨n, hn'⟩) (key ⟨n, hn'⟩) fun e => ih e).2
    have e := carry_succ m c ⟨n, hn'⟩
    have e1 : hd ⟨n + 1, hn⟩ = hd ⟨n, hn'⟩ := Fin.ext (by show (n + 1) / 4 = n / 4; omega)
    have e2 : (n + 1) % 4 = (ky ⟨n, hn'⟩).val + 1 := by show (n + 1) % 4 = n % 4 + 1; omega
    rw [e1, e2]
    show Handed x _ _ (carry m c ((⟨n, hn'⟩ : Fin cfg0.N).val + 1))
    rw [e]
    exact L

theorem leaves (R : Reads x (B0 m c) (B1 m c) (B2 m c)) (t : Fin cfg0.N) :
    Is x (hd t) (ky t) (fun r i => ∑ a ∈ Finset.univ.filter (fun a : Fin 4 => a.val < (ky t).val), ∑ b : Fin 1024, x.DS (hd t) (row r i) (row a b))
      (fun r i d => ∑ a ∈ Finset.univ.filter (fun a : Fin 4 => a.val < (ky t).val), ∑ b : Fin 1024, x.DS (hd t) (row r i) (row a b) * x.k (hd t) (row a b) d)
      Finset.univ (left m c t) ∧ Handed x (hd t) ((ky t).val + 1) ((blk m c t).next (grid0.coords t) (carry m c t.val)) :=
  (given R t).leave (c := carry m c t.val) (grid0.coords t) (coord0 t) (key t) fun e => handed R t.val t.isLt e

/-- Four blocks of 1024 rows are the 4096 rows. -/
theorem sum_blocks (T : Fin 4096 → ℝ) : ∑ a : Fin 4, ∑ b : Fin 1024, T (row a b) = ∑ s : Fin 4096, T s := by
  rw [← Fintype.sum_prod_type' (f := fun a b => T (row a b))]
  exact Fintype.sum_equiv (finProdFinEquiv.trans (finCongr (by norm_num : 4 * 1024 = 4096))) _ _ fun p => congrArg T (Fin.ext (by
    show p.1.val * 1024 + p.2.val = p.2.val + 1024 * p.1.val; omega))

theorem all_four (j : ℕ) (hj : j = 4) : (Finset.univ.filter fun a : Fin 4 => a.val < j) = Finset.univ := by
  subst hj; ext a; simp

/-- A head's last point leaves the head's query gradient and row sums. -/
theorem left_dq (R : Reads x (B0 m c) (B1 m c) (B2 m c)) (t : Fin cfg0.N) (ht : t.val % 4 = 3) (i : Fin 4096) (d : Fin 128) :
    (left m c t).dq (ix2 i d) = ((∑ s : Fin 4096, x.DS (hd t) i s * x.k (hd t) s d : ℝ) : EReal) := by
  have hi := i.isLt
  have e : i = row ⟨i.val / 1024, by omega⟩ ⟨i.val % 1024, by omega⟩ := Fin.ext (by show i.val = i.val / 1024 * 1024 + i.val % 1024; omega)
  have h := (leaves R t).2.dq ⟨i.val / 1024, by omega⟩ ⟨i.val % 1024, by omega⟩ d
  rw [all_four _ (by show t.val % 4 + 1 = 4; omega), ← e, sum_blocks fun s => x.DS (hd t) i s * x.k (hd t) s d] at h
  exact h
theorem left_dFq (R : Reads x (B0 m c) (B1 m c) (B2 m c)) (t : Fin cfg0.N) (ht : t.val % 4 = 3) (r : Fin 4) (i : Fin 1024) :
    (left m c t).dFq (ix4 0 r 0 i) = (x.dFq (hd t) (row r i) : EReal) := by
  have h := (leaves R t).2.dFq r i
  rw [all_four _ (by show t.val % 4 + 1 = 4; omega), sum_blocks fun s => x.DS (hd t) (row r i) s] at h
  exact h
/-- Every point leaves its key block's gradients and column sums. -/
theorem left_dk (R : Reads x (B0 m c) (B1 m c) (B2 m c)) (t : Fin cfg0.N) (b : Fin 1024) (d : Fin 128) :
    (left m c t).dk (ix2 b d) = ((∑ i : Fin 4096, x.DS (hd t) i (row (ky t) b) * x.q (hd t) i d : ℝ) : EReal) := by
  have h := (leaves R t).1.dk b d
  rw [sum_blocks fun i => x.DS (hd t) i (row (ky t) b) * x.q (hd t) i d] at h
  exact h
theorem left_dv (R : Reads x (B0 m c) (B1 m c) (B2 m c)) (t : Fin cfg0.N) (b : Fin 1024) (d : Fin 128) :
    (left m c t).dv (ix2 b d) = ((∑ i : Fin 4096, x.P (hd t) i (row (ky t) b) * x.g (hd t) i d : ℝ) : EReal) := by
  have h := (leaves R t).1.dv b d
  rw [sum_blocks fun i => x.P (hd t) i (row (ky t) b) * x.g (hd t) i d] at h
  exact h
theorem left_cs (R : Reads x (B0 m c) (B1 m c) (B2 m c)) (t : Fin cfg0.N) (b : Fin 1024) :
    (left m c t).cs (ix2 b 0) = ((∑ i : Fin 4096, x.DS (hd t) i (row (ky t) b) : ℝ) : EReal) := by
  have h := (leaves R t).1.cs b
  rw [sum_blocks fun i => x.DS (hd t) i (row (ky t) b)] at h
  exact h

/-! ## The arrays -/

theorem at8 (t : Fin cfg0.N) (i : Fin 4096) (d : Fin 128) :
    (((cfg0.win 8).blk t).view.emb (ix2 i d) : S4096x1024.Idx) = ix2 i ⟨(hd t).val * 128 + d.val, by omega⟩ := funext fun a => Fin.ext (by
  match a with
  | ⟨0, _⟩ => show win0_8.index t 0 * 4096 + 1 * i.val = i.val; rw [(idx8 t).1]; omega
  | ⟨1, _⟩ => show win0_8.index t 1 * 128 + 1 * d.val = t.val / 4 * 128 + d.val; rw [(idx8 t).2]; omega)
theorem at9 (t : Fin cfg0.N) (i : Fin 1024) (d : Fin 128) :
    (((cfg0.win 9).blk t).view.emb (ix2 i d) : S4096x1024.Idx) = ix2 (row (ky t) i) ⟨(hd t).val * 128 + d.val, by omega⟩ := funext fun a => Fin.ext (by
  match a with
  | ⟨0, _⟩ => show win0_9.index t 0 * 1024 + 1 * i.val = t.val % 4 * 1024 + i.val; rw [(idx9 t).1]; omega
  | ⟨1, _⟩ => show win0_9.index t 1 * 128 + 1 * d.val = t.val / 4 * 128 + d.val; rw [(idx9 t).2]; omega)
theorem at10 (t : Fin cfg0.N) (i : Fin 1024) (d : Fin 128) :
    (((cfg0.win 10).blk t).view.emb (ix2 i d) : S4096x1024.Idx) = ix2 (row (ky t) i) ⟨(hd t).val * 128 + d.val, by omega⟩ := funext fun a => Fin.ext (by
  match a with
  | ⟨0, _⟩ => show win0_10.index t 0 * 1024 + 1 * i.val = t.val % 4 * 1024 + i.val; rw [(idx10 t).1]; omega
  | ⟨1, _⟩ => show win0_10.index t 1 * 128 + 1 * d.val = t.val / 4 * 128 + d.val; rw [(idx10 t).2]; omega)
theorem at11 (t : Fin cfg0.N) (i : Fin 1024) :
    (((cfg0.win 11).blk t).view.emb (ix4 0 0 0 i) : S8x4x1x1024.Idx) = ix4 (hd t) (ky t) 0 i := funext fun a => Fin.ext (by
  match a with
  | ⟨0, _⟩ => show win0_11.index t 0 * 1 + 1 * 0 = t.val / 4; rw [(idx11 t).1]; omega
  | ⟨1, _⟩ => show win0_11.index t 1 * 1 + 1 * 0 = t.val % 4; rw [(idx11 t).2.1]; omega
  | ⟨2, _⟩ => show win0_11.index t 2 * 1 + 1 * 0 = 0; rw [(idx11 t).2.2.1]
  | ⟨3, _⟩ => show win0_11.index t 3 * 1024 + 1 * i.val = i.val; rw [(idx11 t).2.2.2]; omega)
theorem at12 (t : Fin cfg0.N) (r : Fin 4) (i : Fin 1024) :
    (((cfg0.win 12).blk t).view.emb (ix4 0 r 0 i) : S8x4x1x1024.Idx) = ix4 (hd t) r 0 i := funext fun a => Fin.ext (by
  match a with
  | ⟨0, _⟩ => show win0_12.index t 0 * 1 + 1 * 0 = t.val / 4; rw [(idx12 t).1]; omega
  | ⟨1, _⟩ => show win0_12.index t 1 * 4 + 1 * r.val = r.val; rw [(idx12 t).2.1]; omega
  | ⟨2, _⟩ => show win0_12.index t 2 * 1 + 1 * 0 = 0; rw [(idx12 t).2.2.1]
  | ⟨3, _⟩ => show win0_12.index t 3 * 1024 + 1 * i.val = i.val; rw [(idx12 t).2.2.2]; omega)

theorem one4 {n : ℕ} (y : (⟨4, ![1, 1, 1, n]⟩ : Shape).Idx) : y = ix4 0 0 0 (y 3) := funext fun a => by
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
theorem two4 {k n : ℕ} (y : (⟨4, ![1, k, 1, n]⟩ : Shape).Idx) : y = ix4 0 (y 1) 0 (y 3) := funext fun a => by
  match a with
  | ⟨0, _⟩ => exact Subsingleton.elim (α := Fin 1) _ _
  | ⟨1, _⟩ => rfl
  | ⟨2, _⟩ => exact Subsingleton.elim (α := Fin 1) _ _
  | ⟨3, _⟩ => rfl

theorem over_root (a : ℝ) : (a : EReal) * (((Real.sqrt 128)⁻¹ : ℝ) : EReal) = ((a / Real.sqrt 128 : ℝ) : EReal) := by
  rw [← EReal.coe_mul, div_eq_mul_inv]

theorem final8 (R : Reads x (B0 m c) (B1 m c) (B2 m c)) (G : FVec Ideal S4096x1024 .bf16)
    (hG : ∀ i (j : Fin 1024), G (ix2 i j) = (x.dq ⟨j.val / 128, by omega⟩ i ⟨j.val % 128, by omega⟩ : EReal)) : (dats m 0 c).arrAt 8 cfg0.N = G := by
  refine (dats m 0 c).arrAt_eq_of_covers 8 G (by decide +kernel) fun t hf y => ?_
  obtain ⟨i, d, rfl⟩ : ∃ (i : Fin 4096) (d : Fin 128), y = ix2 i d := ⟨_, _, eq_ix2 y⟩
  show k0_pay10 (left m c t).dq (ix2 i d) = G (((cfg0.win 8).blk t).view.emb (ix2 i d) : S4096x1024.Idx)
  rw [at8, hG, pay10_at, left_dq R t ((flush0_8 t).mp hf), over_root]
  exact congrArg₂ (fun h e => (x.dq h i e : EReal)) (col (hd t) d).1.symm (col (hd t) d).2.symm
theorem final9 (R : Reads x (B0 m c) (B1 m c) (B2 m c)) (G : FVec Ideal S4096x1024 .bf16)
    (hG : ∀ i (j : Fin 1024), G (ix2 i j) = (x.dk ⟨j.val / 128, by omega⟩ i ⟨j.val % 128, by omega⟩ : EReal)) : (dats m 0 c).arrAt 9 cfg0.N = G := by
  refine (dats m 0 c).arrAt_eq_of_covers 9 G (by decide +kernel) fun t hf y => ?_
  obtain ⟨i, d, rfl⟩ : ∃ (i : Fin 1024) (d : Fin 128), y = ix2 i d := ⟨_, _, eq_ix2 y⟩
  show k0_pay7 (left m c t).dk (ix2 i d) = G (((cfg0.win 9).blk t).view.emb (ix2 i d) : S4096x1024.Idx)
  rw [at9, hG, pay7_at, left_dk R t, over_root]
  exact congrArg₂ (fun h e => (x.dk h (row (ky t) i) e : EReal)) (col (hd t) d).1.symm (col (hd t) d).2.symm
theorem final10 (R : Reads x (B0 m c) (B1 m c) (B2 m c)) (G : FVec Ideal S4096x1024 .bf16)
    (hG : ∀ i (j : Fin 1024), G (ix2 i j) = (x.dv ⟨j.val / 128, by omega⟩ i ⟨j.val % 128, by omega⟩ : EReal)) : (dats m 0 c).arrAt 10 cfg0.N = G := by
  refine (dats m 0 c).arrAt_eq_of_covers 10 G (by decide +kernel) fun t hf y => ?_
  obtain ⟨i, d, rfl⟩ : ∃ (i : Fin 1024) (d : Fin 128), y = ix2 i d := ⟨_, _, eq_ix2 y⟩
  show k0_pay8 (left m c t).dv (ix2 i d) = G (((cfg0.win 10).blk t).view.emb (ix2 i d) : S4096x1024.Idx)
  rw [at10, hG, pay8_at, left_dv R t]
  exact congrArg₂ (fun h e => (x.dv h (row (ky t) i) e : EReal)) (col (hd t) d).1.symm (col (hd t) d).2.symm
theorem final11 (R : Reads x (B0 m c) (B1 m c) (B2 m c)) (G : FVec Ideal S8x4x1x1024 .f32)
    (hG : ∀ h r b, G (ix4 h r 0 b) = (x.dFk h (row r b) : EReal)) : (dats m 0 c).arrAt 11 cfg0.N = G := by
  refine (dats m 0 c).arrAt_eq_of_covers 11 G (by decide +kernel) fun t hf y => ?_
  obtain ⟨i, rfl⟩ : ∃ (i : Fin 1024), y = ix4 0 0 0 i := ⟨_, one4 y⟩
  show k0_pay9 (left m c t).cs (ix4 0 0 0 i) = G (((cfg0.win 11).blk t).view.emb (ix4 0 0 0 i) : S8x4x1x1024.Idx)
  rw [at11, hG, pay9_at, left_cs R t, ← EReal.coe_zero, ← EReal.coe_sub, zero_sub]
  rfl
theorem final12 (R : Reads x (B0 m c) (B1 m c) (B2 m c)) (G : FVec Ideal S8x4x1x1024 .f32)
    (hG : ∀ h r b, G (ix4 h r 0 b) = (x.dFq h (row r b) : EReal)) : (dats m 0 c).arrAt 12 cfg0.N = G := by
  refine (dats m 0 c).arrAt_eq_of_covers 12 G (by decide +kernel) fun t hf y => ?_
  obtain ⟨r, i, rfl⟩ : ∃ (r : Fin 4) (i : Fin 1024), y = ix4 0 r 0 i := ⟨_, _, two4 y⟩
  show (left m c t).dFq (ix4 0 r 0 i) = G (((cfg0.win 12).blk t).view.emb (ix4 0 r 0 i) : S8x4x1x1024.Idx)
  rw [at12, hG, left_dFq R t ((flush0_12 t).mp hf)]

/-- After the frame run the arguments are as they were. -/
theorem kept (m : (ℓ : Loc nD τ sig) → Buf (Elt Ideal) ℓ) {r} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 2).trans (((dats m 0 c).arrAt_in 2 rfl _).trans ((A_eq m c 2).trans (V_main_arg0 m c))),
    ((h c).1 7).trans (((dats m 0 c).arrAt_in 7 rfl _).trans ((A_eq m c 7).trans (V_main_arg1 m c))),
    ((h c).1 3).trans (((dats m 0 c).arrAt_in 3 rfl _).trans ((A_eq m c 3).trans (V_main_arg2 m c)))⟩

end Cert.KernelIdeal.Fox

end
-- ==== Proof.Fox.Pre.lean ====
/- Finite arguments: under the precondition every argument entry read is the real number of its own value. -/
module

public import proofs.«01_k».proof.Defs
public import proofs.«01_k».proof.Proof.Fox.Ref
public import Idealize.ShloMosaic.Lib.Pointwise

@[expose] public section

set_option maxRecDepth 16384

noncomputable section

namespace Cert.Fox

open Idealize.ShloMosaic Idealize.ShloMosaic.TcCoe
open Cert.ReferenceIdeal.Fox (Reads)

instance pre_facts : Cert.Pre_finite.Facts where
  bitsLt_bf16_f32 := by decide
  bcast_S_S4096x3072 := by decide
  slices_S4096x128_S4096x8_0_0 := by decide
  bcast_S_S4096x8 := by decide
  bcast_S_S4096x1024 := by decide

theorem inf_f32 : Ideal.ofBits .f32 0x7F800000#32 = ⊤ := by simp [Ideal.ofBits, Ideal.ieee, -EReal.coe_mul]

/-- A number whose magnitude is below infinity is the real number of its value. -/
theorem real_of_abs_lt (a : EReal) (h : Ideal.cmp .olt (max a (-a)) (Ideal.ofBits .f32 0x7F800000#32) = 1#1) : a = (a.toReal : EReal) := by
  have h' : max a (-a) < ⊤ := by
    rw [inf_f32] at h
    by_contra hn
    simp [Ideal.cmp, hn] at h
  refine (EReal.coe_toReal ?_ ?_).symm
  · rintro rfl; simp at h'
  · rintro rfl; simp at h'

variable (a0 : FVec Ideal Cert.Pre_finite.S4096x3072 .bf16) (a1 : FVec Ideal Cert.Pre_finite.S4096x128 .f32) (a2 : FVec Ideal Cert.Pre_finite.S4096x1024 .bf16)

theorem real0 (h : (Cert.Pre_finite.fn (F := Ideal) a0 a1 a2).1 = fun _ => 1#1) (i : Fin 4096) (j : Fin 3072) :
    a0 (ix2 i j) = ((a0 (ix2 i j)).toReal : EReal) := real_of_abs_lt _ (congrFun h (ix2 i j))

theorem real2 (h : (Cert.Pre_finite.fn (F := Ideal) a0 a1 a2).2.2 = fun _ => 1#1) (i : Fin 4096) (j : Fin 1024) :
    a2 (ix2 i j) = ((a2 (ix2 i j)).toReal : EReal) := real_of_abs_lt _ (congrFun h (ix2 i j))

theorem real1 (h : (Cert.Pre_finite.fn (F := Ideal) a0 a1 a2).2.1 = fun _ => 1#1) (i : Fin 4096) (j : Fin 8) :
    a1 (ix2 i ⟨j.val, by omega⟩) = ((a1 (ix2 i ⟨j.val, by omega⟩)).toReal : EReal) := by
  refine real_of_abs_lt _ ?_
  have e : extractStridedSlice Cert.Pre_finite.S4096x8 ![0, 0] a1 Cert.Pre_finite.Facts.slices_S4096x128_S4096x8_0_0 (ix2 i j) = a1 (ix2 i ⟨j.val, by omega⟩) := by pointwise!
  rw [← e]
  exact congrFun h (ix2 i j)

/-- The real numbers of the three arguments. -/
def parts : Dat where
  q h i d := (a0 (ix2 i ⟨h.val * 128 + d.val, by omega⟩)).toReal
  k h i d := (a0 (ix2 i ⟨1024 + (h.val * 128 + d.val), by omega⟩)).toReal
  v h i d := (a0 (ix2 i ⟨2048 + (h.val * 128 + d.val), by omega⟩)).toReal
  g h i d := (a2 (ix2 i ⟨h.val * 128 + d.val, by omega⟩)).toReal
  f h i := (a1 (ix2 i ⟨h.val, by omega⟩)).toReal

theorem reads (h0 : (Cert.Pre_finite.fn (F := Ideal) a0 a1 a2).1 = fun _ => 1#1)
    (h1 : (Cert.Pre_finite.fn (F := Ideal) a0 a1 a2).2.1 = fun _ => 1#1)
    (h2 : (Cert.Pre_finite.fn (F := Ideal) a0 a1 a2).2.2 = fun _ => 1#1) : Reads (parts a0 a1 a2) a0 a1 a2 where
  q _ _ _ := real0 a0 a1 a2 h0 _ _
  k _ _ _ := real0 a0 a1 a2 h0 _ _
  v _ _ _ := real0 a0 a1 a2 h0 _ _
  g _ _ _ := real2 a0 a1 a2 h2 _ _
  f _ _ := real1 a0 a1 a2 h1 _ _

end Cert.Fox

end
-- ==== Proof.FoxFwd.Soft.lean ====
/- The softmax of a row taken block by block: after any blocks the running sums are the row's sums over those keys, at some scale. -/
module

public import proofs.«01_k».proof.Proof.Fox.Real

@[expose] public section

noncomputable section

namespace Cert.Fox

open Idealize.ShloMosaic

variable (x : Dat) (V : Fin 8 → Fin 4096 → Fin 128 → EReal) (h : Fin 8) (i : Fin 4096)

/-- The attention on any extended values `V`. -/
def Dat.out (d : Fin 128) : EReal := ∑ s : Fin 4096, (x.P h i s : EReal) * V h s d

theorem mul_sum_real {ι : Type} {r : ℝ} (hr : 0 ≤ r) (t : Finset ι) (f : ι → EReal) : (r : EReal) * ∑ a ∈ t, f a = ∑ a ∈ t, (r : EReal) * f a := by
  classical
  induction t using Finset.induction_on with
  | empty => simp
  | insert a t ha ih =>
    rw [Finset.sum_insert ha, Finset.sum_insert ha, EReal.left_distrib_of_nonneg_of_ne_top (EReal.coe_nonneg.mpr hr) (EReal.coe_ne_top r), ih]

/-- The weight of key `s` at scale `u`. -/
def wt (u : ℝ) (s : Fin 4096) : ℝ := Real.exp (x.z h i s - u * Real.log 2)

/-- The running maximum, sum and weighted sum after the keys in `N`. -/
structure Run (N : Finset (Fin 4096)) (m l : EReal) (acc : Fin 128 → EReal) : Prop where
  either : (m = ⊥ ∧ l = 0 ∧ (∀ d, acc d = 0) ∧ N = ∅) ∨
    ∃ u : ℝ, m = (u : EReal) ∧ l = ((∑ s ∈ N, wt x h i u s : ℝ) : EReal) ∧ ∀ d, acc d = ∑ s ∈ N, (wt x h i u s : EReal) * V h s d

theorem Run.start : Run x V h i ∅ ⊥ 0 (fun _ => 0) := ⟨.inl ⟨rfl, rfl, fun _ => rfl, rfl⟩⟩

theorem row_inj (j : Fin 4) : Function.Injective (row j) := fun a b e => Fin.ext (by
  have := congrArg Fin.val e
  simp only [row] at this
  omega)

theorem fold_real {C : Finset (Fin 1024)} (hC : C.Nonempty) (g : Fin 1024 → ℝ) (p : Fin 1024 → EReal) (hp : ∀ b, p b = if b ∈ C then (g b : EReal) else ⊥) :
    ∃ r : ℝ, Finset.univ.fold max (⊥ : EReal) p = (r : EReal) := by
  refine ⟨_, (EReal.coe_toReal (ne_of_lt ?_) (ne_of_gt ?_)).symm⟩
  · refine Finset.fold_max_lt _ |>.mpr ⟨bot_lt_top, fun b _ => ?_⟩
    rw [hp]; split
    · exact EReal.coe_lt_top _
    · exact bot_lt_top
  · obtain ⟨b, hb⟩ := hC
    refine Finset.lt_fold_max _ |>.mpr (Or.inr ⟨b, Finset.mem_univ _, ?_⟩)
    rw [hp, if_pos hb]; exact EReal.bot_lt_coe _

theorem scaled (u u' : ℝ) (s : Fin 4096) : Real.exp ((u - u') * Real.log 2) * wt x h i u s = wt x h i u' s := by
  unfold wt
  rw [← Real.exp_add]
  congr 1; ring

/-- One more block of keys. -/
theorem Run.step {N : Finset (Fin 4096)} {m l : EReal} {acc : Fin 128 → EReal} (R : Run x V h i N m l acc) (j : Fin 4) (C : Finset (Fin 1024)) (hC : C.Nonempty)
    (hN : ∀ b ∈ C, row j b ∉ N) (F : ℝ) (p : Fin 1024 → EReal)
    (hp : ∀ b, p b = if b ∈ C then ((x.z h i (row j b) * (Real.log 2)⁻¹ - F : ℝ) : EReal) else ⊥)
    (m' l' al : EReal) (acc' : Fin 128 → EReal) (w : Fin 1024 → EReal)
    (hm : m' = max m (Finset.univ.fold max (⊥ : EReal) p + (F : EReal)))
    (hal : al = Ideal.exp2 (m - m')) (hw : ∀ b, w b = Ideal.exp2 (p b + ((F : EReal) - m')))
    (hl : l' = al * l + ∑ b : Fin 1024, w b)
    (hacc : ∀ d, acc' d = al * acc d + ∑ b : Fin 1024, w b * V h (row j b) d) :
    Run x V h i (N ∪ C.map ⟨row j, row_inj j⟩) m' l' acc' := by
  obtain ⟨r, hr⟩ := fold_real hC _ p hp
  rw [hr, ← EReal.coe_add] at hm
  obtain ⟨u', hu'⟩ : ∃ u' : ℝ, m' = (u' : EReal) := by
    rw [hm]
    rcases R.either with ⟨h0, -⟩ | ⟨u, h0, -⟩
    · rw [h0, max_bot_left]; exact ⟨_, rfl⟩
    · rw [h0]; exact ⟨max u (r + F), by rcases le_total u (r + F) with hh | hh
                                        · rw [max_eq_right hh, max_eq_right (EReal.coe_le_coe_iff.mpr hh)]
                                        · rw [max_eq_left hh, max_eq_left (EReal.coe_le_coe_iff.mpr hh)]⟩
  have w_at : ∀ b, w b = ((if b ∈ C then wt x h i u' (row j b) else 0 : ℝ) : EReal) := fun b => by
    rw [hw, hp, hu', ← EReal.coe_sub]
    by_cases hb : b ∈ C
    · rw [if_pos hb, if_pos hb, ← EReal.coe_add, exp2_real]
      unfold wt
      have h2 := log2_ne
      congr 2
      field_simp
      ring
    · rw [if_neg hb, if_neg hb, EReal.bot_add, exp2_bot, EReal.coe_zero]
  have dj : Disjoint N (C.map ⟨row j, row_inj j⟩) := by
    rw [Finset.disjoint_right]
    intro s hs
    obtain ⟨b, hb, rfl⟩ := Finset.mem_map.mp hs
    exact hN b hb
  have sumC : ∀ f : Fin 4096 → EReal, ∑ b : Fin 1024, (if b ∈ C then f (row j b) else 0) = ∑ s ∈ C.map ⟨row j, row_inj j⟩, f s := fun f => by
    rw [Finset.sum_map, ← Finset.sum_filter]
    refine Finset.sum_congr (by ext b; simp) fun b _ => rfl
  have s1 : ∑ b : Fin 1024, w b = ((∑ s ∈ C.map ⟨row j, row_inj j⟩, wt x h i u' s : ℝ) : EReal) := by
    rw [coe_sum, ← sumC fun s => (wt x h i u' s : EReal)]
    refine Finset.sum_congr rfl fun b _ => (w_at b).trans ?_
    split
    · rfl
    · exact EReal.coe_zero
  have s2 : ∀ d, ∑ b : Fin 1024, w b * V h (row j b) d = ∑ s ∈ C.map ⟨row j, row_inj j⟩, (wt x h i u' s : EReal) * V h s d := fun d => by
    rw [← sumC fun s => (wt x h i u' s : EReal) * V h s d]
    refine Finset.sum_congr rfl fun b _ => ?_
    rw [w_at b]
    split
    · rfl
    · rw [EReal.coe_zero, zero_mul]
  refine ⟨.inr ⟨u', hu', ?_, fun d => ?_⟩⟩
  · rw [hl, s1, Finset.sum_union dj, EReal.coe_add]
    refine congrArg (· + _) ?_
    rcases R.either with ⟨h0, h1, -, h3⟩ | ⟨u, h0, h1, -⟩
    · rw [h1, h3, mul_zero, Finset.sum_empty, EReal.coe_zero]
    · rw [hal, h0, hu', ← EReal.coe_sub, exp2_real, h1, ← EReal.coe_mul, Finset.mul_sum]
      simp only [scaled]
  · rw [hacc, s2, Finset.sum_union dj]
    refine congrArg (· + _) ?_
    rcases R.either with ⟨h0, -, h2, h3⟩ | ⟨u, h0, -, h2⟩
    · rw [h2, h3, mul_zero, Finset.sum_empty]
    · rw [hal, h0, hu', ← EReal.coe_sub, exp2_real, h2, mul_sum_real (Real.exp_pos _).le]
      simp only [← mul_assoc, ← EReal.coe_mul, scaled]

/-- The keys of the blocks before block `n`. -/
def before (n : ℕ) : Finset (Fin 4096) := Finset.univ.filter fun s => s.val < n * 1024
theorem before_zero : before 0 = ∅ := by ext s; simp [before]
theorem before_succ (j : Fin 4) : before j.val ∪ (Finset.univ : Finset (Fin 1024)).map ⟨row j, row_inj j⟩ = before (j.val + 1) := by
  ext s
  simp only [before, Finset.mem_union, Finset.mem_filter, Finset.mem_univ, true_and, Finset.mem_map, Function.Embedding.coeFn_mk]
  constructor
  · rintro (hs | ⟨b, rfl⟩)
    · omega
    · show j.val * 1024 + b.val < _; omega
  · intro hs
    by_cases h1 : s.val < j.val * 1024
    · exact .inl h1
    · exact .inr ⟨⟨s.val - j.val * 1024, by omega⟩, Fin.ext (by show j.val * 1024 + (s.val - j.val * 1024) = s.val; omega)⟩
theorem not_before (j : Fin 4) (b : Fin 1024) : row j b ∉ before j.val := by
  simp only [before, Finset.mem_filter, Finset.mem_univ, true_and, row]; omega

/-- The columns of the diagonal block up to row `a`, and the keys they complete. -/
def upto (a : Fin 1024) : Finset (Fin 1024) := Finset.univ.filter fun b => b ≤ a
theorem mem_upto (a b : Fin 1024) : b ∈ upto a ↔ b ≤ a := by simp [upto]
theorem upto_nonempty (a : Fin 1024) : (upto a).Nonempty := ⟨a, (mem_upto a a).mpr le_rfl⟩
theorem before_last (j : Fin 4) (a : Fin 1024) : before j.val ∪ (upto a).map ⟨row j, row_inj j⟩ = Finset.univ.filter fun s => s ≤ row j a := by
  ext s
  simp only [before, upto, Finset.mem_union, Finset.mem_filter, Finset.mem_univ, true_and, Finset.mem_map, Function.Embedding.coeFn_mk, Fin.le_def]
  constructor
  · rintro (hs | ⟨b, hb, rfl⟩)
    · show s.val ≤ j.val * 1024 + a.val; omega
    · show j.val * 1024 + b.val ≤ j.val * 1024 + a.val; omega
  · intro hs
    have hs' : s.val ≤ j.val * 1024 + a.val := hs
    by_cases h1 : s.val < j.val * 1024
    · exact .inl h1
    · exact .inr ⟨⟨s.val - j.val * 1024, by omega⟩, by show s.val - j.val * 1024 ≤ a.val; omega,
        Fin.ext (by show j.val * 1024 + (s.val - j.val * 1024) = s.val; omega)⟩

theorem e_wt (u : ℝ) (s : Fin 4096) (hs : s ≤ i) : wt x h i u s = Real.exp (x.M h i - u * Real.log 2) * x.e h i s := by
  unfold wt Dat.e
  rw [if_pos hs, ← Real.exp_add]
  congr 1; ring

theorem sum_wt (u : ℝ) (f : Fin 4096 → ℝ) :
    ∑ s ∈ Finset.univ.filter (fun s => s ≤ i), wt x h i u s * f s = Real.exp (x.M h i - u * Real.log 2) * ∑ s : Fin 4096, x.e h i s * f s := by
  rw [Finset.sum_filter, Finset.mul_sum]
  refine Finset.sum_congr rfl fun s _ => ?_
  by_cases hs : s ≤ i
  · rw [if_pos hs, e_wt x h i u s hs, mul_assoc]
  · rw [if_neg hs]; unfold Dat.e; rw [if_neg hs, zero_mul, mul_zero]
theorem sum_wt_one (u : ℝ) : ∑ s ∈ Finset.univ.filter (fun s => s ≤ i), wt x h i u s = Real.exp (x.M h i - u * Real.log 2) * x.S h i := by
  have := sum_wt x h i u fun _ => 1
  simp only [mul_one] at this
  rw [this]; rfl

/-- The whole row's sums give the attention's output and the row's logarithm. -/
theorem Run.done {m l : EReal} {acc : Fin 128 → EReal} (R : Run x V h i (Finset.univ.filter fun s => s ≤ i) m l acc) :
    (∀ d, Ideal.div (acc d) l = x.out V h i d) ∧
    (m + Ideal.log l * (((Real.log 2)⁻¹ : ℝ) : EReal)) * ((Real.log 2 : ℝ) : EReal) = ((x.M h i + Real.log (x.S h i) : ℝ) : EReal) := by
  have hS := x.S_pos h i
  rcases R.either with ⟨-, -, -, h3⟩ | ⟨u, h0, h1, h2⟩
  · have : i ∈ (∅ : Finset (Fin 4096)) := h3 ▸ (by simp)
    simp at this
  · have hE := Real.exp_pos (x.M h i - u * Real.log 2)
    have hpos : 0 < Real.exp (x.M h i - u * Real.log 2) * x.S h i := mul_pos hE hS
    rw [sum_wt_one] at h1
    refine ⟨fun d => ?_, ?_⟩
    · rw [h2, h1, Ideal.div_coe hpos.ne', mul_comm, mul_sum_real (by positivity), Finset.sum_filter]
      unfold Dat.out
      refine Finset.sum_congr rfl fun s _ => ?_
      by_cases hs : s ≤ i
      · rw [if_pos hs, ← mul_assoc, ← EReal.coe_mul, e_wt x h i u s hs]
        unfold Dat.P
        congr 2
        have hS' := hS.ne'
        have hE' := hE.ne'
        field_simp
      · rw [if_neg hs]
        unfold Dat.P Dat.e
        rw [if_neg hs, zero_div, EReal.coe_zero, zero_mul]
    · rw [h0, h1, log_real hpos, ← EReal.coe_mul, ← EReal.coe_add, ← EReal.coe_mul]
      congr 1
      rw [Real.log_mul hE.ne' hS.ne', Real.log_exp]
      have h2' := log2_ne
      field_simp
      ring

end Cert.Fox

end
-- ==== Proof.FoxFwd.Ref.lean ====
/- The forward call's reference: its two results as the real attention and the real row logarithms. -/
module

public import proofs.«01_k».proof.Proof.Gen.Reference20Ideal.Run
public import proofs.«01_k».proof.Proof.Fox.Host
public import proofs.«01_k».proof.Proof.FoxFwd.Soft

@[expose] public section

set_option maxRecDepth 16384

noncomputable section

namespace Cert.Reference20Ideal.Fox

open Idealize.ShloMosaic Idealize.ShloMosaic.TcCoe
open Cert.Reference20Ideal Cert.Reference20Ideal.Gen Cert.Reference20Ideal.Value
open Cert.Fox
open Cert.ReferenceIdeal.Fox (QQ KK VV FT ZM MX EE SS)
open Cert.KernelIdeal.Fox (LX LL OO)

/-- The queries, keys and gates are real, and these are the arguments' parts. -/
structure Reads (x : Dat) (V : Fin 8 → Fin 4096 → Fin 128 → EReal) (a0 : FVec Ideal S4096x3072 .bf16) (a1 : FVec Ideal S4096x128 .f32) : Prop where
  q : ∀ (h : Fin 8) (i : Fin 4096) (d : Fin 128), a0 (ix2 i ⟨h.val * 128 + d.val, by omega⟩) = (x.q h i d : EReal)
  k : ∀ (h : Fin 8) (i : Fin 4096) (d : Fin 128), a0 (ix2 i ⟨1024 + (h.val * 128 + d.val), by omega⟩) = (x.k h i d : EReal)
  v : ∀ (h : Fin 8) (i : Fin 4096) (d : Fin 128), a0 (ix2 i ⟨2048 + (h.val * 128 + d.val), by omega⟩) = V h i d
  f : ∀ (h : Fin 8) (i : Fin 4096), a1 (ix2 i ⟨h.val, by omega⟩) = (x.f h i : EReal)

variable (m : (ℓ : Loc nD τ sig) → Buf (Elt Ideal) ℓ) (c : Dev nD)

abbrev A0 : FVec Ideal S4096x3072 .bf16 := m ((c.tc : Thread nD τ).loc main_arg0)
abbrev A1 : FVec Ideal S4096x128 .f32 := m ((c.tc : Thread nD τ).loc main_arg1)
abbrev rZ : FVec Ideal S8x4096x4096 .f32 := ZM (QQ (A0 m c)) (KK (A0 m c)) (FT (A1 m c))

theorem res0 : res_main_v70 m c = OO (VV (A0 m c)) (EE (rZ m c)) (SS (EE (rZ m c))) := by unfold res_main_v70; rfl
theorem res1 : res_main_v71 m c = LL (MX (rZ m c)) (LX (rZ m c) (MX (rZ m c))) := by unfold res_main_v71; rfl

variable {m c} {x : Dat} {V : Fin 8 → Fin 4096 → Fin 128 → EReal}

theorem OO_out (i : Fin 4096) (j : Fin 1024) (v : FVec Ideal S4096x8x128 .f32) (E : FVec Ideal S8x4096x4096 .f32) (S : FVec Ideal S8x4096x1 .f32)
    (hv : ∀ h s d, v (ix3 s h d) = V h s d) (hE : ∀ h i s, E (ix3 h i s) = (x.e h i s : EReal)) (hS : ∀ h i, S (ix3 h i 0) = (x.S h i : EReal)) :
    OO v E S (ix2 i j) = x.out V ⟨j.val / 128, by omega⟩ i ⟨j.val % 128, by omega⟩ := by
  pointwise [OO]
  simp only [hE, hS, hv, div_real _ (x.S_pos _ _).ne']
  unfold Dat.out Dat.P
  exact Finset.sum_congr rfl fun i _ => mul_comm _ _

theorem rZ_at (R : Reads x V (A0 m c) (A1 m c)) (h : Fin 8) (i s : Fin 4096) : rZ m c (ix3 h i s) = x.zm h i s :=
  Cert.ReferenceIdeal.Fox.ZM_at x h i s _ _ _ (fun i d => (Cert.ReferenceIdeal.Fox.QQ_at h i d _).trans (R.q h i d))
    (fun i d => (Cert.ReferenceIdeal.Fox.KK_at h i d _).trans (R.k h i d)) fun i => (Cert.ReferenceIdeal.Fox.FT_at h i _).trans (R.f h i)

theorem out0 (R : Reads x V (A0 m c) (A1 m c)) (i : Fin 4096) (j : Fin 1024) :
    res_main_v70 m c (ix2 i j) = x.out V ⟨j.val / 128, by omega⟩ i ⟨j.val % 128, by omega⟩ := by
  rw [res0]
  have hE := fun h i s => Cert.ReferenceIdeal.Fox.EE_at x h i s (rZ m c) (fun s => rZ_at R h i s)
  exact OO_out i j _ _ _ (fun h s d => (Cert.ReferenceIdeal.Fox.VV_at h s d _).trans (R.v h s d)) hE
    fun h i => Cert.ReferenceIdeal.Fox.SS_at x h i _ fun s => hE h i s
theorem out1 (R : Reads x V (A0 m c) (A1 m c)) (h : Fin 8) (r : Fin 4) (b : Fin 1024) :
    res_main_v71 m c (ix4 h r 0 b) = ((x.M h (row r b) + Real.log (x.S h (row r b)) : ℝ) : EReal) := by
  rw [res1]
  have hX := Cert.ReferenceIdeal.Fox.MX_at x h (row r b) (rZ m c) (fun s => rZ_at R h _ s)
  exact Cert.KernelIdeal.Fox.LL_at x h r b _ _ hX fun s => Cert.KernelIdeal.Fox.LX_at x h _ s _ _ (rZ_at R h _ s) hX

end Cert.Reference20Ideal.Fox

end
-- ==== Proof.FoxFwd.Pre.lean ====
/- Finite arguments of the forward call: every argument entry read is the real number of its own value. -/
module

public import proofs.«01_k».proof.Proof.Fox.Pre
public import proofs.«01_k».proof.Proof.FoxFwd.Ref

@[expose] public section

set_option maxRecDepth 16384

noncomputable section

namespace Cert.Reference20Ideal.Fox

open Idealize.ShloMosaic Idealize.ShloMosaic.TcCoe
open Cert.Fox

instance pre_facts : Cert.Pre_finite_forward.Facts where
  slices_S4096x3072_S4096x2048_0_0 := by decide
  bitsLt_bf16_f32 := by decide
  bcast_S_S4096x2048 := by decide
  slices_S4096x128_S4096x8_0_0 := by decide
  bcast_S_S4096x8 := by decide

variable (a0 : FVec Ideal Cert.Pre_finite_forward.S4096x3072 .bf16) (a1 : FVec Ideal Cert.Pre_finite_forward.S4096x128 .f32)

theorem real0 (h : (Cert.Pre_finite_forward.fn (F := Ideal) a0 a1).1 = fun _ => 1#1) (i : Fin 4096) (j : Fin 3072) (hj : j.val < 2048) :
    a0 (ix2 i j) = ((a0 (ix2 i j)).toReal : EReal) := by
  refine real_of_abs_lt _ ?_
  have e : extractStridedSlice Cert.Pre_finite_forward.S4096x2048 ![0, 0] a0 Cert.Pre_finite_forward.Facts.slices_S4096x3072_S4096x2048_0_0 (ix2 i ⟨j.val, hj⟩) = a0 (ix2 i j) := by pointwise!
  rw [← e]
  exact congrFun h (ix2 i ⟨j.val, hj⟩)

theorem real1 (h : (Cert.Pre_finite_forward.fn (F := Ideal) a0 a1).2 = fun _ => 1#1) (i : Fin 4096) (j : Fin 8) :
    a1 (ix2 i ⟨j.val, by omega⟩) = ((a1 (ix2 i ⟨j.val, by omega⟩)).toReal : EReal) := by
  refine real_of_abs_lt _ ?_
  have e : extractStridedSlice Cert.Pre_finite_forward.S4096x8 ![0, 0] a1 Cert.Pre_finite_forward.Facts.slices_S4096x128_S4096x8_0_0 (ix2 i j) = a1 (ix2 i ⟨j.val, by omega⟩) := by pointwise!
  rw [← e]
  exact congrFun h (ix2 i j)

/-- The real numbers of the queries, keys and gates; the values are kept apart, and the forward call reads no output gradient. -/
def parts : Dat where
  q h i d := (a0 (ix2 i ⟨h.val * 128 + d.val, by omega⟩)).toReal
  k h i d := (a0 (ix2 i ⟨1024 + (h.val * 128 + d.val), by omega⟩)).toReal
  v _ _ _ := 0
  g _ _ _ := 0
  f h i := (a1 (ix2 i ⟨h.val, by omega⟩)).toReal

/-- The values, any extended reals. -/
def values (h : Fin 8) (i : Fin 4096) (d : Fin 128) : EReal := a0 (ix2 i ⟨2048 + (h.val * 128 + d.val), by omega⟩)

theorem reads (h0 : (Cert.Pre_finite_forward.fn (F := Ideal) a0 a1).1 = fun _ => 1#1)
    (h1 : (Cert.Pre_finite_forward.fn (F := Ideal) a0 a1).2 = fun _ => 1#1) : Reads (parts a0 a1) (values a0) a0 a1 where
  q h _ d := real0 a0 a1 h0 _ _ (by show h.val * 128 + d.val < 2048; omega)
  k h _ d := real0 a0 a1 h0 _ _ (by show 1024 + (h.val * 128 + d.val) < 2048; omega)
  v _ _ _ := rfl
  f _ _ := real1 a0 a1 h1 _ _

end Cert.Reference20Ideal.Fox

end
-- ==== Proof.FoxFwd.Read.lean ====
/- The forward kernel's stored values read at one element, over the extended reals. -/
module

public import proofs.«01_k».proof.Proof.Gen.Kernel20Ideal.Value
public import proofs.«01_k».proof.Proof.Fox.Read
public import Idealize.ShloMosaic.Lib.Pointwise

@[expose] public section

set_option maxRecDepth 16384

noncomputable section

namespace Cert.Kernel20Ideal.Fox

open Idealize.ShloMosaic Idealize.ShloMosaic.TcCoe
open Cert.Kernel20Ideal Cert.Kernel20Ideal.Gen
open Cert.Fox
open Cert.KernelIdeal.Fox (sle_word eq_word fold_same)

theorem named_log2e : Named.named (F := Ideal) Cert.Kernel20Ideal.κ "log2e" (φ := .f32) 0x3FB8AA3B#32 = (((Real.log 2)⁻¹ : ℝ) : EReal) :=
  IdealRules.named_const.ideal_named_scalar _ _ _ _ rfl
theorem named_ln2 : Named.named (F := Ideal) Cert.Kernel20Ideal.κ "ln2" (φ := .f32) 0x3F317218#32 = ((Real.log 2 : ℝ) : EReal) :=
  IdealRules.named_const.ideal_named_scalar _ _ _ _ rfl
theorem named_both : Named.named (F := Ideal) Cert.Kernel20Ideal.κ "scale_log2e" (φ := .f32) 0x3E0293EE#32 = (((Real.sqrt 128)⁻¹ * (Real.log 2)⁻¹ : ℝ) : EReal) :=
  IdealRules.named_const.ideal_named_scalar _ _ _ _ rfl
theorem named_mask : Named.named (F := Ideal) Cert.Kernel20Ideal.κ "mask" (φ := .f32) 0xF149F2CA#32 = (⊥ : EReal) :=
  IdealRules.named_const.ideal_named_scalar _ _ _ _ rfl

theorem pay1_at (l : FVec Ideal S1024x1 .f32) (a : FVec Ideal S1024x128 .f32) (w : FVec Ideal S1024x1024 .bf16) (v : Vec Ideal S1024x128 .bf16) (i : Fin 1024) (d : Fin 128) :
    k0_pay1 l a w v (ix2 i d) = Ideal.div (a (ix2 i d) + ∑ b : Fin 1024, w (ix2 i b) * v (ix2 b d)) (l (ix2 i 0)) := by
  pointwise! [k0_pay1]
theorem pay2_at (m l : FVec Ideal S1024x1 .f32) (i : Fin 1024) :
    k0_pay2 m l (ix4 0 0 0 i) = (m (ix2 i 0) + Ideal.log (l (ix2 i 0)) * (((Real.log 2)⁻¹ : ℝ) : EReal)) * ((Real.log 2 : ℝ) : EReal) := by
  pointwise [k0_pay2]
  rw [word_bot, named_log2e, named_ln2]
  exact fold_same (by norm_num) _
theorem pay3_at (t : grid0.Coords) (f : Vec Ideal S1024x128 .f32) (s : Fin 1024) :
    k0_pay3 t f (ix2 s 0) = f (ix2 s ⟨(t 0).val, by have := (t 0).isLt; exact lt_of_lt_of_le this (by decide)⟩) * (((Real.log 2)⁻¹ : ℝ) : EReal) := by
  pointwise [k0_pay3]
  rw [named_log2e]
  refine congrArg (· * _) ?_
  have h0 : (t 0).val < 128 := lt_of_lt_of_le (t 0).isLt (by decide)
  rw [Finset.sum_eq_single ⟨(t 0).val, h0⟩]
  · rw [eq_word (by omega) (by omega), if_pos rfl]; rfl
  · intro b _ hb
    have := b.isLt
    rw [eq_word (by omega) (by omega), if_neg fun e => hb (Fin.ext e)]; rfl
  · intro h; exact absurd (Finset.mem_univ _) h
theorem pay4_at (s : Fin 1024) : (k0_pay4 (F := Ideal)) (ix2 s 0) = ⊥ := by
  pointwise [k0_pay4]
  rw [named_mask]
theorem pay5_at (s : Fin 1024) : (k0_pay5 (F := Ideal)) (ix2 s 0) = 0 := by pointwise! [k0_pay5]
theorem pay6_at (s : Fin 1024) (d : Fin 128) : (k0_pay6 (F := Ideal)) (ix2 s d) = 0 := by pointwise! [k0_pay6]

theorem pay7_at (q k : Vec Ideal S1024x128 .bf16) (f : Vec Ideal S1x1x1x1024 .f32) (i b : Fin 1024) :
    k0_pay7 q k f (ix2 i b) = (∑ d : Fin 128, q (ix2 i d) * k (ix2 b d)) * (((Real.sqrt 128)⁻¹ * (Real.log 2)⁻¹ : ℝ) : EReal)
      - f (ix4 0 0 0 b) * (((Real.log 2)⁻¹ : ℝ) : EReal) := by
  pointwise [k0_pay7]
  rw [named_both, named_log2e]
theorem pay8_at (q k : Vec Ideal S1024x128 .bf16) (g m : FVec Ideal S1024x1 .f32) (f : Vec Ideal S1x1x1x1024 .f32) (i : Fin 1024) :
    k0_pay8 q g m k f (ix2 i 0) = max (m (ix2 i 0)) (Finset.univ.fold max (⊥ : EReal) (fun b : Fin 1024 => k0_pay7 q k f (ix2 i b)) + g (ix2 i 0)) := by
  pointwise [k0_pay8]
  rw [word_bot]
theorem pay9_at (q k : Vec Ideal S1024x128 .bf16) (g m : FVec Ideal S1024x1 .f32) (f : Vec Ideal S1x1x1x1024 .f32) (i : Fin 1024) :
    k0_pay9 q g m k f (ix2 i 0) = Ideal.exp2 (m (ix2 i 0) - k0_pay8 q g m k f (ix2 i 0)) := by
  pointwise! [k0_pay9]
theorem pay10_at (q k : Vec Ideal S1024x128 .bf16) (g m : FVec Ideal S1024x1 .f32) (f : Vec Ideal S1x1x1x1024 .f32) (i b : Fin 1024) :
    k0_pay10 q g m k f (ix2 i b) = Ideal.exp2 (k0_pay7 q k f (ix2 i b) + (g (ix2 i 0) - k0_pay8 q g m k f (ix2 i 0))) := by
  pointwise! [k0_pay10]
theorem pay11_at (q k : Vec Ideal S1024x128 .bf16) (g m l : FVec Ideal S1024x1 .f32) (f : Vec Ideal S1x1x1x1024 .f32) (i : Fin 1024) :
    k0_pay11 q g m l k f (ix2 i 0) = k0_pay9 q g m k f (ix2 i 0) * l (ix2 i 0) + ∑ b : Fin 1024, k0_pay10 q g m k f (ix2 i b) := by
  pointwise! [k0_pay11]
theorem pay12_at (q k v : Vec Ideal S1024x128 .bf16) (g m : FVec Ideal S1024x1 .f32) (a : FVec Ideal S1024x128 .f32) (f : Vec Ideal S1x1x1x1024 .f32) (i : Fin 1024) (d : Fin 128) :
    k0_pay12 q g m a k f v (ix2 i d) = k0_pay9 q g m k f (ix2 i 0) * a (ix2 i d) + ∑ b : Fin 1024, k0_pay10 q g m k f (ix2 i b) * v (ix2 b d) := by
  pointwise! [k0_pay12]

/-- The block's number as the kernel's words compute it. -/
theorem pay19_at (j : Fin 4) (q k : Vec Ideal S1024x128 .bf16) (f : Vec Ideal S1x1x1x1024 .f32) (i b : Fin 1024) :
    k0_pay19 (BitVec.ofNat 32 j.val) q (BitVec.ofNat 32 j.val) k f (ix2 i b) = if b ≤ i then k0_pay7 q k f (ix2 i b) else ⊥ := by
  have hj := j.isLt; have hs := b.isLt; have hi := i.isLt
  have e1 : IntOp.addi (Scalar.muli (BitVec.ofNat 32 j.val) 1024#32) (BitVec.ofNat 32 i.val) = BitVec.ofNat 32 (j.val * 1024 + i.val) := by
    show BitVec.ofNat 32 j.val * BitVec.ofNat 32 1024 + BitVec.ofNat 32 i.val = _
    rw [BitVec.ofNat_add, BitVec.ofNat_mul]
  have e2 : IntOp.addi (Scalar.muli (Scalar.addi (BitVec.ofNat 32 j.val) 0#32) 1024#32) (BitVec.ofNat 32 b.val) = BitVec.ofNat 32 (j.val * 1024 + b.val) := by
    show (BitVec.ofNat 32 j.val + BitVec.ofNat 32 0) * BitVec.ofNat 32 1024 + BitVec.ofNat 32 b.val = _
    rw [← BitVec.ofNat_add, ← BitVec.ofNat_mul, ← BitVec.ofNat_add]
    congr 1
  rw [pay7_at]
  pointwise [k0_pay19]
  rw [named_both, named_log2e, named_mask, e1, e2, sle_word (by omega) (by omega)]
  by_cases h : b ≤ i
  · rw [if_pos h, if_pos (by have := Fin.le_def.mp h; omega)]; rfl
  · rw [if_neg h, if_neg (by have := mt Fin.le_def.mpr h; omega)]; rfl
theorem pay20_at (j w : BitVec 32) (q k : Vec Ideal S1024x128 .bf16) (g m : FVec Ideal S1024x1 .f32) (f : Vec Ideal S1x1x1x1024 .f32) (i : Fin 1024) :
    k0_pay20 j q g w m k f (ix2 i 0) = max (m (ix2 i 0)) (Finset.univ.fold max (⊥ : EReal) (fun b : Fin 1024 => k0_pay19 j q w k f (ix2 i b)) + g (ix2 i 0)) := by
  pointwise [k0_pay20]
  rw [word_bot]
theorem pay21_at (j w : BitVec 32) (q k : Vec Ideal S1024x128 .bf16) (g m : FVec Ideal S1024x1 .f32) (f : Vec Ideal S1x1x1x1024 .f32) (i : Fin 1024) :
    k0_pay21 j q g w m k f (ix2 i 0) = Ideal.exp2 (m (ix2 i 0) - k0_pay20 j q g w m k f (ix2 i 0)) := by
  pointwise! [k0_pay21]
theorem pay22_at (j w : BitVec 32) (q k : Vec Ideal S1024x128 .bf16) (g m : FVec Ideal S1024x1 .f32) (f : Vec Ideal S1x1x1x1024 .f32) (i b : Fin 1024) :
    k0_pay22 j q g w m k f (ix2 i b) = Ideal.exp2 (k0_pay19 j q w k f (ix2 i b) + (g (ix2 i 0) - k0_pay20 j q g w m k f (ix2 i 0))) := by
  pointwise! [k0_pay22]
theorem pay23_at (j w : BitVec 32) (q k : Vec Ideal S1024x128 .bf16) (g m l : FVec Ideal S1024x1 .f32) (f : Vec Ideal S1x1x1x1024 .f32) (i : Fin 1024) :
    k0_pay23 j q g w m l k f (ix2 i 0) = k0_pay21 j q g w m k f (ix2 i 0) * l (ix2 i 0) + ∑ b : Fin 1024, k0_pay22 j q g w m k f (ix2 i b) := by
  pointwise! [k0_pay23]
theorem pay24_at (j w : BitVec 32) (q k : Vec Ideal S1024x128 .bf16) (g m : FVec Ideal S1024x1 .f32) (a : FVec Ideal S1024x128 .f32) (f : Vec Ideal S1x1x1x1024 .f32) (i : Fin 1024) (d : Fin 128) :
    k0_pay24 j q g w m a k f (ix2 i d) = k0_pay21 j q g w m k f (ix2 i 0) * a (ix2 i d) := by
  pointwise! [k0_pay24]
theorem pay25_at (j w : BitVec 32) (q k : Vec Ideal S1024x128 .bf16) (g m : FVec Ideal S1024x1 .f32) (f : Vec Ideal S1x1x1x1024 .f32) (i b : Fin 1024) :
    k0_pay25 j q g w m k f (ix2 i b) = k0_pay22 j q g w m k f (ix2 i b) := by
  pointwise! [k0_pay25]

end Cert.Kernel20Ideal.Fox

end
-- ==== Proof.FoxFwd.Value.lean ====
/- What each grid point of the forward call leaves: the attention of its query block and the rows' logarithms. -/
module

public import proofs.«01_k».proof.Proof.FoxFwd.Read
public import proofs.«01_k».proof.Proof.FoxFwd.Soft
public import Idealize.ShloMosaic.Lib.Pipeline.ValueKit

@[expose] public section

set_option maxRecDepth 16384

noncomputable section

namespace Cert.Kernel20Ideal.Fox

open Idealize.ShloMosaic Idealize.ShloMosaic.TcCoe
open Idealize.SL.Sem
open Cert.Kernel20Ideal Cert.Kernel20Ideal.Gen
open Cert.Fox

/-! ## The loops' numbers -/

theorem trips1 (i : grid0.Coords) : (k0_t1_loop i).trips = (i 1).val := by
  have h : ∀ n : Fin 4, (k0_t1_loop (fun | 0 => (0 : Fin 8) | 1 => n)).trips = n.val := by decide +kernel
  exact h (i 1)
theorem trips2 (i : grid0.Coords) : (k0_t2_loop i).trips = 0 := by
  have h : ∀ n : Fin 4, (k0_t2_loop (fun | 0 => (0 : Fin 8) | 1 => n)).trips = 0 := by decide +kernel
  exact h (i 1)
theorem word31 (i : grid0.Coords) : kernelRun0_A.sl.v31 i = BitVec.ofNat 32 (i 1).val := by
  have h : ∀ n : Fin 4, kernelRun0_A.sl.v31 (fun | 0 => (0 : Fin 8) | 1 => n) = BitVec.ofNat 32 n.val := by decide +kernel
  exact h (i 1)
theorem off5 (i : grid0.Coords) : k0_off5 i = ![(i 1).val * 1024, 0] := by
  have h : ∀ n : Fin 4, k0_off5 (fun | 0 => (0 : Fin 8) | 1 => n) = ![n.val * 1024, 0] := by decide +kernel
  exact h (i 1)
theorem off6 (i : grid0.Coords) : k0_off6 i = ![0, (i 1).val, 0, 0] := by
  have h : ∀ n : Fin 4, k0_off6 (fun | 0 => (0 : Fin 8) | 1 => n) = ![0, n.val, 0, 0] := by decide +kernel
  exact h (i 1)
theorem lt4 (i : grid0.Coords) (k : Fin (k0_t1_loop i).trips) : k.val < 4 := lt_of_lt_of_le k.isLt (by rw [trips1]; exact (i 1).isLt.le)
theorem off1 (i : grid0.Coords) (k : Fin (k0_t1_loop i).trips) : k0_off1 i k = ![k.val * 1024, 0] := by
  have h : ∀ n : Fin 4, ((![(Scalar.indexCast (Scalar.muli (Scf.iv 0#32 1#32 n.val) 1024#32) : Index).toNat, 0]) : Fin 2 → Nat) = ![n.val * 1024, 0] := by decide +kernel
  exact h ⟨k.val, lt4 i k⟩
theorem off2 (i : grid0.Coords) (k : Fin (k0_t1_loop i).trips) : k0_off2 i k = ![0, k.val, 0, 0] := by
  have h : ∀ n : Fin 4, ((![0, (Scalar.indexCast (Scf.iv 0#32 1#32 n.val) : Index).toNat, 0, 0]) : Fin 4 → Nat) = ![0, n.val, 0, 0] := by decide +kernel
  exact h ⟨k.val, lt4 i k⟩

/-! ## What the loads read -/

theorem load_whole {S : Shape} {e : EltTy} (M : Memref sig .tc .vmem S e) (h : M.IsWhole) (x : Vec Ideal S e) (r : Rect S) :
    M.view.readAt (Elt Ideal) r.toLoadRect (h.unread x) = View.ld x r := by
  rw [View.readAt_eq_ld, h.read_unread]
theorem load_all {S : Shape} {e : EltTy} (M : Memref sig .tc .vmem S e) (h : M.IsWhole) (x : Vec Ideal S e) {off : Fin S.rank → Nat}
    (inb : ∀ a, off a + S.size a ≤ S.size a) (h0 : ∀ a, off a = 0) :
    M.view.readAt (Elt Ideal) (Rect.unit off S.size inb).toLoadRect (h.unread x) = x :=
  (load_whole M h x _).trans (View.ld_unit_lit inb x h0)

/-- Key block `j` of a 4096-row array, and row `j` of the gates. -/
def tile (w : Vec Ideal S4096x128 .bf16) (j : Fin 4) : Vec Ideal S1024x128 .bf16 := fun y => w (ix2 (row j (y 0)) (y 1))
def gate (f : Vec Ideal S1x4x1x1024 .f32) (j : Fin 4) : Vec Ideal S1x1x1x1024 .f32 := fun y => f (ix4 0 j 0 (y 3))

theorem load_tile (M : Memref sig .tc .vmem S4096x128 .bf16) (h : M.IsWhole) (w : Vec Ideal S4096x128 .bf16) (j : Fin 4) {off : Fin 2 → Nat}
    (e : off = ![j.val * 1024, 0]) (inb : ∀ a, off a + S1024x128.size a ≤ S4096x128.size a) :
    M.view.readAt (Elt Ideal) (Rect.unit (s := S4096x128) off S1024x128.size inb).toLoadRect (h.unread w) = tile w j := by
  subst e
  exact (load_whole M h w _).trans (funext fun y => View.ld_unit_apply_of w _ _ _ _ _ fun a => by match a with
    | ⟨0, _⟩ => rfl
    | ⟨1, _⟩ => show (y 1).val = 0 + (y 1).val; omega)
theorem load_gate (M : Memref sig .tc .vmem S1x4x1x1024 .f32) (h : M.IsWhole) (f : Vec Ideal S1x4x1x1024 .f32) (j : Fin 4) {off : Fin 4 → Nat}
    (e : off = ![0, j.val, 0, 0]) (inb : ∀ a, off a + S1x1x1x1024.size a ≤ S1x4x1x1024.size a) :
    M.view.readAt (Elt Ideal) (Rect.unit (s := S1x4x1x1024) off S1x1x1x1024.size inb).toLoadRect (h.unread f) = gate f j := by
  subst e
  exact (load_whole M h f _).trans (funext fun y => View.ld_unit_apply_of f _ _ _ _ _ fun a => by
    have h0 : (y 0).val < 1 := (y 0).isLt
    have h1 : (y 1).val < 1 := (y 1).isLt
    have h2 : (y 2).val < 1 := (y 2).isLt
    match a with
    | ⟨0, _⟩ => show 0 = 0 + (y 0).val; omega
    | ⟨1, _⟩ => show j.val = j.val + (y 1).val; omega
    | ⟨2, _⟩ => show 0 = 0 + (y 2).val; omega
    | ⟨3, _⟩ => show (y 3).val = 0 + (y 3).val; omega)

/-! ## The carried values -/

abbrev Carried : Type := FVec Ideal S1024x1 .f32 × FVec Ideal S1024x1 .f32 × FVec Ideal S1024x128 .f32

variable (q : Vec Ideal S1024x128 .bf16) (g : FVec Ideal S1024x1 .f32) (k v : Vec Ideal S4096x128 .bf16) (f : Vec Ideal S1x4x1x1024 .f32)

/-- One whole key block. -/
def next (j : Fin 4) (s : Carried) : Carried :=
  (k0_pay8 q g s.1 (tile k j) (gate f j), k0_pay11 q g s.1 s.2.1 (tile k j) (gate f j), k0_pay12 q g s.1 s.2.2 (tile k j) (gate f j) (tile v j))
/-- The first `n` key blocks. -/
def after : ℕ → Carried
  | 0 => (k0_pay4, k0_pay5, k0_pay6)
  | n + 1 => if h : n < 4 then next q g k v f ⟨n, h⟩ (after n) else after n

theorem trip_eq (𝒱 : Variants) (c : Dev nD) (bd : Option 𝒱.V) (i : grid0.Coords) (arg2 : Memref sig .tc .vmem S1024x128 .bf16) (harg2 : arg2.IsWhole) (arg3 : Memref sig .tc .vmem S4096x128 .bf16) (harg3 : arg3.IsWhole)
    (arg4 : Memref sig .tc .vmem S4096x128 .bf16) (harg4 : arg4.IsWhole) (arg5 : Memref sig .tc .vmem S1024x128 .f32) (harg5 : arg5.IsWhole) (arg6 : Memref sig .tc .vmem S1x4x1x1024 .f32) (harg6 : arg6.IsWhole)
    (arg7 : Memref sig .tc .vmem S1024x128 .bf16) (harg7 : arg7.IsWhole) (arg8 : Memref sig .tc .vmem S1x1x1x1024 .f32) (harg8 : arg8.IsWhole) (arg1 : BitVec 32) (v11 v12 : FVec Ideal S1024x1 .f32)
    (v13 : FVec Ideal S1024x128 .f32) (v31 b1 b2 b3 : BitVec 32) (n : Fin (k0_t1_loop i).trips) (acc : Carried) :
    tripR_k0_t1 𝒱 c bd i arg2 harg2 arg3 harg3 arg4 harg4 arg5 harg5 arg6 harg6 arg7 harg7 arg8 harg8 arg1 q g v11 v12 v13 v31 b1 b2 b3 (harg3.unread k) (harg4.unread v) (harg6.unread f) n acc
      = next q g k v f ⟨n.val, lt4 i n⟩ acc := by
  unfold tripR_k0_t1 trip_k0_t1
  dsimp only
  unfold next
  rw [load_tile arg3 harg3 k ⟨n.val, lt4 i n⟩ (off1 i n), load_tile arg4 harg4 v ⟨n.val, lt4 i n⟩ (off1 i n), load_gate arg6 harg6 f ⟨n.val, lt4 i n⟩ (off2 i n)]

theorem loop1 (𝒱 : Variants) (c : Dev nD) (bd : Option 𝒱.V) (i : grid0.Coords) (arg2 : Memref sig .tc .vmem S1024x128 .bf16) (harg2 : arg2.IsWhole) (arg3 : Memref sig .tc .vmem S4096x128 .bf16) (harg3 : arg3.IsWhole)
    (arg4 : Memref sig .tc .vmem S4096x128 .bf16) (harg4 : arg4.IsWhole) (arg5 : Memref sig .tc .vmem S1024x128 .f32) (harg5 : arg5.IsWhole) (arg6 : Memref sig .tc .vmem S1x4x1x1024 .f32) (harg6 : arg6.IsWhole)
    (arg7 : Memref sig .tc .vmem S1024x128 .bf16) (harg7 : arg7.IsWhole) (arg8 : Memref sig .tc .vmem S1x1x1x1024 .f32) (harg8 : arg8.IsWhole) (arg1 : BitVec 32) (v11 v12 : FVec Ideal S1024x1 .f32)
    (v13 : FVec Ideal S1024x128 .f32) (v31 b1 b2 b3 : BitVec 32) : ∀ (n : ℕ), n ≤ (i 1).val →
    st_k0_t1 𝒱 c bd i arg2 harg2 arg3 harg3 arg4 harg4 arg5 harg5 arg6 harg6 arg7 harg7 arg8 harg8 arg1 q g v11 v12 v13 v31 b1 b2 b3 (harg3.unread k) (harg4.unread v) (harg6.unread f) (k0_pay4, k0_pay5, k0_pay6) n
      = after q g k v f n
  | 0, _ => rfl
  | n + 1, h => by
    have hn : n < (k0_t1_loop i).trips := by rw [trips1]; omega
    refine (st_k0_t1_succ 𝒱 c bd i arg2 harg2 arg3 harg3 arg4 harg4 arg5 harg5 arg6 harg6 arg7 harg7 arg8 harg8 arg1 q g v11 v12 v13 v31 b1 b2 b3 (harg3.unread k) (harg4.unread v) (harg6.unread f) (k0_pay4, k0_pay5, k0_pay6) ⟨n, hn⟩).trans ?_
    rw [trip_eq]
    have h4 : n < 4 := lt4 i ⟨n, hn⟩
    show next q g k v f ⟨n, h4⟩ _ = after q g k v f (n + 1)
    rw [loop1 𝒱 c bd i arg2 harg2 arg3 harg3 arg4 harg4 arg5 harg5 arg6 harg6 arg7 harg7 arg8 harg8 arg1 v11 v12 v13 v31 b1 b2 b3 n (by omega)]
    unfold after
    rw [dif_pos h4]
    cases n <;> rfl
theorem loop1_all (𝒱 : Variants) (c : Dev nD) (bd : Option 𝒱.V) (i : grid0.Coords) (arg2 : Memref sig .tc .vmem S1024x128 .bf16) (harg2 : arg2.IsWhole) (arg3 : Memref sig .tc .vmem S4096x128 .bf16) (harg3 : arg3.IsWhole)
    (arg4 : Memref sig .tc .vmem S4096x128 .bf16) (harg4 : arg4.IsWhole) (arg5 : Memref sig .tc .vmem S1024x128 .f32) (harg5 : arg5.IsWhole) (arg6 : Memref sig .tc .vmem S1x4x1x1024 .f32) (harg6 : arg6.IsWhole)
    (arg7 : Memref sig .tc .vmem S1024x128 .bf16) (harg7 : arg7.IsWhole) (arg8 : Memref sig .tc .vmem S1x1x1x1024 .f32) (harg8 : arg8.IsWhole) (arg1 : BitVec 32) (v11 v12 : FVec Ideal S1024x1 .f32)
    (v13 : FVec Ideal S1024x128 .f32) (v31 b1 b2 b3 : BitVec 32) :
    st_k0_t1 𝒱 c bd i arg2 harg2 arg3 harg3 arg4 harg4 arg5 harg5 arg6 harg6 arg7 harg7 arg8 harg8 arg1 q g v11 v12 v13 v31 b1 b2 b3 (harg3.unread k) (harg4.unread v) (harg6.unread f) (k0_pay4, k0_pay5, k0_pay6)
      (Scf.trips (k0_t1_loop i).lb (k0_t1_loop i).ub (k0_t1_loop i).st) = after q g k v f (i 1).val := by
  rw [show Scf.trips (k0_t1_loop i).lb (k0_t1_loop i).ub (k0_t1_loop i).st = (i 1).val from trips1 i]
  exact loop1 q g k v f 𝒱 c bd i arg2 harg2 arg3 harg3 arg4 harg4 arg5 harg5 arg6 harg6 arg7 harg7 arg8 harg8 arg1 v11 v12 v13 v31 b1 b2 b3 _ le_rfl
theorem loop2_all (𝒱 : Variants) (c : Dev nD) (bd : Option 𝒱.V) (i : grid0.Coords) (arg2 : Memref sig .tc .vmem S1024x128 .bf16) (harg2 : arg2.IsWhole) (arg3 : Memref sig .tc .vmem S4096x128 .bf16) (harg3 : arg3.IsWhole)
    (arg4 : Memref sig .tc .vmem S4096x128 .bf16) (harg4 : arg4.IsWhole) (arg5 : Memref sig .tc .vmem S1024x128 .f32) (harg5 : arg5.IsWhole) (arg6 : Memref sig .tc .vmem S1x4x1x1024 .f32) (harg6 : arg6.IsWhole)
    (arg7 : Memref sig .tc .vmem S1024x128 .bf16) (harg7 : arg7.IsWhole) (arg8 : Memref sig .tc .vmem S1x1x1x1024 .f32) (harg8 : arg8.IsWhole) (arg1 : BitVec 32) (v0 : Vec Ideal S1024x128 .bf16) (v10 v11 v12 : FVec Ideal S1024x1 .f32)
    (v13 : FVec Ideal S1024x128 .f32) (v31 b1 b2 b3 : BitVec 32) (X3 : BufTy.Contents (Elt Ideal) arg3.view.ty) (X4 : BufTy.Contents (Elt Ideal) arg4.view.ty) (X6 : BufTy.Contents (Elt Ideal) arg6.view.ty) (s : Carried) :
    st_k0_t2 𝒱 c bd i arg2 harg2 arg3 harg3 arg4 harg4 arg5 harg5 arg6 harg6 arg7 harg7 arg8 harg8 arg1 v0 v10 v11 v12 v13 v31 b1 b2 b3 X3 X4 X6 s
      (Scf.trips (k0_t2_loop i).lb (k0_t2_loop i).ub (k0_t2_loop i).st) = s := by
  rw [show Scf.trips (k0_t2_loop i).lb (k0_t2_loop i).ub (k0_t2_loop i).st = 0 from trips2 i]
  rfl

/-! ## What a point stores -/

variable (fc : Vec Ideal S1024x128 .f32)

/-- The running maximum and sum after the diagonal block. -/
def lastM (i : grid0.Coords) : FVec Ideal S1024x1 .f32 :=
  k0_pay20 (BitVec.ofNat 32 (i 1).val) q (k0_pay3 i fc) (BitVec.ofNat 32 (i 1).val) (after q (k0_pay3 i fc) k v f (i 1).val).1 (tile k (i 1)) (gate f (i 1))
def lastS (i : grid0.Coords) : FVec Ideal S1024x1 .f32 :=
  k0_pay23 (BitVec.ofNat 32 (i 1).val) q (k0_pay3 i fc) (BitVec.ofNat 32 (i 1).val) (after q (k0_pay3 i fc) k v f (i 1).val).1 (after q (k0_pay3 i fc) k v f (i 1).val).2.1 (tile k (i 1)) (gate f (i 1))
def lastA (i : grid0.Coords) : FVec Ideal S1024x128 .f32 :=
  k0_pay24 (BitVec.ofNat 32 (i 1).val) q (k0_pay3 i fc) (BitVec.ofNat 32 (i 1).val) (after q (k0_pay3 i fc) k v f (i 1).val).1 (after q (k0_pay3 i fc) k v f (i 1).val).2.2 (tile k (i 1)) (gate f (i 1))
def lastP (i : grid0.Coords) : FVec Ideal S1024x1024 .bf16 :=
  k0_pay25 (BitVec.ofNat 32 (i 1).val) q (k0_pay3 i fc) (BitVec.ofNat 32 (i 1).val) (after q (k0_pay3 i fc) k v f (i 1).val).1 (tile k (i 1)) (gate f (i 1))

section Stored
variable (c : Dev nD) (i : grid0.Coords) (a2 : Memref sig .tc .vmem S1024x128 .bf16) (h2 : a2.IsWhole) (a3 : Memref sig .tc .vmem S4096x128 .bf16) (h3 : a3.IsWhole)
    (a4 : Memref sig .tc .vmem S4096x128 .bf16) (h4 : a4.IsWhole) (a5 : Memref sig .tc .vmem S1024x128 .f32) (h5 : a5.IsWhole) (a6 : Memref sig .tc .vmem S1x4x1x1024 .f32) (h6 : a6.IsWhole)
    (a7 : Memref sig .tc .vmem S1024x128 .bf16) (h7 : a7.IsWhole) (a8 : Memref sig .tc .vmem S1x1x1x1024 .f32) (h8 : a8.IsWhole)
theorem out5_eq : out0_A_5 c i a2 h2 a3 h3 a4 h4 a5 h5 a6 h6 a7 h7 a8 h8 q k v fc f = k0_pay1 (lastS q k v f fc i) (lastA q k v f fc i) (lastP q k v f fc i) (tile v (i 1)) := by
  refine (View.read_writes_eq_canon VO0_5 _ _ (cover0_A_5 c i a2 h2 a3 h3 a4 h4 a5 h5 a6 h6 a7 h7 a8 h8 q k v fc f)).trans ?_
  unfold kernelRun0_A
  dsimp only
  refine (View.canon_cons_unit_lit _ _ _ (by decide)).trans ?_
  unfold kernelRun0_A.sl.r_3 kernelRun0_A.sl.r_4 kernelRun0_A.sl.r_5
  unfold kernelRun0_A.sl.r kernelRun0_A.sl.r_1
  unfold lastS lastA lastP
  rw [load_all a2 h2 q inb_S1024x128_S1024x128_0_0 (by decide), load_all a5 h5 fc inb_S1024x128_S1024x128_0_0 (by decide), word31, loop1_all, loop2_all]
  dsimp only
  rw [load_tile a3 h3 k (i 1) (off5 i), load_tile a4 h4 v (i 1) (off5 i), load_gate a6 h6 f (i 1) (off6 i)]
theorem out6_eq : out0_A_6 c i a2 h2 a3 h3 a4 h4 a5 h5 a6 h6 a7 h7 a8 h8 q k v fc f = k0_pay2 (lastM q k v f fc i) (lastS q k v f fc i) := by
  refine (View.read_writes_eq_canon VO0_6 _ _ (cover0_A_6 c i a2 h2 a3 h3 a4 h4 a5 h5 a6 h6 a7 h7 a8 h8 q k v fc f)).trans ?_
  unfold kernelRun0_A
  dsimp only
  refine (View.canon_cons_unit_lit _ _ _ (by decide)).trans ?_
  unfold kernelRun0_A.sl.r_3 kernelRun0_A.sl.r_2
  unfold kernelRun0_A.sl.r kernelRun0_A.sl.r_1
  unfold lastS lastM
  rw [load_all a2 h2 q inb_S1024x128_S1024x128_0_0 (by decide), load_all a5 h5 fc inb_S1024x128_S1024x128_0_0 (by decide), word31, loop1_all, loop2_all]
  dsimp only
  rw [load_tile a3 h3 k (i 1) (off5 i), load_gate a6 h6 f (i 1) (off6 i)]
end Stored

end Cert.Kernel20Ideal.Fox

end
-- ==== Proof.FoxFwd.Point.lean ====
/- A grid point of the forward call, over real data: its blocks' sums are the rows' sums, so it stores the attention and the logarithms. -/
module

public import proofs.«01_k».proof.Proof.FoxFwd.Value

@[expose] public section

set_option maxRecDepth 16384

noncomputable section

namespace Cert.Kernel20Ideal.Fox

open Idealize.ShloMosaic Idealize.ShloMosaic.TcCoe
open Cert.Kernel20Ideal Cert.Kernel20Ideal.Gen
open Cert.Fox

/-- The five blocks hold head `h`'s data, real but for the values `V`, the queries being those of block `j`. -/
structure Given (x : Dat) (V : Fin 8 → Fin 4096 → Fin 128 → EReal) (h : Fin 8) (j : Fin 4) (q : Vec Ideal S1024x128 .bf16) (k v : Vec Ideal S4096x128 .bf16) (fc : Vec Ideal S1024x128 .f32) (f : Vec Ideal S1x4x1x1024 .f32) : Prop where
  q : ∀ (i : Fin 1024) (d : Fin 128), q (ix2 i d) = (x.q h (row j i) d : EReal)
  k : ∀ (s : Fin 4096) (d : Fin 128), k (ix2 s d) = (x.k h s d : EReal)
  v : ∀ (s : Fin 4096) (d : Fin 128), v (ix2 s d) = V h s d
  fc : ∀ (i : Fin 1024), fc (ix2 i ⟨h.val, by omega⟩) = (x.f h (row j i) : EReal)
  f : ∀ (r : Fin 4) (b : Fin 1024), f (ix4 0 r 0 b) = (x.f h (row r b) : EReal)

variable {x : Dat} {V : Fin 8 → Fin 4096 → Fin 128 → EReal} {h : Fin 8} {j : Fin 4} {q : Vec Ideal S1024x128 .bf16} {k v : Vec Ideal S4096x128 .bf16} {fc : Vec Ideal S1024x128 .f32} {f : Vec Ideal S1x4x1x1024 .f32}

/-- The row's own gate in base two. -/
abbrev own (x : Dat) (h : Fin 8) (j : Fin 4) (i : Fin 1024) : ℝ := x.f h (row j i) * (Real.log 2)⁻¹

theorem Given.gate_at (G : Given x V h j q k v fc f) (t : grid0.Coords) (ht : (t 0).val = h.val) (i : Fin 1024) : k0_pay3 t fc (ix2 i 0) = (own x h j i : EReal) := by
  rw [pay3_at, EReal.coe_mul]
  refine congrArg (· * _) (Eq.trans (congrArg fc ?_) (G.fc i))
  exact congrArg (ix2 i) (Fin.ext ht)

theorem Given.score (G : Given x V h j q k v fc f) (a : Fin 4) (i b : Fin 1024) :
    k0_pay7 q (tile k a) (gate f a) (ix2 i b) = ((x.z h (row j i) (row a b) * (Real.log 2)⁻¹ - own x h j i : ℝ) : EReal) := by
  rw [pay7_at]
  have e1 : ∀ d, tile k a (ix2 b d) = (x.k h (row a b) d : EReal) := fun d => G.k (row a b) d
  have e2 : gate f a (ix4 0 0 0 b) = (x.f h (row a b) : EReal) := G.f a b
  simp only [G.q, e1, e2, ← EReal.coe_mul, ← coe_sum, ← EReal.coe_sub]
  congr 1
  unfold Dat.z own
  rw [div_eq_mul_inv]
  ring

/-- The carried values are the rows' sums over the first key blocks. -/
def Holds (x : Dat) (V : Fin 8 → Fin 4096 → Fin 128 → EReal) (h : Fin 8) (j : Fin 4) (N : Finset (Fin 4096)) (s : Carried) : Prop :=
  ∀ i : Fin 1024, Run x V h (row j i) N (s.1 (ix2 i 0)) (s.2.1 (ix2 i 0)) (fun d => s.2.2 (ix2 i d))

theorem Given.holds (G : Given x V h j q k v fc f) (t : grid0.Coords) (ht : (t 0).val = h.val) : ∀ n : ℕ, n ≤ 4 → Holds x V h j (before n) (after q (k0_pay3 t fc) k v f n)
  | 0, _ => fun i => by
    rw [before_zero]
    show Run x V h (row j i) ∅ ((k0_pay4 (F := Ideal)) (ix2 i 0)) ((k0_pay5 (F := Ideal)) (ix2 i 0)) (fun d => (k0_pay6 (F := Ideal)) (ix2 i d))
    simp only [pay4_at, pay5_at, pay6_at]
    exact Run.start x V h (row j i)
  | n + 1, hn => fun i => by
    have h4 : n < 4 := by omega
    have ih := Given.holds G t ht n (by omega) i
    have e : after q (k0_pay3 t fc) k v f (n + 1) = next q (k0_pay3 t fc) k v f ⟨n, h4⟩ (after q (k0_pay3 t fc) k v f n) := dif_pos h4
    rw [e]
    generalize after q (k0_pay3 t fc) k v f n = s at ih
    unfold next
    have bs := before_succ ⟨n, h4⟩
    rw [← bs]
    refine Run.step x V h (row j i) ih ⟨n, h4⟩ Finset.univ ⟨0, Finset.mem_univ _⟩ (fun b _ => not_before ⟨n, h4⟩ b) (own x h j i)
      (fun b => k0_pay7 q (tile k ⟨n, h4⟩) (gate f ⟨n, h4⟩) (ix2 i b)) (fun b => by rw [if_pos (Finset.mem_univ _)]; exact G.score _ i b)
      _ _ (k0_pay9 q (k0_pay3 t fc) s.1 (tile k ⟨n, h4⟩) (gate f ⟨n, h4⟩) (ix2 i 0)) _
      (fun b => k0_pay10 q (k0_pay3 t fc) s.1 (tile k ⟨n, h4⟩) (gate f ⟨n, h4⟩) (ix2 i b)) ?_ ?_ ?_ ?_ ?_
    · show k0_pay8 _ _ _ _ _ (ix2 i 0) = _
      rw [pay8_at, G.gate_at t ht]
    · exact pay9_at _ _ _ _ _ _
    · intro b
      show k0_pay10 _ _ _ _ _ (ix2 i b) = _
      rw [pay10_at, G.gate_at t ht]
    · exact pay11_at _ _ _ _ _ _ _
    · intro d
      refine (pay12_at _ _ _ _ _ _ _ _ _).trans (congrArg _ (Finset.sum_congr rfl fun b _ => congrArg _ ?_))
      exact G.v (row ⟨n, h4⟩ b) d

/-- With the diagonal block the sums are the whole rows'. -/
theorem Given.last (G : Given x V h j q k v fc f) (t : grid0.Coords) (ht : (t 0).val = h.val) (hj : t 1 = j) (i : Fin 1024) :
    Run x V h (row j i) (Finset.univ.filter fun s => s ≤ row j i) (lastM q k v f fc t (ix2 i 0)) (lastS q k v f fc t (ix2 i 0))
      (fun d => lastA q k v f fc t (ix2 i d) + ∑ b : Fin 1024, lastP q k v f fc t (ix2 i b) * tile v j (ix2 b d)) := by
  have ih := Given.holds G t ht j.val j.isLt.le i
  unfold lastM lastS lastA lastP
  rw [hj]
  generalize after q (k0_pay3 t fc) k v f j.val = s at ih
  have bs := before_last j i
  rw [← bs]
  refine Run.step x V h (row j i) ih j (upto i) (upto_nonempty i) (fun b _ => not_before j b) (own x h j i)
    (fun b => k0_pay19 (BitVec.ofNat 32 j.val) q (BitVec.ofNat 32 j.val) (tile k j) (gate f j) (ix2 i b)) (fun b => ?_)
    _ _ (k0_pay21 (BitVec.ofNat 32 j.val) q (k0_pay3 t fc) (BitVec.ofNat 32 j.val) s.1 (tile k j) (gate f j) (ix2 i 0)) _
    (fun b => k0_pay22 (BitVec.ofNat 32 j.val) q (k0_pay3 t fc) (BitVec.ofNat 32 j.val) s.1 (tile k j) (gate f j) (ix2 i b)) ?_ ?_ ?_ ?_ ?_
  · show k0_pay19 _ _ _ _ _ (ix2 i b) = _
    rw [pay19_at]
    by_cases hb : b ≤ i
    · rw [if_pos hb, if_pos ((mem_upto i b).mpr hb)]; exact G.score j i b
    · rw [if_neg hb, if_neg fun hm => hb ((mem_upto i b).mp hm)]
  · rw [pay20_at, G.gate_at t ht]
  · exact pay21_at _ _ _ _ _ _ _ _
  · intro b
    show k0_pay22 _ _ _ _ _ _ _ (ix2 i b) = _
    rw [pay22_at, G.gate_at t ht]
  · exact pay23_at _ _ _ _ _ _ _ _ _
  · intro d
    refine congrArg₂ (· + ·) (pay24_at _ _ _ _ _ _ _ _ _ _) (Finset.sum_congr rfl fun b _ => congrArg₂ (· * ·) (pay25_at _ _ _ _ _ _ _ _ _) ?_)
    exact G.v (row j b) d

theorem Given.out5 (G : Given x V h j q k v fc f) (t : grid0.Coords) (ht : (t 0).val = h.val) (hj : t 1 = j) (i : Fin 1024) (d : Fin 128) :
    k0_pay1 (lastS q k v f fc t) (lastA q k v f fc t) (lastP q k v f fc t) (tile v (t 1)) (ix2 i d) = x.out V h (row j i) d := by
  rw [pay1_at, hj]
  exact (Run.done x V h (row j i) (G.last t ht hj i)).1 d
theorem Given.out6 (G : Given x V h j q k v fc f) (t : grid0.Coords) (ht : (t 0).val = h.val) (hj : t 1 = j) (i : Fin 1024) :
    k0_pay2 (lastM q k v f fc t) (lastS q k v f fc t) (ix4 0 0 0 i) = ((x.M h (row j i) + Real.log (x.S h (row j i)) : ℝ) : EReal) := by
  rw [pay2_at]
  exact (Run.done x V h (row j i) (G.last t ht hj i)).2

end Cert.Kernel20Ideal.Fox

end
-- ==== Proof.FoxFwd.Final.lean ====
/- The forward call's two result arrays after the launch: the real attention and the rows' logarithms, element by element. -/
module

public import proofs.«01_k».proof.Proof.FoxFwd.Point
public import proofs.«01_k».proof.Proof.FoxFwd.Ref

@[expose] public section

set_option maxRecDepth 16384

noncomputable section

namespace Cert.Kernel20Ideal.Fox

open Idealize.ShloMosaic Idealize.ShloMosaic.TcCoe Idealize.ShloMosaic.Pipeline
open Idealize.SL.Sem
open Cert.Kernel20Ideal Cert.Kernel20Ideal.Gen Cert.Kernel20Ideal.Value
open Cert.Fox (row)
open Cert.Reference20Ideal.Fox (Reads)
open Cert.ReferenceIdeal.Fox (FT)
open Cert.KernelIdeal.Fox (FR)

theorem coord0 : ∀ t : Fin grid0.N, ((grid0.coords t) 0).val = t.val / 4 := by decide +kernel
theorem coord1 : ∀ t : Fin grid0.N, ((grid0.coords t) 1).val = t.val % 4 := by decide +kernel
theorem idx0 : ∀ t : Fin grid0.N, win0_0.index t 0 = t.val % 4 ∧ win0_0.index t 1 = t.val / 4 := by decide +kernel
theorem idx1 : ∀ t : Fin grid0.N, win0_1.index t 0 = 0 ∧ win0_1.index t 1 = 8 + t.val / 4 := by decide +kernel
theorem idx2 : ∀ t : Fin grid0.N, win0_2.index t 0 = 0 ∧ win0_2.index t 1 = 16 + t.val / 4 := by decide +kernel
theorem idx3 : ∀ t : Fin grid0.N, win0_3.index t 0 = t.val % 4 ∧ win0_3.index t 1 = 0 := by decide +kernel
theorem idx4 : ∀ t : Fin grid0.N, win0_4.index t 0 = t.val / 4 ∧ win0_4.index t 1 = 0 ∧ win0_4.index t 2 = 0 ∧ win0_4.index t 3 = 0 := by decide +kernel
theorem idx5 : ∀ t : Fin grid0.N, win0_5.index t 0 = t.val % 4 ∧ win0_5.index t 1 = t.val / 4 := by decide +kernel
theorem idx6 : ∀ t : Fin grid0.N, win0_6.index t 0 = t.val / 4 ∧ win0_6.index t 1 = t.val % 4 ∧ win0_6.index t 2 = 0 ∧ win0_6.index t 3 = 0 := by decide +kernel

/-- The head and the query block of point `t`. -/
def hd (t : Fin cfg0.N) : Fin 8 := ⟨t.val / 4, by have : t.val < 32 := lt_of_lt_of_eq t.isLt N_0; omega⟩
def qb (t : Fin cfg0.N) : Fin 4 := ⟨t.val % 4, Nat.mod_lt _ (by norm_num)⟩
theorem block (t : Fin cfg0.N) : (grid0.coords t) 1 = qb t := Fin.ext (coord1 t)

variable (m : (ℓ : Loc nD τ sig) → Buf (Elt Ideal) ℓ) (c : Dev nD)

abbrev B0 : FVec Ideal S4096x3072 .bf16 := m ((c.tc : Thread nD τ).loc main_arg0)
abbrev B1 : FVec Ideal S4096x128 .f32 := m ((c.tc : Thread nD τ).loc main_arg1)

theorem V2 : V m c main_v2 = FR (FT (B1 m c)) := by
  show StableHlo.after _ _ _ = _
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

theorem blk0 (t : Fin cfg0.N) (i : Fin 1024) (d : Fin 128) : iblk m c 0 t (ix2 i d) = B0 m c (ix2 (row (qb t) i) ⟨(hd t).val * 128 + d.val, by omega⟩) := by
  unfold iblk
  rw [View.read_apply]
  show V m c main_arg0 _ = _
  rw [V_main_arg0]
  refine congrArg (B0 m c) (funext fun a => Fin.ext ?_)
  match a with
  | ⟨0, _⟩ => show win0_0.index t 0 * 1024 + 1 * i.val = t.val % 4 * 1024 + i.val; rw [(idx0 t).1]; omega
  | ⟨1, _⟩ => show win0_0.index t 1 * 128 + 1 * d.val = t.val / 4 * 128 + d.val; rw [(idx0 t).2]; omega
theorem blk1 (t : Fin cfg0.N) (i : Fin 4096) (d : Fin 128) : iblk m c 1 t (ix2 i d) = B0 m c (ix2 i ⟨1024 + ((hd t).val * 128 + d.val), by omega⟩) := by
  unfold iblk
  rw [View.read_apply]
  show V m c main_arg0 _ = _
  rw [V_main_arg0]
  refine congrArg (B0 m c) (funext fun a => Fin.ext ?_)
  match a with
  | ⟨0, _⟩ => show win0_1.index t 0 * 4096 + 1 * i.val = i.val; rw [(idx1 t).1]; omega
  | ⟨1, _⟩ => show win0_1.index t 1 * 128 + 1 * d.val = 1024 + (t.val / 4 * 128 + d.val); rw [(idx1 t).2]; omega
theorem blk2 (t : Fin cfg0.N) (i : Fin 4096) (d : Fin 128) : iblk m c 2 t (ix2 i d) = B0 m c (ix2 i ⟨2048 + ((hd t).val * 128 + d.val), by omega⟩) := by
  unfold iblk
  rw [View.read_apply]
  show V m c main_arg0 _ = _
  rw [V_main_arg0]
  refine congrArg (B0 m c) (funext fun a => Fin.ext ?_)
  match a with
  | ⟨0, _⟩ => show win0_2.index t 0 * 4096 + 1 * i.val = i.val; rw [(idx2 t).1]; omega
  | ⟨1, _⟩ => show win0_2.index t 1 * 128 + 1 * d.val = 2048 + (t.val / 4 * 128 + d.val); rw [(idx2 t).2]; omega
theorem blk3 (t : Fin cfg0.N) (i : Fin 1024) (d : Fin 128) : iblk m c 3 t (ix2 i d) = B1 m c (ix2 (row (qb t) i) d) := by
  unfold iblk
  rw [View.read_apply]
  show V m c main_arg1 _ = _
  rw [V_main_arg1]
  refine congrArg (B1 m c) (funext fun a => Fin.ext ?_)
  match a with
  | ⟨0, _⟩ => show win0_3.index t 0 * 1024 + 1 * i.val = t.val % 4 * 1024 + i.val; rw [(idx3 t).1]; omega
  | ⟨1, _⟩ => show win0_3.index t 1 * 128 + 1 * d.val = d.val; rw [(idx3 t).2]; omega
theorem read4 (X : FVec Ideal S8x4x1x1024 .f32) (t : Fin cfg0.N) (r : Fin 4) (i : Fin 1024) : (((cfg0.win 4).blk t).view.read (Elt Ideal) X : Vec Ideal S1x4x1x1024 .f32) (ix4 0 r 0 i) = X (ix4 (hd t) r 0 i) := by
  rw [View.read_apply]
  refine congrArg X (funext fun a => Fin.ext ?_)
  match a with
  | ⟨0, _⟩ => show win0_4.index t 0 * 1 + 1 * 0 = t.val / 4; rw [(idx4 t).1]; omega
  | ⟨1, _⟩ => show win0_4.index t 1 * 4 + 1 * r.val = r.val; rw [(idx4 t).2.1]; omega
  | ⟨2, _⟩ => show win0_4.index t 2 * 1 + 1 * 0 = 0; rw [(idx4 t).2.2.1]
  | ⟨3, _⟩ => show win0_4.index t 3 * 1024 + 1 * i.val = i.val; rw [(idx4 t).2.2.2]; omega
theorem blk4 (t : Fin cfg0.N) (r : Fin 4) (i : Fin 1024) : iblk m c 4 t (ix4 0 r 0 i) = V m c main_v2 (ix4 (hd t) r 0 i) :=
  read4 (V m c main_v2) t r i

variable {m c} {x : Cert.Fox.Dat} {VV : Fin 8 → Fin 4096 → Fin 128 → EReal}

theorem given (R : Reads x VV (B0 m c) (B1 m c)) (t : Fin cfg0.N) :
    Given x VV (hd t) (qb t) (iblk m c 0 t) (iblk m c 1 t) (iblk m c 2 t) (iblk m c 3 t) (iblk m c 4 t) where
  q i d := (blk0 m c t i d).trans (R.q _ _ _)
  k s d := (blk1 m c t s d).trans (R.k _ _ _)
  v s d := (blk2 m c t s d).trans (R.v _ _ _)
  fc i := (blk3 m c t i _).trans (R.f (hd t) _)
  f r b := by
    refine (blk4 m c t r b).trans ?_
    refine (congrArg (fun X : FVec Ideal S8x4x1x1024 .f32 => X (ix4 (hd t) r 0 b)) (V2 m c)).trans ?_
    exact (Cert.KernelIdeal.Fox.FR_at _ _ r b).trans ((Cert.ReferenceIdeal.Fox.FT_at _ _ _).trans (R.f _ _))

theorem left5 (R : Reads x VV (B0 m c) (B1 m c)) (t : Fin cfg0.N) (i : Fin 1024) (d : Fin 128) : (outsAt0 m c t).1 (ix2 i d) = x.out VV (hd t) (row (qb t) i) d := by
  unfold outsAt0
  dsimp only
  rw [out5_eq]
  exact (given R t).out5 _ (coord0 t) (block t) i d
theorem left6 (R : Reads x VV (B0 m c) (B1 m c)) (t : Fin cfg0.N) (i : Fin 1024) :
    (outsAt0 m c t).2 (ix4 0 0 0 i) = ((x.M (hd t) (row (qb t) i) + Real.log (x.S (hd t) (row (qb t) i)) : ℝ) : EReal) := by
  unfold outsAt0
  dsimp only
  rw [out6_eq]
  exact (given R t).out6 _ (coord0 t) (block t) i

theorem at5 (t : Fin cfg0.N) (i : Fin 1024) (d : Fin 128) :
    (((cfg0.win 5).blk t).view.emb (ix2 i d) : S4096x1024.Idx) = ix2 (row (qb t) i) ⟨(hd t).val * 128 + d.val, by omega⟩ := funext fun a => Fin.ext (by
  match a with
  | ⟨0, _⟩ => show win0_5.index t 0 * 1024 + 1 * i.val = t.val % 4 * 1024 + i.val; rw [(idx5 t).1]; omega
  | ⟨1, _⟩ => show win0_5.index t 1 * 128 + 1 * d.val = t.val / 4 * 128 + d.val; rw [(idx5 t).2]; omega)
theorem at6 (t : Fin cfg0.N) (i : Fin 1024) :
    (((cfg0.win 6).blk t).view.emb (ix4 0 0 0 i) : S8x4x1x1024.Idx) = ix4 (hd t) (qb t) 0 i := funext fun a => Fin.ext (by
  match a with
  | ⟨0, _⟩ => show win0_6.index t 0 * 1 + 1 * 0 = t.val / 4; rw [(idx6 t).1]; omega
  | ⟨1, _⟩ => show win0_6.index t 1 * 1 + 1 * 0 = t.val % 4; rw [(idx6 t).2.1]; omega
  | ⟨2, _⟩ => show win0_6.index t 2 * 1 + 1 * 0 = 0; rw [(idx6 t).2.2.1]
  | ⟨3, _⟩ => show win0_6.index t 3 * 1024 + 1 * i.val = i.val; rw [(idx6 t).2.2.2]; omega)

/-- Column `h * 128 + d` is element `d` of head `h`. -/
theorem col (h : Fin 8) (d : Fin 128) : (⟨(h.val * 128 + d.val) / 128, by omega⟩ : Fin 8) = h ∧ (⟨(h.val * 128 + d.val) % 128, by omega⟩ : Fin 128) = d := by
  have := d.isLt
  exact ⟨Fin.ext (by show (h.val * 128 + d.val) / 128 = h.val; omega), Fin.ext (by show (h.val * 128 + d.val) % 128 = d.val; omega)⟩
theorem one4 {n : ℕ} (y : (⟨4, ![1, 1, 1, n]⟩ : Shape).Idx) : y = ix4 0 0 0 (y 3) := funext fun a => by
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

theorem final5 (R : Reads x VV (B0 m c) (B1 m c)) (G : FVec Ideal S4096x1024 .bf16)
    (hG : ∀ i (j : Fin 1024), G (ix2 i j) = x.out VV ⟨j.val / 128, by omega⟩ i ⟨j.val % 128, by omega⟩) : (dats m 0 c).arrAt 5 cfg0.N = G := by
  refine (dats m 0 c).arrAt_eq_of_covers 5 G (by decide +kernel) fun t hf y => ?_
  obtain ⟨i, d, rfl⟩ : ∃ (i : Fin 1024) (d : Fin 128), y = ix2 i d := ⟨_, _, eq_ix2 y⟩
  refine (congrFun (after0_5 m c t) (ix2 i d)).trans ?_
  refine Eq.trans ?_ (congrArg G (at5 t i d)).symm
  rw [hG]
  refine (left5 R t i d).trans ?_
  exact congrArg₂ (fun h e => x.out VV h (row (qb t) i) e) (col (hd t) d).1.symm (col (hd t) d).2.symm
theorem final6 (R : Reads x VV (B0 m c) (B1 m c)) (G : FVec Ideal S8x4x1x1024 .f32)
    (hG : ∀ h r b, G (ix4 h r 0 b) = ((x.M h (row r b) + Real.log (x.S h (row r b)) : ℝ) : EReal)) : (dats m 0 c).arrAt 6 cfg0.N = G := by
  refine (dats m 0 c).arrAt_eq_of_covers 6 G (by decide +kernel) fun t hf y => ?_
  obtain ⟨i, rfl⟩ : ∃ (i : Fin 1024), y = ix4 0 0 0 i := ⟨_, one4 y⟩
  refine (congrFun (after0_6 m c t) (ix4 0 0 0 i)).trans ?_
  refine Eq.trans ?_ (congrArg G (at6 t i)).symm
  rw [hG]
  exact left6 R t i

end Cert.Kernel20Ideal.Fox

end
-- ==== Proof.lean ====
/- The claims about the forgetting attention, forward and backward, about the projections and about the optimiser, put together. -/
module

public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel20.Frame
public import proofs.«01_k».proof.Proof.Adam.K21
public import proofs.«01_k».proof.Proof.Adam.K22
public import proofs.«01_k».proof.Proof.Adam.K23
public import proofs.«01_k».proof.Proof.Adam.K24
public import proofs.«01_k».proof.Proof.Adam.K25
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Reference24Ideal.Run
public import proofs.«01_k».proof.Proof.Gen.Reference25Ideal.Run
public import proofs.«01_k».proof.Proof.Prod.Dh2
public import proofs.«01_k».proof.Proof.Prod.Dh0
public import proofs.«01_k».proof.Proof.Prod.Dh0Ref
public import proofs.«01_k».proof.Proof.Prod.DwUp
public import proofs.«01_k».proof.Proof.Prod.DwUpRef
public import proofs.«01_k».proof.Proof.Prod.DAct
public import proofs.«01_k».proof.Proof.Prod.DwDown
public import proofs.«01_k».proof.Proof.Prod.DMerged
public import proofs.«01_k».proof.Proof.Prod.DHb
public import proofs.«01_k».proof.Proof.Prod.DwOut
public import proofs.«01_k».proof.Proof.Prod.FfnUp
public import proofs.«01_k».proof.Proof.Prod.FfnDown
public import proofs.«01_k».proof.Proof.Prod.Branch
public import proofs.«01_k».proof.Proof.Prod.ProjMlstm
public import proofs.«01_k».proof.Proof.Prod.ProjFox
public import proofs.«01_k».proof.Proof.Prod.ProjMerge
public import proofs.«01_k».proof.Proof.Prod.ProjGates
public import proofs.«01_k».proof.Proof.Prod.Dh0Gates
public import proofs.«01_k».proof.Proof.Prod.DwGates
public import proofs.«01_k».proof.Proof.DwMain.Final
public import proofs.«01_k».proof.Proof.DwMain.Reference
public import proofs.«01_k».proof.Proof.DwMainBits.Track
public import proofs.«01_k».proof.Proof.Fox.Final
public import proofs.«01_k».proof.Proof.FoxBits.Track
public import proofs.«01_k».proof.Proof.FoxFwd.Pre
public import proofs.«01_k».proof.Proof.FoxFwd.Final
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import proofs.«01_k».proof.Proof.Gen.Reference22Ideal.Run
public import proofs.«01_k».proof.Proof.Gen.Reference23Ideal.Run
public import Idealize.ShloMosaic.Lib.Quiescent
public import Idealize.ShloMosaic.Adequacy
public import Idealize.ShloMosaic.Init

@[expose] public section

noncomputable section

namespace Cert.Proof

open Idealize.ShloMosaic Idealize.SL.Sem
open KernelIdeal.Fox (B0 B1 B2)
open ReferenceIdeal.Value

theorem frame_kernel : quiescent_Kernel := fun m g _ => Kernel.Fox.frame (F := Bits) m g

theorem frame_ideal : quiescent_KernelIdeal :=
  fun m g _ => KernelIdeal.Fox.frame (F := Ideal) m g

theorem frame_reference : quiescent_ReferenceIdeal := fun m g _ =>
  (θ_run ReferenceIdeal.defs _ _).mono (fun r h => ⟨fun c => (h c).2.2.2.2.2, sem_eq_zero_of_no_sems (by decide) r.2⟩)
    (ReferenceIdeal.Value.run m g)

theorem preserves : preserves_Kernel_KernelIdeal :=
  ⟨IdealRules.named_const.statement _ _ _ _ _ rfl, IdealRules.named_const.statement _ _ _ _ _ rfl, IdealRules.named_const.statement _ _ _ _ _ rfl,
    IdealRules.named_const.statement _ _ _ _ _ rfl⟩

/-- Under the precondition the kernel leaves the reference's five gradients, both being those of the real numbers the
    arguments hold. -/
theorem algebraic : algebraic_KernelIdeal_ReferenceIdeal_pre_finite (hPre_finite := Cert.Fox.pre_facts) := by
  intro m g m' g' hpre heq
  have R := fun c => Cert.Fox.reads (B0 m c) (B1 m c) (B2 m c) (hpre c).1 (hpre c).2.1 (hpre c).2.2
  have R' : ∀ c : Dev KernelIdeal.nD, ReferenceIdeal.Fox.Reads (Cert.Fox.parts (B0 m c) (B1 m c) (B2 m c))
      (ReferenceIdeal.Fox.A0 m' c) (ReferenceIdeal.Fox.A1 m' c) (ReferenceIdeal.Fox.A2 m' c) := by
    intro c
    have h0 : ReferenceIdeal.Fox.A0 m' c = B0 m c := (heq c).1
    have h1 : ReferenceIdeal.Fox.A1 m' c = B1 m c := (heq c).2.1
    have h2 : ReferenceIdeal.Fox.A2 m' c = B2 m c := (heq c).2.2
    rw [h0, h1, h2]
    exact R c
  refine ⟨fun c => res_main_v94 m' c, fun c => res_main_v96 m' c, fun c => res_main_v98 m' c, fun c => res_main_v100 m' c,
    fun c => res_main_v102 m' c, ?_, ReferenceIdeal.Value.run (F := Ideal) m' g'⟩
  refine (θ_run KernelIdeal.defs _ _).mono (fun r h c => ?_) (KernelIdeal.Fox.run_main (F := Ideal) m g)
  exact ⟨((h.1 c).1 8).trans (KernelIdeal.Fox.final8 (R c) _ (ReferenceIdeal.Fox.out0 (R' c))),
    ((h.1 c).1 9).trans (KernelIdeal.Fox.final9 (R c) _ (ReferenceIdeal.Fox.out1 (R' c))),
    ((h.1 c).1 10).trans (KernelIdeal.Fox.final10 (R c) _ (ReferenceIdeal.Fox.out2 (R' c))),
    ((h.1 c).1 11).trans (KernelIdeal.Fox.final11 (R c) _ (ReferenceIdeal.Fox.out3 (R' c))),
    ((h.1 c).1 12).trans (KernelIdeal.Fox.final12 (R c) _ (ReferenceIdeal.Fox.out4 (R' c))),
    KernelIdeal.Fox.kept m h.1 c⟩

theorem frame_reference2 : quiescent_Reference2Ideal := fun m g _ =>
  (θ_run Reference2Ideal.defs _ _).mono (fun r h => ⟨fun c => (h c).2, sem_eq_zero_of_no_sems (by decide) r.2⟩)
    (Reference2Ideal.Value.run m g)

theorem frame_reference3 : quiescent_Reference3Ideal := fun m g _ =>
  (θ_run Reference3Ideal.defs _ _).mono (fun r h => ⟨fun c => (h c).2, sem_eq_zero_of_no_sems (by decide) r.2⟩)
    (Reference3Ideal.Value.run m g)

theorem frame_reference4 : quiescent_Reference4Ideal := fun m g _ =>
  (θ_run Reference4Ideal.defs _ _).mono (fun r h => ⟨fun c => (h c).2, sem_eq_zero_of_no_sems (by decide) r.2⟩)
    (Reference4Ideal.Value.run m g)

/-- The kernel leaves the reference's gradient at the up projection's input. -/
theorem algebraic2 : algebraic_Kernel2Ideal_Reference2Ideal := by
  intro m g m' g' _ heq
  refine ⟨fun c => Reference2Ideal.Prod.G (m' ((c.tc : Thread Reference2Ideal.nD Reference2Ideal.τ).loc Reference2Ideal.main_arg0)) (m' ((c.tc : Thread Reference2Ideal.nD Reference2Ideal.τ).loc Reference2Ideal.main_arg1))
    (m' ((c.tc : Thread Reference2Ideal.nD Reference2Ideal.τ).loc Reference2Ideal.main_arg2)), ?_, Reference2Ideal.Value.run (F := Ideal) m' g'⟩
  refine (θ_run Kernel2Ideal.defs _ _).mono (fun r h c => ⟨(h c).1.trans ?_, (h c).2⟩) (Kernel2Ideal.Value.run_blocks (F := Ideal) m g)
  obtain ⟨e0, e1, e2⟩ := heq c
  exact (Kernel2Ideal.Prod.final m c (Reference2Ideal.Prod.G (Kernel2Ideal.Prod.A0 m c) (Kernel2Ideal.Prod.A1 m c) (Kernel2Ideal.Prod.A2 m c))
    fun i j => Reference2Ideal.Prod.G_at _ _ _ i j).trans (congr (congrArg₂ Reference2Ideal.Prod.G e0 e1) e2).symm

/-- The kernel leaves the reference's gradient at the mixed input. -/
theorem algebraic3 : algebraic_Kernel3Ideal_Reference3Ideal := by
  intro m g m' g' _ heq
  refine ⟨fun c => Reference3Ideal.Prod.G (Reference3Ideal.Prod.args m' c) (m' ((c.tc : Thread Reference3Ideal.nD Reference3Ideal.τ).loc Reference3Ideal.main_arg8)), ?_, Reference3Ideal.Value.run (F := Ideal) m' g'⟩
  refine (θ_run Kernel3Ideal.defs _ _).mono (fun r h c => ⟨(h c).1.trans ?_, (h c).2⟩) (Kernel3Ideal.Value.run_blocks (F := Ideal) m g)
  obtain ⟨e0, e1, e2, e3, e4, e5, e6, e7, e8, _⟩ := heq c
  have ep : Reference3Ideal.Prod.args m' c = Kernel3Ideal.Prod.part m c := funext fun a => by
    match a with
    | ⟨0, _⟩ => exact e0
    | ⟨1, _⟩ => exact e1
    | ⟨2, _⟩ => exact e2
    | ⟨3, _⟩ => exact e3
    | ⟨4, _⟩ => exact e4
    | ⟨5, _⟩ => exact e5
    | ⟨6, _⟩ => exact e6
    | ⟨7, _⟩ => exact e7
  exact (Kernel3Ideal.Prod.final m c (Reference3Ideal.Prod.G (Kernel3Ideal.Prod.part m c) (Kernel3Ideal.Prod.weight m c))
    fun i j => Reference3Ideal.Prod.G_at _ _ i j).trans (congrArg₂ Reference3Ideal.Prod.G ep e8).symm

/-- The kernel leaves the reference's weight gradient of the up projection. -/
theorem algebraic4 : algebraic_Kernel4Ideal_Reference4Ideal := by
  intro m g m' g' _ heq
  refine ⟨fun c => Reference4Ideal.Prod.G (m' ((c.tc : Thread Reference4Ideal.nD Reference4Ideal.τ).loc Reference4Ideal.main_arg0)) (m' ((c.tc : Thread Reference4Ideal.nD Reference4Ideal.τ).loc Reference4Ideal.main_arg1))
    (m' ((c.tc : Thread Reference4Ideal.nD Reference4Ideal.τ).loc Reference4Ideal.main_arg2)), ?_, Reference4Ideal.Value.run (F := Ideal) m' g'⟩
  refine (θ_run Kernel4Ideal.defs _ _).mono (fun r h c => ⟨(h c).1.trans ?_, (h c).2⟩) (Kernel4Ideal.Value.run_blocks (F := Ideal) m g)
  obtain ⟨e0, e1, e2⟩ := heq c
  exact (Kernel4Ideal.Prod.final m c (Reference4Ideal.Prod.G (Kernel4Ideal.Prod.A0 m c) (Kernel4Ideal.Prod.A1 m c) (Kernel4Ideal.Prod.A2 m c))
    fun i j => Reference4Ideal.Prod.G_at _ _ _ i j).trans (congr (congrArg₂ Reference4Ideal.Prod.G e0 e1) e2).symm

theorem frame_reference5 : quiescent_Reference5Ideal := fun m g _ =>
  (θ_run Reference5Ideal.defs _ _).mono (fun r h => ⟨fun c => (h c).2, sem_eq_zero_of_no_sems (by decide) r.2⟩)
    (Reference5Ideal.Value.run m g)

/-- The kernel leaves the reference's gradient at the down projection's input. -/
theorem algebraic5 : algebraic_Kernel5Ideal_Reference5Ideal := by
  intro m g m' g' _ heq
  refine ⟨fun c => Reference5Ideal.Prod.G (m' ((c.tc : Thread Reference5Ideal.nD Reference5Ideal.τ).loc Reference5Ideal.main_arg0))
    (m' ((c.tc : Thread Reference5Ideal.nD Reference5Ideal.τ).loc Reference5Ideal.main_arg1)), ?_, Reference5Ideal.Value.run (F := Ideal) m' g'⟩
  refine (θ_run Kernel5Ideal.defs _ _).mono (fun r h c => ⟨(h c).1.trans ?_, (h c).2⟩) (Kernel5Ideal.Value.run_blocks (F := Ideal) m g)
  obtain ⟨e0, e1⟩ := heq c
  exact (Kernel5Ideal.Prod.final m c (Reference5Ideal.Prod.G (Kernel5Ideal.Prod.A0 m c) (Kernel5Ideal.Prod.A1 m c))
    fun i j => Reference5Ideal.Prod.G_at _ _ i j).trans (congrArg₂ Reference5Ideal.Prod.G e0 e1).symm

theorem frame_reference6 : quiescent_Reference6Ideal := fun m g _ =>
  (θ_run Reference6Ideal.defs _ _).mono (fun r h => ⟨fun c => (h c).2, sem_eq_zero_of_no_sems (by decide) r.2⟩)
    (Reference6Ideal.Value.run m g)

/-- The kernel leaves the reference's weight gradient of the down projection. -/
theorem algebraic6 : algebraic_Kernel6Ideal_Reference6Ideal := by
  intro m g m' g' _ heq
  refine ⟨fun c => Reference6Ideal.Prod.G (m' ((c.tc : Thread Reference6Ideal.nD Reference6Ideal.τ).loc Reference6Ideal.main_arg0))
    (m' ((c.tc : Thread Reference6Ideal.nD Reference6Ideal.τ).loc Reference6Ideal.main_arg1)), ?_, Reference6Ideal.Value.run (F := Ideal) m' g'⟩
  refine (θ_run Kernel6Ideal.defs _ _).mono (fun r h c => ⟨(h c).1.trans ?_, (h c).2⟩) (Kernel6Ideal.Value.run_blocks (F := Ideal) m g)
  obtain ⟨e0, e1⟩ := heq c
  exact (Kernel6Ideal.Prod.final m c (Reference6Ideal.Prod.G (Kernel6Ideal.Prod.A0 m c) (Kernel6Ideal.Prod.A1 m c))
    fun i j => Reference6Ideal.Prod.G_at _ _ i j).trans (congrArg₂ Reference6Ideal.Prod.G e0 e1).symm

theorem frame_reference7 : quiescent_Reference7Ideal := fun m g _ =>
  (θ_run Reference7Ideal.defs _ _).mono (fun r h => ⟨fun c => (h c).2, sem_eq_zero_of_no_sems (by decide) r.2⟩)
    (Reference7Ideal.Value.run m g)

/-- The kernel leaves the reference's gradient at the output projection's input. -/
theorem algebraic7 : algebraic_Kernel7Ideal_Reference7Ideal := by
  intro m g m' g' _ heq
  refine ⟨fun c => Reference7Ideal.Prod.G (m' ((c.tc : Thread Reference7Ideal.nD Reference7Ideal.τ).loc Reference7Ideal.main_arg0))
    (m' ((c.tc : Thread Reference7Ideal.nD Reference7Ideal.τ).loc Reference7Ideal.main_arg1)), ?_, Reference7Ideal.Value.run (F := Ideal) m' g'⟩
  refine (θ_run Kernel7Ideal.defs _ _).mono (fun r h c => ⟨(h c).1.trans ?_, (h c).2⟩) (Kernel7Ideal.Value.run_blocks (F := Ideal) m g)
  obtain ⟨e0, e1⟩ := heq c
  exact (Kernel7Ideal.Prod.final m c (Reference7Ideal.Prod.G (Kernel7Ideal.Prod.A0 m c) (Kernel7Ideal.Prod.A1 m c))
    fun i j => Reference7Ideal.Prod.G_at _ _ i j).trans (congrArg₂ Reference7Ideal.Prod.G e0 e1).symm

theorem frame_reference8 : quiescent_Reference8Ideal := fun m g _ =>
  (θ_run Reference8Ideal.defs _ _).mono (fun r h => ⟨fun c => (h c).2, sem_eq_zero_of_no_sems (by decide) r.2⟩)
    (Reference8Ideal.Value.run m g)

/-- The kernel leaves the reference's gradient at the attention branch's result. -/
theorem algebraic8 : algebraic_Kernel8Ideal_Reference8Ideal := by
  intro m g m' g' _ heq
  refine ⟨fun c => Reference8Ideal.Prod.G (m' ((c.tc : Thread Reference8Ideal.nD Reference8Ideal.τ).loc Reference8Ideal.main_arg0))
    (m' ((c.tc : Thread Reference8Ideal.nD Reference8Ideal.τ).loc Reference8Ideal.main_arg1)), ?_, Reference8Ideal.Value.run (F := Ideal) m' g'⟩
  refine (θ_run Kernel8Ideal.defs _ _).mono (fun r h c => ⟨(h c).1.trans ?_, (h c).2⟩) (Kernel8Ideal.Value.run_blocks (F := Ideal) m g)
  obtain ⟨e0, e1⟩ := heq c
  exact (Kernel8Ideal.Prod.final m c (Reference8Ideal.Prod.G (Kernel8Ideal.Prod.A0 m c) (Kernel8Ideal.Prod.A1 m c))
    fun i j => Reference8Ideal.Prod.G_at _ _ i j).trans (congrArg₂ Reference8Ideal.Prod.G e0 e1).symm

theorem frame_reference9 : quiescent_Reference9Ideal := fun m g _ =>
  (θ_run Reference9Ideal.defs _ _).mono (fun r h => ⟨fun c => (h c).2, sem_eq_zero_of_no_sems (by decide) r.2⟩)
    (Reference9Ideal.Value.run m g)

/-- The kernel leaves the reference's weight gradient of the output projection. -/
theorem algebraic9 : algebraic_Kernel9Ideal_Reference9Ideal := by
  intro m g m' g' _ heq
  refine ⟨fun c => Reference9Ideal.Prod.G (m' ((c.tc : Thread Reference9Ideal.nD Reference9Ideal.τ).loc Reference9Ideal.main_arg0))
    (m' ((c.tc : Thread Reference9Ideal.nD Reference9Ideal.τ).loc Reference9Ideal.main_arg1)), ?_, Reference9Ideal.Value.run (F := Ideal) m' g'⟩
  refine (θ_run Kernel9Ideal.defs _ _).mono (fun r h c => ⟨(h c).1.trans ?_, (h c).2⟩) (Kernel9Ideal.Value.run_blocks (F := Ideal) m g)
  obtain ⟨e0, e1⟩ := heq c
  exact (Kernel9Ideal.Prod.final m c (Reference9Ideal.Prod.G (Kernel9Ideal.Prod.A0 m c) (Kernel9Ideal.Prod.A1 m c))
    fun i j => Reference9Ideal.Prod.G_at _ _ i j).trans (congrArg₂ Reference9Ideal.Prod.G e0 e1).symm

theorem frame_reference10 : quiescent_Reference10Ideal := fun m g _ =>
  (θ_run Reference10Ideal.defs _ _).mono (fun r h => ⟨fun c => (h c).2, sem_eq_zero_of_no_sems (by decide) r.2⟩)
    (Reference10Ideal.Value.run m g)

/-- The kernel leaves the reference's up projection. -/
theorem algebraic10 : algebraic_Kernel10Ideal_Reference10Ideal := by
  intro m g m' g' _ heq
  refine ⟨fun c => Reference10Ideal.Prod.G (m' ((c.tc : Thread Reference10Ideal.nD Reference10Ideal.τ).loc Reference10Ideal.main_arg0))
    (m' ((c.tc : Thread Reference10Ideal.nD Reference10Ideal.τ).loc Reference10Ideal.main_arg1)), ?_, Reference10Ideal.Value.run (F := Ideal) m' g'⟩
  refine (θ_run Kernel10Ideal.defs _ _).mono (fun r h c => ⟨(h c).1.trans ?_, (h c).2⟩) (Kernel10Ideal.Value.run_blocks (F := Ideal) m g)
  obtain ⟨e0, e1⟩ := heq c
  exact (Kernel10Ideal.Prod.final m c (Reference10Ideal.Prod.G (Kernel10Ideal.Prod.A0 m c) (Kernel10Ideal.Prod.A1 m c))
    fun i j => Reference10Ideal.Prod.G_at _ _ i j).trans (congrArg₂ Reference10Ideal.Prod.G e0 e1).symm

theorem frame_reference11 : quiescent_Reference11Ideal := fun m g _ =>
  (θ_run Reference11Ideal.defs _ _).mono (fun r h => ⟨fun c => (h c).2, sem_eq_zero_of_no_sems (by decide) r.2⟩)
    (Reference11Ideal.Value.run m g)

/-- The kernel leaves the reference's down projection. -/
theorem algebraic11 : algebraic_Kernel11Ideal_Reference11Ideal := by
  intro m g m' g' _ heq
  refine ⟨fun c => Reference11Ideal.Prod.G (m' ((c.tc : Thread Reference11Ideal.nD Reference11Ideal.τ).loc Reference11Ideal.main_arg0))
    (m' ((c.tc : Thread Reference11Ideal.nD Reference11Ideal.τ).loc Reference11Ideal.main_arg1)), ?_, Reference11Ideal.Value.run (F := Ideal) m' g'⟩
  refine (θ_run Kernel11Ideal.defs _ _).mono (fun r h c => ⟨(h c).1.trans ?_, (h c).2⟩) (Kernel11Ideal.Value.run_blocks (F := Ideal) m g)
  obtain ⟨e0, e1⟩ := heq c
  exact (Kernel11Ideal.Prod.final m c (Reference11Ideal.Prod.G (Kernel11Ideal.Prod.A0 m c) (Kernel11Ideal.Prod.A1 m c))
    fun i j => Reference11Ideal.Prod.G_at _ _ i j).trans (congrArg₂ Reference11Ideal.Prod.G e0 e1).symm

theorem frame_reference12 : quiescent_Reference12Ideal := fun m g _ =>
  (θ_run Reference12Ideal.defs _ _).mono (fun r h => ⟨fun c => (h c).2, sem_eq_zero_of_no_sems (by decide) r.2⟩)
    (Reference12Ideal.Value.run m g)

/-- The kernel leaves the reference's projection of a branch. -/
theorem algebraic12 : algebraic_Kernel12Ideal_Reference12Ideal := by
  intro m g m' g' _ heq
  refine ⟨fun c => Reference12Ideal.Prod.G (m' ((c.tc : Thread Reference12Ideal.nD Reference12Ideal.τ).loc Reference12Ideal.main_arg0))
    (m' ((c.tc : Thread Reference12Ideal.nD Reference12Ideal.τ).loc Reference12Ideal.main_arg1)), ?_, Reference12Ideal.Value.run (F := Ideal) m' g'⟩
  refine (θ_run Kernel12Ideal.defs _ _).mono (fun r h c => ⟨(h c).1.trans ?_, (h c).2⟩) (Kernel12Ideal.Value.run_blocks (F := Ideal) m g)
  obtain ⟨e0, e1⟩ := heq c
  exact (Kernel12Ideal.Prod.final m c (Reference12Ideal.Prod.G (Kernel12Ideal.Prod.A0 m c) (Kernel12Ideal.Prod.A1 m c))
    fun i j => Reference12Ideal.Prod.G_at _ _ i j).trans (congrArg₂ Reference12Ideal.Prod.G e0 e1).symm

theorem frame_reference13 : quiescent_Reference13Ideal := fun m g _ =>
  (θ_run Reference13Ideal.defs _ _).mono (fun r h => ⟨fun c => (h c).2, sem_eq_zero_of_no_sems (by decide) r.2⟩)
    (Reference13Ideal.Value.run m g)

/-- The kernel leaves the reference's mLSTM's part of the projection. -/
theorem algebraic13 : algebraic_Kernel13Ideal_Reference13Ideal := by
  intro m g m' g' _ heq
  refine ⟨fun c => Reference13Ideal.Prod.G (m' ((c.tc : Thread Reference13Ideal.nD Reference13Ideal.τ).loc Reference13Ideal.main_arg0))
    (m' ((c.tc : Thread Reference13Ideal.nD Reference13Ideal.τ).loc Reference13Ideal.main_arg1)), ?_, Reference13Ideal.Value.run (F := Ideal) m' g'⟩
  refine (θ_run Kernel13Ideal.defs _ _).mono (fun r h c => ⟨(h c).1.trans ?_, (h c).2⟩) (Kernel13Ideal.Value.run_blocks (F := Ideal) m g)
  obtain ⟨e0, e1⟩ := heq c
  exact (Kernel13Ideal.Prod.final m c (Reference13Ideal.Prod.G (Kernel13Ideal.Prod.A0 m c) (Kernel13Ideal.Prod.A1 m c))
    fun i j => Reference13Ideal.Prod.G_at _ _ i j).trans (congrArg₂ Reference13Ideal.Prod.G e0 e1).symm

theorem frame_reference14 : quiescent_Reference14Ideal := fun m g _ =>
  (θ_run Reference14Ideal.defs _ _).mono (fun r h => ⟨fun c => (h c).2, sem_eq_zero_of_no_sems (by decide) r.2⟩)
    (Reference14Ideal.Value.run m g)

/-- The kernel leaves the reference's attention's part of the projection. -/
theorem algebraic14 : algebraic_Kernel14Ideal_Reference14Ideal := by
  intro m g m' g' _ heq
  refine ⟨fun c => Reference14Ideal.Prod.G (m' ((c.tc : Thread Reference14Ideal.nD Reference14Ideal.τ).loc Reference14Ideal.main_arg0))
    (m' ((c.tc : Thread Reference14Ideal.nD Reference14Ideal.τ).loc Reference14Ideal.main_arg1)), ?_, Reference14Ideal.Value.run (F := Ideal) m' g'⟩
  refine (θ_run Kernel14Ideal.defs _ _).mono (fun r h c => ⟨(h c).1.trans ?_, (h c).2⟩) (Kernel14Ideal.Value.run_blocks (F := Ideal) m g)
  obtain ⟨e0, e1⟩ := heq c
  exact (Kernel14Ideal.Prod.final m c (Reference14Ideal.Prod.G (Kernel14Ideal.Prod.A0 m c) (Kernel14Ideal.Prod.A1 m c))
    fun i j => Reference14Ideal.Prod.G_at _ _ i j).trans (congrArg₂ Reference14Ideal.Prod.G e0 e1).symm

theorem frame_reference15 : quiescent_Reference15Ideal := fun m g _ =>
  (θ_run Reference15Ideal.defs _ _).mono (fun r h => ⟨fun c => (h c).2, sem_eq_zero_of_no_sems (by decide) r.2⟩)
    (Reference15Ideal.Value.run m g)

/-- The kernel leaves the reference's gates' part of the projection. -/
theorem algebraic15 : algebraic_Kernel15Ideal_Reference15Ideal := by
  intro m g m' g' _ heq
  refine ⟨fun c => Reference15Ideal.Prod.G (m' ((c.tc : Thread Reference15Ideal.nD Reference15Ideal.τ).loc Reference15Ideal.main_arg0))
    (m' ((c.tc : Thread Reference15Ideal.nD Reference15Ideal.τ).loc Reference15Ideal.main_arg1)), ?_, Reference15Ideal.Value.run (F := Ideal) m' g'⟩
  refine (θ_run Kernel15Ideal.defs _ _).mono (fun r h c => ⟨(h c).1.trans ?_, (h c).2⟩) (Kernel15Ideal.Value.run_blocks (F := Ideal) m g)
  obtain ⟨e0, e1⟩ := heq c
  exact (Kernel15Ideal.Prod.final m c (Reference15Ideal.Prod.G (Kernel15Ideal.Prod.A0 m c) (Kernel15Ideal.Prod.A1 m c))
    fun i j => Reference15Ideal.Prod.G_at _ _ i j).trans (congrArg₂ Reference15Ideal.Prod.G e0 e1).symm

theorem frame_reference16 : quiescent_Reference16Ideal := fun m g _ =>
  (θ_run Reference16Ideal.defs _ _).mono (fun r h => ⟨fun c => (h c).2, sem_eq_zero_of_no_sems (by decide) r.2⟩)
    (Reference16Ideal.Value.run m g)

/-- The kernel leaves the reference's gates' small projection. -/
theorem algebraic16 : algebraic_Kernel16Ideal_Reference16Ideal := by
  intro m g m' g' _ heq
  refine ⟨fun c => Reference16Ideal.Prod.G (m' ((c.tc : Thread Reference16Ideal.nD Reference16Ideal.τ).loc Reference16Ideal.main_arg0))
    (m' ((c.tc : Thread Reference16Ideal.nD Reference16Ideal.τ).loc Reference16Ideal.main_arg1)), ?_, Reference16Ideal.Value.run (F := Ideal) m' g'⟩
  refine (θ_run Kernel16Ideal.defs _ _).mono (fun r h c => ⟨(h c).1.trans ?_, (h c).2⟩) (Kernel16Ideal.Value.run_blocks (F := Ideal) m g)
  obtain ⟨e0, e1⟩ := heq c
  exact (Kernel16Ideal.Prod.final m c (Reference16Ideal.Prod.G (Kernel16Ideal.Prod.A0 m c) (Kernel16Ideal.Prod.A1 m c))
    fun i j => Reference16Ideal.Prod.G_at _ _ i j).trans (congrArg₂ Reference16Ideal.Prod.G e0 e1).symm

theorem frame_reference17 : quiescent_Reference17Ideal := fun m g _ =>
  (θ_run Reference17Ideal.defs _ _).mono (fun r h => ⟨fun c => (h c).2, sem_eq_zero_of_no_sems (by decide) r.2⟩)
    (Reference17Ideal.Value.run m g)

/-- The kernel leaves the reference's gradient at the gates' small projection's input. -/
theorem algebraic17 : algebraic_Kernel17Ideal_Reference17Ideal := by
  intro m g m' g' _ heq
  refine ⟨fun c => Reference17Ideal.Prod.G (m' ((c.tc : Thread Reference17Ideal.nD Reference17Ideal.τ).loc Reference17Ideal.main_arg0))
    (m' ((c.tc : Thread Reference17Ideal.nD Reference17Ideal.τ).loc Reference17Ideal.main_arg1)), ?_, Reference17Ideal.Value.run (F := Ideal) m' g'⟩
  refine (θ_run Kernel17Ideal.defs _ _).mono (fun r h c => ⟨(h c).1.trans ?_, (h c).2⟩) (Kernel17Ideal.Value.run_blocks (F := Ideal) m g)
  obtain ⟨e0, e1⟩ := heq c
  exact (Kernel17Ideal.Prod.final m c (Reference17Ideal.Prod.G (Kernel17Ideal.Prod.A0 m c) (Kernel17Ideal.Prod.A1 m c))
    fun i j => Reference17Ideal.Prod.G_at _ _ i j).trans (congrArg₂ Reference17Ideal.Prod.G e0 e1).symm

theorem frame_reference18 : quiescent_Reference18Ideal := fun m g _ =>
  (θ_run Reference18Ideal.defs _ _).mono (fun r h => ⟨fun c => (h c).2, sem_eq_zero_of_no_sems (by decide) r.2⟩)
    (Reference18Ideal.Value.run m g)

/-- The kernel leaves the reference's weight gradient of the gates' small projection. -/
theorem algebraic18 : algebraic_Kernel18Ideal_Reference18Ideal := by
  intro m g m' g' _ heq
  refine ⟨fun c => Reference18Ideal.Prod.G (m' ((c.tc : Thread Reference18Ideal.nD Reference18Ideal.τ).loc Reference18Ideal.main_arg0))
    (m' ((c.tc : Thread Reference18Ideal.nD Reference18Ideal.τ).loc Reference18Ideal.main_arg1)), ?_, Reference18Ideal.Value.run (F := Ideal) m' g'⟩
  refine (θ_run Kernel18Ideal.defs _ _).mono (fun r h c => ⟨(h c).1.trans ?_, (h c).2⟩) (Kernel18Ideal.Value.run_blocks (F := Ideal) m g)
  obtain ⟨e0, e1⟩ := heq c
  exact (Kernel18Ideal.Prod.final m c (Reference18Ideal.Prod.G (Kernel18Ideal.Prod.A0 m c) (Kernel18Ideal.Prod.A1 m c))
    fun i j => Reference18Ideal.Prod.G_at _ _ i j).trans (congrArg₂ Reference18Ideal.Prod.G e0 e1).symm

theorem frame_reference19 : quiescent_Reference19Ideal := fun m g _ =>
  (θ_run Reference19Ideal.defs _ _).mono (fun r h => ⟨fun c => (h c).2, sem_eq_zero_of_no_sems (by decide) r.2⟩)
    (Reference19Ideal.Value.run m g)

/-- The kernel leaves the reference's weight gradient of the big projection. -/
theorem algebraic19 : algebraic_Kernel19Ideal_Reference19Ideal := by
  intro m g m' g' _ heq
  refine ⟨fun c => Reference19Ideal.Prod.G (Reference19Ideal.Prod.args m' c) (m' ((c.tc : Thread Reference19Ideal.nD Reference19Ideal.τ).loc Reference19Ideal.main_arg8)), ?_, Reference19Ideal.Value.run (F := Ideal) m' g'⟩
  refine (θ_run Kernel19Ideal.defs _ _).mono (fun r h c => ⟨(h c).1.trans ?_, (h c).2⟩) (Kernel19Ideal.Run.run_blocks m g)
  obtain ⟨e0, e1, e2, e3, e4, e5, e6, e7, e8⟩ := heq c
  have ep : Reference19Ideal.Prod.args m' c = Kernel19Ideal.Run.args m c := funext fun a => by
    match a with
    | ⟨0, _⟩ => exact e0
    | ⟨1, _⟩ => exact e1
    | ⟨2, _⟩ => exact e2
    | ⟨3, _⟩ => exact e3
    | ⟨4, _⟩ => exact e4
    | ⟨5, _⟩ => exact e5
    | ⟨6, _⟩ => exact e6
    | ⟨7, _⟩ => exact e7
  exact (Kernel19Ideal.Run.final m c (Reference19Ideal.Prod.G (Kernel19Ideal.Run.args m c) (Kernel19Ideal.Run.inp m c))
    fun p i j => Reference19Ideal.Prod.G_at _ _ p i j).trans (congrArg₂ Reference19Ideal.Prod.G ep e8).symm

theorem frame_kernel20 : quiescent_Kernel20 :=
  fun m g _ => Kernel20.Gen.frame (F := Bits) m g

theorem frame_ideal20 : quiescent_Kernel20Ideal :=
  fun m g _ => Kernel20Ideal.Gen.frame (F := Ideal) m g

theorem frame_reference20 : quiescent_Reference20Ideal := fun m g _ =>
  (θ_run Reference20Ideal.defs _ _).mono (fun r h => ⟨fun c => (h c).2.2, sem_eq_zero_of_no_sems (by decide) r.2⟩)
    (Reference20Ideal.Value.run m g)

theorem preserves20 : preserves_Kernel20_Kernel20Ideal :=
  ⟨IdealRules.named_const.statement _ _ _ _ _ rfl, IdealRules.named_const.statement _ _ _ _ _ rfl, IdealRules.named_const.statement _ _ _ _ _ rfl,
    IdealRules.named_const.statement _ _ _ _ _ rfl⟩

/-- Under the precondition the kernel leaves the reference's attention and row logarithms, both being those of the real
    queries, keys and gates and of the values the arguments hold. -/
theorem algebraic20 : algebraic_Kernel20Ideal_Reference20Ideal_pre_finite_forward (hPre_finite_forward := Reference20Ideal.Fox.pre_facts) := by
  intro m g m' g' hpre heq
  have R := fun c => Reference20Ideal.Fox.reads (Kernel20Ideal.Fox.B0 m c) (Kernel20Ideal.Fox.B1 m c) (hpre c).1 (hpre c).2
  have R' : ∀ c : Dev Kernel20Ideal.nD, Reference20Ideal.Fox.Reads (Reference20Ideal.Fox.parts (Kernel20Ideal.Fox.B0 m c) (Kernel20Ideal.Fox.B1 m c))
      (Reference20Ideal.Fox.values (Kernel20Ideal.Fox.B0 m c))
      (Reference20Ideal.Fox.A0 m' c) (Reference20Ideal.Fox.A1 m' c) := by
    intro c
    have h0 : Reference20Ideal.Fox.A0 m' c = Kernel20Ideal.Fox.B0 m c := (heq c).1
    have h1 : Reference20Ideal.Fox.A1 m' c = Kernel20Ideal.Fox.B1 m c := (heq c).2
    rw [h0, h1]
    exact R c
  refine ⟨fun c => Reference20Ideal.Value.res_main_v70 m' c, fun c => Reference20Ideal.Value.res_main_v71 m' c, ?_,
    Reference20Ideal.Value.run (F := Ideal) m' g'⟩
  refine (θ_run Kernel20Ideal.defs _ _).mono (fun r h c => ?_) (Kernel20Ideal.Value.run_blocks (F := Ideal) m g)
  exact ⟨(h c).1.trans (Kernel20Ideal.Fox.final5 (R c) _ (Reference20Ideal.Fox.out0 (R' c))),
    (h c).2.1.trans (Kernel20Ideal.Fox.final6 (R c) _ (Reference20Ideal.Fox.out1 (R' c))), (h c).2.2⟩

theorem frame_reference21 : quiescent_Reference21Ideal := fun m g _ =>
  (θ_run Reference21Ideal.defs _ _).mono (fun r h => ⟨fun c => (h c).2.2.2, sem_eq_zero_of_no_sems (by decide) r.2⟩)
    (Reference21Ideal.Value.run m g)

/-- The kernel leaves the reference's optimiser step of a square projection. -/
theorem algebraic21 : algebraic_Kernel21Ideal_Reference21Ideal := by
  intro m g m' g' _ heq
  refine ⟨_, _, _, (θ_run Kernel21Ideal.defs _ _).mono (fun r h c => ⟨(h c).1.trans (Kernel21Ideal.Adam.final4 m c),
      (h c).2.1.trans (Kernel21Ideal.Adam.final5 m c), (h c).2.2.1.trans (Kernel21Ideal.Adam.final6 m c), (h c).2.2.2⟩)
    (Kernel21Ideal.Value.run_blocks (F := Ideal) m g),
    (θ_run Reference21Ideal.defs _ _).mono (fun r h c => ?_) (Reference21Ideal.Value.run (F := Ideal) m' g')⟩
  obtain ⟨e0, e1, e2, e3⟩ := heq c
  refine ⟨(h c).1.trans ?_, (h c).2.1.trans ?_, (h c).2.2.1.trans ?_, (h c).2.2.2⟩
  · exact (Adam.ref_delta _ _ _ _ _ _).trans (congr (congr (congrArg₂ Adam.delta e0 e1) e2) e3)
  · exact (Adam.ref_newM _ _ _ _).trans (congrArg₂ Adam.newM e1 e2)
  · exact (Adam.ref_newV _ _ _ _).trans (congrArg₂ Adam.newV e1 e3)

theorem frame_reference22 : quiescent_Reference22Ideal := fun m g _ =>
  (θ_run Reference22Ideal.defs _ _).mono (fun r h => ⟨fun c => (h c).2.2.2, sem_eq_zero_of_no_sems (by decide) r.2⟩)
    (Reference22Ideal.Value.run m g)

/-- The kernel leaves the reference's optimiser step of the up projection. -/
theorem algebraic22 : algebraic_Kernel22Ideal_Reference22Ideal := by
  intro m g m' g' _ heq
  refine ⟨_, _, _, (θ_run Kernel22Ideal.defs _ _).mono (fun r h c => ⟨(h c).1.trans (Kernel22Ideal.Adam.final4 m c),
      (h c).2.1.trans (Kernel22Ideal.Adam.final5 m c), (h c).2.2.1.trans (Kernel22Ideal.Adam.final6 m c), (h c).2.2.2⟩)
    (Kernel22Ideal.Value.run_blocks (F := Ideal) m g),
    (θ_run Reference22Ideal.defs _ _).mono (fun r h c => ?_) (Reference22Ideal.Value.run (F := Ideal) m' g')⟩
  obtain ⟨e0, e1, e2, e3⟩ := heq c
  refine ⟨(h c).1.trans ?_, (h c).2.1.trans ?_, (h c).2.2.1.trans ?_, (h c).2.2.2⟩
  · exact (Adam.ref_delta _ _ _ _ _ _).trans (congr (congr (congrArg₂ Adam.delta e0 e1) e2) e3)
  · exact (Adam.ref_newM _ _ _ _).trans (congrArg₂ Adam.newM e1 e2)
  · exact (Adam.ref_newV _ _ _ _).trans (congrArg₂ Adam.newV e1 e3)

theorem frame_reference23 : quiescent_Reference23Ideal := fun m g _ =>
  (θ_run Reference23Ideal.defs _ _).mono (fun r h => ⟨fun c => (h c).2.2.2, sem_eq_zero_of_no_sems (by decide) r.2⟩)
    (Reference23Ideal.Value.run m g)

/-- The kernel leaves the reference's optimiser step of the down projection. -/
theorem algebraic23 : algebraic_Kernel23Ideal_Reference23Ideal := by
  intro m g m' g' _ heq
  refine ⟨_, _, _, (θ_run Kernel23Ideal.defs _ _).mono (fun r h c => ⟨(h c).1.trans (Kernel23Ideal.Adam.final4 m c),
      (h c).2.1.trans (Kernel23Ideal.Adam.final5 m c), (h c).2.2.1.trans (Kernel23Ideal.Adam.final6 m c), (h c).2.2.2⟩)
    (Kernel23Ideal.Value.run_blocks (F := Ideal) m g),
    (θ_run Reference23Ideal.defs _ _).mono (fun r h c => ?_) (Reference23Ideal.Value.run (F := Ideal) m' g')⟩
  obtain ⟨e0, e1, e2, e3⟩ := heq c
  refine ⟨(h c).1.trans ?_, (h c).2.1.trans ?_, (h c).2.2.1.trans ?_, (h c).2.2.2⟩
  · exact (Adam.ref_delta _ _ _ _ _ _).trans (congr (congr (congrArg₂ Adam.delta e0 e1) e2) e3)
  · exact (Adam.ref_newM _ _ _ _).trans (congrArg₂ Adam.newM e1 e2)
  · exact (Adam.ref_newV _ _ _ _).trans (congrArg₂ Adam.newV e1 e3)

theorem frame_reference24 : quiescent_Reference24Ideal := fun m g _ =>
  (θ_run Reference24Ideal.defs _ _).mono (fun r h => ⟨fun c => (h c).2.2.2, sem_eq_zero_of_no_sems (by decide) r.2⟩)
    (Reference24Ideal.Value.run m g)

/-- The kernel leaves the reference's optimiser step of the big projection. -/
theorem algebraic24 : algebraic_Kernel24Ideal_Reference24Ideal := by
  intro m g m' g' _ heq
  refine ⟨_, _, _, (θ_run Kernel24Ideal.defs _ _).mono (fun r h c => ⟨(h c).1.trans (Kernel24Ideal.Adam.final4 m c),
      (h c).2.1.trans (Kernel24Ideal.Adam.final5 m c), (h c).2.2.1.trans (Kernel24Ideal.Adam.final6 m c), (h c).2.2.2⟩)
    (Kernel24Ideal.Value.run_blocks (F := Ideal) m g),
    (θ_run Reference24Ideal.defs _ _).mono (fun r h c => ?_) (Reference24Ideal.Value.run (F := Ideal) m' g')⟩
  obtain ⟨e0, e1, e2, e3⟩ := heq c
  refine ⟨(h c).1.trans ?_, (h c).2.1.trans ?_, (h c).2.2.1.trans ?_, (h c).2.2.2⟩
  · exact (Adam.ref_delta _ _ _ _ _ _).trans (congr (congr (congrArg₂ Adam.delta e0 e1) e2) e3)
  · exact (Adam.ref_newM _ _ _ _).trans (congrArg₂ Adam.newM e1 e2)
  · exact (Adam.ref_newV _ _ _ _).trans (congrArg₂ Adam.newV e1 e3)

theorem frame_reference25 : quiescent_Reference25Ideal := fun m g _ =>
  (θ_run Reference25Ideal.defs _ _).mono (fun r h => ⟨fun c => (h c).2.2.2, sem_eq_zero_of_no_sems (by decide) r.2⟩)
    (Reference25Ideal.Value.run m g)

/-- The kernel leaves the reference's optimiser step of the small weights packed together. -/
theorem algebraic25 : algebraic_Kernel25Ideal_Reference25Ideal := by
  intro m g m' g' _ heq
  refine ⟨_, _, _, (θ_run Kernel25Ideal.defs _ _).mono (fun r h c => ⟨(h c).1.trans (Kernel25Ideal.Adam.final4 m c),
      (h c).2.1.trans (Kernel25Ideal.Adam.final5 m c), (h c).2.2.1.trans (Kernel25Ideal.Adam.final6 m c), (h c).2.2.2⟩)
    (Kernel25Ideal.Value.run_blocks (F := Ideal) m g),
    (θ_run Reference25Ideal.defs _ _).mono (fun r h c => ?_) (Reference25Ideal.Value.run (F := Ideal) m' g')⟩
  obtain ⟨e0, e1, e2, e3⟩ := heq c
  refine ⟨(h c).1.trans ?_, (h c).2.1.trans ?_, (h c).2.2.1.trans ?_, (h c).2.2.2⟩
  · exact (Adam.ref_delta _ _ _ _ _ _).trans (congr (congr (congrArg₂ Adam.delta e0 e1) e2) e3)
  · exact (Adam.ref_newM _ _ _ _).trans (congrArg₂ Adam.newM e1 e2)
  · exact (Adam.ref_newV _ _ _ _).trans (congrArg₂ Adam.newV e1 e3)

theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Kernel22.Gen.facts, Kernel22Ideal.Gen.facts, Reference22Ideal.Gen.facts,
    Kernel23.Gen.facts, Kernel23Ideal.Gen.facts, Reference23Ideal.Gen.facts,
    Kernel24.Gen.facts, Kernel24Ideal.Gen.facts, Reference24Ideal.Gen.facts,
    Kernel25.Gen.facts, Kernel25Ideal.Gen.facts, Reference25Ideal.Gen.facts,
    Cert.Fox.pre_facts, Reference20Ideal.Fox.pre_facts,
    frame_kernel, frame_ideal, fun m g _ => frame_ideal m g trivial, frame_reference, fun m g _ => frame_reference m g trivial,
    fun m g _ => Kernel2.Gen.frame m g, fun m g _ => Kernel2Ideal.Gen.frame m g, frame_reference2, fun m g _ => Kernel3.Gen.frame m g, fun m g _ => Kernel3Ideal.Gen.frame m g, frame_reference3, fun m g _ => Kernel4.Gen.frame m g, fun m g _ => Kernel4Ideal.Gen.frame m g, frame_reference4,
    fun m g _ => Kernel5.Gen.frame m g, fun m g _ => Kernel5Ideal.Gen.frame m g, frame_reference5,
    fun m g _ => Kernel6.Gen.frame m g, fun m g _ => Kernel6Ideal.Gen.frame m g, frame_reference6,
    fun m g _ => Kernel7.Gen.frame m g, fun m g _ => Kernel7Ideal.Gen.frame m g, frame_reference7,
    fun m g _ => Kernel8.Gen.frame m g, fun m g _ => Kernel8Ideal.Gen.frame m g, frame_reference8,
    fun m g _ => Kernel9.Gen.frame m g, fun m g _ => Kernel9Ideal.Gen.frame m g, frame_reference9,
    fun m g _ => Kernel10.Gen.frame m g, fun m g _ => Kernel10Ideal.Gen.frame m g, frame_reference10,
    fun m g _ => Kernel11.Gen.frame m g, fun m g _ => Kernel11Ideal.Gen.frame m g, frame_reference11,
    fun m g _ => Kernel12.Gen.frame m g, fun m g _ => Kernel12Ideal.Gen.frame m g, frame_reference12,
    fun m g _ => Kernel13.Gen.frame m g, fun m g _ => Kernel13Ideal.Gen.frame m g, frame_reference13,
    fun m g _ => Kernel14.Gen.frame m g, fun m g _ => Kernel14Ideal.Gen.frame m g, frame_reference14,
    fun m g _ => Kernel15.Gen.frame m g, fun m g _ => Kernel15Ideal.Gen.frame m g, frame_reference15,
    fun m g _ => Kernel16.Gen.frame m g, fun m g _ => Kernel16Ideal.Gen.frame m g, frame_reference16,
    fun m g _ => Kernel17.Gen.frame m g, fun m g _ => Kernel17Ideal.Gen.frame m g, frame_reference17,
    fun m g _ => Kernel18.Gen.frame m g, fun m g _ => Kernel18Ideal.Gen.frame m g, frame_reference18,
    fun m g _ => Kernel19.Run.frame m g, fun m g _ => Kernel19Ideal.Run.frame m g, frame_reference19,
    frame_kernel20, frame_ideal20, fun m g _ => frame_ideal20 m g trivial, frame_reference20, fun m g _ => frame_reference20 m g trivial,
    fun m g _ => Kernel21.Gen.frame m g, fun m g _ => Kernel21Ideal.Gen.frame m g, frame_reference21,
    fun m g _ => Kernel22.Gen.frame m g, fun m g _ => Kernel22Ideal.Gen.frame m g, frame_reference22,
    fun m g _ => Kernel23.Gen.frame m g, fun m g _ => Kernel23Ideal.Gen.frame m g, frame_reference23,
    fun m g _ => Kernel24.Gen.frame m g, fun m g _ => Kernel24Ideal.Gen.frame m g, frame_reference24,
    fun m g _ => Kernel25.Gen.frame m g, fun m g _ => Kernel25Ideal.Gen.frame m g, frame_reference25,
    preserves, algebraic, trivial, algebraic2, trivial, algebraic3, trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    preserves20, algebraic20,
    trivial, algebraic21,
    trivial, algebraic22,
    trivial, algebraic23,
    trivial, algebraic24,
    trivial, algebraic25⟩

end Cert.Proof

end
